-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v83_0)) (v1 : (c : Dev Cert.KernelIdeal.nD) → Buf (Elt Ideal) ((c.tc : Thread Cert.KernelIdeal.nD Cert.KernelIdeal.τ).loc Cert.KernelIdeal.main_v83_1)) (v2 : (c : Dev Cert.KernelIdeal.nD) → Buf (Elt Ideal) ((c.tc : Thread Cert.KernelIdeal.nD Cert.KernelIdeal.τ).loc Cert.KernelIdeal.main_v83_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83_0) = v0 c
          ∧ r.2.mem ((c.tc : Thread Cert.KernelIdeal.nD Cert.KernelIdeal.τ).loc Cert.KernelIdeal.main_v83_1) = v1 c
          ∧ r.2.mem ((c.tc : Thread Cert.KernelIdeal.nD Cert.KernelIdeal.τ).loc Cert.KernelIdeal.main_v83_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_v175) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_v9) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v12) = v1 c
          ∧ r.2.mem ((c.tc : Thread Cert.Reference3Ideal.nD Cert.Reference3Ideal.τ).loc Cert.Reference3Ideal.main_v9) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v70) = v0 c
          ∧ r.2.mem ((c.tc : Thread Cert.Reference8Ideal.nD Cert.Reference8Ideal.τ).loc Cert.Reference8Ideal.main_v71) = v1 c
          ∧ r.2.mem ((c.tc : Thread Cert.Reference8Ideal.nD Cert.Reference8Ideal.τ).loc Cert.Reference8Ideal.main_v68) = v2 c
          ∧ r.2.mem ((c.tc : Thread Cert.Reference8Ideal.nD Cert.Reference8Ideal.τ).loc Cert.Reference8Ideal.main_v37) = v3 c
          ∧ r.2.mem ((c.tc : Thread Cert.Reference8Ideal.nD Cert.Reference8Ideal.τ).loc Cert.Reference8Ideal.main_v34) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v9)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v9) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v9)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v9) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v9)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v9) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v26) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v2_0)) (v1 : (c : Dev Cert.Kernel20Ideal.nD) → Buf (Elt Ideal) ((c.tc : Thread Cert.Kernel20Ideal.nD Cert.Kernel20Ideal.τ).loc Cert.Kernel20Ideal.main_v2_1)) (v2 : (c : Dev Cert.Kernel20Ideal.nD) → Buf (Elt Ideal) ((c.tc : Thread Cert.Kernel20Ideal.nD Cert.Kernel20Ideal.τ).loc Cert.Kernel20Ideal.main_v2_2)) (v3 : (c : Dev Cert.Kernel20Ideal.nD) → Buf (Elt Ideal) ((c.tc : Thread Cert.Kernel20Ideal.nD Cert.Kernel20Ideal.τ).loc Cert.Kernel20Ideal.main_v2_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2_0) = v0 c
          ∧ r.2.mem ((c.tc : Thread Cert.Kernel20Ideal.nD Cert.Kernel20Ideal.τ).loc Cert.Kernel20Ideal.main_v2_1) = v1 c
          ∧ r.2.mem ((c.tc : Thread Cert.Kernel20Ideal.nD Cert.Kernel20Ideal.τ).loc Cert.Kernel20Ideal.main_v2_2) = v2 c
          ∧ r.2.mem ((c.tc : Thread Cert.Kernel20Ideal.nD Cert.Kernel20Ideal.τ).loc Cert.Kernel20Ideal.main_v2_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v47) = v0 c
          ∧ r.2.mem ((c.tc : Thread Cert.Reference20Ideal.nD Cert.Reference20Ideal.τ).loc Cert.Reference20Ideal.main_v52) = v1 c
          ∧ r.2.mem ((c.tc : Thread Cert.Reference20Ideal.nD Cert.Reference20Ideal.τ).loc Cert.Reference20Ideal.main_v31) = v2 c
          ∧ r.2.mem ((c.tc : Thread Cert.Reference20Ideal.nD Cert.Reference20Ideal.τ).loc Cert.Reference20Ideal.main_v51) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v47) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg3) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite8 : Cert.Pre_finite8.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S8192x16x64 : Shape := ⟨3, ![8192, 16, 64]⟩
abbrev S8192x16 : Shape := ⟨2, ![8192, 16]⟩
abbrev S_ : Shape := ⟨0, ![]⟩

class Facts : Prop where
  bcast_S_S8192x16x64 : S_.BroadcastsInDim S8192x16x64 (![] : Fin 0 → Fin S8192x16x64.rank)
  reducesTo_S8192x16x64_S_d0_1_2 : S8192x16x64.ReducesTo [0, 1, 2] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn_part3 {F : FTy → Type} [FloatOps F] (main_arg7 : FVec F S8192x16x64 .f32) (main_v47 : IVec S_ 1) (main_v49 : IVec S8192x16x64 1) : IVec S_ 1 :=
  let main_cst_20 : FVec F S_ .f32 := constant S_ .f32 0x7F800000#32
  let main_v50 : FVec F S8192x16x64 .f32 := broadcastInDim S8192x16x64 ![] bcast_S_S8192x16x64 main_cst_20
  let main_v51 : IVec S8192x16x64 1 := cmpf .olt main_arg7 main_v50
  let main_v52 : IVec S8192x16x64 1 := andi main_v49 main_v51
  let main_c_21 : IVec S_ 1 := constantI S_ 1 1#1
  let main_v53 : IVec S_ 1 := (fun x v => Host.reduce IntOp.andi x v reducesTo_S8192x16x64_S_d0_1_2 h_S_) main_v52 main_c_21
  let main_v54 : IVec S_ 1 := andi main_v47 main_v53
  main_v54

def fn_part2 {F : FTy → Type} [FloatOps F] (main_arg5 : FVec F S8192x16x64 .f32) (main_arg6 : FVec F S8192x16 .f32) (main_arg7 : FVec F S8192x16x64 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S8192x16x64 .f32 := broadcastInDim S8192x16x64 ![] bcast_S_S8192x16x64 main_cst_13
  let main_v35 : IVec S8192x16x64 1 := cmpf .ogt main_arg5 main_v34
  let main_cst_14 : FVec F S_ .f32 := constant S_ .f32 0x7F800000#32
  let main_v36 : FVec F S8192x16x64 .f32 := broadcastInDim S8192x16x64 ![] bcast_S_S8192x16x64 main_cst_14
  let main_v37 : IVec S8192x16x64 1 := cmpf .olt main_arg5 main_v36
  let main_v38 : IVec S8192x16x64 1 := andi main_v35 main_v37
  let main_c_15 : IVec S_ 1 := constantI S_ 1 1#1
  let main_v39 : IVec S_ 1 := (fun x v => Host.reduce IntOp.andi x v reducesTo_S8192x16x64_S_d0_1_2 h_S_) main_v38 main_c_15
  let main_v40 : IVec S_ 1 := andi main_v33 main_v39
  let main_cst_16 : FVec F S_ .f32 := constant S_ .f32 0xFF800000#32
  let main_v41 : FVec F S8192x16 .f32 := broadcastInDim S8192x16 ![] bcast_S_S8192x16 main_cst_16
  let main_v42 : IVec S8192x16 1 := cmpf .ogt main_arg6 main_v41
  let main_cst_17 : FVec F S_ .f32 := constant S_ .f32 0x7F800000#32
  let main_v43 : FVec F S8192x16 .f32 := broadcastInDim S8192x16 ![] bcast_S_S8192x16 main_cst_17
  let main_v44 : IVec S8192x16 1 := cmpf .olt main_arg6 main_v43
  let main_v45 : IVec S8192x16 1 := andi main_v42 main_v44
  let main_c_18 : IVec S_ 1 := constantI S_ 1 1#1
  let main_v46 : IVec S_ 1 := (fun x v => Host.reduce IntOp.andi x v reducesTo_S8192x16_S_d0_1 h_S_) main_v45 main_c_18
  let main_v47 : IVec S_ 1 := andi main_v40 main_v46
  let main_cst_19 : FVec F S_ .f32 := constant S_ .f32 0xFF800000#32
  let main_v48 : FVec F S8192x16x64 .f32 := broadcastInDim S8192x16x64 ![] bcast_S_S8192x16x64 main_cst_19
  let main_v49 : IVec S8192x16x64 1 := cmpf .ogt main_arg7 main_v48
  fn_part3 (F := F) main_arg7 main_v47 main_v49

def fn_part1 {F : FTy → Type} [FloatOps F] (main_arg2 : FVec F S8192x16x64 .f32) (main_arg3 : FVec F S8192x16x64 .f32) (main_arg4 : FVec F S8192x16 .f32) (main_arg5 : FVec F S8192x16x64 .f32) (main_arg6 : FVec F S8192x16 .f32) (main_arg7 : FVec F S8192x16x64 .f32) (main_v12 : IVec S_ 1) (main_v14 : IVec S8192x16x64 1) (main_v15 : FVec F S8192x16x64 .f32) : IVec S_ 1 :=
  let main_v16 : IVec S8192x16x64 1 := cmpf .olt main_arg2 main_v15
  let main_v17 : IVec S8192x16x64 1 := andi main_v14 main_v16
  let main_c_6 : IVec S_ 1 := constantI S_ 1 1#1
  let main_v18 : IVec S_ 1 := (fun x v => Host.reduce IntOp.andi x v reducesTo_S8192x16x64_S_d0_1_2 h_S_) main_v17 main_c_6
  let main_v19 : IVec S_ 1 := andi main_v12 main_v18
  let main_cst_7 : FVec F S_ .f32 := constant S_ .f32 0xFF800000#32
  let main_v20 : FVec F S8192x16x64 .f32 := broadcastInDim S8192x16x64 ![] bcast_S_S8192x16x64 main_cst_7
  let main_v21 : IVec S8192x16x64 1 := cmpf .ogt main_arg3 main_v20
  let main_cst_8 : FVec F S_ .f32 := constant S_ .f32 0x7F800000#32
  let main_v22 : FVec F S8192x16x64 .f32 := broadcastInDim S8192x16x64 ![] bcast_S_S8192x16x64 main_cst_8
  let main_v23 : IVec S8192x16x64 1 := cmpf .olt main_arg3 main_v22
  let main_v24 : IVec S8192x16x64 1 := andi main_v21 main_v23
  let main_c_9 : IVec S_ 1 := constantI S_ 1 1#1
  let main_v25 : IVec S_ 1 := (fun x v => Host.reduce IntOp.andi x v reducesTo_S8192x16x64_S_d0_1_2 h_S_) main_v24 main_c_9
  let main_v26 : IVec S_ 1 := andi main_v19 main_v25
  let main_cst_10 : FVec F S_ .f32 := constant S_ .f32 0xFF800000#32
  let main_v27 : FVec F S8192x16 .f32 := broadcastInDim S8192x16 ![] bcast_S_S8192x16 main_cst_10
  let main_v28 : IVec S8192x16 1 := cmpf .ogt main_arg4 main_v27
  let main_cst_11 : FVec F S_ .f32 := constant S_ .f32 0x7F800000#32
  let main_v29 : FVec F S8192x16 .f32 := broadcastInDim S8192x16 ![] bcast_S_S8192x16 main_cst_11
  let main_v30 : IVec S8192x16 1 := cmpf .olt main_arg4 main_v29
  let main_v31 : IVec S8192x16 1 := andi main_v28 main_v30
  let main_c_12 : IVec S_ 1 := constantI S_ 1 1#1
  let main_v32 : IVec S_ 1 := (fun x v => Host.reduce IntOp.andi x v reducesTo_S8192x16_S_d0_1 h_S_) main_v31 main_c_12
  fn_part2 (F := F) main_arg5 main_arg6 main_arg7 main_v26 main_v32

def fn {F : FTy → Type} [FloatOps F] (main_arg0 : FVec F S8192x16x64 .f32) (main_arg1 : FVec F S8192x16x64 .f32) (main_arg2 : FVec F S8192x16x64 .f32) (main_arg3 : FVec F S8192x16x64 .f32) (main_arg4 : FVec F S8192x16 .f32) (main_arg5 : FVec F S8192x16x64 .f32) (main_arg6 : FVec F S8192x16 .f32) (main_arg7 : FVec F S8192x16x64 .f32) : IVec S_ 1 :=
  let main_cst : FVec F S_ .f32 := constant S_ .f32 0xFF800000#32
  let main_v0 : FVec F S8192x16x64 .f32 := broadcastInDim S8192x16x64 ![] bcast_S_S8192x16x64 main_cst
  let main_v1 : IVec S8192x16x64 1 := cmpf .ogt main_arg0 main_v0
  let main_cst_0 : FVec F S_ .f32 := constant S_ .f32 0x7F800000#32
  let main_v2 : FVec F S8192x16x64 .f32 := broadcastInDim S8192x16x64 ![] bcast_S_S8192x16x64 main_cst_0
  let main_v3 : IVec S8192x16x64 1 := cmpf .olt main_arg0 main_v2
  let main_v4 : IVec S8192x16x64 1 := andi main_v1 main_v3
  let main_c : IVec S_ 1 := constantI S_ 1 1#1
  let main_v5 : IVec S_ 1 := (fun x v => Host.reduce IntOp.andi x v reducesTo_S8192x16x64_S_d0_1_2 h_S_) main_v4 main_c
  let main_cst_1 : FVec F S_ .f32 := constant S_ .f32 0xFF800000#32
  let main_v6 : FVec F S8192x16x64 .f32 := broadcastInDim S8192x16x64 ![] bcast_S_S8192x16x64 main_cst_1
  let main_v7 : IVec S8192x16x64 1 := cmpf .ogt main_arg1 main_v6
  let main_cst_2 : FVec F S_ .f32 := constant S_ .f32 0x7F800000#32
  let main_v8 : FVec F S8192x16x64 .f32 := broadcastInDim S8192x16x64 ![] bcast_S_S8192x16x64 main_cst_2
  let main_v9 : IVec S8192x16x64 1 := cmpf .olt main_arg1 main_v8
  let main_v10 : IVec S8192x16x64 1 := andi main_v7 main_v9
  let main_c_3 : IVec S_ 1 := constantI S_ 1 1#1
  let main_v11 : IVec S_ 1 := (fun x v => Host.reduce IntOp.andi x v reducesTo_S8192x16x64_S_d0_1_2 h_S_) main_v10 main_c_3
  let main_v12 : IVec S_ 1 := andi main_v5 main_v11
  let main_cst_4 : FVec F S_ .f32 := constant S_ .f32 0xFF800000#32
  let main_v13 : FVec F S8192x16x64 .f32 := broadcastInDim S8192x16x64 ![] bcast_S_S8192x16x64 main_cst_4
  let main_v14 : IVec S8192x16x64 1 := cmpf .ogt main_arg2 main_v13
  let main_cst_5 : FVec F S_ .f32 := constant S_ .f32 0x7F800000#32
  let main_v15 : FVec F S8192x16x64 .f32 := broadcastInDim S8192x16x64 ![] bcast_S_S8192x16x64 main_cst_5
  fn_part1 (F := F) main_arg2 main_arg3 main_arg4 main_arg5 main_arg6 main_arg7 main_v12 main_v14 main_v15
-- ==== Pre_finite20.lean ====
abbrev S2x8192x2048 : Shape := ⟨3, ![2, 8192, 2048]⟩
abbrev S8192x3072 : Shape := ⟨2, ![8192, 3072]⟩
abbrev S8192x5120 : Shape := ⟨2, ![8192, 5120]⟩
abbrev S1x2048 : Shape := ⟨2, ![1, 2048]⟩
abbrev S8192x2048 : Shape := ⟨2, ![8192, 2048]⟩
abbrev S_ : Shape := ⟨0, ![]⟩

class Facts : Prop where
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel
  bcast_S_S8192x3072 : S_.BroadcastsInDim S8192x3072 (![] : Fin 0 → Fin S8192x3072.rank)
  reducesTo_S8192x3072_S_d0_1 : S8192x3072.ReducesTo [0, 1] S_
  bcast_S_S8192x5120 : S_.BroadcastsInDim S8192x5120 (![] : Fin 0 → Fin S8192x5120.rank)
  reducesTo_S8192x5120_S_d0_1 : S8192x5120.ReducesTo [0, 1] S_
  bcast_S_S1x2048 : S_.BroadcastsInDim S1x2048 (![] : Fin 0 → Fin S1x2048.rank)
  reducesTo_S1x2048_S_d0_1 : S1x2048.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part2 {F : FTy → Type} [FloatOps F] (main_arg5 : FVec F S8192x2048 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S8192x2048 .f32 := broadcastInDim S8192x2048 ![] bcast_S_S8192x2048 main_cst_13
  let main_v35 : IVec S8192x2048 1 := cmpf .ogt main_arg5 main_v34
  let main_cst_14 : FVec F S_ .f32 := constant S_ .f32 0x7F800000#32
  let main_v36 : FVec F S8192x2048 .f32 := broadcastInDim S8192x2048 ![] bcast_S_S8192x2048 main_cst_14
  let main_v37 : IVec S8192x2048 1 := cmpf .olt main_arg5 main_v36
  let main_v38 : IVec S8192x2048 1 := andi main_v35 main_v37
  let main_c_15 : IVec S_ 1 := constantI S_ 1 1#1
  let main_v39 : IVec S_ 1 := (fun x v => Host.reduce IntOp.andi x v reducesTo_S8192x2048_S_d0_1 h_S_) main_v38 main_c_15
  let main_v40 : IVec S_ 1 := andi main_v33 main_v39
  main_v40

def fn_part1 {F : FTy → Type} [FloatOps F] (main_arg2 : FVec F S8192x5120 .f32) (main_arg3 : FVec F S1x2048 .f32) (main_arg4 : FVec F S1x2048 .f32) (main_arg5 : FVec F S8192x2048 .f32) (main_v12 : IVec S_ 1) (main_v14 : IVec S8192x5120 1) (main_v15 : FVec F S8192x5120 .f32) : IVec S_ 1 :=
  let main_v16 : IVec S8192x5120 1 := cmpf .olt main_arg2 main_v15
  let main_v17 : IVec S8192x5120 1 := andi main_v14 main_v16
  let main_c_6 : IVec S_ 1 := constantI S_ 1 1#1
  let main_v18 : IVec S_ 1 := (fun x v => Host.reduce IntOp.andi x v reducesTo_S8192x5120_S_d0_1 h_S_) main_v17 main_c_6
  let main_v19 : IVec S_ 1 := andi main_v12 main_v18
  let main_cst_7 : FVec F S_ .f32 := constant S_ .f32 0xFF800000#32
  let main_v20 : FVec F S1x2048 .f32 := broadcastInDim S1x2048 ![] bcast_S_S1x2048 main_cst_7
  let main_v21 : IVec S1x2048 1 := cmpf .ogt main_arg3 main_v20
  let main_cst_8 : FVec F S_ .f32 := constant S_ .f32 0x7F800000#32
  let main_v22 : FVec F S1x2048 .f32 := broadcastInDim S1x2048 ![] bcast_S_S1x2048 main_cst_8
  let main_v23 : IVec S1x2048 1 := cmpf .olt main_arg3 main_v22
  let main_v24 : IVec S1x2048 1 := andi main_v21 main_v23
  let main_c_9 : IVec S_ 1 := constantI S_ 1 1#1
  let main_v25 : IVec S_ 1 := (fun x v => Host.reduce IntOp.andi x v reducesTo_S1x2048_S_d0_1 h_S_) main_v24 main_c_9
  let main_v26 : IVec S_ 1 := andi main_v19 main_v25
  let main_cst_10 : FVec F S_ .f32 := constant S_ .f32 0xFF800000#32
  let main_v27 : FVec F S1x2048 .f32 := broadcastInDim S1x2048 ![] bcast_S_S1x2048 main_cst_10
  let main_v28 : IVec S1x2048 1 := cmpf .ogt main_arg4 main_v27
  let main_cst_11 : FVec F S_ .f32 := constant S_ .f32 0x7F800000#32
  let main_v29 : FVec F S1x2048 .f32 := broadcastInDim S1x2048 ![] bcast_S_S1x2048 main_cst_11
  let main_v30 : IVec S1x2048 1 := cmpf .olt main_arg4 main_v29
  let main_v31 : IVec S1x2048 1 := andi main_v28 main_v30
  let main_c_12 : IVec S_ 1 := constantI S_ 1 1#1
  let main_v32 : IVec S_ 1 := (fun x v => Host.reduce IntOp.andi x v reducesTo_S1x2048_S_d0_1 h_S_) main_v31 main_c_12
  fn_part2 (F := F) main_arg5 main_v26 main_v32

def fn {F : FTy → Type} [FloatOps F] (main_arg0 : FVec F S2x8192x2048 .f32) (main_arg1 : FVec F S8192x3072 .f32) (main_arg2 : FVec F S8192x5120 .f32) (main_arg3 : FVec F S1x2048 .f32) (main_arg4 : FVec F S1x2048 .f32) (main_arg5 : FVec F S8192x2048 .f32) : IVec S_ 1 :=
  let main_cst : FVec F S_ .f32 := constant S_ .f32 0xFF800000#32
  let main_v0 : FVec F S2x8192x2048 .f32 := broadcastInDim S2x8192x2048 ![] bcast_S_S2x8192x2048 main_cst
  let main_v1 : IVec S2x8192x2048 1 := cmpf .ogt main_arg0 main_v0
  let main_cst_0 : FVec F S_ .f32 := constant S_ .f32 0x7F800000#32
  let main_v2 : FVec F S2x8192x2048 .f32 := broadcastInDim S2x8192x2048 ![] bcast_S_S2x8192x2048 main_cst_0
  let main_v3 : IVec S2x8192x2048 1 := cmpf .olt main_arg0 main_v2
  let main_v4 : IVec S2x8192x2048 1 := andi main_v1 main_v3
  let main_c : IVec S_ 1 := constantI S_ 1 1#1
  let main_v5 : IVec S_ 1 := (fun x v => Host.reduce IntOp.andi x v reducesTo_S2x8192x2048_S_d0_1_2 h_S_) main_v4 main_c
  let main_cst_1 : FVec F S_ .f32 := constant S_ .f32 0xFF800000#32
  let main_v6 : FVec F S8192x3072 .f32 := broadcastInDim S8192x3072 ![] bcast_S_S8192x3072 main_cst_1
  let main_v7 : IVec S8192x3072 1 := cmpf .ogt main_arg1 main_v6
  let main_cst_2 : FVec F S_ .f32 := constant S_ .f32 0x7F800000#32
  let main_v8 : FVec F S8192x3072 .f32 := broadcastInDim S8192x3072 ![] bcast_S_S8192x3072 main_cst_2
  let main_v9 : IVec S8192x3072 1 := cmpf .olt main_arg1 main_v8
  let main_v10 : IVec S8192x3072 1 := andi main_v7 main_v9
  let main_c_3 : IVec S_ 1 := constantI S_ 1 1#1
  let main_v11 : IVec S_ 1 := (fun x v => Host.reduce IntOp.andi x v reducesTo_S8192x3072_S_d0_1 h_S_) main_v10 main_c_3
  let main_v12 : IVec S_ 1 := andi main_v5 main_v11
  let main_cst_4 : FVec F S_ .f32 := constant S_ .f32 0xFF800000#32
  let main_v13 : FVec F S8192x5120 .f32 := broadcastInDim S8192x5120 ![] bcast_S_S8192x5120 main_cst_4
  let main_v14 : IVec S8192x5120 1 := cmpf .ogt main_arg2 main_v13
  let main_cst_5 : FVec F S_ .f32 := constant S_ .f32 0x7F800000#32
  let main_v15 : FVec F S8192x5120 .f32 := broadcastInDim S8192x5120 ![] bcast_S_S8192x5120 main_cst_5
  fn_part1 (F := F) main_arg2 main_arg3 main_arg4 main_arg5 main_v12 main_v14 main_v15
-- ==== Pre_finite8.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S1x1024 .f32) (main_arg3 : FVec F S1x1024 .f32) (main_arg5 : FVec F S8192x1024 .f32) (main_v12 : IVec S_ 1) (main_v14 : IVec S1x1024 1) (main_v15 : FVec F S1x1024 .f32) : IVec S_ 1 :=
  let main_v16 : IVec S1x1024 1 := cmpf .olt main_arg2 main_v15
  let main_v17 : IVec S1x1024 1 := andi main_v14 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v12 main_v18
  let main_cst_7 : FVec F S_ .f32 := constant S_ .f32 0xFF800000#32
  let main_v20 : FVec F S1x1024 .f32 := broadcastInDim S1x1024 ![] bcast_S_S1x1024 main_cst_7
  let main_v21 : IVec S1x1024 1 := cmpf .ogt main_arg3 main_v20
  let main_cst_8 : FVec F S_ .f32 := constant S_ .f32 0x7F800000#32
  let main_v22 : FVec F S1x1024 .f32 := broadcastInDim S1x1024 ![] bcast_S_S1x1024 main_cst_8
  let main_v23 : IVec S1x1024 1 := cmpf .olt main_arg3 main_v22
  let main_v24 : IVec S1x1024 1 := andi main_v21 main_v23
  let main_c_9 : IVec S_ 1 := constantI S_ 1 1#1
  let main_v25 : IVec S_ 1 := (fun x v => Host.reduce IntOp.andi x v reducesTo_S1x1024_S_d0_1 h_S_) main_v24 main_c_9
  let main_v26 : IVec S_ 1 := andi main_v19 main_v25
  let main_cst_10 : FVec F S_ .f32 := constant S_ .f32 0xFF800000#32
  let main_v27 : FVec F S8192x1024 .f32 := broadcastInDim S8192x1024 ![] bcast_S_S8192x1024 main_cst_10
  let main_v28 : IVec S8192x1024 1 := cmpf .ogt main_arg5 main_v27
  let main_cst_11 : FVec F S_ .f32 := constant S_ .f32 0x7F800000#32
  let main_v29 : FVec F S8192x1024 .f32 := broadcastInDim S8192x1024 ![] bcast_S_S8192x1024 main_cst_11
  let main_v30 : IVec S8192x1024 1 := cmpf .olt main_arg5 main_v29
  let main_v31 : IVec S8192x1024 1 := andi main_v28 main_v30
  let main_c_12 : IVec S_ 1 := constantI S_ 1 1#1
  let main_v32 : IVec S_ 1 := (fun x v => Host.reduce IntOp.andi x v reducesTo_S8192x1024_S_d0_1 h_S_) main_v31 main_c_12
  fn_part2 (F := F) main_v26 main_v32

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1x1024 .f32) (main_arg5 : FVec F S8192x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S8192x1024 .f32 := broadcastInDim S8192x1024 ![] bcast_S_S8192x1024 main_cst_1
  let main_v7 : IVec S8192x1024 1 := cmpf .ogt main_arg1 main_v6
  let main_cst_2 : FVec F S_ .f32 := constant S_ .f32 0x7F800000#32
  let main_v8 : FVec F S8192x1024 .f32 := broadcastInDim S8192x1024 ![] bcast_S_S8192x1024 main_cst_2
  let main_v9 : IVec S8192x1024 1 := cmpf .olt main_arg1 main_v8
  let main_v10 : IVec S8192x1024 1 := andi main_v7 main_v9
  let main_c_3 : IVec S_ 1 := constantI S_ 1 1#1
  let main_v11 : IVec S_ 1 := (fun x v => Host.reduce IntOp.andi x v reducesTo_S8192x1024_S_d0_1 h_S_) main_v10 main_c_3
  let main_v12 : IVec S_ 1 := andi main_v5 main_v11
  let main_cst_4 : FVec F S_ .f32 := constant S_ .f32 0xFF800000#32
  let main_v13 : FVec F S1x1024 .f32 := broadcastInDim S1x1024 ![] bcast_S_S1x1024 main_cst_4
  let main_v14 : IVec S1x1024 1 := cmpf .ogt main_arg2 main_v13
  let main_cst_5 : FVec F S_ .f32 := constant S_ .f32 0x7F800000#32
  let main_v15 : FVec F S1x1024 .f32 := broadcastInDim S1x1024 ![] bcast_S_S1x1024 main_cst_5
  fn_part1 (F := F) main_arg2 main_arg3 main_arg5 main_v12 main_v14 main_v15
-- ==== Kernel.lean ====
abbrev S8192x16x64 : Shape := ⟨3, ![8192, 16, 64]⟩
abbrev S8192x16 : Shape := ⟨2, ![8192, 16]⟩
abbrev S16 : Shape := ⟨1, ![16]⟩
abbrev S512x16x16x64 : Shape := ⟨4, ![512, 16, 16, 64]⟩
abbrev S16x16x512x64 : Shape := ⟨4, ![16, 16, 512, 64]⟩
abbrev S16x16x512x512 : Shape := ⟨4, ![16, 16, 512, 512]⟩
abbrev S_ : Shape := ⟨0, ![]⟩
abbrev S512x512 : Shape := ⟨2, ![512, 512]⟩
abbrev S16x1x1 : Shape := ⟨3, ![16, 1, 1]⟩
abbrev S1x512x512 : Shape := ⟨3, ![1, 512, 512]⟩
abbrev S16x512x512 : Shape := ⟨3, ![16, 512, 512]⟩
abbrev S1x16x512x512 : Shape := ⟨4, ![1, 16, 512, 512]⟩
abbrev S16x16x512 : Shape := ⟨3, ![16, 16, 512]⟩
abbrev S16x16x512x1 : Shape := ⟨4, ![16, 16, 512, 1]⟩
abbrev S512x16x16 : Shape := ⟨3, ![512, 16, 16]⟩
abbrev S8192x16x1 : Shape := ⟨3, ![8192, 16, 1]⟩
abbrev S8192x1x16x64 : Shape := ⟨4, ![8192, 1, 16, 64]⟩
abbrev S8192x3x16x64 : Shape := ⟨4, ![8192, 3, 16, 64]⟩
abbrev S512x49152 : Shape := ⟨2, ![512, 49152]⟩
abbrev S512x16384 : Shape := ⟨2, ![512, 16384]⟩
abbrev S512x128 : Shape := ⟨2, ![512, 128]⟩
abbrev S128x256 : Shape := ⟨2, ![128, 256]⟩
abbrev S256x128 : Shape := ⟨2, ![256, 128]⟩
abbrev S128x128 : Shape := ⟨2, ![128, 128]⟩
abbrev S128x64 : Shape := ⟨2, ![128, 64]⟩
abbrev S256x64 : Shape := ⟨2, ![256, 64]⟩
abbrev S1 : Shape := ⟨1, ![1]⟩
abbrev S128x1 : Shape := ⟨2, ![128, 1]⟩
abbrev S128 : Shape := ⟨1, ![128]⟩

abbrev nBuf : Space → Nat
  | .hbm => 105
  | .vmem => 20
  | .smem => 1
  | _ => 0

abbrev bufTy : (tb : Table) → Fin (tcTables nBuf tb) → BufTy
  | .hbm, ⟨0, _⟩ => ⟨S8192x16x64, .f32⟩
  | .hbm, ⟨1, _⟩ => ⟨S8192x16x64, .f32⟩
  | .hbm, ⟨2, _⟩ => ⟨S8192x16x64, .f32⟩
  | .hbm, ⟨3, _⟩ => ⟨S8192x16x64, .f32⟩
  | .hbm, ⟨4, _⟩ => ⟨S8192x16, .f32⟩
  | .hbm, ⟨5, _⟩ => ⟨S8192x16x64, .f32⟩
  | .hbm, ⟨6, _⟩ => ⟨S8192x16, .f32⟩
  | .hbm, ⟨7, _⟩ => ⟨S8192x16x64, .f32⟩
  | .hbm, ⟨8, _⟩ => ⟨S16, .f32⟩
  | .hbm, ⟨9, _⟩ => ⟨S16, .f32⟩
  | .hbm, ⟨10, _⟩ => ⟨S512x16x16x64, .f32⟩
  | .hbm, ⟨11, _⟩ => ⟨S16x16x512x64, .f32⟩
  | .hbm, ⟨12, _⟩ => ⟨S512x16x16x64, .f32⟩
  | .hbm, ⟨13, _⟩ => ⟨S16x16x512x64, .f32⟩
  | .hbm, ⟨14, _⟩ => ⟨S512x16x16x64, .f32⟩
  | .hbm, ⟨15, _⟩ => ⟨S16x16x512x64, .f32⟩
  | .hbm, ⟨16, _⟩ => ⟨S16x16x512x512, .f32⟩
  | .hbm, ⟨17, _⟩ => ⟨S_, .f32⟩
  | .hbm, ⟨18, _⟩ => ⟨S16x16x512x512, .f32⟩
  | .hbm, ⟨19, _⟩ => ⟨S16x16x512x512, .f32⟩
  | .hbm, ⟨20, _⟩ => ⟨S512x512, .i32⟩
  | .hbm, ⟨21, _⟩ => ⟨S512x512, .i32⟩
  | .hbm, ⟨22, _⟩ => ⟨S512x512, .i32⟩
  | .hbm, ⟨23, _⟩ => ⟨S512x512, .i32⟩
  | .hbm, ⟨24, _⟩ => ⟨S_, .i32⟩
  | .hbm, ⟨25, _⟩ => ⟨S512x512, .i32⟩
  | .hbm, ⟨26, _⟩ => ⟨S512x512, .i1⟩
  | .hbm, ⟨27, _⟩ => ⟨S_, .i32⟩
  | .hbm, ⟨28, _⟩ => ⟨S512x512, .i32⟩
  | .hbm, ⟨29, _⟩ => ⟨S512x512, .i32⟩
  | .hbm, ⟨30, _⟩ => ⟨S512x512, .f32⟩
  | .hbm, ⟨31, _⟩ => ⟨S16x1x1, .f32⟩
  | .hbm, ⟨32, _⟩ => ⟨S16x1x1, .f32⟩
  | .hbm, ⟨33, _⟩ => ⟨S1x512x512, .f32⟩
  | .hbm, ⟨34, _⟩ => ⟨S16x512x512, .f32⟩
  | .hbm, ⟨35, _⟩ => ⟨S16x512x512, .f32⟩
  | .hbm, ⟨36, _⟩ => ⟨S16x512x512, .f32⟩
  | .hbm, ⟨37, _⟩ => ⟨S1x16x512x512, .f32⟩
  | .hbm, ⟨38, _⟩ => ⟨S16x16x512x512, .f32⟩
  | .hbm, ⟨39, _⟩ => ⟨S16x16x512x512, .f32⟩
  | .hbm, ⟨40, _⟩ => ⟨S_, .f32⟩
  | .hbm, ⟨41, _⟩ => ⟨S_, .f32⟩
  | .hbm, ⟨42, _⟩ => ⟨S16x16x512x512, .i1⟩
  | .hbm, ⟨43, _⟩ => ⟨S16x16x512x512, .f32⟩
  | .hbm, ⟨44, _⟩ => ⟨S16x16x512x512, .f32⟩
  | .hbm, ⟨45, _⟩ => ⟨S_, .f32⟩
  | .hbm, ⟨46, _⟩ => ⟨S16x16x512, .f32⟩
  | .hbm, ⟨47, _⟩ => ⟨S16x16x512x1, .f32⟩
  | .hbm, ⟨48, _⟩ => ⟨S16x16x512x512, .f32⟩
  | .hbm, ⟨49, _⟩ => ⟨S16x16x512x512, .f32⟩
  | .hbm, ⟨50, _⟩ => ⟨S16x16x512x512, .f32⟩
  | .hbm, ⟨51, _⟩ => ⟨S_, .f32⟩
  | .hbm, ⟨52, _⟩ => ⟨S16x16x512, .f32⟩
  | .hbm, ⟨53, _⟩ => ⟨S16x16x512x1, .f32⟩
  | .hbm, ⟨54, _⟩ => ⟨S16x16x512x64, .f32⟩
  | .hbm, ⟨55, _⟩ => ⟨S16x16x512x64, .f32⟩
  | .hbm, ⟨56, _⟩ => ⟨S16x16x512x64, .f32⟩
  | .hbm, ⟨57, _⟩ => ⟨S16x16x512x1, .f32⟩
  | .hbm, ⟨58, _⟩ => ⟨S16x16x512x1, .f32⟩
  | .hbm, ⟨59, _⟩ => ⟨S16x16x512, .f32⟩
  | .hbm, ⟨60, _⟩ => ⟨S512x16x16x64, .f32⟩
  | .hbm, ⟨61, _⟩ => ⟨S8192x16x64, .f32⟩
  | .hbm, ⟨62, _⟩ => ⟨S512x16x16, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S8192x16, .f32⟩
  | .hbm, ⟨68, _⟩ => ⟨S8192x16, .f32⟩
  | .hbm, ⟨69, _⟩ => ⟨S8192x16, .f32⟩
  | .hbm, ⟨70, _⟩ => ⟨S8192x16, .f32⟩
  | .hbm, ⟨71, _⟩ => ⟨S8192x16, .f32⟩
  | .hbm, ⟨72, _⟩ => ⟨S8192x16, .f32⟩
  | .hbm, ⟨73, _⟩ => ⟨S8192x16, .f32⟩
  | .hbm, ⟨74, _⟩ => ⟨S8192x16x1, .f32⟩
  | .hbm, ⟨75, _⟩ => ⟨S8192x16x64, .f32⟩
  | .hbm, ⟨76, _⟩ => ⟨S8192x16x64, .f32⟩
  | .hbm, ⟨77, _⟩ => ⟨S8192x16x1, .f32⟩
  | .hbm, ⟨78, _⟩ => ⟨S8192x16x64, .f32⟩
  | .hbm, ⟨79, _⟩ => ⟨S8192x16x64, .f32⟩
  | .hbm, ⟨80, _⟩ => ⟨S8192x16x64, .f32⟩
  | .hbm, ⟨81, _⟩ => ⟨S8192x16x1, .f32⟩
  | .hbm, ⟨82, _⟩ => ⟨S8192x16x64, .f32⟩
  | .hbm, ⟨83, _⟩ => ⟨S8192x16x64, .f32⟩
  | .hbm, ⟨84, _⟩ => ⟨S8192x16x64, .f32⟩
  | .hbm, ⟨85, _⟩ => ⟨S8192x16x1, .f32⟩
  | .hbm, ⟨86, _⟩ => ⟨S8192x16x64, .f32⟩
  | .hbm, ⟨87, _⟩ => ⟨S8192x16x64, .f32⟩
  | .hbm, ⟨88, _⟩ => ⟨S8192x16, .f32⟩
  | .hbm, ⟨89, _⟩ => ⟨S8192x16, .f32⟩
  | .hbm, ⟨90, _⟩ => ⟨S8192x16x1, .f32⟩
  | .hbm, ⟨91, _⟩ => ⟨S8192x16x64, .f32⟩
  | .hbm, ⟨92, _⟩ => ⟨S8192x1x16x64, .f32⟩
  | .hbm, ⟨93, _⟩ => ⟨S8192x1x16x64, .f32⟩
  | .hbm, ⟨94, _⟩ => ⟨S8192x1x16x64, .f32⟩
  | .hbm, ⟨95, _⟩ => ⟨S8192x3x16x64, .f32⟩
  | .hbm, ⟨96, _⟩ => ⟨S8192x3x16x64, .bf16⟩
  | .hbm, ⟨97, _⟩ => ⟨S512x49152, .bf16⟩
  | .hbm, ⟨98, _⟩ => ⟨S8192x16x64, .bf16⟩
  | .hbm, ⟨99, _⟩ => ⟨S512x16384, .bf16⟩
  | .hbm, ⟨100, _⟩ => ⟨S512x16384, .f32⟩
  | .hbm, ⟨101, _⟩ => ⟨S512x16384, .f32⟩
  | .hbm, ⟨102, _⟩ => ⟨S512x16384, .bf16⟩
  | .hbm, ⟨103, _⟩ => ⟨S512x16384, .bf16⟩
  | .hbm, ⟨104, _⟩ => ⟨S512x16384, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | .local _ .smem, ⟨0, _⟩ => ⟨S16, .f32⟩
  | _, _ => ⟨S8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83_0 : Ref sig .tc := ⟨.hbm, 102, rfl⟩
abbrev main_v83_1 : Ref sig .tc := ⟨.hbm, 103, rfl⟩
abbrev main_v83_2 : Ref sig .tc := ⟨.hbm, 104, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![16, 8, 1], ![false, false, false]⟩

def k0_mult1 (i : grid0.Coords) : BitVec 32 :=
  let c256_i32 : BitVec 32 := 256#32
  let c0_i32_2 : BitVec 32 := 0#32
  let arg2 : BitVec 32 := BitVec.ofNat 32 (i 2).val
  let c4_i32 : BitVec 32 := 4#32
  let v3 : BitVec 32 := Scalar.muli arg2 c4_i32
  let c0_i32_1 : BitVec 32 := 0#32
  let v4 : BitVec 32 := Scalar.addi v3 c0_i32_1
  let c128_i32 : BitVec 32 := 128#32
  let v5 : BitVec 32 := Scalar.muli v4 c128_i32
  let c64_i32 : BitVec 32 := 64#32
  let v6 : BitVec 32 := Scalar.subi v5 c64_i32
  let v7 : BitVec 32 := Scalar.maxsi c0_i32_2 v6
  let v8 : BitVec 32 := Scalar.minsi c256_i32 v7
  v8
def k0_off1 (i : grid0.Coords) (c0_i32_1 : BitVec 32) : Fin 2 → Nat :=
  let c256_i32 : BitVec 32 := 256#32
  let c0_i32_2 : BitVec 32 := 0#32
  let arg2 : BitVec 32 := BitVec.ofNat 32 (i 2).val
  let c4_i32 : BitVec 32 := 4#32
  let v3 : BitVec 32 := Scalar.muli arg2 c4_i32
  let v4 : BitVec 32 := Scalar.addi v3 c0_i32_1
  let c128_i32 : BitVec 32 := 128#32
  let v5 : BitVec 32 := Scalar.muli v4 c128_i32
  let c64_i32 : BitVec 32 := 64#32
  let v6 : BitVec 32 := Scalar.subi v5 c64_i32
  let v7 : BitVec 32 := Scalar.maxsi c0_i32_2 v6
  let v8 : BitVec 32 := Scalar.minsi c256_i32 v7
  let v9 : BitVec 32 := v8
  let v24 : Index := Scalar.indexCast v9
  let c0 : Index := 0#32
  ![v24.toNat, 0]
def k0_off2 (i : grid0.Coords) (c0_i32_14 : BitVec 32) : Fin 1 → Nat :=
  let arg1 : BitVec 32 := BitVec.ofNat 32 (i 1).val
  let c2_i32 : BitVec 32 := 2#32
  let v42 : BitVec 32 := Scalar.muli arg1 c2_i32
  let v43 : BitVec 32 := Scalar.addi v42 c0_i32_14
  let v44 : Index := Scalar.indexCast v43
  ![v44.toNat]
def k0_mult2 (i : grid0.Coords) : BitVec 32 :=
  let c256_i32_46 : BitVec 32 := 256#32
  let c0_i32_45 : BitVec 32 := 0#32
  let arg2 : BitVec 32 := BitVec.ofNat 32 (i 2).val
  let c4_i32_41 : BitVec 32 := 4#32
  let v137 : BitVec 32 := Scalar.muli arg2 c4_i32_41
  let c1_i32_42 : BitVec 32 := 1#32
  let v138 : BitVec 32 := Scalar.addi v137 c1_i32_42
  let c128_i32_43 : BitVec 32 := 128#32
  let v139 : BitVec 32 := Scalar.muli v138 c128_i32_43
  let c64_i32_44 : BitVec 32 := 64#32
  let v140 : BitVec 32 := Scalar.subi v139 c64_i32_44
  let v141 : BitVec 32 := Scalar.maxsi c0_i32_45 v140
  let v142 : BitVec 32 := Scalar.minsi c256_i32_46 v141
  v142
def k0_mult3 (i : grid0.Coords) : BitVec 32 :=
  let c256_i32_94 : BitVec 32 := 256#32
  let c0_i32_93 : BitVec 32 := 0#32
  let arg2 : BitVec 32 := BitVec.ofNat 32 (i 2).val
  let c4_i32_89 : BitVec 32 := 4#32
  let v271 : BitVec 32 := Scalar.muli arg2 c4_i32_89
  let c2_i32_90 : BitVec 32 := 2#32
  let v272 : BitVec 32 := Scalar.addi v271 c2_i32_90
  let c128_i32_91 : BitVec 32 := 128#32
  let v273 : BitVec 32 := Scalar.muli v272 c128_i32_91
  let c64_i32_92 : BitVec 32 := 64#32
  let v274 : BitVec 32 := Scalar.subi v273 c64_i32_92
  let v275 : BitVec 32 := Scalar.maxsi c0_i32_93 v274
  let v276 : BitVec 32 := Scalar.minsi c256_i32_94 v275
  v276
def k0_mult4 (i : grid0.Coords) : BitVec 32 :=
  let c256_i32_141 : BitVec 32 := 256#32
  let c0_i32_140 : BitVec 32 := 0#32
  let arg2 : BitVec 32 := BitVec.ofNat 32 (i 2).val
  let c4_i32_137 : BitVec 32 := 4#32
  let v405 : BitVec 32 := Scalar.muli arg2 c4_i32_137
  let c3_i32 : BitVec 32 := 3#32
  let v406 : BitVec 32 := Scalar.addi v405 c3_i32
  let c128_i32_138 : BitVec 32 := 128#32
  let v407 : BitVec 32 := Scalar.muli v406 c128_i32_138
  let c64_i32_139 : BitVec 32 := 64#32
  let v408 : BitVec 32 := Scalar.subi v407 c64_i32_139
  let v409 : BitVec 32 := Scalar.maxsi c0_i32_140 v408
  let v410 : BitVec 32 := Scalar.minsi c256_i32_141 v409
  v410
def k0_cond2 (i : grid0.Coords) : BitVec 1 :=
  let arg2 : BitVec 32 := BitVec.ofNat 32 (i 2).val
  let c0_i32_184 : BitVec 32 := 0#32
  let v539 : BitVec 1 := Scalar.cmpi .eq arg2 c0_i32_184
  let v540 : BitVec 32 := Scalar.extui v539
  let c0_i32_185 : BitVec 32 := 0#32
  let v541 : BitVec 1 := Scalar.cmpi .ne v540 c0_i32_185
  v541

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let c0_i32 : BitVec 32 := 0#32
  let v1 : BitVec 32 := Scalar.addi v0 c0_i32
  let v2 : BitVec 32 := Scalar.addi v1 arg1
  let c0_i32_0 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let c0_i32 : BitVec 32 := 0#32
  let v1 : BitVec 32 := Scalar.addi v0 c0_i32
  let c8_i32 : BitVec 32 := 8#32
  let v2 : BitVec 32 := Scalar.addi v1 c8_i32
  let v3 : BitVec 32 := Scalar.addi v2 arg1
  let c0_i32_0 : BitVec 32 := 0#32
  let c0_i32_1 : BitVec 32 := 0#32
  ![c0_i32_0.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let c0_i32 : BitVec 32 := 0#32
  let v1 : BitVec 32 := Scalar.addi v0 c0_i32
  let c16_i32 : BitVec 32 := 16#32
  let v2 : BitVec 32 := Scalar.addi v1 c16_i32
  let v3 : BitVec 32 := Scalar.addi v2 arg1
  let c0_i32_0 : BitVec 32 := 0#32
  let c0_i32_1 : BitVec 32 := 0#32
  ![c0_i32_0.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![arg2.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![arg2.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![arg2.toNat, v1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S8192x16x64 : Shape := ⟨3, ![8192, 16, 64]⟩
abbrev S8192x16 : Shape := ⟨2, ![8192, 16]⟩
abbrev S16 : Shape := ⟨1, ![16]⟩
abbrev S512x16x16x64 : Shape := ⟨4, ![512, 16, 16, 64]⟩
abbrev S16x16x512x64 : Shape := ⟨4, ![16, 16, 512, 64]⟩
abbrev S16x16x512x512 : Shape := ⟨4, ![16, 16, 512, 512]⟩
abbrev S_ : Shape := ⟨0, ![]⟩
abbrev S512x512 : Shape := ⟨2, ![512, 512]⟩
abbrev S16x1x1 : Shape := ⟨3, ![16, 1, 1]⟩
abbrev S1x512x512 : Shape := ⟨3, ![1, 512, 512]⟩
abbrev S16x512x512 : Shape := ⟨3, ![16, 512, 512]⟩
abbrev S1x16x512x512 : Shape := ⟨4, ![1, 16, 512, 512]⟩
abbrev S16x16x512 : Shape := ⟨3, ![16, 16, 512]⟩
abbrev S16x16x512x1 : Shape := ⟨4, ![16, 16, 512, 1]⟩
abbrev S512x16x16 : Shape := ⟨3, ![512, 16, 16]⟩
abbrev S8192x16x1 : Shape := ⟨3, ![8192, 16, 1]⟩
abbrev S8192x16x3 : Shape := ⟨3, ![8192, 16, 3]⟩
abbrev S8192x16x3x1 : Shape := ⟨4, ![8192, 16, 3, 1]⟩
abbrev S8192x16x1x64 : Shape := ⟨4, ![8192, 16, 1, 64]⟩
abbrev S8192x16x3x64 : Shape := ⟨4, ![8192, 16, 3, 64]⟩
abbrev S16x16x64x512 : Shape := ⟨4, ![16, 16, 64, 512]⟩
abbrev S512x16384 : Shape := ⟨2, ![512, 16384]⟩

abbrev nBuf : Space → Nat
  | .hbm => 224
  | .vmem => 0
  | .smem => 0
  | _ => 0

abbrev hbmTy0_0 (i : Nat) : BufTy := match i % 128 with
  | 0 => ⟨S8192x16x64, .f32⟩
  | 1 => ⟨S8192x16x64, .f32⟩
  | 2 => ⟨S8192x16x64, .f32⟩
  | 3 => ⟨S8192x16x64, .f32⟩
  | 4 => ⟨S8192x16, .f32⟩
  | 5 => ⟨S8192x16x64, .f32⟩
  | 6 => ⟨S8192x16, .f32⟩
  | 7 => ⟨S8192x16x64, .f32⟩
  | 8 => ⟨S16, .f32⟩
  | 9 => ⟨S512x16x16x64, .f32⟩
  | 10 => ⟨S16x16x512x64, .f32⟩
  | 11 => ⟨S512x16x16x64, .f32⟩
  | 12 => ⟨S16x16x512x64, .f32⟩
  | 13 => ⟨S512x16x16x64, .f32⟩
  | 14 => ⟨S16x16x512x64, .f32⟩
  | 15 => ⟨S16x16x512x512, .f32⟩
  | 16 => ⟨S_, .f32⟩
  | 17 => ⟨S16x16x512x512, .f32⟩
  | 18 => ⟨S16x16x512x512, .f32⟩
  | 19 => ⟨S512x512, .i32⟩
  | 20 => ⟨S512x512, .i32⟩
  | 21 => ⟨S512x512, .i32⟩
  | 22 => ⟨S512x512, .i32⟩
  | 23 => ⟨S_, .i32⟩
  | 24 => ⟨S512x512, .i32⟩
  | 25 => ⟨S512x512, .i1⟩
  | 26 => ⟨S_, .i32⟩
  | 27 => ⟨S512x512, .i32⟩
  | 28 => ⟨S512x512, .i32⟩
  | 29 => ⟨S512x512, .f32⟩
  | 30 => ⟨S16x1x1, .f32⟩
  | 31 => ⟨S16x1x1, .f32⟩
  | 32 => ⟨S1x512x512, .f32⟩
  | 33 => ⟨S16x512x512, .f32⟩
  | 34 => ⟨S16x512x512, .f32⟩
  | 35 => ⟨S16x512x512, .f32⟩
  | 36 => ⟨S1x16x512x512, .f32⟩
  | 37 => ⟨S16x16x512x512, .f32⟩
  | 38 => ⟨S16x16x512x512, .f32⟩
  | 39 => ⟨S_, .f32⟩
  | 40 => ⟨S_, .f32⟩
  | 41 => ⟨S16x16x512x512, .i1⟩
  | 42 => ⟨S16x16x512x512, .f32⟩
  | 43 => ⟨S16x16x512x512, .f32⟩
  | 44 => ⟨S_, .f32⟩
  | 45 => ⟨S16x16x512x512, .f32⟩
  | 46 => ⟨S_, .f32⟩
  | 47 => ⟨S16x16x512, .f32⟩
  | 48 => ⟨S16x16x512x1, .f32⟩
  | 49 => ⟨S16x16x512x512, .f32⟩
  | 50 => ⟨S16x16x512x512, .i1⟩
  | 51 => ⟨S16x16x512x512, .f32⟩
  | 52 => ⟨S_, .f32⟩
  | 53 => ⟨S16x16x512, .f32⟩
  | 54 => ⟨S16x16x512x1, .f32⟩
  | 55 => ⟨S16x16x512x512, .f32⟩
  | 56 => ⟨S16x16x512x512, .f32⟩
  | 57 => ⟨S16x16x512x512, .f32⟩
  | 58 => ⟨S_, .f32⟩
  | 59 => ⟨S16x16x512, .f32⟩
  | 60 => ⟨S16x16x512x1, .f32⟩
  | 61 => ⟨S16x16x512x64, .f32⟩
  | 62 => ⟨S16x16x512x64, .f32⟩
  | 63 => ⟨S16x16x512x64, .f32⟩
  | 64 => ⟨S16x16x512x1, .f32⟩
  | 65 => ⟨S_, .f32⟩
  | 66 => ⟨S16x16x512x1, .f32⟩
  | 67 => ⟨S16x16x512x1, .f32⟩
  | 68 => ⟨S16x16x512x1, .f32⟩
  | 69 => ⟨S16x16x512x1, .f32⟩
  | 70 => ⟨S16x16x512, .f32⟩
  | 71 => ⟨S512x16x16x64, .f32⟩
  | 72 => ⟨S8192x16x64, .f32⟩
  | 73 => ⟨S512x16x16, .f32⟩
  | 74 => ⟨S8192x16, .f32⟩
  | 75 => ⟨S8192x16x1, .f32⟩
  | 76 => ⟨S8192x16x1, .f32⟩
  | 77 => ⟨S8192x16x1, .f32⟩
  | 78 => ⟨S8192x16x3, .f32⟩
  | 79 => ⟨S_, .f32⟩
  | 80 => ⟨S8192x16, .f32⟩
  | 81 => ⟨S_, .f32⟩
  | 82 => ⟨S8192x16, .f32⟩
  | 83 => ⟨S_, .f32⟩
  | 84 => ⟨S8192x16, .f32⟩
  | 85 => ⟨S8192x16x1, .f32⟩
  | 86 => ⟨S8192x16x3, .f32⟩
  | 87 => ⟨S8192x16x3, .i1⟩
  | 88 => ⟨S8192x16x3, .f32⟩
  | 89 => ⟨S_, .f32⟩
  | 90 => ⟨S8192x16, .f32⟩
  | 91 => ⟨S_, .f32⟩
  | 92 => ⟨S8192x16, .f32⟩
  | 93 => ⟨S8192x16, .f32⟩
  | 94 => ⟨S_, .f32⟩
  | 95 => ⟨S8192x16, .f32⟩
  | 96 => ⟨S8192x16, .i1⟩
  | 97 => ⟨S_, .f32⟩
  | 98 => ⟨S8192x16, .f32⟩
  | 99 => ⟨S8192x16, .i1⟩
  | 100 => ⟨S_, .f32⟩
  | 101 => ⟨S8192x16, .f32⟩
  | 102 => ⟨S_, .f32⟩
  | 103 => ⟨S8192x16, .f32⟩
  | 104 => ⟨S_, .f32⟩
  | 105 => ⟨S8192x16, .f32⟩
  | 106 => ⟨S8192x16, .f32⟩
  | 107 => ⟨S8192x16, .f32⟩
  | 108 => ⟨S8192x16x1, .f32⟩
  | 109 => ⟨S8192x16x3, .f32⟩
  | 110 => ⟨S8192x16x3, .f32⟩
  | 111 => ⟨S8192x16x3, .f32⟩
  | 112 => ⟨S_, .f32⟩
  | 113 => ⟨S8192x16, .f32⟩
  | 114 => ⟨S8192x16x1, .f32⟩
  | 115 => ⟨S8192x16x3, .f32⟩
  | 116 => ⟨S8192x16x3, .f32⟩
  | 117 => ⟨S8192x16x1, .f32⟩
  | 118 => ⟨S_, .f32⟩
  | 119 => ⟨S8192x16x1, .f32⟩
  | 120 => ⟨S8192x16x1, .f32⟩
  | 121 => ⟨S8192x16x3x1, .f32⟩
  | 122 => ⟨S8192x16x1x64, .f32⟩
  | 123 => ⟨S8192x16x1x64, .f32⟩
  | 124 => ⟨S8192x16x1x64, .f32⟩
  | 125 => ⟨S8192x16x3x64, .f32⟩
  | 126 => ⟨S_, .f32⟩
  | 127 => ⟨S8192x16x64, .f32⟩
  | _ => ⟨S8192x16x64, .f32⟩

abbrev hbmTy0_1 (i : Nat) : BufTy := match i % 128 with
  | 0 => ⟨S_, .f32⟩
  | 1 => ⟨S8192x16x64, .f32⟩
  | 2 => ⟨S8192x16x3x64, .f32⟩
  | 3 => ⟨S8192x16x3x64, .f32⟩
  | 4 => ⟨S_, .f32⟩
  | 5 => ⟨S8192x16x64, .f32⟩
  | 6 => ⟨S8192x16x3x64, .f32⟩
  | 7 => ⟨S8192x16x3x64, .f32⟩
  | 8 => ⟨S8192x16x3x64, .f32⟩
  | 9 => ⟨S8192x16x3x64, .f32⟩
  | 10 => ⟨S_, .f32⟩
  | 11 => ⟨S8192x16x3, .f32⟩
  | 12 => ⟨S8192x16x3x1, .f32⟩
  | 13 => ⟨S8192x16x1x64, .f32⟩
  | 14 => ⟨S8192x16x64, .f32⟩
  | 15 => ⟨S8192x16x1x64, .f32⟩
  | 16 => ⟨S8192x16x64, .f32⟩
  | 17 => ⟨S8192x16x1x64, .f32⟩
  | 18 => ⟨S8192x16x64, .f32⟩
  | 19 => ⟨S_, .f32⟩
  | 20 => ⟨S8192x16x3, .f32⟩
  | 21 => ⟨S8192x16x3, .f32⟩
  | 22 => ⟨S8192x16x3, .f32⟩
  | 23 => ⟨S8192x16x3, .f32⟩
  | 24 => ⟨S_, .f32⟩
  | 25 => ⟨S8192x16, .f32⟩
  | 26 => ⟨S8192x16x1, .f32⟩
  | 27 => ⟨S8192x16x1, .f32⟩
  | 28 => ⟨S8192x16x3, .f32⟩
  | 29 => ⟨S8192x16x3, .f32⟩
  | 30 => ⟨S_, .f32⟩
  | 31 => ⟨S8192x16, .f32⟩
  | 32 => ⟨S8192x16x3, .f32⟩
  | 33 => ⟨S8192x16x3, .f32⟩
  | 34 => ⟨S8192x16x3, .f32⟩
  | 35 => ⟨S8192x16x1, .f32⟩
  | 36 => ⟨S8192x16, .f32⟩
  | 37 => ⟨S8192x16x1, .f32⟩
  | 38 => ⟨S8192x16, .f32⟩
  | 39 => ⟨S8192x16x1, .f32⟩
  | 40 => ⟨S8192x16, .f32⟩
  | 41 => ⟨S512x16x16, .f32⟩
  | 42 => ⟨S16x16x512, .f32⟩
  | 43 => ⟨S512x16x16x64, .f32⟩
  | 44 => ⟨S16x16x512x64, .f32⟩
  | 45 => ⟨S16x16x512x1, .f32⟩
  | 46 => ⟨S16x16x512x1, .f32⟩
  | 47 => ⟨S16x16x512x64, .f32⟩
  | 48 => ⟨S16x16x512x64, .f32⟩
  | 49 => ⟨S16x16x512x64, .f32⟩
  | 50 => ⟨S_, .f32⟩
  | 51 => ⟨S16x16x512, .f32⟩
  | 52 => ⟨S16x16x512x1, .f32⟩
  | 53 => ⟨S16x16x512x1, .f32⟩
  | 54 => ⟨S16x16x512x1, .f32⟩
  | 55 => ⟨S16x16x512x64, .f32⟩
  | 56 => ⟨S16x16x512x64, .f32⟩
  | 57 => ⟨S16x16x64x512, .f32⟩
  | 58 => ⟨S16x16x512x64, .f32⟩
  | 59 => ⟨S16x16x512x512, .f32⟩
  | 60 => ⟨S_, .f32⟩
  | 61 => ⟨S16x16x512, .f32⟩
  | 62 => ⟨S16x16x512x512, .f32⟩
  | 63 => ⟨S16x16x512x512, .f32⟩
  | 64 => ⟨S16x16x512x512, .f32⟩
  | 65 => ⟨S16x16x512x512, .f32⟩
  | 66 => ⟨S_, .f32⟩
  | 67 => ⟨S16x16x512, .f32⟩
  | 68 => ⟨S16x16x512x1, .f32⟩
  | 69 => ⟨S16x16x512x1, .f32⟩
  | 70 => ⟨S_, .f32⟩
  | 71 => ⟨S16x16x512, .f32⟩
  | 72 => ⟨S16x16x512, .f32⟩
  | 73 => ⟨S16x16x512x512, .f32⟩
  | 74 => ⟨S16x16x512x512, .f32⟩
  | 75 => ⟨S16x16x512x512, .f32⟩
  | 76 => ⟨S_, .f32⟩
  | 77 => ⟨S16x16x512x512, .f32⟩
  | 78 => ⟨S16x16x512x512, .f32⟩
  | 79 => ⟨S_, .f32⟩
  | 80 => ⟨S16x16x512x512, .f32⟩
  | 81 => ⟨S16x16x512x512, .f32⟩
  | 82 => ⟨S16x16x512x64, .f32⟩
  | 83 => ⟨S16x16x512x64, .f32⟩
  | 84 => ⟨S512x16x16x64, .f32⟩
  | 85 => ⟨S8192x16x64, .f32⟩
  | 86 => ⟨S512x16x16x64, .f32⟩
  | 87 => ⟨S8192x16x64, .f32⟩
  | 88 => ⟨S512x16x16x64, .f32⟩
  | 89 => ⟨S8192x16x64, .f32⟩
  | 90 => ⟨S512x16384, .f32⟩
  | 91 => ⟨S512x16384, .bf16⟩
  | 92 => ⟨S512x16384, .f32⟩
  | 93 => ⟨S512x16384, .bf16⟩
  | 94 => ⟨S512x16384, .f32⟩
  | 95 => ⟨S512x16384, .bf16⟩
  | _ => ⟨S8192x16x64, .f32⟩

abbrev hbmTy (i : Nat) : BufTy := match i / 128 with
  | 0 => hbmTy0_0 i
  | 1 => hbmTy0_1 i
  | _ => ⟨S8192x16x64, .f32⟩

abbrev bufTy : (tb : Table) → Fin (tcTables nBuf tb) → BufTy
  | .hbm, ⟨i, _⟩ => hbmTy i
  | _, _ => ⟨S8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_call0_v0 : Ref sig .tc := ⟨.hbm, 40, rfl⟩
abbrev main_v27_1 : Ref sig .tc := ⟨.hbm, 41, rfl⟩
abbrev main_call0_v2 : Ref sig .tc := ⟨.hbm, 42, rfl⟩
abbrev main_v27_0 : Ref sig .tc := ⟨.hbm, 43, rfl⟩
abbrev main_call0_cst : Ref sig .tc := ⟨.hbm, 44, rfl⟩
abbrev main_v27_2 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_7 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_cst_15 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_cst_20 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_21 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_22 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_23 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_24 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_25 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_cst_26 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_27 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_cst_28 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_cst_29 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_call1_cst : Ref sig .tc := ⟨.hbm, 204, rfl⟩
abbrev main_call1_v0 : Ref sig .tc := ⟨.hbm, 205, rfl⟩
abbrev main_v159 : Ref sig .tc := ⟨.hbm, 206, rfl⟩
abbrev main_cst_30 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x10240 : Shape := ⟨2, ![1024, 10240]⟩
abbrev S8192x10240 : Shape := ⟨2, ![8192, 10240]⟩
abbrev S512x2048 : Shape := ⟨2, ![512, 2048]⟩
abbrev S1024x2048 : Shape := ⟨2, ![1024, 2048]⟩
abbrev S512x1024 : Shape := ⟨2, ![512, 1024]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x10240, .f32⟩
  | .hbm, ⟨4, _⟩ => ⟨S8192x1024, .f32⟩
  | .hbm, ⟨5, _⟩ => ⟨S8192x10240, .f32⟩
  | .hbm, ⟨6, _⟩ => ⟨S8192x10240, .bf16⟩
  | .hbm, ⟨7, _⟩ => ⟨S1024x10240, .bf16⟩
  | .hbm, ⟨8, _⟩ => ⟨S8192x1024, .f32⟩
  | .hbm, ⟨9, _⟩ => ⟨S1x1024, .f32⟩
  | .hbm, ⟨10, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![16, 5], ![false, false]⟩

def k0_cond4 (i : grid0.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_9 : BitVec 32 := 0#32
  let v18 : BitVec 1 := Scalar.cmpi .ne v17 c0_i32_9
  v18

def k0_cond3 (i : grid0.Coords) : BitVec 1 :=
  let arg0 : BitVec 32 := BitVec.ofNat 32 (i 0).val
  let c0_i32_6 : BitVec 32 := 0#32
  let v11 : BitVec 1 := Scalar.cmpi .eq arg0 c0_i32_6
  let arg1 : BitVec 32 := BitVec.ofNat 32 (i 1).val
  let c0_i32_7 : BitVec 32 := 0#32
  let v12 : BitVec 1 := Scalar.cmpi .eq arg1 c0_i32_7
  let v13 : BitVec 1 := Scalar.andi v11 v12
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference2Ideal.lean ====
abbrev S8192x1024 : Shape := ⟨2, ![8192, 1024]⟩
abbrev S1x1024 : Shape := ⟨2, ![1, 1024]⟩
abbrev S1024x10240 : Shape := ⟨2, ![1024, 10240]⟩
abbrev S8192x10240 : Shape := ⟨2, ![8192, 10240]⟩
abbrev S_ : Shape := ⟨0, ![]⟩
abbrev S1024 : Shape := ⟨1, ![1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x10240, .f32⟩
  | .hbm, ⟨4, _⟩ => ⟨S8192x1024, .f32⟩
  | .hbm, ⟨5, _⟩ => ⟨S8192x10240, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x10240, .f32⟩
  | .hbm, ⟨14, _⟩ => ⟨S8192x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S8192x1024, .f32⟩
  | .hbm, ⟨19, _⟩ => ⟨S_, .f32⟩
  | .hbm, ⟨20, _⟩ => ⟨S1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x5184 : Shape := ⟨2, ![1024, 5184]⟩
abbrev S8192x5184 : Shape := ⟨2, ![8192, 5184]⟩
abbrev S_ : Shape := ⟨0, ![]⟩
abbrev S8192x5376 : Shape := ⟨2, ![8192, 5376]⟩
abbrev S1024x5376 : Shape := ⟨2, ![1024, 5376]⟩
abbrev S512x1792 : Shape := ⟨2, ![512, 1792]⟩
abbrev S1024x1792 : Shape := ⟨2, ![1024, 1792]⟩
abbrev S512x1024 : Shape := ⟨2, ![512, 1024]⟩
abbrev S1024 : Shape := ⟨1, ![1024]⟩

abbrev nBuf : Space → Nat
  | .hbm => 17
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x5184, .f32⟩
  | .hbm, ⟨4, _⟩ => ⟨S8192x1024, .f32⟩
  | .hbm, ⟨5, _⟩ => ⟨S8192x5184, .f32⟩
  | .hbm, ⟨6, _⟩ => ⟨S8192x5184, .bf16⟩
  | .hbm, ⟨7, _⟩ => ⟨S_, .i32⟩
  | .hbm, ⟨8, _⟩ => ⟨S_, .bf16⟩
  | .hbm, ⟨9, _⟩ => ⟨S8192x5376, .bf16⟩
  | .hbm, ⟨10, _⟩ => ⟨S1024x5184, .bf16⟩
  | .hbm, ⟨11, _⟩ => ⟨S_, .i32⟩
  | .hbm, ⟨12, _⟩ => ⟨S_, .bf16⟩
  | .hbm, ⟨13, _⟩ => ⟨S1024x5376, .bf16⟩
  | .hbm, ⟨14, _⟩ => ⟨S8192x1024, .f32⟩
  | .hbm, ⟨15, _⟩ => ⟨S1x1024, .f32⟩
  | .hbm, ⟨16, _⟩ => ⟨S1x1024, .f32⟩
  | .local _ .vmem, ⟨0, _⟩ => ⟨S512x1792, .bf16⟩
  | .local _ .vmem, ⟨1, _⟩ => ⟨S512x1792, .bf16⟩
  | .local _ .vmem, ⟨2, _⟩ => ⟨S1024x1792, .bf16⟩
  | .local _ .vmem, ⟨3, _⟩ => ⟨S1024x1792, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![16, 3], ![false, false]⟩

def k0_cond4 (i : grid0.Coords) : BitVec 1 :=
  let arg1 : BitVec 32 := BitVec.ofNat 32 (i 1).val
  let c2_i32 : BitVec 32 := 2#32
  let v16 : BitVec 1 := Scalar.cmpi .eq arg1 c2_i32
  let v17 : BitVec 32 := Scalar.extui v16
  let c0_i32_9 : BitVec 32 := 0#32
  let v18 : BitVec 1 := Scalar.cmpi .ne v17 c0_i32_9
  v18

def k0_cond3 (i : grid0.Coords) : BitVec 1 :=
  let arg0 : BitVec 32 := BitVec.ofNat 32 (i 0).val
  let c0_i32_6 : BitVec 32 := 0#32
  let v11 : BitVec 1 := Scalar.cmpi .eq arg0 c0_i32_6
  let arg1 : BitVec 32 := BitVec.ofNat 32 (i 1).val
  let c0_i32_7 : BitVec 32 := 0#32
  let v12 : BitVec 1 := Scalar.cmpi .eq arg1 c0_i32_7
  let v13 : BitVec 1 := Scalar.andi v11 v12
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference3Ideal.lean ====
abbrev S8192x1024 : Shape := ⟨2, ![8192, 1024]⟩
abbrev S1x1024 : Shape := ⟨2, ![1, 1024]⟩
abbrev S1024x5184 : Shape := ⟨2, ![1024, 5184]⟩
abbrev S8192x5184 : Shape := ⟨2, ![8192, 5184]⟩
abbrev S_ : Shape := ⟨0, ![]⟩
abbrev S1024 : Shape := ⟨1, ![1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x5184, .f32⟩
  | .hbm, ⟨4, _⟩ => ⟨S8192x1024, .f32⟩
  | .hbm, ⟨5, _⟩ => ⟨S8192x5184, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x5184, .f32⟩
  | .hbm, ⟨14, _⟩ => ⟨S8192x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S8192x1024, .f32⟩
  | .hbm, ⟨19, _⟩ => ⟨S_, .f32⟩
  | .hbm, ⟨20, _⟩ => ⟨S1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x5184 : Shape := ⟨2, ![1024, 5184]⟩
abbrev S8192x5184 : Shape := ⟨2, ![8192, 5184]⟩
abbrev S_ : Shape := ⟨0, ![]⟩
abbrev S8192x5376 : Shape := ⟨2, ![8192, 5376]⟩
abbrev S1024x8192 : Shape := ⟨2, ![1024, 8192]⟩
abbrev S1024x5376 : Shape := ⟨2, ![1024, 5376]⟩
abbrev S1024x1024 : Shape := ⟨2, ![1024, 1024]⟩
abbrev S1024x896 : Shape := ⟨2, ![1024, 896]⟩

abbrev nBuf : Space → Nat
  | .hbm => 19
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x5184, .f32⟩
  | .hbm, ⟨4, _⟩ => ⟨S8192x5184, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S8192x5184, .bf16⟩
  | .hbm, ⟨14, _⟩ => ⟨S_, .i32⟩
  | .hbm, ⟨15, _⟩ => ⟨S_, .bf16⟩
  | .hbm, ⟨16, _⟩ => ⟨S8192x5376, .bf16⟩
  | .hbm, ⟨17, _⟩ => ⟨S1024x8192, .bf16⟩
  | .hbm, ⟨18, _⟩ => ⟨S1024x5376, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1x1024 : Shape := ⟨2, ![1, 1024]⟩
abbrev S1024x5184 : Shape := ⟨2, ![1024, 5184]⟩
abbrev S8192x5184 : Shape := ⟨2, ![8192, 5184]⟩
abbrev S_ : Shape := ⟨0, ![]⟩
abbrev S5184x1024 : Shape := ⟨2, ![5184, 1024]⟩
abbrev S1024x5376 : Shape := ⟨2, ![1024, 5376]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x5184, .f32⟩
  | .hbm, ⟨4, _⟩ => ⟨S8192x5184, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x5184, .f32⟩
  | .hbm, ⟨13, _⟩ => ⟨S5184x1024, .f32⟩
  | .hbm, ⟨14, _⟩ => ⟨S1024x5184, .f32⟩
  | .hbm, ⟨15, _⟩ => ⟨S_, .i32⟩
  | .hbm, ⟨16, _⟩ => ⟨S_, .f32⟩
  | .hbm, ⟨17, _⟩ => ⟨S1024x5376, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x5184 : Shape := ⟨2, ![1024, 5184]⟩
abbrev S_ : Shape := ⟨0, ![]⟩
abbrev S1024x5120 : Shape := ⟨2, ![1024, 5120]⟩
abbrev S8192x5120 : Shape := ⟨2, ![8192, 5120]⟩
abbrev S512x1024 : Shape := ⟨2, ![512, 1024]⟩
abbrev S1024x1024 : Shape := ⟨2, ![1024, 1024]⟩

abbrev nBuf : Space → Nat
  | .hbm => 15
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x5184, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S1024x5184, .bf16⟩
  | .hbm, ⟨13, _⟩ => ⟨S1024x5120, .bf16⟩
  | .hbm, ⟨14, _⟩ => ⟨S8192x5120, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S1x1024 : Shape := ⟨2, ![1, 1024]⟩
abbrev S1024x5184 : Shape := ⟨2, ![1024, 5184]⟩
abbrev S_ : Shape := ⟨0, ![]⟩
abbrev S8192x5184 : Shape := ⟨2, ![8192, 5184]⟩
abbrev S8192x5120 : Shape := ⟨2, ![8192, 5120]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x5184, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x5184, .f32⟩
  | .hbm, ⟨12, _⟩ => ⟨S8192x5120, .f32⟩
  | .hbm, ⟨13, _⟩ => ⟨S8192x5120, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x10240 : Shape := ⟨2, ![1024, 10240]⟩
abbrev S_ : Shape := ⟨0, ![]⟩
abbrev S1024x3072 : Shape := ⟨2, ![1024, 3072]⟩
abbrev S1024x1024 : Shape := ⟨2, ![1024, 1024]⟩
abbrev S1024x4096 : Shape := ⟨2, ![1024, 4096]⟩
abbrev S8192x4096 : Shape := ⟨2, ![8192, 4096]⟩

abbrev nBuf : Space → Nat
  | .hbm => 17
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x10240, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S1024x10240, .bf16⟩
  | .hbm, ⟨13, _⟩ => ⟨S1024x3072, .bf16⟩
  | .hbm, ⟨14, _⟩ => ⟨S1024x1024, .bf16⟩
  | .hbm, ⟨15, _⟩ => ⟨S1024x4096, .bf16⟩
  | .hbm, ⟨16, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1x1024 : Shape := ⟨2, ![1, 1024]⟩
abbrev S1024x10240 : Shape := ⟨2, ![1024, 10240]⟩
abbrev S_ : Shape := ⟨0, ![]⟩
abbrev S8192x10240 : Shape := ⟨2, ![8192, 10240]⟩
abbrev S8192x3072 : Shape := ⟨2, ![8192, 3072]⟩
abbrev S8192x4096 : Shape := ⟨2, ![8192, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x10240, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x10240, .f32⟩
  | .hbm, ⟨12, _⟩ => ⟨S8192x3072, .f32⟩
  | .hbm, ⟨13, _⟩ => ⟨S8192x1024, .f32⟩
  | .hbm, ⟨14, _⟩ => ⟨S8192x4096, .f32⟩
  | .hbm, ⟨15, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel7.lean ====
abbrev S8192x2048 : Shape := ⟨2, ![8192, 2048]⟩
abbrev S2048x1024 : Shape := ⟨2, ![2048, 1024]⟩
abbrev S8192x1024 : Shape := ⟨2, ![8192, 1024]⟩
abbrev S512x1024 : Shape := ⟨2, ![512, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x1024, .bf16⟩
  | .hbm, ⟨4, _⟩ => ⟨S2048x1024, .bf16⟩
  | .hbm, ⟨5, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x1024, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x1024, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S_, .f32⟩
  | .hbm, ⟨94, _⟩ => ⟨S8192x1024, .f32⟩
  | .hbm, ⟨95, _⟩ => ⟨S8192x1024, .f32⟩
  | .hbm, ⟨96, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_cst_17 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== Kernel9.lean ====
abbrev S8192x2048 : Shape := ⟨2, ![8192, 2048]⟩
abbrev S2048x1024 : Shape := ⟨2, ![2048, 1024]⟩
abbrev S8192x1024 : Shape := ⟨2, ![8192, 1024]⟩
abbrev S512x1024 : Shape := ⟨2, ![512, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x2048, .bf16⟩
  | .hbm, ⟨4, _⟩ => ⟨S8192x1024, .bf16⟩
  | .hbm, ⟨5, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x1024, .f32⟩
  | .hbm, ⟨4, _⟩ => ⟨S1024x2048, .f32⟩
  | .hbm, ⟨5, _⟩ => ⟨S2048x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S8192x2048 : Shape := ⟨2, ![8192, 2048]⟩
abbrev S2048x1024 : Shape := ⟨2, ![2048, 1024]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x2048, .bf16⟩
  | .hbm, ⟨3, _⟩ => ⟨S2048x1024, .bf16⟩
  | .hbm, ⟨4, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S8192x1024 : Shape := ⟨2, ![8192, 1024]⟩
abbrev S1x1024 : Shape := ⟨2, ![1, 1024]⟩
abbrev S1024x10240 : Shape := ⟨2, ![1024, 10240]⟩
abbrev S_ : Shape := ⟨0, ![]⟩
abbrev S1024x3072 : Shape := ⟨2, ![1024, 3072]⟩
abbrev S2048x12288 : Shape := ⟨2, ![2048, 12288]⟩
abbrev S512x1024 : Shape := ⟨2, ![512, 1024]⟩
abbrev S128x12288 : Shape := ⟨2, ![128, 12288]⟩
abbrev S24x512x128 : Shape := ⟨3, ![24, 512, 128]⟩
abbrev S512x3072 : Shape := ⟨2, ![512, 3072]⟩
abbrev S512x128 : Shape := ⟨2, ![512, 128]⟩
abbrev S1x512x128 : Shape := ⟨3, ![1, 512, 128]⟩
abbrev S128x128 : Shape := ⟨2, ![128, 128]⟩
abbrev S128x3072 : Shape := ⟨2, ![128, 3072]⟩

abbrev nBuf : Space → Nat
  | .hbm => 15
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x10240, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S1024x10240, .bf16⟩
  | .hbm, ⟨13, _⟩ => ⟨S1024x3072, .bf16⟩
  | .hbm, ⟨14, _⟩ => ⟨S2048x12288, .bf16⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S128x12288, .bf16⟩
  | .local _ .vmem, ⟨4, _⟩ => ⟨S128x12288, .bf16⟩
  | .local _ .vmem, ⟨5, _⟩ => ⟨S24x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x12288 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S8192x1024 : Shape := ⟨2, ![8192, 1024]⟩
abbrev S1x1024 : Shape := ⟨2, ![1, 1024]⟩
abbrev S1024x10240 : Shape := ⟨2, ![1024, 10240]⟩
abbrev S_ : Shape := ⟨0, ![]⟩
abbrev S8192x10240 : Shape := ⟨2, ![8192, 10240]⟩
abbrev S8192x3072 : Shape := ⟨2, ![8192, 3072]⟩
abbrev S2048x12288 : Shape := ⟨2, ![2048, 12288]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x10240, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x10240, .f32⟩
  | .hbm, ⟨12, _⟩ => ⟨S8192x3072, .f32⟩
  | .hbm, ⟨13, _⟩ => ⟨S2048x12288, .f32⟩
  | .hbm, ⟨14, _⟩ => ⟨S2048x12288, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel15.lean ====
abbrev S8192x1024 : Shape := ⟨2, ![8192, 1024]⟩
abbrev S1x1024 : Shape := ⟨2, ![1, 1024]⟩
abbrev S1024x10240 : Shape := ⟨2, ![1024, 10240]⟩
abbrev S_ : Shape := ⟨0, ![]⟩
abbrev S1024x3072 : Shape := ⟨2, ![1024, 3072]⟩
abbrev S512x49152 : Shape := ⟨2, ![512, 49152]⟩
abbrev S512x1024 : Shape := ⟨2, ![512, 1024]⟩
abbrev S32x49152 : Shape := ⟨2, ![32, 49152]⟩
abbrev S24x512x128 : Shape := ⟨3, ![24, 512, 128]⟩
abbrev S512x3072 : Shape := ⟨2, ![512, 3072]⟩
abbrev S512x128 : Shape := ⟨2, ![512, 128]⟩
abbrev S1x512x128 : Shape := ⟨3, ![1, 512, 128]⟩
abbrev S32x128 : Shape := ⟨2, ![32, 128]⟩
abbrev S32x3072 : Shape := ⟨2, ![32, 3072]⟩

abbrev nBuf : Space → Nat
  | .hbm => 15
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x10240, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S1024x10240, .bf16⟩
  | .hbm, ⟨13, _⟩ => ⟨S1024x3072, .bf16⟩
  | .hbm, ⟨14, _⟩ => ⟨S512x49152, .bf16⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S32x49152, .bf16⟩
  | .local _ .vmem, ⟨4, _⟩ => ⟨S32x49152, .bf16⟩
  | .local _ .vmem, ⟨5, _⟩ => ⟨S24x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x49152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S8192x1024 : Shape := ⟨2, ![8192, 1024]⟩
abbrev S1x1024 : Shape := ⟨2, ![1, 1024]⟩
abbrev S1024x10240 : Shape := ⟨2, ![1024, 10240]⟩
abbrev S_ : Shape := ⟨0, ![]⟩
abbrev S8192x10240 : Shape := ⟨2, ![8192, 10240]⟩
abbrev S8192x3072 : Shape := ⟨2, ![8192, 3072]⟩
abbrev S512x49152 : Shape := ⟨2, ![512, 49152]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x10240, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x10240, .f32⟩
  | .hbm, ⟨12, _⟩ => ⟨S8192x3072, .f32⟩
  | .hbm, ⟨13, _⟩ => ⟨S512x49152, .f32⟩
  | .hbm, ⟨14, _⟩ => ⟨S512x49152, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel16.lean ====
abbrev S8192x1024 : Shape := ⟨2, ![8192, 1024]⟩
abbrev S1x1024 : Shape := ⟨2, ![1, 1024]⟩
abbrev S1024x5184 : Shape := ⟨2, ![1024, 5184]⟩
abbrev S_ : Shape := ⟨0, ![]⟩
abbrev S1024x64 : Shape := ⟨2, ![1024, 64]⟩
abbrev S8192x64 : Shape := ⟨2, ![8192, 64]⟩
abbrev S512x1024 : Shape := ⟨2, ![512, 1024]⟩
abbrev S512x64 : Shape := ⟨2, ![512, 64]⟩

abbrev nBuf : Space → Nat
  | .hbm => 15
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x5184, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S1024x5184, .bf16⟩
  | .hbm, ⟨13, _⟩ => ⟨S1024x64, .bf16⟩
  | .hbm, ⟨14, _⟩ => ⟨S8192x64, .f32⟩
  | .local _ .vmem, ⟨0, _⟩ => ⟨S512x1024, .bf16⟩
  | .local _ .vmem, ⟨1, _⟩ => ⟨S512x1024, .bf16⟩
  | .local _ .vmem, ⟨2, _⟩ => ⟨S1024x64, .bf16⟩
  | .local _ .vmem, ⟨3, _⟩ => ⟨S512x64, .f32⟩
  | .local _ .vmem, ⟨4, _⟩ => ⟨S512x64, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1x1024 : Shape := ⟨2, ![1, 1024]⟩
abbrev S1024x5184 : Shape := ⟨2, ![1024, 5184]⟩
abbrev S_ : Shape := ⟨0, ![]⟩
abbrev S8192x5184 : Shape := ⟨2, ![8192, 5184]⟩
abbrev S8192x64 : Shape := ⟨2, ![8192, 64]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x5184, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x5184, .f32⟩
  | .hbm, ⟨12, _⟩ => ⟨S8192x64, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel17.lean ====
abbrev S8192x1024 : Shape := ⟨2, ![8192, 1024]⟩
abbrev S1x1024 : Shape := ⟨2, ![1, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference17Ideal.lean ====
abbrev S8192x1024 : Shape := ⟨2, ![8192, 1024]⟩
abbrev S1x1024 : Shape := ⟨2, ![1, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel18.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference18Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel19.lean ====
abbrev S2x8192x2048 : Shape := ⟨3, ![2, 8192, 2048]⟩
abbrev S8192x3072 : Shape := ⟨2, ![8192, 3072]⟩
abbrev S8192x5120 : Shape := ⟨2, ![8192, 5120]⟩
abbrev S1x2048 : Shape := ⟨2, ![1, 2048]⟩
abbrev S8192x2048 : Shape := ⟨2, ![8192, 2048]⟩
abbrev S2x256x2048 : Shape := ⟨3, ![2, 256, 2048]⟩
abbrev S256x2048 : Shape := ⟨2, ![256, 2048]⟩
abbrev S1x256x2048 : Shape := ⟨3, ![1, 256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S8192x3072, .f32⟩
  | .hbm, ⟨2, _⟩ => ⟨S8192x5120, .f32⟩
  | .hbm, ⟨3, _⟩ => ⟨S1x2048, .f32⟩
  | .hbm, ⟨4, _⟩ => ⟨S1x2048, .f32⟩
  | .hbm, ⟨5, _⟩ => ⟨S8192x3072, .bf16⟩
  | .hbm, ⟨6, _⟩ => ⟨S8192x5120, .bf16⟩
  | .hbm, ⟨7, _⟩ => ⟨S8192x2048, .bf16⟩
  | .local _ .vmem, ⟨0, _⟩ => ⟨S2x256x2048, .f32⟩
  | .local _ .vmem, ⟨1, _⟩ => ⟨S2x256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference19Ideal.lean ====
abbrev S2x8192x2048 : Shape := ⟨3, ![2, 8192, 2048]⟩
abbrev S8192x3072 : Shape := ⟨2, ![8192, 3072]⟩
abbrev S8192x5120 : Shape := ⟨2, ![8192, 5120]⟩
abbrev S1x2048 : Shape := ⟨2, ![1, 2048]⟩
abbrev S1x8192x2048 : Shape := ⟨3, ![1, 8192, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8192x3072, .f32⟩
  | .hbm, ⟨2, _⟩ => ⟨S8192x5120, .f32⟩
  | .hbm, ⟨3, _⟩ => ⟨S1x2048, .f32⟩
  | .hbm, ⟨4, _⟩ => ⟨S1x2048, .f32⟩
  | .hbm, ⟨5, _⟩ => ⟨S1x8192x2048, .f32⟩
  | .hbm, ⟨6, _⟩ => ⟨S8192x2048, .f32⟩
  | .hbm, ⟨7, _⟩ => ⟨S1x8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Kernel20.lean ====
abbrev S2x8192x2048 : Shape := ⟨3, ![2, 8192, 2048]⟩
abbrev S8192x3072 : Shape := ⟨2, ![8192, 3072]⟩
abbrev S8192x5120 : Shape := ⟨2, ![8192, 5120]⟩
abbrev S1x2048 : Shape := ⟨2, ![1, 2048]⟩
abbrev S8192x2048 : Shape := ⟨2, ![8192, 2048]⟩
abbrev S256x2048 : Shape := ⟨2, ![256, 2048]⟩
abbrev S2x256x2048 : Shape := ⟨3, ![2, 256, 2048]⟩
abbrev S1x256x2048 : Shape := ⟨3, ![1, 256, 2048]⟩
abbrev S256 : Shape := ⟨1, ![256]⟩
abbrev S256x1 : Shape := ⟨2, ![256, 1]⟩
abbrev S2048 : Shape := ⟨1, ![2048]⟩

abbrev nBuf : Space → Nat
  | .hbm => 12
  | .vmem => 16
  | .smem => 0
  | _ => 0

abbrev bufTy : (tb : Table) → Fin (tcTables nBuf tb) → BufTy
  | .hbm, ⟨0, _⟩ => ⟨S2x8192x2048, .f32⟩
  | .hbm, ⟨1, _⟩ => ⟨S8192x3072, .f32⟩
  | .hbm, ⟨2, _⟩ => ⟨S8192x5120, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x3072, .bf16⟩
  | .hbm, ⟨7, _⟩ => ⟨S8192x5120, .bf16⟩
  | .hbm, ⟨8, _⟩ => ⟨S8192x2048, .f32⟩
  | .hbm, ⟨9, _⟩ => ⟨S8192x2048, .bf16⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S2x256x2048, .f32⟩
  | .local _ .vmem, ⟨3, _⟩ => ⟨S2x256x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference20Ideal.lean ====
abbrev S2x8192x2048 : Shape := ⟨3, ![2, 8192, 2048]⟩
abbrev S8192x3072 : Shape := ⟨2, ![8192, 3072]⟩
abbrev S8192x5120 : Shape := ⟨2, ![8192, 5120]⟩
abbrev S1x2048 : Shape := ⟨2, ![1, 2048]⟩
abbrev S8192x2048 : Shape := ⟨2, ![8192, 2048]⟩
abbrev S1x8192x2048 : Shape := ⟨3, ![1, 8192, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 84
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8192x3072, .f32⟩
  | .hbm, ⟨2, _⟩ => ⟨S8192x5120, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S1x8192x2048, .f32⟩
  | .hbm, ⟨7, _⟩ => ⟨S8192x2048, .f32⟩
  | .hbm, ⟨8, _⟩ => ⟨S8192x2048, .f32⟩
  | .hbm, ⟨9, _⟩ => ⟨S1x8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x2048, .f32⟩
  | .hbm, ⟨63, _⟩ => ⟨S8192x2048, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S_, .f32⟩
  | .hbm, ⟨81, _⟩ => ⟨S2048, .f32⟩
  | .hbm, ⟨82, _⟩ => ⟨S1x2048, .f32⟩
  | .hbm, ⟨83, _⟩ => ⟨S8192x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v10_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v10_1 : Ref sig .tc := ⟨.hbm, 27, rfl⟩
abbrev main_v10_0 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== Kernel21.lean ====
abbrev S8x1024 : Shape := ⟨2, ![8, 1024]⟩
abbrev S4x1024x384 : Shape := ⟨3, ![4, 1024, 384]⟩
abbrev S4x8x384 : Shape := ⟨3, ![4, 8, 384]⟩
abbrev S1024x8 : Shape := ⟨2, ![1024, 8]⟩
abbrev S1x8x384 : Shape := ⟨3, ![1, 8, 384]⟩
abbrev S1x1024x384 : Shape := ⟨3, ![1, 1024, 384]⟩
abbrev S8x384 : Shape := ⟨2, ![8, 384]⟩
abbrev S1024x1 : Shape := ⟨2, ![1024, 1]⟩
abbrev S1x384 : Shape := ⟨2, ![1, 384]⟩
abbrev S1024x384 : Shape := ⟨2, ![1024, 384]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x1024x384, .f32⟩
  | .hbm, ⟨2, _⟩ => ⟨S4x8x384, .f32⟩
  | .hbm, ⟨3, _⟩ => ⟨S1024x8, .f32⟩
  | .hbm, ⟨4, _⟩ => ⟨S4x1024x384, .f32⟩
  | .local _ .vmem, ⟨0, _⟩ => ⟨S1024x8, .f32⟩
  | .local _ .vmem, ⟨1, _⟩ => ⟨S1x8x384, .f32⟩
  | .local _ .vmem, ⟨2, _⟩ => ⟨S1x8x384, .f32⟩
  | .local _ .vmem, ⟨3, _⟩ => ⟨S1x1024x384, .f32⟩
  | .local _ .vmem, ⟨4, _⟩ => ⟨S1x1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S8x1024 : Shape := ⟨2, ![8, 1024]⟩
abbrev S4x1024x384 : Shape := ⟨3, ![4, 1024, 384]⟩
abbrev S4x8x384 : Shape := ⟨3, ![4, 8, 384]⟩
abbrev S_ : Shape := ⟨0, ![]⟩
abbrev S1x1024x384 : Shape := ⟨3, ![1, 1024, 384]⟩
abbrev S1024x384 : Shape := ⟨2, ![1024, 384]⟩
abbrev S8x384 : Shape := ⟨2, ![8, 384]⟩
abbrev S1x8x384 : Shape := ⟨3, ![1, 8, 384]⟩
abbrev S384x1024 : Shape := ⟨2, ![384, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x384, .f32⟩
  | .hbm, ⟨2, _⟩ => ⟨S4x8x384, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x384, .f32⟩
  | .hbm, ⟨13, _⟩ => ⟨S1024x384, .f32⟩
  | .hbm, ⟨14, _⟩ => ⟨S8x384, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S_, .f32⟩
  | .hbm, ⟨21, _⟩ => ⟨S8x1024, .f32⟩
  | .hbm, ⟨22, _⟩ => ⟨S8x1024, .f32⟩
  | .hbm, ⟨23, _⟩ => ⟨S8x1024, .f32⟩
  | .hbm, ⟨24, _⟩ => ⟨S1x1024x384, .f32⟩
  | .hbm, ⟨25, _⟩ => ⟨S1024x384, .f32⟩
  | .hbm, ⟨26, _⟩ => ⟨S8x384, .f32⟩
  | .hbm, ⟨27, _⟩ => ⟨S8x1024, .f32⟩
  | .hbm, ⟨28, _⟩ => ⟨S8x1024, .f32⟩
  | .hbm, ⟨29, _⟩ => ⟨S_, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S1x1024x384, .f32⟩
  | .hbm, ⟨37, _⟩ => ⟨S1024x384, .f32⟩
  | .hbm, ⟨38, _⟩ => ⟨S8x384, .f32⟩
  | .hbm, ⟨39, _⟩ => ⟨S8x1024, .f32⟩
  | .hbm, ⟨40, _⟩ => ⟨S8x1024, .f32⟩
  | .hbm, ⟨41, _⟩ => ⟨S_, .f32⟩
  | .hbm, ⟨42, _⟩ => ⟨S8x1024, .f32⟩
  | .hbm, ⟨43, _⟩ => ⟨S8x1024, .f32⟩
  | .hbm, ⟨44, _⟩ => ⟨S_, .f32⟩
  | .hbm, ⟨45, _⟩ => ⟨S8x1024, .f32⟩
  | .hbm, ⟨46, _⟩ => ⟨S8x1024, .f32⟩
  | .hbm, ⟨47, _⟩ => ⟨S8x1024, .f32⟩
  | .hbm, ⟨48, _⟩ => ⟨S1x1024x384, .f32⟩
  | .hbm, ⟨49, _⟩ => ⟨S1024x384, .f32⟩
  | .hbm, ⟨50, _⟩ => ⟨S8x384, .f32⟩
  | .hbm, ⟨51, _⟩ => ⟨S1x8x384, .f32⟩
  | .hbm, ⟨52, _⟩ => ⟨S1x8x384, .f32⟩
  | .hbm, ⟨53, _⟩ => ⟨S1x8x384, .f32⟩
  | .hbm, ⟨54, _⟩ => ⟨S1x8x384, .f32⟩
  | .hbm, ⟨55, _⟩ => ⟨S4x8x384, .f32⟩
  | .hbm, ⟨56, _⟩ => ⟨S1x8x384, .f32⟩
  | .hbm, ⟨57, _⟩ => ⟨S8x384, .f32⟩
  | .hbm, ⟨58, _⟩ => ⟨S1x8x384, .f32⟩
  | .hbm, ⟨59, _⟩ => ⟨S8x384, .f32⟩
  | .hbm, ⟨60, _⟩ => ⟨S1x8x384, .f32⟩
  | .hbm, ⟨61, _⟩ => ⟨S8x384, .f32⟩
  | .hbm, ⟨62, _⟩ => ⟨S1x8x384, .f32⟩
  | .hbm, ⟨63, _⟩ => ⟨S8x384, .f32⟩
  | .hbm, ⟨64, _⟩ => ⟨S384x1024, .f32⟩
  | .hbm, ⟨65, _⟩ => ⟨S1024x384, .f32⟩
  | .hbm, ⟨66, _⟩ => ⟨S1x1024x384, .f32⟩
  | .hbm, ⟨67, _⟩ => ⟨S_, .f32⟩
  | .hbm, ⟨68, _⟩ => ⟨S4x1024x384, .f32⟩
  | .hbm, ⟨69, _⟩ => ⟨S384x1024, .f32⟩
  | .hbm, ⟨70, _⟩ => ⟨S1024x384, .f32⟩
  | .hbm, ⟨71, _⟩ => ⟨S1x1024x384, .f32⟩
  | .hbm, ⟨72, _⟩ => ⟨S_, .f32⟩
  | .hbm, ⟨73, _⟩ => ⟨S4x1024x384, .f32⟩
  | .hbm, ⟨74, _⟩ => ⟨S4x1024x384, .f32⟩
  | .hbm, ⟨75, _⟩ => ⟨S384x1024, .f32⟩
  | .hbm, ⟨76, _⟩ => ⟨S1024x384, .f32⟩
  | .hbm, ⟨77, _⟩ => ⟨S1x1024x384, .f32⟩
  | .hbm, ⟨78, _⟩ => ⟨S_, .f32⟩
  | .hbm, ⟨79, _⟩ => ⟨S4x1024x384, .f32⟩
  | .hbm, ⟨80, _⟩ => ⟨S4x1024x384, .f32⟩
  | .hbm, ⟨81, _⟩ => ⟨S384x1024, .f32⟩
  | .hbm, ⟨82, _⟩ => ⟨S1024x384, .f32⟩
  | .hbm, ⟨83, _⟩ => ⟨S1x1024x384, .f32⟩
  | .hbm, ⟨84, _⟩ => ⟨S_, .f32⟩
  | .hbm, ⟨85, _⟩ => ⟨S4x1024x384, .f32⟩
  | .hbm, ⟨86, _⟩ => ⟨S4x1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call1_v0 : Ref sig .tc := ⟨.hbm, 15, rfl⟩
abbrev main_call1_v1 : Ref sig .tc := ⟨.hbm, 16, rfl⟩
abbrev main_call1_cst : Ref sig .tc := ⟨.hbm, 17, rfl⟩
abbrev main_call1_v2 : Ref sig .tc := ⟨.hbm, 18, rfl⟩
abbrev main_call1_v3 : Ref sig .tc := ⟨.hbm, 19, rfl⟩
abbrev main_call1_cst_0 : Ref sig .tc := ⟨.hbm, 20, rfl⟩
abbrev main_call1_v4 : Ref sig .tc := ⟨.hbm, 21, rfl⟩
abbrev main_call1_v5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call2_v0 : Ref sig .tc := ⟨.hbm, 27, rfl⟩
abbrev main_call2_v1 : Ref sig .tc := ⟨.hbm, 28, rfl⟩
abbrev main_call2_cst : Ref sig .tc := ⟨.hbm, 29, rfl⟩
abbrev main_call2_v2 : Ref sig .tc := ⟨.hbm, 30, rfl⟩
abbrev main_call2_v3 : Ref sig .tc := ⟨.hbm, 31, rfl⟩
abbrev main_call2_cst_0 : Ref sig .tc := ⟨.hbm, 32, rfl⟩
abbrev main_call2_v4 : Ref sig .tc := ⟨.hbm, 33, rfl⟩
abbrev main_call2_v5 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_call3_v0 : Ref sig .tc := ⟨.hbm, 39, rfl⟩
abbrev main_call3_v1 : Ref sig .tc := ⟨.hbm, 40, rfl⟩
abbrev main_call3_cst : Ref sig .tc := ⟨.hbm, 41, rfl⟩
abbrev main_call3_v2 : Ref sig .tc := ⟨.hbm, 42, rfl⟩
abbrev main_call3_v3 : Ref sig .tc := ⟨.hbm, 43, rfl⟩
abbrev main_call3_cst_0 : Ref sig .tc := ⟨.hbm, 44, rfl⟩
abbrev main_call3_v4 : Ref sig .tc := ⟨.hbm, 45, rfl⟩
abbrev main_call3_v5 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_0 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_1 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_2 : Ref sig .tc := ⟨.hbm, 84, rfl⟩
abbrev main_v46 : Ref sig .tc := ⟨.hbm, 85, rfl⟩
abbrev main_v47 : Ref sig .tc := ⟨.hbm, 86, rfl⟩

abbrev nD : Nat := 1
abbrev τ : Topo := Topo.v7x

variable {F : FTy → Type} [FloatOps F]
-- ==== Kernel22.lean ====
abbrev S4096x384 : Shape := ⟨2, ![4096, 384]⟩
abbrev S1024x384 : Shape := ⟨2, ![1024, 384]⟩

abbrev nBuf : Space → Nat
  | .hbm => 8
  | .vmem => 16
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x384, .f32⟩
  | .hbm, ⟨3, _⟩ => ⟨S4096x384, .f32⟩
  | .hbm, ⟨4, _⟩ => ⟨S4096x384, .f32⟩
  | .hbm, ⟨5, _⟩ => ⟨S4096x384, .f32⟩
  | .hbm, ⟨6, _⟩ => ⟨S4096x384, .f32⟩
  | .hbm, ⟨7, _⟩ => ⟨S4096x384, .f32⟩
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | .local _ .vmem, ⟨9, _⟩ => ⟨S1024x384, .f32⟩
  | .local _ .vmem, ⟨10, _⟩ => ⟨S1024x384, .f32⟩
  | .local _ .vmem, ⟨11, _⟩ => ⟨S1024x384, .f32⟩
  | .local _ .vmem, ⟨12, _⟩ => ⟨S1024x384, .f32⟩
  | .local _ .vmem, ⟨13, _⟩ => ⟨S1024x384, .f32⟩
  | .local _ .vmem, ⟨14, _⟩ => ⟨S1024x384, .f32⟩
  | .local _ .vmem, ⟨15, _⟩ => ⟨S1024x384, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S4096x384 : Shape := ⟨2, ![4096, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x384, .f32⟩
  | .hbm, ⟨3, _⟩ => ⟨S4096x384, .f32⟩
  | .hbm, ⟨4, _⟩ => ⟨S_, .f32⟩
  | .hbm, ⟨5, _⟩ => ⟨S4096x384, .f32⟩
  | .hbm, ⟨6, _⟩ => ⟨S4096x384, .f32⟩
  | .hbm, ⟨7, _⟩ => ⟨S_, .f32⟩
  | .hbm, ⟨8, _⟩ => ⟨S4096x384, .f32⟩
  | .hbm, ⟨9, _⟩ => ⟨S4096x384, .f32⟩
  | .hbm, ⟨10, _⟩ => ⟨S4096x384, .f32⟩
  | .hbm, ⟨11, _⟩ => ⟨S_, .f32⟩
  | .hbm, ⟨12, _⟩ => ⟨S4096x384, .f32⟩
  | .hbm, ⟨13, _⟩ => ⟨S4096x384, .f32⟩
  | .hbm, ⟨14, _⟩ => ⟨S4096x384, .f32⟩
  | .hbm, ⟨15, _⟩ => ⟨S_, .f32⟩
  | .hbm, ⟨16, _⟩ => ⟨S4096x384, .f32⟩
  | .hbm, ⟨17, _⟩ => ⟨S4096x384, .f32⟩
  | .hbm, ⟨18, _⟩ => ⟨S4096x384, .f32⟩
  | .hbm, ⟨19, _⟩ => ⟨S_, .f32⟩
  | .hbm, ⟨20, _⟩ => ⟨S4096x384, .f32⟩
  | .hbm, ⟨21, _⟩ => ⟨S4096x384, .f32⟩
  | .hbm, ⟨22, _⟩ => ⟨S_, .f32⟩
  | .hbm, ⟨23, _⟩ => ⟨S4096x384, .f32⟩
  | .hbm, ⟨24, _⟩ => ⟨S4096x384, .f32⟩
  | .hbm, ⟨25, _⟩ => ⟨S4096x384, .f32⟩
  | .hbm, ⟨26, _⟩ => ⟨S_, .f32⟩
  | .hbm, ⟨27, _⟩ => ⟨S4096x384, .f32⟩
  | .hbm, ⟨28, _⟩ => ⟨S4096x384, .f32⟩
  | .hbm, ⟨29, _⟩ => ⟨S4096x384, .f32⟩
  | .hbm, ⟨30, _⟩ => ⟨S_, .f32⟩
  | .hbm, ⟨31, _⟩ => ⟨S4096x384, .f32⟩
  | .hbm, ⟨32, _⟩ => ⟨S4096x384, .f32⟩
  | .hbm, ⟨33, _⟩ => ⟨S4096x384, .f32⟩
  | .hbm, ⟨34, _⟩ => ⟨S_, .f32⟩
  | .hbm, ⟨35, _⟩ => ⟨S4096x384, .f32⟩
  | .hbm, ⟨36, _⟩ => ⟨S4096x384, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2048x1280 : Shape := ⟨2, ![2048, 1280]⟩
abbrev S8x2048x1280 : Shape := ⟨3, ![8, 2048, 1280]⟩
abbrev S128x1280 : Shape := ⟨2, ![128, 1280]⟩
abbrev S8x128x1280 : Shape := ⟨3, ![8, 128, 1280]⟩
abbrev S1x128x1280 : Shape := ⟨3, ![1, 128, 1280]⟩

abbrev nBuf : Space → Nat
  | .hbm => 8
  | .vmem => 16
  | .smem => 0
  | _ => 0

abbrev bufTy : (tb : Table) → Fin (tcTables nBuf tb) → BufTy
  | .hbm, ⟨0, _⟩ => ⟨S2048x1280, .f32⟩
  | .hbm, ⟨1, _⟩ => ⟨S2048x1280, .f32⟩
  | .hbm, ⟨2, _⟩ => ⟨S2048x1280, .f32⟩
  | .hbm, ⟨3, _⟩ => ⟨S8x2048x1280, .bf16⟩
  | .hbm, ⟨4, _⟩ => ⟨S2048x1280, .f32⟩
  | .hbm, ⟨5, _⟩ => ⟨S2048x1280, .f32⟩
  | .hbm, ⟨6, _⟩ => ⟨S2048x1280, .f32⟩
  | .hbm, ⟨7, _⟩ => ⟨S2048x1280, .f32⟩
  | .local _ .vmem, ⟨0, _⟩ => ⟨S128x1280, .f32⟩
  | .local _ .vmem, ⟨1, _⟩ => ⟨S128x1280, .f32⟩
  | .local _ .vmem, ⟨2, _⟩ => ⟨S128x1280, .f32⟩
  | .local _ .vmem, ⟨3, _⟩ => ⟨S128x1280, .f32⟩
  | .local _ .vmem, ⟨4, _⟩ => ⟨S128x1280, .f32⟩
  | .local _ .vmem, ⟨5, _⟩ => ⟨S128x1280, .f32⟩
  | .local _ .vmem, ⟨6, _⟩ => ⟨S8x128x1280, .bf16⟩
  | .local _ .vmem, ⟨7, _⟩ => ⟨S8x128x1280, .bf16⟩
  | .local _ .vmem, ⟨8, _⟩ => ⟨S128x1280, .f32⟩
  | .local _ .vmem, ⟨9, _⟩ => ⟨S128x1280, .f32⟩
  | .local _ .vmem, ⟨10, _⟩ => ⟨S128x1280, .f32⟩
  | .local _ .vmem, ⟨11, _⟩ => ⟨S128x1280, .f32⟩
  | .local _ .vmem, ⟨12, _⟩ => ⟨S128x1280, .f32⟩
  | .local _ .vmem, ⟨13, _⟩ => ⟨S128x1280, .f32⟩
  | .local _ .vmem, ⟨14, _⟩ => ⟨S128x1280, .f32⟩
  | .local _ .vmem, ⟨15, _⟩ => ⟨S128x1280, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel23Ideal.lean ====
abbrev S2048x1280 : Shape := ⟨2, ![2048, 1280]⟩
abbrev S8x2048x1280 : Shape := ⟨3, ![8, 2048, 1280]⟩
abbrev S128x1280 : Shape := ⟨2, ![128, 1280]⟩
abbrev S8x128x1280 : Shape := ⟨3, ![8, 128, 1280]⟩
abbrev S1x128x1280 : Shape := ⟨3, ![1, 128, 1280]⟩

abbrev nBuf : Space → Nat
  | .hbm => 8
  | .vmem => 16
  | .smem => 0
  | _ => 0

abbrev bufTy : (tb : Table) → Fin (tcTables nBuf tb) → BufTy
  | .hbm, ⟨0, _⟩ => ⟨S2048x1280, .f32⟩
  | .hbm, ⟨1, _⟩ => ⟨S2048x1280, .f32⟩
  | .hbm, ⟨2, _⟩ => ⟨S2048x1280, .f32⟩
  | .hbm, ⟨3, _⟩ => ⟨S8x2048x1280, .bf16⟩
  | .hbm, ⟨4, _⟩ => ⟨S2048x1280, .f32⟩
  | .hbm, ⟨5, _⟩ => ⟨S2048x1280, .f32⟩
  | .hbm, ⟨6, _⟩ => ⟨S2048x1280, .f32⟩
  | .hbm, ⟨7, _⟩ => ⟨S2048x1280, .f32⟩
  | .local _ .vmem, ⟨0, _⟩ => ⟨S128x1280, .f32⟩
  | .local _ .vmem, ⟨1, _⟩ => ⟨S128x1280, .f32⟩
  | .local _ .vmem, ⟨2, _⟩ => ⟨S128x1280, .f32⟩
  | .local _ .vmem, ⟨3, _⟩ => ⟨S128x1280, .f32⟩
  | .local _ .vmem, ⟨4, _⟩ => ⟨S128x1280, .f32⟩
  | .local _ .vmem, ⟨5, _⟩ => ⟨S128x1280, .f32⟩
  | .local _ .vmem, ⟨6, _⟩ => ⟨S8x128x1280, .bf16⟩
  | .local _ .vmem, ⟨7, _⟩ => ⟨S8x128x1280, .bf16⟩
  | .local _ .vmem, ⟨8, _⟩ => ⟨S128x1280, .f32⟩
  | .local _ .vmem, ⟨9, _⟩ => ⟨S128x1280, .f32⟩
  | .local _ .vmem, ⟨10, _⟩ => ⟨S128x1280, .f32⟩
  | .local _ .vmem, ⟨11, _⟩ => ⟨S128x1280, .f32⟩
  | .local _ .vmem, ⟨12, _⟩ => ⟨S128x1280, .f32⟩
  | .local _ .vmem, ⟨13, _⟩ => ⟨S128x1280, .f32⟩
  | .local _ .vmem, ⟨14, _⟩ => ⟨S128x1280, .f32⟩
  | .local _ .vmem, ⟨15, _⟩ => ⟨S128x1280, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S2048x1280 : Shape := ⟨2, ![2048, 1280]⟩
abbrev S8x2048x1280 : Shape := ⟨3, ![8, 2048, 1280]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S2048x1280, .f32⟩
  | .hbm, ⟨2, _⟩ => ⟨S2048x1280, .f32⟩
  | .hbm, ⟨3, _⟩ => ⟨S8x2048x1280, .bf16⟩
  | .hbm, ⟨4, _⟩ => ⟨S8x2048x1280, .f32⟩
  | .hbm, ⟨5, _⟩ => ⟨S_, .f32⟩
  | .hbm, ⟨6, _⟩ => ⟨S2048x1280, .f32⟩
  | .hbm, ⟨7, _⟩ => ⟨S_, .f32⟩
  | .hbm, ⟨8, _⟩ => ⟨S2048x1280, .f32⟩
  | .hbm, ⟨9, _⟩ => ⟨S2048x1280, .f32⟩
  | .hbm, ⟨10, _⟩ => ⟨S_, .f32⟩
  | .hbm, ⟨11, _⟩ => ⟨S2048x1280, .f32⟩
  | .hbm, ⟨12, _⟩ => ⟨S2048x1280, .f32⟩
  | .hbm, ⟨13, _⟩ => ⟨S2048x1280, .f32⟩
  | .hbm, ⟨14, _⟩ => ⟨S_, .f32⟩
  | .hbm, ⟨15, _⟩ => ⟨S2048x1280, .f32⟩
  | .hbm, ⟨16, _⟩ => ⟨S2048x1280, .f32⟩
  | .hbm, ⟨17, _⟩ => ⟨S2048x1280, .f32⟩
  | .hbm, ⟨18, _⟩ => ⟨S_, .f32⟩
  | .hbm, ⟨19, _⟩ => ⟨S2048x1280, .f32⟩
  | .hbm, ⟨20, _⟩ => ⟨S2048x1280, .f32⟩
  | .hbm, ⟨21, _⟩ => ⟨S2048x1280, .f32⟩
  | .hbm, ⟨22, _⟩ => ⟨S_, .f32⟩
  | .hbm, ⟨23, _⟩ => ⟨S2048x1280, .f32⟩
  | .hbm, ⟨24, _⟩ => ⟨S2048x1280, .f32⟩
  | .hbm, ⟨25, _⟩ => ⟨S_, .f32⟩
  | .hbm, ⟨26, _⟩ => ⟨S2048x1280, .f32⟩
  | .hbm, ⟨27, _⟩ => ⟨S2048x1280, .f32⟩
  | .hbm, ⟨28, _⟩ => ⟨S2048x1280, .f32⟩
  | .hbm, ⟨29, _⟩ => ⟨S_, .f32⟩
  | .hbm, ⟨30, _⟩ => ⟨S2048x1280, .f32⟩
  | .hbm, ⟨31, _⟩ => ⟨S2048x1280, .f32⟩
  | .hbm, ⟨32, _⟩ => ⟨S2048x1280, .f32⟩
  | .hbm, ⟨33, _⟩ => ⟨S_, .f32⟩
  | .hbm, ⟨34, _⟩ => ⟨S2048x1280, .f32⟩
  | .hbm, ⟨35, _⟩ => ⟨S2048x1280, .f32⟩
  | .hbm, ⟨36, _⟩ => ⟨S2048x1280, .f32⟩
  | .hbm, ⟨37, _⟩ => ⟨S_, .f32⟩
  | .hbm, ⟨38, _⟩ => ⟨S2048x1280, .f32⟩
  | .hbm, ⟨39, _⟩ => ⟨S2048x1280, .f32⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S256x1024 : Shape := ⟨2, ![256, 1024]⟩
abbrev S8x256x1024 : Shape := ⟨3, ![8, 256, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x256x1024, .bf16⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel24Ideal.lean ====
abbrev S256x1024 : Shape := ⟨2, ![256, 1024]⟩
abbrev S8x256x1024 : Shape := ⟨3, ![8, 256, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x256x1024, .bf16⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S256x1024 : Shape := ⟨2, ![256, 1024]⟩
abbrev S8x256x1024 : Shape := ⟨3, ![8, 256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x256x1024, .bf16⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel25.lean ====
abbrev S2048x648 : Shape := ⟨2, ![2048, 648]⟩
abbrev S8x2048x648 : Shape := ⟨3, ![8, 2048, 648]⟩
abbrev S256x648 : Shape := ⟨2, ![256, 648]⟩
abbrev S8x256x648 : Shape := ⟨3, ![8, 256, 648]⟩
abbrev S1x256x648 : Shape := ⟨3, ![1, 256, 648]⟩

abbrev nBuf : Space → Nat
  | .hbm => 8
  | .vmem => 16
  | .smem => 0
  | _ => 0

abbrev bufTy : (tb : Table) → Fin (tcTables nBuf tb) → BufTy
  | .hbm, ⟨0, _⟩ => ⟨S2048x648, .f32⟩
  | .hbm, ⟨1, _⟩ => ⟨S2048x648, .f32⟩
  | .hbm, ⟨2, _⟩ => ⟨S2048x648, .f32⟩
  | .hbm, ⟨3, _⟩ => ⟨S8x2048x648, .bf16⟩
  | .hbm, ⟨4, _⟩ => ⟨S2048x648, .f32⟩
  | .hbm, ⟨5, _⟩ => ⟨S2048x648, .f32⟩
  | .hbm, ⟨6, _⟩ => ⟨S2048x648, .f32⟩
  | .hbm, ⟨7, _⟩ => ⟨S2048x648, .f32⟩
  | .local _ .vmem, ⟨0, _⟩ => ⟨S256x648, .f32⟩
  | .local _ .vmem, ⟨1, _⟩ => ⟨S256x648, .f32⟩
  | .local _ .vmem, ⟨2, _⟩ => ⟨S256x648, .f32⟩
  | .local _ .vmem, ⟨3, _⟩ => ⟨S256x648, .f32⟩
  | .local _ .vmem, ⟨4, _⟩ => ⟨S256x648, .f32⟩
  | .local _ .vmem, ⟨5, _⟩ => ⟨S256x648, .f32⟩
  | .local _ .vmem, ⟨6, _⟩ => ⟨S8x256x648, .bf16⟩
  | .local _ .vmem, ⟨7, _⟩ => ⟨S8x256x648, .bf16⟩
  | .local _ .vmem, ⟨8, _⟩ => ⟨S256x648, .f32⟩
  | .local _ .vmem, ⟨9, _⟩ => ⟨S256x648, .f32⟩
  | .local _ .vmem, ⟨10, _⟩ => ⟨S256x648, .f32⟩
  | .local _ .vmem, ⟨11, _⟩ => ⟨S256x648, .f32⟩
  | .local _ .vmem, ⟨12, _⟩ => ⟨S256x648, .f32⟩
  | .local _ .vmem, ⟨13, _⟩ => ⟨S256x648, .f32⟩
  | .local _ .vmem, ⟨14, _⟩ => ⟨S256x648, .f32⟩
  | .local _ .vmem, ⟨15, _⟩ => ⟨S256x648, .f32⟩
  | _, _ => ⟨S2048x648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x648 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x648 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x648 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x648 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x648 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x648 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x648 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel25Ideal.lean ====
abbrev S2048x648 : Shape := ⟨2, ![2048, 648]⟩
abbrev S8x2048x648 : Shape := ⟨3, ![8, 2048, 648]⟩
abbrev S256x648 : Shape := ⟨2, ![256, 648]⟩
abbrev S8x256x648 : Shape := ⟨3, ![8, 256, 648]⟩
abbrev S1x256x648 : Shape := ⟨3, ![1, 256, 648]⟩

abbrev nBuf : Space → Nat
  | .hbm => 8
  | .vmem => 16
  | .smem => 0
  | _ => 0

abbrev bufTy : (tb : Table) → Fin (tcTables nBuf tb) → BufTy
  | .hbm, ⟨0, _⟩ => ⟨S2048x648, .f32⟩
  | .hbm, ⟨1, _⟩ => ⟨S2048x648, .f32⟩
  | .hbm, ⟨2, _⟩ => ⟨S2048x648, .f32⟩
  | .hbm, ⟨3, _⟩ => ⟨S8x2048x648, .bf16⟩
  | .hbm, ⟨4, _⟩ => ⟨S2048x648, .f32⟩
  | .hbm, ⟨5, _⟩ => ⟨S2048x648, .f32⟩
  | .hbm, ⟨6, _⟩ => ⟨S2048x648, .f32⟩
  | .hbm, ⟨7, _⟩ => ⟨S2048x648, .f32⟩
  | .local _ .vmem, ⟨0, _⟩ => ⟨S256x648, .f32⟩
  | .local _ .vmem, ⟨1, _⟩ => ⟨S256x648, .f32⟩
  | .local _ .vmem, ⟨2, _⟩ => ⟨S256x648, .f32⟩
  | .local _ .vmem, ⟨3, _⟩ => ⟨S256x648, .f32⟩
  | .local _ .vmem, ⟨4, _⟩ => ⟨S256x648, .f32⟩
  | .local _ .vmem, ⟨5, _⟩ => ⟨S256x648, .f32⟩
  | .local _ .vmem, ⟨6, _⟩ => ⟨S8x256x648, .bf16⟩
  | .local _ .vmem, ⟨7, _⟩ => ⟨S8x256x648, .bf16⟩
  | .local _ .vmem, ⟨8, _⟩ => ⟨S256x648, .f32⟩
  | .local _ .vmem, ⟨9, _⟩ => ⟨S256x648, .f32⟩
  | .local _ .vmem, ⟨10, _⟩ => ⟨S256x648, .f32⟩
  | .local _ .vmem, ⟨11, _⟩ => ⟨S256x648, .f32⟩
  | .local _ .vmem, ⟨12, _⟩ => ⟨S256x648, .f32⟩
  | .local _ .vmem, ⟨13, _⟩ => ⟨S256x648, .f32⟩
  | .local _ .vmem, ⟨14, _⟩ => ⟨S256x648, .f32⟩
  | .local _ .vmem, ⟨15, _⟩ => ⟨S256x648, .f32⟩
  | _, _ => ⟨S2048x648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x648 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x648 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x648 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x648 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x648 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x648 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x648 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S2048x648 : Shape := ⟨2, ![2048, 648]⟩
abbrev S8x2048x648 : Shape := ⟨3, ![8, 2048, 648]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x648, .f32⟩
  | .hbm, ⟨1, _⟩ => ⟨S2048x648, .f32⟩
  | .hbm, ⟨2, _⟩ => ⟨S2048x648, .f32⟩
  | .hbm, ⟨3, _⟩ => ⟨S8x2048x648, .bf16⟩
  | .hbm, ⟨4, _⟩ => ⟨S8x2048x648, .f32⟩
  | .hbm, ⟨5, _⟩ => ⟨S_, .f32⟩
  | .hbm, ⟨6, _⟩ => ⟨S2048x648, .f32⟩
  | .hbm, ⟨7, _⟩ => ⟨S_, .f32⟩
  | .hbm, ⟨8, _⟩ => ⟨S2048x648, .f32⟩
  | .hbm, ⟨9, _⟩ => ⟨S2048x648, .f32⟩
  | .hbm, ⟨10, _⟩ => ⟨S_, .f32⟩
  | .hbm, ⟨11, _⟩ => ⟨S2048x648, .f32⟩
  | .hbm, ⟨12, _⟩ => ⟨S2048x648, .f32⟩
  | .hbm, ⟨13, _⟩ => ⟨S2048x648, .f32⟩
  | .hbm, ⟨14, _⟩ => ⟨S_, .f32⟩
  | .hbm, ⟨15, _⟩ => ⟨S2048x648, .f32⟩
  | .hbm, ⟨16, _⟩ => ⟨S2048x648, .f32⟩
  | .hbm, ⟨17, _⟩ => ⟨S2048x648, .f32⟩
  | .hbm, ⟨18, _⟩ => ⟨S_, .f32⟩
  | .hbm, ⟨19, _⟩ => ⟨S2048x648, .f32⟩
  | .hbm, ⟨20, _⟩ => ⟨S2048x648, .f32⟩
  | .hbm, ⟨21, _⟩ => ⟨S2048x648, .f32⟩
  | .hbm, ⟨22, _⟩ => ⟨S_, .f32⟩
  | .hbm, ⟨23, _⟩ => ⟨S2048x648, .f32⟩
  | .hbm, ⟨24, _⟩ => ⟨S2048x648, .f32⟩
  | .hbm, ⟨25, _⟩ => ⟨S_, .f32⟩
  | .hbm, ⟨26, _⟩ => ⟨S2048x648, .f32⟩
  | .hbm, ⟨27, _⟩ => ⟨S2048x648, .f32⟩
  | .hbm, ⟨28, _⟩ => ⟨S2048x648, .f32⟩
  | .hbm, ⟨29, _⟩ => ⟨S_, .f32⟩
  | .hbm, ⟨30, _⟩ => ⟨S2048x648, .f32⟩
  | .hbm, ⟨31, _⟩ => ⟨S2048x648, .f32⟩
  | .hbm, ⟨32, _⟩ => ⟨S2048x648, .f32⟩
  | .hbm, ⟨33, _⟩ => ⟨S_, .f32⟩
  | .hbm, ⟨34, _⟩ => ⟨S2048x648, .f32⟩
  | .hbm, ⟨35, _⟩ => ⟨S2048x648, .f32⟩
  | .hbm, ⟨36, _⟩ => ⟨S2048x648, .f32⟩
  | .hbm, ⟨37, _⟩ => ⟨S_, .f32⟩
  | .hbm, ⟨38, _⟩ => ⟨S2048x648, .f32⟩
  | .hbm, ⟨39, _⟩ => ⟨S2048x648, .f32⟩
  | _, _ => ⟨S2048x648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S512x1024 : Shape := ⟨2, ![512, 1024]⟩
abbrev S8x512x1024 : Shape := ⟨3, ![8, 512, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x512x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S512x1024 : Shape := ⟨2, ![512, 1024]⟩
abbrev S8x512x1024 : Shape := ⟨3, ![8, 512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x512x1024, .bf16⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.AdaGrad.lean ====
module

public import proofs.«01_k».proof.Proof.Gen.Kernel21Ideal.Frame
public import proofs.«01_k».proof.Proof.Gen.Reference21Ideal.Run
public import Idealize.ShloMosaic.Lib.Pipeline.ValueKit
public import Idealize.ShloMosaic.Lib.Pipeline.ReadBack
public import Idealize.ShloMosaic.Lib.KernelVsHost
@[expose] public section
set_option maxRecDepth 16384
noncomputable section

/-! The gradient of the modulation's matrices: in every layer the products of the gated conditions with the modulations'
    gradients, summed over the eight samples. The kernel writes one layer at every point; the reference places each
    layer's product among zeros and adds the four. -/

namespace Cert.Reference21Ideal.AdaGrad
open Idealize.ShloMosaic Idealize.ShloMosaic.TcCoe Idealize.ShloMosaic.Tactic Idealize.SL.Sem
open Cert.Reference21Ideal Cert.Reference21Ideal.Gen

local notation "Cond" => FVec Ideal S8x1024 FTy.f32
local notation "Grads" => FVec Ideal S4x8x384 FTy.f32
local notation "Layer" => FVec Ideal S1x1024x384 FTy.f32

/-- A number times its logistic. -/
def gated (x : EReal) : EReal := x * Ideal.div 1 (1 + Ideal.exp (-x))
/-- A layer's gradient at one entry. -/
def entry (c : Cond) (ct : Grads) (i : Fin 4) (k : Fin 1024) (j : Fin 384) : EReal := ∑ s : Fin 8, gated (c (ix2 s k)) * ct (ix3 i s j)

/-- The reference's gated conditions, a layer's product, and its place among zeros. -/
def sil (c : Cond) : Cond :=
  mulf c (Host.divf (broadcastInDim S8x1024 ![] bcast_S_S8x1024 (constant S_ .f32 0x3F800000#32)) (addf (broadcastInDim S8x1024 ![] bcast_S_S8x1024 (constant S_ .f32 0x3F800000#32)) (Host.exp (Host.negf c))))
def prod (c : Cond) (g : FVec Ideal S1x8x384 .f32) : Layer :=
  broadcastInDim S1x1024x384 ![1, 2] bcast_S1024x384_S1x1024x384_1_2 (transpose S1024x384 [1, 0] (Host.dotGeneral dot_S8x384_S8x1024_S384x1024_0_0_1_1_n_n none (shapeCast _ g shapeCasts_S1x8x384_S8x384) (sil c)) transposes_S384x1024_S1024x384_1_0)
def placed {l h : ℕ} (hp : S1x1024x384.Pads ![l, 0, 0] ![h, 0, 0] ![0, 0, 0] S4x1024x384) (x : Layer) : FVec Ideal S4x1024x384 .f32 :=
  pad S4x1024x384 ![l, 0, 0] ![h, 0, 0] ![0, 0, 0] x (constant S_ .f32 0x00000000#32) hp h_S_
def REF (c : Cond) (ct : Grads) : FVec Ideal S4x1024x384 .f32 :=
  addf (addf (addf (placed pads_S1x1024x384_S4x1024x384_300_000_000 (prod c (extractStridedSlice S1x8x384 ![3, 0, 0] ct slices_S4x8x384_S1x8x384_3_0_0)))
    (placed pads_S1x1024x384_S4x1024x384_210_000_000 (prod c (extractStridedSlice S1x8x384 ![2, 0, 0] ct slices_S4x8x384_S1x8x384_2_0_0))))
    (placed pads_S1x1024x384_S4x1024x384_120_000_000 (prod c (extractStridedSlice S1x8x384 ![1, 0, 0] ct slices_S4x8x384_S1x8x384_1_0_0))))
    (placed pads_S1x1024x384_S4x1024x384_030_000_000 (prod c (extractStridedSlice S1x8x384 ![0, 0, 0] ct slices_S4x8x384_S1x8x384_0_0_0)))

variable (c : Cond) (ct : Grads) (k : Fin 1024) (j : Fin 384)
theorem sil_at (s : Fin 8) : (sil c (ix2 s k) : EReal) = gated (c (ix2 s k)) := by pointwise [sil]; rfl
theorem prod_at (g : FVec Ideal S1x8x384 .f32) : (prod c g (ix3 0 k j) : EReal) = ∑ s : Fin 8, gated (c (ix2 s k)) * g (ix3 0 s j) := by
  pointwise [prod]
  refine Finset.sum_congr rfl fun s _ => ?_
  rw [sil_at]
  exact mul_comm _ _
theorem placed_at {l h : ℕ} (hp : S1x1024x384.Pads ![l, 0, 0] ![h, 0, 0] ![0, 0, 0] S4x1024x384) (x : Layer) (i : Fin 4) :
    (placed hp x (ix3 i k j) : EReal) = if i.val = l then (x (ix3 0 k j) : EReal) else 0 := by
  unfold placed
  by_cases e : i.val = l
  · rw [if_pos e]
    refine pad_apply_of_inside _ _ _ _ _ _ _ _ _ fun a => ?_
    fin_cases a
    · show i.val = l + 0 * (0 + 1); omega
    · show k.val = 0 + k.val * (0 + 1); omega
    · show j.val = 0 + j.val * (0 + 1); omega
  · rw [if_neg e]
    refine (pad_apply_of_not_inside _ _ _ _ _ _ _ _ 0 fun h => e ?_).trans ?_
    · have h0 : l ≤ i.val := h.1
      have h2 : (i.val - l) / (0 + 1) < 1 := h.2.2
      omega
    · pointwise []
theorem ref_at (i : Fin 4) : (REF c ct (ix3 i k j) : EReal) = entry c ct i k j := by
  pointwise [REF]
  simp only [placed_at, prod_at]
  unfold entry
  have e0 : ∀ s : Fin 8, (extractStridedSlice S1x8x384 ![0, 0, 0] ct slices_S4x8x384_S1x8x384_0_0_0 (ix3 0 s j) : EReal) = ct (ix3 0 s j) := fun s => by pointwise []
  have e1 : ∀ s : Fin 8, (extractStridedSlice S1x8x384 ![1, 0, 0] ct slices_S4x8x384_S1x8x384_1_0_0 (ix3 0 s j) : EReal) = ct (ix3 1 s j) := fun s => by pointwise []
  have e2 : ∀ s : Fin 8, (extractStridedSlice S1x8x384 ![2, 0, 0] ct slices_S4x8x384_S1x8x384_2_0_0 (ix3 0 s j) : EReal) = ct (ix3 2 s j) := fun s => by pointwise []
  have e3 : ∀ s : Fin 8, (extractStridedSlice S1x8x384 ![3, 0, 0] ct slices_S4x8x384_S1x8x384_3_0_0 (ix3 0 s j) : EReal) = ct (ix3 3 s j) := fun s => by pointwise []
  simp only [e0, e1, e2, e3]
  fin_cases i <;> simp

end Cert.Reference21Ideal.AdaGrad

namespace Cert.Kernel21Ideal.AdaGrad
open Idealize.ShloMosaic Idealize.ShloMosaic.TcCoe Idealize.ShloMosaic.Tactic Idealize.SL.Sem
open Idealize.ShloMosaic.Pipeline (Dat)
open Cert.Kernel21Ideal Cert.Kernel21Ideal.Gen
open Cert.Reference21Ideal.AdaGrad (REF ref_at gated entry)
variable (m : (ℓ : Loc nD τ sig) → Buf (Elt Ideal) ℓ) (c : Dev nD)

theorem pay2_at (x : FVec Ideal S1024x8 .f32) (k : Fin 1024) (s : Fin 8) : (k0_pay2 (F := Ideal) x (ix2 k s) : EReal) = gated (x (ix2 k s)) := by
  pointwise [k0_pay2]; rw [zero_sub]; rfl
theorem out_at (x : FVec Ideal S1024x8 .f32) (g : FVec Ideal S1x8x384 .f32) (k : Fin 1024) (j : Fin 384) :
    (out0_2 (F := Ideal) x g (ix3 0 k j) : EReal) = ∑ s : Fin 8, gated (x (ix2 k s)) * g (ix3 0 s j) := by
  unfold out0_2; frame_out
  pointwise [k0_pay1, k0_pay3, k0_pay4, k0_pay5, k0_pay6]
  rw [Fin.sum_univ_eight]
  simp only [pay2_at]
  done

theorem V0 : V m c main_v0 = transpose S1024x8 [1, 0] (m (c.tc.loc main_arg0)) transposes_S8x1024_S1024x8_1_0 := by
  unfold V
  simp only [hostOps0, List.flatten_cons, List.flatten_nil, List.cons_append, List.nil_append, List.append_nil]
  after_results
theorem idx : ∀ t : Fin cfg0.N, win0_0.index t = ![0, 0] ∧ win0_1.index t = ![t.val, 0, 0] ∧ win0_2.index t = ![t.val, 0, 0] :=
  (by decide +kernel : ∀ t : Fin grid0.N, _)
/-- The layer of a point. -/
abbrev at_ (t : Fin cfg0.N) : Fin 4 := ⟨t.val, t.isLt⟩

theorem readC (t : Fin cfg0.N) (k : Fin 1024) (s : Fin 8) : (iblk m c 0 t (ix2 k s) : EReal) = m (c.tc.loc main_arg0) (ix2 s k) := by
  refine Eq.trans ?_ ((congrFun (V0 m c) (ix2 k s)).trans ?_)
  · blk_ext [iblk, idx t]
  · pointwise []
theorem readG (t : Fin cfg0.N) (s : Fin 8) (j : Fin 384) : (iblk m c 1 t (ix3 0 s j) : EReal) = m (c.tc.loc main_arg2) (ix3 (at_ t) s j) := by
  refine Eq.trans ?_ (congrFun (V_main_arg2 m c) (ix3 (at_ t) s j))
  blk_ext [iblk, idx t]

theorem blk (t : Fin cfg0.N) (k : Fin 1024) (j : Fin 384) :
    (out0_2 (F := Ideal) (iblk m c 0 t) (iblk m c 1 t) (ix3 0 k j) : EReal) = entry (m (c.tc.loc main_arg0)) (m (c.tc.loc main_arg2)) (at_ t) k j := by
  refine (out_at _ _ k j).trans (Finset.sum_congr rfl fun s _ => ?_)
  rw [readC, readG]

theorem final : (dats m 0 c).arrAt 2 (cfgs 0).N = REF (m (c.tc.loc main_arg0)) (m (c.tc.loc main_arg2)) := by
  refine (dats m 0 c).arrAt_eq_of_covers 2 _ (by decide +kernel) fun t _ y => ?_
  blk_simp
  have hy : ((View.whole main_v1).slice (win0_2.rect t)).emb y = ix3 (at_ t) (y 1) (y 2) := by blk_ext [idx t]
  have hy' : y = ix3 0 (y 1) (y 2) := by blk_ext
  rw [after0_2, hy, hy']
  exact (blk m c t _ _).trans (ref_at _ _ _ _ _).symm

/-- The run, with the result's array named and the arguments unchanged. -/
theorem run (ρ : Dev nD → PrngReg) : θ_run defs (onTc (τ := τ) (main (F := Ideal))) ⟨m, fun _ => 0, ρ⟩ fun r => ∀ c : Dev nD,
    r.2.mem ((c : Thread nD τ).loc main_v1) = REF (m (c.tc.loc main_arg0)) (m (c.tc.loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 1).trans (((dats m 0 c).arrAt_in 1 rfl _).trans ((A_eq m c 1).trans (V_main_arg2 m c)))⟩)
    (run_main m ρ)

end Cert.Kernel21Ideal.AdaGrad
end
-- ==== Proof.Adam.lean ====
module

public import Idealize.ShloMosaic.Lib.Pipeline.ValueKit
public import Idealize.ShloMosaic.Lib.Pipeline.ReadBack
@[expose] public section
noncomputable section

/-! The optimiser's step of one weight, and of an array of weights of any shape: the new first and second moments, and the
    change of the weight. -/

namespace Cert.Adam
open Idealize.ShloMosaic Idealize.ShloMosaic.Tactic

/-- Moments of a weight: from the old moment and the gradient. -/
def first (m g : EReal) : EReal := Ideal.ofBits .f32 0x3F666666#32 * m + Ideal.ofBits .f32 0x3DCCCCCD#32 * g
def second (v g : EReal) : EReal := Ideal.ofBits .f32 0x3F7FBE77#32 * v + Ideal.ofBits .f32 0x3A83126F#32 * (g * g)
/-- The change of a weight: minus the rate times the corrected moments' quotient plus the decayed weight. -/
def change (w m v g : EReal) : EReal :=
  Ideal.ofBits .f32 0xBA83126F#32
    * (Ideal.div (Ideal.div (first m g) (Ideal.ofBits .f32 0x3F26BD02#32))
        (Ideal.sqrt (Ideal.div (second v g) (Ideal.ofBits .f32 0x3C231ACC#32)) + Ideal.ofBits .f32 0x322BCC77#32)
      + Ideal.ofBits .f32 0x3C23D70A#32 * w)

variable {S : Shape}
/-- The same of an array. -/
def firsts (m g : FVec Ideal S .f32) : FVec Ideal S .f32 := fun i => first (m i) (g i)
def seconds (v g : FVec Ideal S .f32) : FVec Ideal S .f32 := fun i => second (v i) (g i)
def changes (w m v g : FVec Ideal S .f32) : FVec Ideal S .f32 := fun i => change (w i) (m i) (v i) (g i)

/-! ## The kernel's spelling and the reference's -/

abbrev S0 : Shape := ⟨0, ![]⟩
theorem ker_firsts (m g : FVec Ideal S .f32) :
    addf (mulf (broadcast S (Scalar.ofBits (F := Ideal) .f32 0x3F666666#32)) m) (mulf (broadcast S (Scalar.ofBits (F := Ideal) .f32 0x3DCCCCCD#32)) g) = firsts m g := rfl
theorem ker_seconds (v g : FVec Ideal S .f32) :
    addf (mulf (broadcast S (Scalar.ofBits (F := Ideal) .f32 0x3F7FBE77#32)) v) (mulf (broadcast S (Scalar.ofBits (F := Ideal) .f32 0x3A83126F#32)) (mulf g g)) = seconds v g := rfl
theorem ker_changes (w m v g : FVec Ideal S .f32) :
    mulf (broadcast S (Scalar.ofBits (F := Ideal) .f32 0xBA83126F#32))
      (addf (divf (divf (firsts m g) (broadcast S (Scalar.ofBits (F := Ideal) .f32 0x3F26BD02#32)))
          (addf (sqrt (divf (seconds v g) (broadcast S (Scalar.ofBits (F := Ideal) .f32 0x3C231ACC#32)))) (broadcast S (Scalar.ofBits (F := Ideal) .f32 0x322BCC77#32))))
        (mulf (broadcast S (Scalar.ofBits (F := Ideal) .f32 0x3C23D70A#32)) w)) = changes w m v g := rfl

variable (h : S0.BroadcastsInDim S ![])
abbrev lit (b : BitVec 32) : FVec Ideal S .f32 := broadcastInDim S ![] h (constant S0 .f32 b)
theorem ref_firsts (m g : FVec Ideal S .f32) : addf (mulf (lit h 0x3F666666#32) m) (mulf (lit h 0x3DCCCCCD#32) g) = firsts m g := rfl
theorem ref_seconds (v g : FVec Ideal S .f32) : addf (mulf (lit h 0x3F7FBE77#32) v) (mulf (lit h 0x3A83126F#32) (mulf g g)) = seconds v g := rfl
theorem ref_changes (w m v g : FVec Ideal S .f32) :
    mulf (lit h 0xBA83126F#32)
      (addf (Host.divf (Host.divf (firsts m g) (lit h 0x3F26BD02#32)) (addf (Host.sqrt (Host.divf (seconds v g) (lit h 0x3C231ACC#32))) (lit h 0x322BCC77#32)))
        (mulf (lit h 0x3C23D70A#32) w)) = changes w m v g := rfl

/-! ## A gradient in eight parts -/

variable {a b : ℕ}
abbrev Mat (a b : ℕ) : Shape := ⟨2, ![a, b]⟩
abbrev Parts (a b : ℕ) : Shape := ⟨3, ![8, a, b]⟩
abbrev Part (a b : ℕ) : Shape := ⟨3, ![1, a, b]⟩
/-- Their sum. -/
def total (x : FVec Ideal (Parts a b) .bf16) : FVec Ideal (Mat a b) .f32 := fun i => ∑ s : Fin 8, (x (ix3 s (i 0) (i 1)) : EReal)

/-- The reference sums over the parts' axis, -/
theorem ref_total (x : FVec Ideal (Parts a b) .bf16) (hb : FTy.bf16.bits < FTy.f32.bits) (hr : (Parts a b).ReducesTo [0] (Mat a b)) (h0 : 0 < S0.numel) :
    Host.reduceAdd (extf .f32 x hb) (constant S0 .f32 0x00000000#32) hr h0 = total x := by
  funext i; pointwise []; rfl
/-- and the kernel adds one part after the other. -/
abbrev part (x : FVec Ideal (Parts a b) .bf16) (s : Fin 8) (inb : ∀ d, (![s.val, 0, 0] : Fin 3 → ℕ) d + (Part a b).size d ≤ (Parts a b).size d) : FVec Ideal (Part a b) .bf16 :=
  View.ld (Val := Elt Ideal) (S := Parts a b) (e' := .bf16) x (Rect.unit (s := Parts a b) ![s.val, 0, 0] (Part a b).size inb)
theorem part_at (x : FVec Ideal (Parts a b) .bf16) (s : Fin 8) (inb) (i : Fin a) (k : Fin b) : (part x s inb (ix3 0 i k) : EReal) = x (ix3 s i k) := by
  refine View.ld_unit_apply_of _ _ _ _ _ (ix3 s i k) fun d => ?_
  fin_cases d
  · rfl
  · exact (Nat.zero_add _).symm
  · exact (Nat.zero_add _).symm
theorem unit_axis (hc : (Part a b).ShapeCasts (Mat a b)) (i : Fin a) (k : Fin b) : Shape.reshapeEquiv hc (ix2 i k) = ix3 (0 : Fin 1) i k :=
  Shape.reshapeEquiv_eq_of_rowMajor hc (by
    rw [Shape.rowMajor_val_three, Shape.rowMajor_val_two]
    show ((0 : ℕ) * a + i.val) * b + k.val = i.val * b + k.val
    rw [Nat.zero_mul, Nat.zero_add])
theorem ker_total (x : FVec Ideal (Parts a b) .bf16) (hb : FTy.bf16.bits < FTy.f32.bits) (hc : (Part a b).ShapeCasts (Mat a b))
    (n : ∀ s : Fin 8, ∀ d, (![s.val, 0, 0] : Fin 3 → ℕ) d + (Part a b).size d ≤ (Parts a b).size d) :
    let p := fun s : Fin 8 => extf (F := Ideal) .f32 (shapeCast (Mat a b) (part x s (n s)) hc) hb
    addf (addf (addf (addf (addf (addf (addf (p 0) (p 1)) (p 2)) (p 3)) (p 4)) (p 5)) (p 6)) (p 7) = total x := by
  intro p
  have hp : ∀ (s : Fin 8) (i : Fin a) (k : Fin b), (p s (ix2 i k) : EReal) = x (ix3 s i k) := fun s i k => by
    refine Eq.trans (congrArg (part x s (n s)) (unit_axis hc i k)) (part_at x s (n s) i k)
  funext y
  obtain ⟨i, k, rfl⟩ : ∃ i k, y = ix2 i k := ⟨_, _, (ix2_eta y).symm⟩
  unfold total
  rw [Fin.sum_univ_eight]
  show (((((((p 0 (ix2 i k) : EReal) + p 1 (ix2 i k)) + p 2 (ix2 i k)) + p 3 (ix2 i k)) + p 4 (ix2 i k)) + p 5 (ix2 i k)) + p 6 (ix2 i k)) + p 7 (ix2 i k) = _
  simp only [hp]
  rfl

end Cert.Adam
end
-- ==== Proof.AdamAda.lean ====
module

public import proofs.«01_k».proof.Proof.Adam
public import proofs.«01_k».proof.Proof.Gen.Kernel22Ideal.Value
public import proofs.«01_k».proof.Proof.Gen.Reference22Ideal.Run
public import Idealize.ShloMosaic.Lib.Pipeline.ValueKit
public import Idealize.ShloMosaic.Lib.Pipeline.ReadBack
@[expose] public section
set_option maxRecDepth 16384
noncomputable section

/-! The optimiser's step of the modulation's matrices. -/

namespace Cert.Kernel22Ideal.AdamAda
open Idealize.ShloMosaic Idealize.ShloMosaic.TcCoe Idealize.ShloMosaic.Tactic Idealize.SL.Sem
open Idealize.ShloMosaic.Pipeline (Dat)
open Cert.Kernel22Ideal Cert.Kernel22Ideal.Gen Cert.Adam
variable (m : (ℓ : Loc nD τ sig) → Buf (Elt Ideal) ℓ) (c : Dev nD)

theorem pay1 (g m : FVec Ideal S1024x384 .f32) : k0_pay1 (F := Ideal) g m = firsts m g := ker_firsts m g
theorem pay2 (g v : FVec Ideal S1024x384 .f32) : k0_pay2 (F := Ideal) g v = seconds v g := ker_seconds v g
theorem pay3 (g m v w : FVec Ideal S1024x384 .f32) : k0_pay3 (F := Ideal) g m v w = changes w m v g := ker_changes w m v g

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array's row that is row `i` of block `t`. -/
abbrev at_ (t : Fin cfg0.N) (i : Fin 1024) : Fin 4096 := ⟨t.val * 1024 + i, by have : t.val < 4 := t.isLt; omega⟩

theorem readW (t : Fin cfg0.N) (y : S1024x384.Idx) : (iblk m c 0 t y : EReal) = m (c.tc.loc main_arg0) (ix2 (at_ t (y 0)) (y 1)) := by
  refine Eq.trans ?_ (congrFun (V_main_arg0 m c) (ix2 (at_ t (y 0)) (y 1)))
  blk_ext [iblk, idx t]
theorem readM (t : Fin cfg0.N) (y : S1024x384.Idx) : (iblk m c 1 t y : EReal) = m (c.tc.loc main_arg1) (ix2 (at_ t (y 0)) (y 1)) := by
  refine Eq.trans ?_ (congrFun (V_main_arg1 m c) (ix2 (at_ t (y 0)) (y 1)))
  blk_ext [iblk, idx t]
theorem readV (t : Fin cfg0.N) (y : S1024x384.Idx) : (iblk m c 2 t y : EReal) = m (c.tc.loc main_arg2) (ix2 (at_ t (y 0)) (y 1)) := by
  refine Eq.trans ?_ (congrFun (V_main_arg2 m c) (ix2 (at_ t (y 0)) (y 1)))
  blk_ext [iblk, idx t]
theorem readG (t : Fin cfg0.N) (y : S1024x384.Idx) : (iblk m c 3 t y : EReal) = m (c.tc.loc main_arg3) (ix2 (at_ t (y 0)) (y 1)) := by
  refine Eq.trans ?_ (congrFun (V_main_arg3 m c) (ix2 (at_ t (y 0)) (y 1)))
  blk_ext [iblk, idx t]

theorem final4 : (dats m 0 c).arrAt 4 (cfgs 0).N = m (c.tc.loc main_arg3) := by
  refine (dats m 0 c).arrAt_eq_of_covers 4 _ (by decide +kernel) fun t _ y => ?_
  blk_simp
  have hy : ((View.whole main_v0_0).slice (win0_4.rect t)).emb y = ix2 (at_ t (y 0)) (y 1) := by blk_ext [idx t]
  rw [after0_4, hy]; unfold out0_4; frame_out
  exact readG m c t y
theorem final5 : (dats m 0 c).arrAt 5 (cfgs 0).N = changes (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  have hy : ((View.whole main_v0_1).slice (win0_5.rect t)).emb y = ix2 (at_ t (y 0)) (y 1) := by blk_ext [idx t]
  rw [after0_5, hy]; unfold out0_5; frame_out
  rw [pay3]; unfold changes
  rw [readW, readM, readV, readG]
  rfl
theorem final6 : (dats m 0 c).arrAt 6 (cfgs 0).N = firsts (m (c.tc.loc main_arg1)) (m (c.tc.loc main_arg3)) := by
  refine (dats m 0 c).arrAt_eq_of_covers 6 _ (by decide +kernel) fun t _ y => ?_
  blk_simp
  have hy : ((View.whole main_v0_2).slice (win0_6.rect t)).emb y = ix2 (at_ t (y 0)) (y 1) := by blk_ext [idx t]
  rw [after0_6, hy]; unfold out0_6; frame_out
  rw [pay1]; unfold firsts
  rw [readM, readG]
  rfl
theorem final7 : (dats m 0 c).arrAt 7 (cfgs 0).N = seconds (m (c.tc.loc main_arg2)) (m (c.tc.loc main_arg3)) := by
  refine (dats m 0 c).arrAt_eq_of_covers 7 _ (by decide +kernel) fun t _ y => ?_
  blk_simp
  have hy : ((View.whole main_v0_3).slice (win0_7.rect t)).emb y = ix2 (at_ t (y 0)) (y 1) := by blk_ext [idx t]
  rw [after0_7, hy]; unfold out0_7; frame_out
  rw [pay2]; unfold seconds
  rw [readV, readG]
  rfl

end Cert.Kernel22Ideal.AdamAda

end
-- ==== Proof.AdamAIn.lean ====
module

public import proofs.«01_k».proof.Proof.Adam
public import proofs.«01_k».proof.Proof.Gen.Kernel23Ideal.Value
public import proofs.«01_k».proof.Proof.Gen.Reference23Ideal.Run
public import Idealize.ShloMosaic.Lib.Pipeline.ValueKit
public import Idealize.ShloMosaic.Lib.Pipeline.ReadBack
@[expose] public section
set_option maxRecDepth 16384
noncomputable section

/-! The optimiser's step of an attention layer's input matrix. -/

namespace Cert.Kernel23Ideal.AdamAIn
open Idealize.ShloMosaic Idealize.ShloMosaic.TcCoe Idealize.ShloMosaic.Tactic Idealize.SL.Sem
open Idealize.ShloMosaic.Pipeline (Dat)
open Cert.Kernel23Ideal Cert.Kernel23Ideal.Gen Cert.Adam
variable (m : (ℓ : Loc nD τ sig) → Buf (Elt Ideal) ℓ) (c : Dev nD)

/-- A point's gradient: the sum of its eight parts. -/
theorem pay5 (w m v : FVec Ideal S128x1280 .f32) (x : FVec Ideal S8x128x1280 .bf16) : k0_pay5 (F := Ideal) w m v x = total x :=
  ker_total x bitsLt_bf16_f32 shapeCasts_S1x128x1280_S128x1280 (by decide)

theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array's row that is row `i` of block `t`. -/
abbrev at_ (t : Fin cfg0.N) (i : Fin 128) : Fin 2048 := ⟨t.val * 128 + i, by have : t.val < 16 := t.isLt; omega⟩

theorem readW (t : Fin cfg0.N) (y : S128x1280.Idx) : (iblk m c 0 t y : EReal) = m (c.tc.loc main_arg0) (ix2 (at_ t (y 0)) (y 1)) := by
  refine Eq.trans ?_ (congrFun (V_main_arg0 m c) (ix2 (at_ t (y 0)) (y 1)))
  blk_ext [iblk, idx t]
theorem readM (t : Fin cfg0.N) (y : S128x1280.Idx) : (iblk m c 1 t y : EReal) = m (c.tc.loc main_arg1) (ix2 (at_ t (y 0)) (y 1)) := by
  refine Eq.trans ?_ (congrFun (V_main_arg1 m c) (ix2 (at_ t (y 0)) (y 1)))
  blk_ext [iblk, idx t]
theorem readV (t : Fin cfg0.N) (y : S128x1280.Idx) : (iblk m c 2 t y : EReal) = m (c.tc.loc main_arg2) (ix2 (at_ t (y 0)) (y 1)) := by
  refine Eq.trans ?_ (congrFun (V_main_arg2 m c) (ix2 (at_ t (y 0)) (y 1)))
  blk_ext [iblk, idx t]
theorem readG (t : Fin cfg0.N) (y : S128x1280.Idx) :
    (total (a := 128) (b := 1280) (iblk m c 3 t) y : EReal) = total (a := 2048) (b := 1280) (m (c.tc.loc main_arg3)) (ix2 (at_ t (y 0)) (y 1)) := by
  refine Finset.sum_congr rfl fun s _ => Eq.trans ?_ (congrFun (V_main_arg3 m c) (ix3 s (at_ t (y 0)) (y 1)))
  blk_ext [iblk, idx t]

theorem final4 : (dats m 0 c).arrAt 4 (cfgs 0).N = total (a := 2048) (b := 1280) (m (c.tc.loc main_arg3)) := by
  refine (dats m 0 c).arrAt_eq_of_covers 4 _ (by decide +kernel) fun t _ y => ?_
  blk_simp
  have hy : ((View.whole main_v0_0).slice (win0_4.rect t)).emb y = ix2 (at_ t (y 0)) (y 1) := by blk_ext [idx t]
  rw [after0_4, hy]; unfold out0_4; frame_out
  exact (congrFun (pay5 _ _ _ _) y).trans (readG m c t y)
theorem final5 : (dats m 0 c).arrAt 5 (cfgs 0).N = changes (m (c.tc.loc main_arg0)) (m (c.tc.loc main_arg1)) (m (c.tc.loc main_arg2)) (total (a := 2048) (b := 1280) (m (c.tc.loc main_arg3))) := by
  refine (dats m 0 c).arrAt_eq_of_covers 5 _ (by decide +kernel) fun t _ y => ?_
  blk_simp
  have hy : ((View.whole main_v0_1).slice (win0_5.rect t)).emb y = ix2 (at_ t (y 0)) (y 1) := by blk_ext [idx t]
  rw [after0_5, hy]; unfold out0_5; frame_out
  refine (congrFun (ker_changes _ _ _ _) y).trans ?_
  unfold changes
  rw [pay5, readW, readM, readV, readG]
  rfl
theorem final6 : (dats m 0 c).arrAt 6 (cfgs 0).N = firsts (m (c.tc.loc main_arg1)) (total (a := 2048) (b := 1280) (m (c.tc.loc main_arg3))) := by
  refine (dats m 0 c).arrAt_eq_of_covers 6 _ (by decide +kernel) fun t _ y => ?_
  blk_simp
  have hy : ((View.whole main_v0_2).slice (win0_6.rect t)).emb y = ix2 (at_ t (y 0)) (y 1) := by blk_ext [idx t]
  rw [after0_6, hy]; unfold out0_6; frame_out
  refine (congrFun (ker_firsts _ _) y).trans ?_
  unfold firsts
  rw [pay5, readM, readG]
  rfl
theorem final7 : (dats m 0 c).arrAt 7 (cfgs 0).N = seconds (m (c.tc.loc main_arg2)) (total (a := 2048) (b := 1280) (m (c.tc.loc main_arg3))) := by
  refine (dats m 0 c).arrAt_eq_of_covers 7 _ (by decide +kernel) fun t _ y => ?_
  blk_simp
  have hy : ((View.whole main_v0_3).slice (win0_7.rect t)).emb y = ix2 (at_ t (y 0)) (y 1) := by blk_ext [idx t]
  rw [after0_7, hy]; unfold out0_7; frame_out
  refine (congrFun (ker_seconds _ _) y).trans ?_
  unfold seconds
  rw [pay5, readV, readG]
  rfl

end Cert.Kernel23Ideal.AdamAIn

end
-- ==== Proof.AdamAOut.lean ====
module

public import proofs.«01_k».proof.Proof.Adam
public import proofs.«01_k».proof.Proof.Gen.Kernel24Ideal.Value
public import proofs.«01_k».proof.Proof.Gen.Reference24Ideal.Run
public import Idealize.ShloMosaic.Lib.Pipeline.ValueKit
public import Idealize.ShloMosaic.Lib.Pipeline.ReadBack
@[expose] public section
set_option maxRecDepth 16384
noncomputable section

/-! The optimiser's step of an attention layer's output matrix. -/

namespace Cert.Kernel24Ideal.AdamAOut
open Idealize.ShloMosaic Idealize.ShloMosaic.TcCoe Idealize.ShloMosaic.Tactic Idealize.SL.Sem
open Idealize.ShloMosaic.Pipeline (Dat)
open Cert.Kernel24Ideal Cert.Kernel24Ideal.Gen Cert.Adam
variable (m : (ℓ : Loc nD τ sig) → Buf (Elt Ideal) ℓ) (c : Dev nD)

/-- A point's gradient: the sum of its eight parts. -/
theorem pay5 (w m v : FVec Ideal S128x1024 .f32) (x : FVec Ideal S8x128x1024 .bf16) : k0_pay5 (F := Ideal) w m v x = total x :=
  ker_total x bitsLt_bf16_f32 shapeCasts_S1x128x1024_S128x1024 (by decide)

theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array's row that is row `i` of block `t`. -/
abbrev at_ (t : Fin cfg0.N) (i : Fin 128) : Fin 256 := ⟨t.val * 128 + i, by have : t.val < 2 := t.isLt; omega⟩

theorem readW (t : Fin cfg0.N) (y : S128x1024.Idx) : (iblk m c 0 t y : EReal) = m (c.tc.loc main_arg0) (ix2 (at_ t (y 0)) (y 1)) := by
  refine Eq.trans ?_ (congrFun (V_main_arg0 m c) (ix2 (at_ t (y 0)) (y 1)))
  blk_ext [iblk, idx t]
theorem readM (t : Fin cfg0.N) (y : S128x1024.Idx) : (iblk m c 1 t y : EReal) = m (c.tc.loc main_arg1) (ix2 (at_ t (y 0)) (y 1)) := by
  refine Eq.trans ?_ (congrFun (V_main_arg1 m c) (ix2 (at_ t (y 0)) (y 1)))
  blk_ext [iblk, idx t]
theorem readV (t : Fin cfg0.N) (y : S128x1024.Idx) : (iblk m c 2 t y : EReal) = m (c.tc.loc main_arg2) (ix2 (at_ t (y 0)) (y 1)) := by
  refine Eq.trans ?_ (congrFun (V_main_arg2 m c) (ix2 (at_ t (y 0)) (y 1)))
  blk_ext [iblk, idx t]
theorem readG (t : Fin cfg0.N) (y : S128x1024.Idx) :
    (total (a := 128) (b := 1024) (iblk m c 3 t) y : EReal) = total (a := 256) (b := 1024) (m (c.tc.loc main_arg3)) (ix2 (at_ t (y 0)) (y 1)) := by
  refine Finset.sum_congr rfl fun s _ => Eq.trans ?_ (congrFun (V_main_arg3 m c) (ix3 s (at_ t (y 0)) (y 1)))
  blk_ext [iblk, idx t]

theorem final4 : (dats m 0 c).arrAt 4 (cfgs 0).N = total (a := 256) (b := 1024) (m (c.tc.loc main_arg3)) := by
  refine (dats m 0 c).arrAt_eq_of_covers 4 _ (by decide +kernel) fun t _ y => ?_
  blk_simp
  have hy : ((View.whole main_v0_0).slice (win0_4.rect t)).emb y = ix2 (at_ t (y 0)) (y 1) := by blk_ext [idx t]
  rw [after0_4, hy]; unfold out0_4; frame_out
  exact (congrFun (pay5 _ _ _ _) y).trans (readG m c t y)
theorem final5 : (dats m 0 c).arrAt 5 (cfgs 0).N = changes (m (c.tc.loc main_arg0)) (m (c.tc.loc main_arg1)) (m (c.tc.loc main_arg2)) (total (a := 256) (b := 1024) (m (c.tc.loc main_arg3))) := by
  refine (dats m 0 c).arrAt_eq_of_covers 5 _ (by decide +kernel) fun t _ y => ?_
  blk_simp
  have hy : ((View.whole main_v0_1).slice (win0_5.rect t)).emb y = ix2 (at_ t (y 0)) (y 1) := by blk_ext [idx t]
  rw [after0_5, hy]; unfold out0_5; frame_out
  refine (congrFun (ker_changes _ _ _ _) y).trans ?_
  unfold changes
  rw [pay5, readW, readM, readV, readG]
  rfl
theorem final6 : (dats m 0 c).arrAt 6 (cfgs 0).N = firsts (m (c.tc.loc main_arg1)) (total (a := 256) (b := 1024) (m (c.tc.loc main_arg3))) := by
  refine (dats m 0 c).arrAt_eq_of_covers 6 _ (by decide +kernel) fun t _ y => ?_
  blk_simp
  have hy : ((View.whole main_v0_2).slice (win0_6.rect t)).emb y = ix2 (at_ t (y 0)) (y 1) := by blk_ext [idx t]
  rw [after0_6, hy]; unfold out0_6; frame_out
  refine (congrFun (ker_firsts _ _) y).trans ?_
  unfold firsts
  rw [pay5, readM, readG]
  rfl
theorem final7 : (dats m 0 c).arrAt 7 (cfgs 0).N = seconds (m (c.tc.loc main_arg2)) (total (a := 256) (b := 1024) (m (c.tc.loc main_arg3))) := by
  refine (dats m 0 c).arrAt_eq_of_covers 7 _ (by decide +kernel) fun t _ y => ?_
  blk_simp
  have hy : ((View.whole main_v0_3).slice (win0_7.rect t)).emb y = ix2 (at_ t (y 0)) (y 1) := by blk_ext [idx t]
  rw [after0_7, hy]; unfold out0_7; frame_out
  refine (congrFun (ker_seconds _ _) y).trans ?_
  unfold seconds
  rw [pay5, readV, readG]
  rfl

end Cert.Kernel24Ideal.AdamAOut

end
-- ==== Proof.AdamBIn.lean ====
module

public import proofs.«01_k».proof.Proof.Adam
public import proofs.«01_k».proof.Proof.Gen.Kernel25Ideal.Value
public import proofs.«01_k».proof.Proof.Gen.Reference25Ideal.Run
public import Idealize.ShloMosaic.Lib.Pipeline.ValueKit
public import Idealize.ShloMosaic.Lib.Pipeline.ReadBack
@[expose] public section
set_option maxRecDepth 16384
noncomputable section

/-! The optimiser's step of a state space layer's input matrix. -/

namespace Cert.Kernel25Ideal.AdamBIn
open Idealize.ShloMosaic Idealize.ShloMosaic.TcCoe Idealize.ShloMosaic.Tactic Idealize.SL.Sem
open Idealize.ShloMosaic.Pipeline (Dat)
open Cert.Kernel25Ideal Cert.Kernel25Ideal.Gen Cert.Adam
variable (m : (ℓ : Loc nD τ sig) → Buf (Elt Ideal) ℓ) (c : Dev nD)

/-- A point's gradient: the sum of its eight parts. -/
theorem pay5 (w m v : FVec Ideal S256x648 .f32) (x : FVec Ideal S8x256x648 .bf16) : k0_pay5 (F := Ideal) w m v x = total x :=
  ker_total x bitsLt_bf16_f32 shapeCasts_S1x256x648_S256x648 (by decide)

theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array's row that is row `i` of block `t`. -/
abbrev at_ (t : Fin cfg0.N) (i : Fin 256) : Fin 2048 := ⟨t.val * 256 + i, by have : t.val < 8 := t.isLt; omega⟩

theorem readW (t : Fin cfg0.N) (y : S256x648.Idx) : (iblk m c 0 t y : EReal) = m (c.tc.loc main_arg0) (ix2 (at_ t (y 0)) (y 1)) := by
  refine Eq.trans ?_ (congrFun (V_main_arg0 m c) (ix2 (at_ t (y 0)) (y 1)))
  blk_ext [iblk, idx t]
theorem readM (t : Fin cfg0.N) (y : S256x648.Idx) : (iblk m c 1 t y : EReal) = m (c.tc.loc main_arg1) (ix2 (at_ t (y 0)) (y 1)) := by
  refine Eq.trans ?_ (congrFun (V_main_arg1 m c) (ix2 (at_ t (y 0)) (y 1)))
  blk_ext [iblk, idx t]
theorem readV (t : Fin cfg0.N) (y : S256x648.Idx) : (iblk m c 2 t y : EReal) = m (c.tc.loc main_arg2) (ix2 (at_ t (y 0)) (y 1)) := by
  refine Eq.trans ?_ (congrFun (V_main_arg2 m c) (ix2 (at_ t (y 0)) (y 1)))
  blk_ext [iblk, idx t]
theorem readG (t : Fin cfg0.N) (y : S256x648.Idx) :
    (total (a := 256) (b := 648) (iblk m c 3 t) y : EReal) = total (a := 2048) (b := 648) (m (c.tc.loc main_arg3)) (ix2 (at_ t (y 0)) (y 1)) := by
  refine Finset.sum_congr rfl fun s _ => Eq.trans ?_ (congrFun (V_main_arg3 m c) (ix3 s (at_ t (y 0)) (y 1)))
  blk_ext [iblk, idx t]

theorem final4 : (dats m 0 c).arrAt 4 (cfgs 0).N = total (a := 2048) (b := 648) (m (c.tc.loc main_arg3)) := by
  refine (dats m 0 c).arrAt_eq_of_covers 4 _ (by decide +kernel) fun t _ y => ?_
  blk_simp
  have hy : ((View.whole main_v0_0).slice (win0_4.rect t)).emb y = ix2 (at_ t (y 0)) (y 1) := by blk_ext [idx t]
  rw [after0_4, hy]; unfold out0_4; frame_out
  exact (congrFun (pay5 _ _ _ _) y).trans (readG m c t y)
theorem final5 : (dats m 0 c).arrAt 5 (cfgs 0).N = changes (m (c.tc.loc main_arg0)) (m (c.tc.loc main_arg1)) (m (c.tc.loc main_arg2)) (total (a := 2048) (b := 648) (m (c.tc.loc main_arg3))) := by
  refine (dats m 0 c).arrAt_eq_of_covers 5 _ (by decide +kernel) fun t _ y => ?_
  blk_simp
  have hy : ((View.whole main_v0_1).slice (win0_5.rect t)).emb y = ix2 (at_ t (y 0)) (y 1) := by blk_ext [idx t]
  rw [after0_5, hy]; unfold out0_5; frame_out
  refine (congrFun (ker_changes _ _ _ _) y).trans ?_
  unfold changes
  rw [pay5, readW, readM, readV, readG]
  rfl
theorem final6 : (dats m 0 c).arrAt 6 (cfgs 0).N = firsts (m (c.tc.loc main_arg1)) (total (a := 2048) (b := 648) (m (c.tc.loc main_arg3))) := by
  refine (dats m 0 c).arrAt_eq_of_covers 6 _ (by decide +kernel) fun t _ y => ?_
  blk_simp
  have hy : ((View.whole main_v0_2).slice (win0_6.rect t)).emb y = ix2 (at_ t (y 0)) (y 1) := by blk_ext [idx t]
  rw [after0_6, hy]; unfold out0_6; frame_out
  refine (congrFun (ker_firsts _ _) y).trans ?_
  unfold firsts
  rw [pay5, readM, readG]
  rfl
theorem final7 : (dats m 0 c).arrAt 7 (cfgs 0).N = seconds (m (c.tc.loc main_arg2)) (total (a := 2048) (b := 648) (m (c.tc.loc main_arg3))) := by
  refine (dats m 0 c).arrAt_eq_of_covers 7 _ (by decide +kernel) fun t _ y => ?_
  blk_simp
  have hy : ((View.whole main_v0_3).slice (win0_7.rect t)).emb y = ix2 (at_ t (y 0)) (y 1) := by blk_ext [idx t]
  rw [after0_7, hy]; unfold out0_7; frame_out
  refine (congrFun (ker_seconds _ _) y).trans ?_
  unfold seconds
  rw [pay5, readV, readG]
  rfl

end Cert.Kernel25Ideal.AdamBIn

end
-- ==== Proof.AdamBOut.lean ====
module

public import proofs.«01_k».proof.Proof.Adam
public import proofs.«01_k».proof.Proof.Gen.Kernel26Ideal.Value
public import proofs.«01_k».proof.Proof.Gen.Reference26Ideal.Run
public import Idealize.ShloMosaic.Lib.Pipeline.ValueKit
public import Idealize.ShloMosaic.Lib.Pipeline.ReadBack
@[expose] public section
set_option maxRecDepth 16384
noncomputable section

/-! The optimiser's step of a state space layer's output matrix. -/

namespace Cert.Kernel26Ideal.AdamBOut
open Idealize.ShloMosaic Idealize.ShloMosaic.TcCoe Idealize.ShloMosaic.Tactic Idealize.SL.Sem
open Idealize.ShloMosaic.Pipeline (Dat)
open Cert.Kernel26Ideal Cert.Kernel26Ideal.Gen Cert.Adam
variable (m : (ℓ : Loc nD τ sig) → Buf (Elt Ideal) ℓ) (c : Dev nD)

/-- A point's gradient: the sum of its eight parts. -/
theorem pay5 (w m v : FVec Ideal S128x1024 .f32) (x : FVec Ideal S8x128x1024 .bf16) : k0_pay5 (F := Ideal) w m v x = total x :=
  ker_total x bitsLt_bf16_f32 shapeCasts_S1x128x1024_S128x1024 (by decide)

theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array's row that is row `i` of block `t`. -/
abbrev at_ (t : Fin cfg0.N) (i : Fin 128) : Fin 512 := ⟨t.val * 128 + i, by have : t.val < 4 := t.isLt; omega⟩

theorem readW (t : Fin cfg0.N) (y : S128x1024.Idx) : (iblk m c 0 t y : EReal) = m (c.tc.loc main_arg0) (ix2 (at_ t (y 0)) (y 1)) := by
  refine Eq.trans ?_ (congrFun (V_main_arg0 m c) (ix2 (at_ t (y 0)) (y 1)))
  blk_ext [iblk, idx t]
theorem readM (t : Fin cfg0.N) (y : S128x1024.Idx) : (iblk m c 1 t y : EReal) = m (c.tc.loc main_arg1) (ix2 (at_ t (y 0)) (y 1)) := by
  refine Eq.trans ?_ (congrFun (V_main_arg1 m c) (ix2 (at_ t (y 0)) (y 1)))
  blk_ext [iblk, idx t]
theorem readV (t : Fin cfg0.N) (y : S128x1024.Idx) : (iblk m c 2 t y : EReal) = m (c.tc.loc main_arg2) (ix2 (at_ t (y 0)) (y 1)) := by
  refine Eq.trans ?_ (congrFun (V_main_arg2 m c) (ix2 (at_ t (y 0)) (y 1)))
  blk_ext [iblk, idx t]
theorem readG (t : Fin cfg0.N) (y : S128x1024.Idx) :
    (total (a := 128) (b := 1024) (iblk m c 3 t) y : EReal) = total (a := 512) (b := 1024) (m (c.tc.loc main_arg3)) (ix2 (at_ t (y 0)) (y 1)) := by
  refine Finset.sum_congr rfl fun s _ => Eq.trans ?_ (congrFun (V_main_arg3 m c) (ix3 s (at_ t (y 0)) (y 1)))
  blk_ext [iblk, idx t]

theorem final4 : (dats m 0 c).arrAt 4 (cfgs 0).N = total (a := 512) (b := 1024) (m (c.tc.loc main_arg3)) := by
  refine (dats m 0 c).arrAt_eq_of_covers 4 _ (by decide +kernel) fun t _ y => ?_
  blk_simp
  have hy : ((View.whole main_v0_0).slice (win0_4.rect t)).emb y = ix2 (at_ t (y 0)) (y 1) := by blk_ext [idx t]
  rw [after0_4, hy]; unfold out0_4; frame_out
  exact (congrFun (pay5 _ _ _ _) y).trans (readG m c t y)
theorem final5 : (dats m 0 c).arrAt 5 (cfgs 0).N = changes (m (c.tc.loc main_arg0)) (m (c.tc.loc main_arg1)) (m (c.tc.loc main_arg2)) (total (a := 512) (b := 1024) (m (c.tc.loc main_arg3))) := by
  refine (dats m 0 c).arrAt_eq_of_covers 5 _ (by decide +kernel) fun t _ y => ?_
  blk_simp
  have hy : ((View.whole main_v0_1).slice (win0_5.rect t)).emb y = ix2 (at_ t (y 0)) (y 1) := by blk_ext [idx t]
  rw [after0_5, hy]; unfold out0_5; frame_out
  refine (congrFun (ker_changes _ _ _ _) y).trans ?_
  unfold changes
  rw [pay5, readW, readM, readV, readG]
  rfl
theorem final6 : (dats m 0 c).arrAt 6 (cfgs 0).N = firsts (m (c.tc.loc main_arg1)) (total (a := 512) (b := 1024) (m (c.tc.loc main_arg3))) := by
  refine (dats m 0 c).arrAt_eq_of_covers 6 _ (by decide +kernel) fun t _ y => ?_
  blk_simp
  have hy : ((View.whole main_v0_2).slice (win0_6.rect t)).emb y = ix2 (at_ t (y 0)) (y 1) := by blk_ext [idx t]
  rw [after0_6, hy]; unfold out0_6; frame_out
  refine (congrFun (ker_firsts _ _) y).trans ?_
  unfold firsts
  rw [pay5, readM, readG]
  rfl
theorem final7 : (dats m 0 c).arrAt 7 (cfgs 0).N = seconds (m (c.tc.loc main_arg2)) (total (a := 512) (b := 1024) (m (c.tc.loc main_arg3))) := by
  refine (dats m 0 c).arrAt_eq_of_covers 7 _ (by decide +kernel) fun t _ y => ?_
  blk_simp
  have hy : ((View.whole main_v0_3).slice (win0_7.rect t)).emb y = ix2 (at_ t (y 0)) (y 1) := by blk_ext [idx t]
  rw [after0_7, hy]; unfold out0_7; frame_out
  refine (congrFun (ker_seconds _ _) y).trans ?_
  unfold seconds
  rw [pay5, readV, readG]
  rfl

end Cert.Kernel26Ideal.AdamBOut

end
-- ==== Proof.Win.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section
set_option maxRecDepth 16384
noncomputable section

/-! Reading windows of a block, the distance words, and sums over a window as sums over all rows. -/

namespace Cert.KernelIdeal.Win
open Idealize.ShloMosaic Idealize.ShloMosaic.TcCoe Idealize.ShloMosaic.Tactic Idealize.SL.Sem

/-- The 512 by 128 array. -/
local notation "Arr" => (⟨2, ![512, 128]⟩ : Shape)

/-! ## Stores into a window, read at a row -/

/-- A window of 256 rows stored with `f` added to what was there: off the window the array is unchanged, in it `f` is added. -/
theorem acc_step (s : ℕ) (hs : s + 256 ≤ 512) (inb) (w : (⟨2, ![256, 128]⟩ : Shape).Idx → EReal)
    (L : List (View.Piece (Elt Ideal) Arr .f32)) (b : Fin 128)
    (f : Fin 256 → EReal) (hw : ∀ a, w (ix2 a b) = View.canon L (ix2 ⟨s + a.val, by omega⟩ b) + f a) (k : Fin 512) :
    (View.canon (⟨Rect.unit ![s, 0] ![256, 128] inb, w⟩ :: L) (ix2 k b) : EReal) =
      View.canon L (ix2 k b) + if h : s ≤ k.val ∧ k.val < s + 256 then f ⟨k.val - s, by omega⟩ else 0 := by
  split
  next h =>
    have e : (ix2 k b : (Arr).Idx) = (Rect.unit (s := Arr) ![s, 0] ![256, 128] inb).emb (ix2 ⟨k.val - s, by omega⟩ b) := by
      funext a; fin_cases a
      · apply Fin.ext; show k.val = s + 1 * (k.val - s); omega
      · apply Fin.ext; show b.val = 0 + 1 * b.val; omega
    have e2 : (⟨s + (k.val - s), by omega⟩ : Fin 512) = k := Fin.ext (by show s + (k.val - s) = k.val; omega)
    have h3 := hw ⟨k.val - s, by omega⟩
    simp only [e2] at h3
    rw [← h3]
    conv_lhs => rw [e]
    exact View.canon_cons_emb _ _ _ _
  next h =>
    rw [View.canon_cons_of_not_mem, add_zero]
    intro hm
    apply h
    have := (Rect.mem_set_unit (inb := inb)).mp hm 0
    exact ⟨this.1, this.2⟩

/-- 128 rows stored: in them the array is the stored rows, off them what was there before. -/
theorem put_step (s : ℕ) (hs : s + 128 ≤ 512) (inb) (w : (⟨2, ![128, 128]⟩ : Shape).Idx → EReal)
    (L : List (View.Piece (Elt Ideal) Arr .bf16)) (b : Fin 128)
    (f : Fin 128 → EReal) (hw : ∀ a, w (ix2 a b) = f a) (k : Fin 512) :
    (View.canon (⟨Rect.unit ![s, 0] ![128, 128] inb, w⟩ :: L) (ix2 k b) : EReal) =
      if h : s ≤ k.val ∧ k.val < s + 128 then f ⟨k.val - s, by omega⟩ else View.canon L (ix2 k b) := by
  split
  next h =>
    have e : (ix2 k b : (Arr).Idx) = (Rect.unit (s := Arr) ![s, 0] ![128, 128] inb).emb (ix2 ⟨k.val - s, by omega⟩ b) := by
      funext a; fin_cases a
      · apply Fin.ext; show k.val = s + 1 * (k.val - s); omega
      · apply Fin.ext; show b.val = 0 + 1 * b.val; omega
    rw [← hw]
    conv_lhs => rw [e]
    exact View.canon_cons_emb _ _ _ _
  next h =>
    rw [View.canon_cons_of_not_mem]
    intro hm
    apply h
    have := (Rect.mem_set_unit (inb := inb)).mp hm 0
    exact ⟨this.1, this.2⟩

/-- The whole array's rectangle reads every index at itself. -/
theorem whole_idx (inb) (y : (Arr).Idx) : (Rect.unit (s := Arr) ![0, 0] ![512, 128] inb).idx y = y := by
  funext a; fin_cases a
  · apply Fin.ext; show 0 + 1 * (y 0).val = (y 0).val; omega
  · apply Fin.ext; show 0 + 1 * (y 1).val = (y 1).val; omega

/-- A rectangle of whole rows from row `s` on reads row `a` at row `s + a`. -/
theorem win_idx (n s : ℕ) {off : Fin 2 → ℕ} (ho : off = ![s, 0]) (inb) (a : Fin n) (hn : s + a.val < 512) (b : Fin 128) :
    (Rect.unit (s := Arr) off ![n, 128] inb).idx (ix2 a b) = ix2 ⟨s + a.val, hn⟩ b := by
  subst ho
  funext x; fin_cases x
  · apply Fin.ext; show s + 1 * a.val = s + a.val; omega
  · apply Fin.ext; show 0 + 1 * b.val = b.val; omega

/-- A rectangle of one entry reads that entry. -/
theorem one_idx (n : ℕ) {off : Fin 1 → ℕ} (ho : off = ![n]) (inb) (hn : n < 16) (h) :
    (Rect.unit (s := ⟨1, ![16]⟩) off ![1] inb).idx (Shape.Idx.first h) = ix1 ⟨n, hn⟩ := by
  subst ho
  funext x; fin_cases x
  apply Fin.ext; show n + 1 * 0 = n; omega

/-! ## Sums over a window -/

/-- A sum over 256 rows from `s` on of a function that vanishes off them is its sum over all 512. -/
theorem sum_window (s : ℕ) (hs : s + 256 ≤ 512) (f : Fin 512 → EReal) (h0 : ∀ j : Fin 512, j.val < s ∨ s + 256 ≤ j.val → f j = 0) :
    ∑ a : Fin 256, f ⟨s + a.val, by omega⟩ = ∑ j, f j := by
  refine Finset.sum_of_injOn (fun a : Fin 256 => (⟨s + a.val, by omega⟩ : Fin 512)) ?_ (fun _ _ => Finset.mem_coe.mpr (Finset.mem_univ _)) ?_ (fun _ _ => rfl)
  · intro a _ b _ h
    have := congrArg Fin.val h
    exact Fin.ext (by simpa using this)
  · intro j _ hj
    apply h0
    by_contra hc
    push Not at hc
    exact hj ⟨⟨j.val - s, by omega⟩, Finset.mem_coe.mpr (Finset.mem_univ _), Fin.ext (by show s + (j.val - s) = j.val; omega)⟩

/-- A sum over 512 rows, block of 128 by block of 128. -/
theorem sum_blocks (f : Fin 512 → EReal) :
    ∑ j, f j = (((∑ r : Fin 128, f ⟨0 + r.val, by omega⟩) + ∑ r : Fin 128, f ⟨128 + r.val, by omega⟩)
      + ∑ r : Fin 128, f ⟨256 + r.val, by omega⟩) + ∑ r : Fin 128, f ⟨384 + r.val, by omega⟩ := by
  have e : ∑ j, f j = ∑ j : Fin (((128 + 128) + 128) + 128), f ⟨j.val, j.isLt⟩ := rfl
  rw [e, Fin.sum_univ_add, Fin.sum_univ_add, Fin.sum_univ_add]
  simp only [Fin.val_castAdd, Fin.val_natAdd, Nat.zero_add]

/-! ## The distance words -/

/-- The distance of query row `i` and key row `k`, as the word the kernel computes. -/
def dlt (i k : ℕ) : BitVec 32 := IntOp.absi (IntOp.subi (BitVec.ofNat 32 k) (BitVec.ofNat 32 i))

/-- It is the word of the distance. -/
theorem dlt_eq (i k : ℕ) (hi : i < 2 ^ 30) (hk : k < 2 ^ 30) : dlt i k = BitVec.ofNat 32 ((k - i) + (i - k)) := by
  unfold dlt IntOp.absi IntOp.subi
  apply BitVec.eq_of_toNat_eq
  rw [BitVec.msb_eq_decide]
  split
  next h =>
    simp only [decide_eq_true_eq, BitVec.toNat_sub, BitVec.toNat_ofNat, BitVec.toNat_neg] at h ⊢
    omega
  next h =>
    simp only [decide_eq_true_eq, BitVec.toNat_sub, BitVec.toNat_ofNat] at h ⊢
    omega

/-- The words of small numbers are read signed as those numbers. -/
theorem toInt_small (n : ℕ) (h : n < 2 ^ 31) : (BitVec.ofNat 32 n).toInt = (n : ℤ) := by
  rw [BitVec.toInt_eq_toNat_of_lt (by rw [BitVec.toNat_ofNat]; omega), BitVec.toNat_ofNat]
  congr 1; omega

/-- So the kernel's test of the distance is the test of the rows' distance. -/
theorem near (i k : ℕ) (hi : i < 2 ^ 29) (hk : k < 2 ^ 29) :
    IntOp.cmpi .sle (dlt i k) 64#32 = BitVec.ofBool (decide ((k - i) + (i - k) ≤ 64)) := by
  rw [dlt_eq i k (by omega) (by omega)]
  show BitVec.ofBool (BitVec.sle _ _) = _
  rw [BitVec.sle, toInt_small _ (by omega)]
  congr 2
  apply propext
  show ((((k - i) + (i - k) : ℕ) : ℤ) ≤ 64) ↔ _
  omega

/-- Far-off rows fail it. -/
theorem far (i k : ℕ) (hi : i < 2 ^ 29) (hk : k < 2 ^ 29) (h : 64 < (k - i) + (i - k)) : IntOp.cmpi .sle (dlt i k) 64#32 = 0#1 := by
  rw [near i k hi hk, decide_eq_false (by omega)]
  rfl

end Cert.KernelIdeal.Win
end
-- ==== Proof.Spec.lean ====
module

public import proofs.«01_k».proof.Proof.Win

@[expose] public section
set_option maxRecDepth 16384
noncomputable section

/-! The dilated group's attention at one index: the scores, their maximum, the unnormalised weights, the output and its log-denominator. -/

namespace Cert.Spec
open Idealize.ShloMosaic Idealize.ShloMosaic.TcCoe Idealize.ShloMosaic.Tactic Idealize.SL.Sem
open Cert.KernelIdeal.Win

/-- Position `i` of sub-sequence `r` in the whole sequence. -/
def row (r : Fin 16) (i : Fin 512) : Fin 8192 := ⟨i.val * 16 + r.val, by omega⟩

theorem row_sub (r : Fin 16) (i : Fin 512) (h : (row r i).val % 16 < 16) : (⟨(row r i).val % 16, h⟩ : Fin 16) = r :=
  Fin.ext (by show (i.val * 16 + r.val) % 16 = r.val; omega)
theorem row_pos (r : Fin 16) (i : Fin 512) (h : (row r i).val / 16 < 512) : (⟨(row r i).val / 16, h⟩ : Fin 512) = i :=
  Fin.ext (by show (i.val * 16 + r.val) / 16 = i.val; omega)

/-- A column of a flattened array names a sub-sequence, a head and a head entry. -/
def subOf (c : Fin 16384) : Fin 16 := ⟨c.val / 1024, by omega⟩
def headOf (c : Fin 16384) : Fin 16 := ⟨c.val / 64 % 16, by omega⟩
def entOf (c : Fin 16384) : Fin 64 := ⟨c.val % 64, by omega⟩

/-- A tensor of positions, heads and head entries. -/
abbrev Ten : Type := Fin 8192 → Fin 16 → Fin 64 → EReal

/-- The masked score of a query and a key of one sub-sequence. -/
def score (sl : Fin 16 → EReal) (q k : Ten) (r h : Fin 16) (i j : Fin 512) : EReal :=
  Scalar.select (IntOp.cmpi .sle (dlt i.val j.val) 64#32)
    (Ideal.div (∑ e : Fin 64, q (row r i) h e * k (row r j) h e) (Ideal.ofBits .f32 0x41000000#32)
      + -(sl h) * FloatOps.sitofp (F := Ideal) .f32 (IntOp.muli (dlt i.val j.val) 16#32)) ⊥

/-- The greatest score of a query. -/
def top (sl : Fin 16 → EReal) (q k : Ten) (r h : Fin 16) (i : Fin 512) : EReal :=
  Finset.univ.fold max ⊥ (score sl q k r h i)

/-- The unnormalised weight of a key. -/
def wt (sl : Fin 16 → EReal) (q k : Ten) (r h : Fin 16) (i j : Fin 512) : EReal :=
  Ideal.exp (score sl q k r h i j - top sl q k r h i)

/-- The sum of a query's weights. -/
def tot (sl : Fin 16 → EReal) (q k : Ten) (r h : Fin 16) (i : Fin 512) : EReal := ∑ j, wt sl q k r h i j

/-- The weighted values, not yet divided. -/
def wv (sl : Fin 16 → EReal) (q k v : Ten) (r h : Fin 16) (i : Fin 512) (e : Fin 64) : EReal :=
  ∑ j, wt sl q k r h i j * v (row r j) h e

/-- The group's log-denominator. -/
def lden (sl : Fin 16 → EReal) (q k : Ten) (r h : Fin 16) (i : Fin 512) : EReal :=
  top sl q k r h i + Ideal.log (tot sl q k r h i)

end Cert.Spec
end
-- ==== Proof.Row.lean ====
module

public import proofs.«01_k».proof.Proof.Spec

@[expose] public section
set_option maxRecDepth 16384
noncomputable section

/-! The same attention over the real numbers, and the two ways of writing its gradient. -/

namespace Cert.Spec
open Idealize.ShloMosaic Idealize.ShloMosaic.TcCoe Idealize.ShloMosaic.Tactic Idealize.SL.Sem
open Cert.KernelIdeal.Win

/-! ## Real values of the operations -/

theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]
theorem exp_coe (a : ℝ) : Ideal.exp (a : EReal) = ((Real.exp a : ℝ) : EReal) := rfl
theorem log_coe (a : ℝ) (h : 0 < a) : Ideal.log (a : EReal) = ((Real.log a : ℝ) : EReal) := by
  show (if a ≤ 0 then (⊥ : EReal) else ((Real.log a : ℝ) : EReal)) = _
  rw [if_neg (not_le.mpr h)]
theorem sum_coe {n : ℕ} (f : Fin n → ℝ) : (∑ x, (f x : EReal)) = ((∑ x, f x : ℝ) : EReal) := by
  induction n with
  | zero => simp
  | succ n ih => rw [Fin.sum_univ_succ, Fin.sum_univ_succ, ih, EReal.coe_add]
theorem coe_max (a b : ℝ) : ((max a b : ℝ) : EReal) = max (a : EReal) (b : EReal) :=
  (EReal.coe_strictMono.monotone.map_max)
theorem eight : (Ideal.ofBits .f32 0x41000000#32 : EReal) = ((8 : ℝ) : EReal) := by
  simp [Ideal.ofBits, Ideal.ieee]; rw [← EReal.coe_mul]; norm_num
theorem negInf : (Ideal.ofBits .f32 0xFF800000#32 : EReal) = ⊥ := by
  simp [Ideal.ofBits, Ideal.ieee]

/-! ## The real attention -/

/-- The arguments as real tensors. -/
structure Arg where
  (q k v oa ob ct : Fin 8192 → Fin 16 → Fin 64 → ℝ)
  (la lb : Fin 8192 → Fin 16 → ℝ)
  (sl : Fin 16 → ℝ)

namespace Arg
variable (A : Arg)

/-- A tensor of real numbers among the extended reals. -/
def up (t : Fin 8192 → Fin 16 → Fin 64 → ℝ) : Ten := fun n h e => (t n h e : EReal)
/-- The slopes among the extended reals. -/
def upS : Fin 16 → EReal := fun h => (A.sl h : EReal)

/-- A key lies within the radius of a query. -/
def near (i j : Fin 512) : Prop := (j.val - i.val) + (i.val - j.val) ≤ 64
instance (i j : Fin 512) : Decidable (near i j) := by unfold near; infer_instance

/-- The score of a query and a key within the radius. -/
def s (r h : Fin 16) (i j : Fin 512) : ℝ :=
  (∑ e : Fin 64, A.q (row r i) h e * A.k (row r j) h e) / 8 + -(A.sl h) * ((IntOp.muli (dlt i.val j.val) 16#32).toInt : ℝ)

theorem score_eq (r h : Fin 16) (i j : Fin 512) :
    score A.upS (up A.q) (up A.k) r h i j = if near i j then (A.s r h i j : EReal) else ⊥ := by
  unfold score
  rw [Cert.KernelIdeal.Win.near i.val j.val (by omega) (by omega), eight]
  have e : (∑ e : Fin 64, up A.q (row r i) h e * up A.k (row r j) h e : EReal) = ((∑ e : Fin 64, A.q (row r i) h e * A.k (row r j) h e : ℝ) : EReal) := by
    rw [← sum_coe]; exact Finset.sum_congr rfl fun x _ => (EReal.coe_mul _ _).symm
  rw [e, div_coe _ _ (by norm_num)]
  by_cases h1 : near i j
  · rw [if_pos h1]
    have : (decide (j.val - i.val + (i.val - j.val) ≤ 64)) = true := decide_eq_true h1
    rw [this]
    show (_ : EReal) + -((A.sl h : ℝ) : EReal) * (((IntOp.muli (dlt i.val j.val) 16#32).toInt : ℝ) : EReal) = _
    rw [← EReal.coe_neg, ← EReal.coe_mul, ← EReal.coe_add]; rfl
  · rw [if_neg h1]
    have : (decide (j.val - i.val + (i.val - j.val) ≤ 64)) = false := decide_eq_false h1
    rw [this]; rfl

theorem near_self (i : Fin 512) : near i i := by unfold near; omega

/-- The greatest score of a query. -/
def m (r h : Fin 16) (i : Fin 512) : ℝ := (top A.upS (up A.q) (up A.k) r h i).toReal
theorem top_eq (r h : Fin 16) (i : Fin 512) : top A.upS (up A.q) (up A.k) r h i = (A.m r h i : EReal) := by
  refine (EReal.coe_toReal ?_ ?_).symm
  · refine ne_of_lt (Finset.fold_max_lt _ |>.mpr ⟨bot_lt_top, fun x _ => ?_⟩)
    rw [score_eq]; split
    · exact EReal.coe_lt_top _
    · exact bot_lt_top
  · refine ne_of_gt (lt_of_lt_of_le (EReal.bot_lt_coe (A.s r h i i)) ?_)
    refine (Finset.le_fold_max _).mpr (Or.inr ⟨i, Finset.mem_univ _, ?_⟩)
    rw [score_eq, if_pos (near_self i)]

/-- The unnormalised weight of a key. -/
def p (r h : Fin 16) (i j : Fin 512) : ℝ := if near i j then Real.exp (A.s r h i j - A.m r h i) else 0
theorem wt_eq (r h : Fin 16) (i j : Fin 512) : wt A.upS (up A.q) (up A.k) r h i j = (A.p r h i j : EReal) := by
  unfold wt p
  rw [score_eq, top_eq]
  split
  · rw [← EReal.coe_sub, exp_coe]
  · rw [EReal.bot_sub]; rfl

/-- The sum of a query's weights. -/
def z (r h : Fin 16) (i : Fin 512) : ℝ := ∑ j, A.p r h i j
theorem p_nonneg (r h : Fin 16) (i j : Fin 512) : 0 ≤ A.p r h i j := by
  unfold p; split
  · exact (Real.exp_pos _).le
  · exact le_refl _
theorem z_pos (r h : Fin 16) (i : Fin 512) : 0 < A.z r h i := by
  refine Finset.sum_pos' (fun j _ => A.p_nonneg r h i j) ⟨i, Finset.mem_univ _, ?_⟩
  unfold p; rw [if_pos (near_self i)]; exact Real.exp_pos _
theorem tot_eq (r h : Fin 16) (i : Fin 512) : tot A.upS (up A.q) (up A.k) r h i = (A.z r h i : EReal) := by
  unfold tot z; rw [← sum_coe]; exact Finset.sum_congr rfl fun j _ => A.wt_eq r h i j

/-- The weighted values, not yet divided. -/
def pv (r h : Fin 16) (i : Fin 512) (e : Fin 64) : ℝ := ∑ j, A.p r h i j * A.v (row r j) h e
theorem wv_eq (r h : Fin 16) (i : Fin 512) (e : Fin 64) : wv A.upS (up A.q) (up A.k) (up A.v) r h i e = (A.pv r h i e : EReal) := by
  unfold wv pv; rw [← sum_coe]
  refine Finset.sum_congr rfl fun j _ => ?_
  rw [wt_eq, EReal.coe_mul]; rfl

/-- The group's log-denominator. -/
def lc (r h : Fin 16) (i : Fin 512) : ℝ := A.m r h i + Real.log (A.z r h i)
theorem lden_eq (r h : Fin 16) (i : Fin 512) : lden A.upS (up A.q) (up A.k) r h i = (A.lc r h i : EReal) := by
  unfold lden lc; rw [top_eq, tot_eq, log_coe _ (A.z_pos r h i), EReal.coe_add]

/-- The three groups' log-denominators, their maximum, weights and the weights' sum. -/
def l3 (r h : Fin 16) (i : Fin 512) : Fin 3 → ℝ := ![A.la (row r i) h, A.lb (row r i) h, A.lc r h i]
def mx (r h : Fin 16) (i : Fin 512) : ℝ := max (max (A.la (row r i) h) (A.lb (row r i) h)) (A.lc r h i)
def e3 (r h : Fin 16) (i : Fin 512) (g : Fin 3) : ℝ := Real.exp (A.l3 r h i g - A.mx r h i)
def den (r h : Fin 16) (i : Fin 512) : ℝ := ∑ g, A.e3 r h i g
theorem den_pos (r h : Fin 16) (i : Fin 512) : 0 < A.den r h i :=
  Finset.sum_pos (fun _ _ => Real.exp_pos _) ⟨0, Finset.mem_univ _⟩

/-- The three groups' outputs, and the gradient's product with each. -/
def o3 (r h : Fin 16) (i : Fin 512) (e : Fin 64) : Fin 3 → ℝ :=
  ![A.oa (row r i) h e, A.ob (row r i) h e, A.pv r h i e / A.z r h i]
def D (r h : Fin 16) (i : Fin 512) (g : Fin 3) : ℝ := ∑ e, A.ct (row r i) h e * A.o3 r h i e g

/-- The merged output. -/
def o (r h : Fin 16) (i : Fin 512) (e : Fin 64) : ℝ := (∑ g, A.e3 r h i g * A.o3 r h i e g) / A.den r h i

/-- The merged weight of a key. -/
def P (r h : Fin 16) (i j : Fin 512) : ℝ :=
  if near i j then Real.exp (A.s r h i j - (A.mx r h i + Real.log (A.den r h i))) else 0
/-- The gradient of a score. -/
def ds (r h : Fin 16) (i j : Fin 512) : ℝ :=
  A.P r h i j * ((∑ e, A.ct (row r i) h e * A.v (row r j) h e) - ∑ e, A.ct (row r i) h e * A.o r h i e)

/-- The group's output gradient, and its log-denominator's gradient through the merging weights. -/
def dO (r h : Fin 16) (i : Fin 512) (e : Fin 64) : ℝ := A.e3 r h i 2 / A.den r h i * A.ct (row r i) h e
def dl (r h : Fin 16) (i : Fin 512) (g : Fin 3) : ℝ :=
  (A.D r h i g / A.den r h i + -∑ g, A.D r h i g * (1 / (A.den r h i * A.den r h i)) * A.e3 r h i g) * A.e3 r h i g
/-- The gradient of a score as the chain rule gives it, before the maximum's own gradient. -/
def dp (r h : Fin 16) (i j : Fin 512) : ℝ :=
  ((∑ e, A.dO r h i e / A.z r h i * A.v (row r j) h e)
    + (A.dl r h i 2 / A.z r h i + -∑ e, A.dO r h i e * (1 / (A.z r h i * A.z r h i)) * A.pv r h i e)) * A.p r h i j

/-- The merged weight is the group's own weight times the group's share. -/
theorem P_eq (r h : Fin 16) (i j : Fin 512) :
    A.P r h i j = A.p r h i j / A.z r h i * (A.e3 r h i 2 / A.den r h i) := by
  unfold P p
  split
  · have hz := A.z_pos r h i; have hd := A.den_pos r h i
    have e1 : A.e3 r h i 2 = Real.exp (A.m r h i) * A.z r h i * Real.exp (-A.mx r h i) := by
      show Real.exp (A.m r h i + Real.log (A.z r h i) - A.mx r h i) = _
      rw [sub_eq_add_neg, Real.exp_add, Real.exp_add, Real.exp_log hz]
    have e2 : Real.exp (A.s r h i j - (A.mx r h i + Real.log (A.den r h i))) = Real.exp (A.s r h i j) * Real.exp (-A.mx r h i) / A.den r h i := by
      rw [show A.s r h i j - (A.mx r h i + Real.log (A.den r h i)) = A.s r h i j + -A.mx r h i - Real.log (A.den r h i) by ring,
        Real.exp_sub, Real.exp_add, Real.exp_log hd]
    have e3' : Real.exp (A.s r h i j - A.m r h i) * Real.exp (A.m r h i) = Real.exp (A.s r h i j) := by
      rw [← Real.exp_add]; congr 1; ring
    rw [e1, e2, ← e3']
    field_simp
  · simp

/-- The gradient's product with the merged output, group by group. -/
theorem ct_o (r h : Fin 16) (i : Fin 512) :
    ∑ e, A.ct (row r i) h e * A.o r h i e = (∑ g, A.D r h i g * A.e3 r h i g) / A.den r h i := by
  unfold o D
  simp only [Fin.sum_univ_three, Finset.sum_mul, Finset.sum_div, ← Finset.sum_add_distrib]
  refine Finset.sum_congr rfl fun e _ => ?_
  ring

/-- The chain rule's form is the gradient of a score. -/
theorem dp_eq (r h : Fin 16) (i j : Fin 512) : A.dp r h i j = A.ds r h i j := by
  have hz := (A.z_pos r h i).ne'; have hd := (A.den_pos r h i).ne'
  unfold dp ds
  rw [P_eq, ct_o]
  have a1 : (∑ e, A.dO r h i e / A.z r h i * A.v (row r j) h e) = A.e3 r h i 2 / A.den r h i / A.z r h i * ∑ e, A.ct (row r i) h e * A.v (row r j) h e := by
    rw [Finset.mul_sum]; refine Finset.sum_congr rfl fun e _ => ?_
    unfold dO; ring
  have a2 : (∑ e, A.dO r h i e * (1 / (A.z r h i * A.z r h i)) * A.pv r h i e) = A.e3 r h i 2 / A.den r h i / A.z r h i * A.D r h i 2 := by
    unfold D; rw [Finset.mul_sum]; refine Finset.sum_congr rfl fun e _ => ?_
    show _ = _ * (_ * (A.pv r h i e / A.z r h i))
    unfold dO; field_simp
  have a3 : (∑ g, A.D r h i g * (1 / (A.den r h i * A.den r h i)) * A.e3 r h i g) = (∑ g, A.D r h i g * A.e3 r h i g) / (A.den r h i * A.den r h i) := by
    rw [Finset.sum_div]; refine Finset.sum_congr rfl fun e _ => ?_
    ring
  rw [a1, a2]
  unfold dl
  rw [a3]
  field_simp
  ring

/-- The maximum's own gradient is zero. -/
theorem dp_sum (r h : Fin 16) (i : Fin 512) : A.dl r h i 2 + ∑ j, -A.dp r h i j = 0 := by
  have hz := (A.z_pos r h i).ne'; have hd := (A.den_pos r h i).ne'
  have b1 : ∑ j, A.p r h i j * (∑ e, A.dO r h i e / A.z r h i * A.v (row r j) h e) = ∑ e, A.dO r h i e / A.z r h i * A.pv r h i e := by
    simp only [Finset.mul_sum, pv]
    rw [Finset.sum_comm]
    refine Finset.sum_congr rfl fun e _ => Finset.sum_congr rfl fun j _ => ?_
    ring
  have b2 : (∑ e, A.dO r h i e * (1 / (A.z r h i * A.z r h i)) * A.pv r h i e) = (∑ e, A.dO r h i e / A.z r h i * A.pv r h i e) / A.z r h i := by
    rw [Finset.sum_div]; refine Finset.sum_congr rfl fun e _ => ?_
    field_simp
  have b3 : ∑ j, A.dp r h i j = A.dl r h i 2 := by
    have : ∀ j, A.dp r h i j = A.p r h i j * (∑ e, A.dO r h i e / A.z r h i * A.v (row r j) h e) + A.p r h i j * (A.dl r h i 2 / A.z r h i + -∑ e, A.dO r h i e * (1 / (A.z r h i * A.z r h i)) * A.pv r h i e) := fun j => by unfold dp; ring
    simp only [this]
    rw [Finset.sum_add_distrib, b1, b2, ← Finset.sum_mul]
    show _ + A.z r h i * _ = _
    field_simp
    ring
  rw [Finset.sum_neg_distrib, b3]; ring

/-- A score outside the radius has no gradient. -/
theorem dp_far (r h : Fin 16) (i j : Fin 512) (hn : ¬ near i j) : A.dp r h i j = 0 := by
  rw [dp_eq]; unfold ds P; rw [if_neg hn, zero_mul]

/-! ## The gradients -/

/-- The queries', keys' and values' gradients. -/
def dq (r h : Fin 16) (i : Fin 512) (e : Fin 64) : ℝ := (∑ j, A.ds r h i j * A.k (row r j) h e) / 8
def dk (r h : Fin 16) (j : Fin 512) (e : Fin 64) : ℝ := (∑ i, A.ds r h i j * A.q (row r i) h e) / 8
def dv (r h : Fin 16) (j : Fin 512) (e : Fin 64) : ℝ := ∑ i, A.P r h i j * A.ct (row r i) h e

end Arg
end Cert.Spec
end
-- ==== Proof.Rd.lean ====
module

public import proofs.«01_k».proof.Proof.Row
public import proofs.«01_k».proof.Proof.Gen.ReferenceIdeal.Run

@[expose] public section
set_option maxRecDepth 16384
noncomputable section

/-! The reference's composed terms, read at an index. -/

namespace Cert.ReferenceIdeal.Rd
open Idealize.ShloMosaic Idealize.ShloMosaic.TcCoe Idealize.ShloMosaic.Tactic Idealize.SL.Sem
open Cert.ReferenceIdeal Cert.ReferenceIdeal.Gen Cert.ReferenceIdeal.Value Cert.Spec Cert.KernelIdeal.Win
variable (V0 : Valuation τ sig (Elt Ideal))

/-- The arguments as tensors of positions, heads and head entries. -/
def Q : Ten := fun n h e => (V0 (Proc.devRef .tc main_arg0) : FVec Ideal S8192x16x64 .f32) (ix3 n h e)
def K : Ten := fun n h e => (V0 (Proc.devRef .tc main_arg1) : FVec Ideal S8192x16x64 .f32) (ix3 n h e)
def W : Ten := fun n h e => (V0 (Proc.devRef .tc main_arg2) : FVec Ideal S8192x16x64 .f32) (ix3 n h e)
def OA : Ten := fun n h e => (V0 (Proc.devRef .tc main_arg3) : FVec Ideal S8192x16x64 .f32) (ix3 n h e)
def LA (n : Fin 8192) (h : Fin 16) : EReal := (V0 (Proc.devRef .tc main_arg4) : FVec Ideal S8192x16 .f32) (ix2 n h)
def OB : Ten := fun n h e => (V0 (Proc.devRef .tc main_arg5) : FVec Ideal S8192x16x64 .f32) (ix3 n h e)
def LB (n : Fin 8192) (h : Fin 16) : EReal := (V0 (Proc.devRef .tc main_arg6) : FVec Ideal S8192x16 .f32) (ix2 n h)
def CT : Ten := fun n h e => (V0 (Proc.devRef .tc main_arg7) : FVec Ideal S8192x16x64 .f32) (ix3 n h e)
/-- The heads' slopes. -/
def SL (h : Fin 16) : EReal := Ideal.ofBits .f32 (lit0 (S16.rowMajor (ix1 h)))

theorem v1_at (r h : Fin 16) (i : Fin 512) (e : Fin 64) :
    (res_main_v1 (F := Ideal) V0 (ix4 r h i e) : EReal) = Q V0 (row r i) h e := by
  unfold res_main_v1; pointwise; rfl
theorem v3_at (r h : Fin 16) (i : Fin 512) (e : Fin 64) :
    (res_main_v3 (F := Ideal) V0 (ix4 r h i e) : EReal) = K V0 (row r i) h e := by
  unfold res_main_v3; pointwise; rfl
theorem v5_at (r h : Fin 16) (i : Fin 512) (e : Fin 64) :
    (res_main_v5 (F := Ideal) V0 (ix4 r h i e) : EReal) = W V0 (row r i) h e := by
  unfold res_main_v5; pointwise; rfl

theorem v12_at (i j : Fin 512) : (res_main_v12 (F := Ideal) V0 (ix2 i j) : BitVec 32) = dlt i.val j.val := by
  unfold res_main_v12; pointwise; rfl
theorem v27_1_at (r h : Fin 16) (i j : Fin 512) :
    (res_main_v27_1 (F := Ideal) V0 (ix4 r h i j) : BitVec 1) = IntOp.cmpi .sle (dlt i.val j.val) 64#32 := by
  unfold res_main_v27_1; pointwise; rw [v12_at]

theorem v27_at (r h : Fin 16) (i j : Fin 512) :
    (res_main_v27_0 (F := Ideal) V0 (ix4 r h i j) : EReal) = score (SL) (Q V0) (K V0) r h i j := by
  unfold res_main_v27_0
  have ha := v1_at V0; have hb := v3_at V0
  generalize res_main_v1 V0 = a at ha
  generalize res_main_v3 V0 = b at hb
  pointwise
  rw [v27_1_at, v12_at]
  simp only [ha, hb]
  unfold score
  rw [← negInf]
  rfl

theorem v28_at (r h : Fin 16) (i : Fin 512) :
    (res_main_v28 (F := Ideal) V0 (ix3 r h i) : EReal) = top (SL) (Q V0) (K V0) r h i := by
  unfold res_main_v28
  have ha := v27_at V0
  generalize res_main_v27_0 V0 = a at ha
  pointwise
  rw [negInf]
  unfold top
  refine (Shape.ReducesTo.fold_fiber_r4_a3 reducesTo_S16x16x512x512_S16x16x512_d3 (ix3 r h i) (max : EReal → EReal → EReal) ⊥ _).trans ?_
  exact congrArg (fun f => Finset.fold (max : EReal → EReal → EReal) ⊥ f Finset.univ) (funext fun k => ha r h i k)

theorem v37_at (r h : Fin 16) (i j : Fin 512) :
    (res_main_v37 (F := Ideal) V0 (ix4 r h i j) : EReal) = wt (SL) (Q V0) (K V0) r h i j := by
  unfold res_main_v37 res_main_v34
  have ha := v27_at V0; have hb := v28_at V0
  generalize res_main_v27_0 V0 = a at ha
  generalize res_main_v28 V0 = b at hb
  pointwise
  rw [ha, hb]
  rfl

theorem v39_at (r h : Fin 16) (i : Fin 512) (u : Fin 1) :
    (res_main_v39 (F := Ideal) V0 (ix4 r h i u) : EReal) = tot (SL) (Q V0) (K V0) r h i := by
  unfold res_main_v39
  have ha := v37_at V0
  generalize res_main_v37 V0 = a at ha
  pointwise
  simp only [ha]
  rfl

theorem v40_at (r h : Fin 16) (i : Fin 512) (e : Fin 64) :
    (res_main_v40 (F := Ideal) V0 (ix4 r h i e) : EReal) = wv (SL) (Q V0) (K V0) (W V0) r h i e := by
  unfold res_main_v40
  have ha := v37_at V0; have hb := v5_at V0
  generalize res_main_v37 V0 = a at ha
  generalize res_main_v5 V0 = b at hb
  pointwise
  simp only [ha, hb]
  rfl

/-- Three columns side by side, read at each. -/
theorem cat_at0 (x y z : (⟨S8192x16x1, .f32⟩ : BufTy).Contents (Elt Ideal)) (n : Fin 8192) (h : Fin 16) :
    (concatenate S8192x16x3 2 [⟨S8192x16x1, x⟩, ⟨S8192x16x1, y⟩, ⟨S8192x16x1, z⟩] concatenates_S8192x16x1_S8192x16x1_S8192x16x1_S8192x16x3_d2 : (⟨S8192x16x3, .f32⟩ : BufTy).Contents (Elt Ideal)) (ix3 n h 0) = x (ix3 n h 0) := by
  pointwise
theorem cat_at1 (x y z : (⟨S8192x16x1, .f32⟩ : BufTy).Contents (Elt Ideal)) (n : Fin 8192) (h : Fin 16) :
    (concatenate S8192x16x3 2 [⟨S8192x16x1, x⟩, ⟨S8192x16x1, y⟩, ⟨S8192x16x1, z⟩] concatenates_S8192x16x1_S8192x16x1_S8192x16x1_S8192x16x3_d2 : (⟨S8192x16x3, .f32⟩ : BufTy).Contents (Elt Ideal)) (ix3 n h 1) = y (ix3 n h 0) := by
  pointwise
theorem cat_at2 (x y z : (⟨S8192x16x1, .f32⟩ : BufTy).Contents (Elt Ideal)) (n : Fin 8192) (h : Fin 16) :
    (concatenate S8192x16x3 2 [⟨S8192x16x1, x⟩, ⟨S8192x16x1, y⟩, ⟨S8192x16x1, z⟩] concatenates_S8192x16x1_S8192x16x1_S8192x16x1_S8192x16x3_d2 : (⟨S8192x16x3, .f32⟩ : BufTy).Contents (Elt Ideal)) (ix3 n h 2) = z (ix3 n h 0) := by
  pointwise
/-- The sub-sequences' rows put back in place. -/
theorem back_at (x : (⟨S16x16x512x1, .f32⟩ : BufTy).Contents (Elt Ideal)) (n : Fin 8192) (h : Fin 16) (u : Fin 1) :
    (broadcastInDim S8192x16x1 ![0, 1] bcast_S8192x16_S8192x16x1_0_1 (shapeCast S8192x16 (transpose S512x16x16 [2, 0, 1] (shapeCast S16x16x512 x shapeCasts_S16x16x512x1_S16x16x512) transposes_S16x16x512_S512x16x16_2_0_1) shapeCasts_S512x16x16_S8192x16) : (⟨S8192x16x1, .f32⟩ : BufTy).Contents (Elt Ideal)) (ix3 n h u)
      = x (ix4 ⟨n.val % 16, by omega⟩ h ⟨n.val / 16, by omega⟩ 0) := by
  pointwise

theorem v56_at0 (n : Fin 8192) (h : Fin 16) : (res_main_v56 (F := Ideal) V0 (ix3 n h 0) : EReal) = LA V0 n h := by
  unfold res_main_v56
  refine (cat_at0 _ _ _ n h).trans ?_
  pointwise; rfl
theorem v56_at1 (n : Fin 8192) (h : Fin 16) : (res_main_v56 (F := Ideal) V0 (ix3 n h 1) : EReal) = LB V0 n h := by
  unfold res_main_v56
  refine (cat_at1 _ _ _ n h).trans ?_
  pointwise; rfl
theorem lse_gen (a : FVec Ideal S16x16x512x1 .f32) (b : FVec Ideal S16x16x512 .f32) (r h : Fin 16) (i : Fin 512) (u : Fin 1) :
   (addf (broadcastInDim S16x16x512x1 ![0, 1, 2] bcast_S16x16x512_S16x16x512x1_0_1_2 b) (Host.log a) : FVec Ideal S16x16x512x1 .f32) (ix4 r h i u) = (b (ix3 r h i) + Ideal.log (a (ix4 r h i u)) : EReal) := by
  pointwise
theorem lse_at (r h : Fin 16) (i : Fin 512) (u : Fin 1) : (addf (res_main_v34 V0) (Host.log (res_main_v39 V0)) : FVec Ideal S16x16x512x1 .f32) (ix4 r h i u) = lden SL (Q V0) (K V0) r h i := by
  unfold res_main_v34 lden
  refine (lse_gen _ _ r h i u).trans ?_
  exact congr (congrArg HAdd.hAdd (v28_at V0 r h i)) (congrArg Ideal.log (v39_at V0 r h i u))
theorem v56_at2 (r h : Fin 16) (i : Fin 512) : (res_main_v56 (F := Ideal) V0 (ix3 (row r i) h 2) : EReal) = lden (SL) (Q V0) (K V0) r h i := by
  unfold res_main_v56
  refine (cat_at2 _ _ _ _ h).trans ((back_at _ _ _ _).trans ?_)
  rw [row_sub, row_pos]
  exact lse_at V0 r h i 0

theorem fold3 (f : Fin 3 → EReal) : Finset.univ.fold max ⊥ f = max (max (f 0) (f 1)) (f 2) := by
  have : (Finset.univ : Finset (Fin 3)) = {0, 1, 2} := by decide
  rw [this, Finset.fold_insert (by decide), Finset.fold_insert (by decide), Finset.fold_singleton, max_bot_right, max_assoc]

theorem v59_at (n : Fin 8192) (h : Fin 16) : (res_main_v59 (F := Ideal) V0 (ix2 n h) : EReal) = (max : EReal → EReal → EReal) ((max : EReal → EReal → EReal) (res_main_v56 (F := Ideal) V0 (ix3 n h 0)) (res_main_v56 (F := Ideal) V0 (ix3 n h 1))) (res_main_v56 (F := Ideal) V0 (ix3 n h 2)) := by
  unfold res_main_v59
  generalize res_main_v56 V0 = a
  pointwise
  rw [negInf]
  refine (Shape.ReducesTo.fold_fiber_r3_a2 reducesTo_S8192x16x3_S8192x16_d2 (ix2 n h) (max : EReal → EReal → EReal) ⊥ _).trans ?_
  exact fold3 _

/-- Three outputs side by side, read at each. -/
theorem cats_at0 (x y z : (⟨S8192x16x1x64, .f32⟩ : BufTy).Contents (Elt Ideal)) (n : Fin 8192) (h : Fin 16) (e : Fin 64) :
    (concatenate S8192x16x3x64 2 [⟨S8192x16x1x64, x⟩, ⟨S8192x16x1x64, y⟩, ⟨S8192x16x1x64, z⟩] concatenates_S8192x16x1x64_S8192x16x1x64_S8192x16x1x64_S8192x16x3x64_d2 : (⟨S8192x16x3x64, .f32⟩ : BufTy).Contents (Elt Ideal)) (ix4 n h 0 e) = x (ix4 n h 0 e) := by
  pointwise
theorem cats_at1 (x y z : (⟨S8192x16x1x64, .f32⟩ : BufTy).Contents (Elt Ideal)) (n : Fin 8192) (h : Fin 16) (e : Fin 64) :
    (concatenate S8192x16x3x64 2 [⟨S8192x16x1x64, x⟩, ⟨S8192x16x1x64, y⟩, ⟨S8192x16x1x64, z⟩] concatenates_S8192x16x1x64_S8192x16x1x64_S8192x16x1x64_S8192x16x3x64_d2 : (⟨S8192x16x3x64, .f32⟩ : BufTy).Contents (Elt Ideal)) (ix4 n h 1 e) = y (ix4 n h 0 e) := by
  pointwise
theorem cats_at2 (x y z : (⟨S8192x16x1x64, .f32⟩ : BufTy).Contents (Elt Ideal)) (n : Fin 8192) (h : Fin 16) (e : Fin 64) :
    (concatenate S8192x16x3x64 2 [⟨S8192x16x1x64, x⟩, ⟨S8192x16x1x64, y⟩, ⟨S8192x16x1x64, z⟩] concatenates_S8192x16x1x64_S8192x16x1x64_S8192x16x1x64_S8192x16x3x64_d2 : (⟨S8192x16x3x64, .f32⟩ : BufTy).Contents (Elt Ideal)) (ix4 n h 2 e) = z (ix4 n h 0 e) := by
  pointwise
/-- The sub-sequences' outputs put back in place. -/
theorem backs_at (x : (⟨S16x16x512x64, .f32⟩ : BufTy).Contents (Elt Ideal)) (n : Fin 8192) (h : Fin 16) (u : Fin 1) (e : Fin 64) :
    (broadcastInDim S8192x16x1x64 ![0, 1, 3] bcast_S8192x16x64_S8192x16x1x64_0_1_3 (shapeCast S8192x16x64 (transpose S512x16x16x64 [2, 0, 1, 3] x transposes_S16x16x512x64_S512x16x16x64_2_0_1_3) shapeCasts_S512x16x16x64_S8192x16x64) : (⟨S8192x16x1x64, .f32⟩ : BufTy).Contents (Elt Ideal)) (ix4 n h u e)
      = x (ix4 ⟨n.val % 16, by omega⟩ h ⟨n.val / 16, by omega⟩ e) := by
  pointwise

theorem v91_at0 (n : Fin 8192) (h : Fin 16) (e : Fin 64) : (res_main_v91 (F := Ideal) V0 (ix4 n h 0 e) : EReal) = OA V0 n h e := by
  unfold res_main_v91
  refine (cats_at0 _ _ _ n h e).trans ?_
  pointwise; rfl
theorem v91_at1 (n : Fin 8192) (h : Fin 16) (e : Fin 64) : (res_main_v91 (F := Ideal) V0 (ix4 n h 1 e) : EReal) = OB V0 n h e := by
  unfold res_main_v91
  refine (cats_at1 _ _ _ n h e).trans ?_
  pointwise; rfl
theorem out_at (r h : Fin 16) (i : Fin 512) (e : Fin 64) : (Host.divf (res_main_v40 V0) (broadcastInDim S16x16x512x64 ![0, 1, 2, 3] bcast_S16x16x512x1_S16x16x512x64_0_1_2_3 (res_main_v39 V0)) : (⟨S16x16x512x64, .f32⟩ : BufTy).Contents (Elt Ideal)) (ix4 r h i e) = Ideal.div (wv SL (Q V0) (K V0) (W V0) r h i e) (tot SL (Q V0) (K V0) r h i) := by
  have ha := v39_at V0; have hb := v40_at V0
  generalize res_main_v39 V0 = b at ha
  generalize res_main_v40 V0 = c at hb
  pointwise
  rw [ha, hb]
theorem v91_at2 (r h : Fin 16) (i : Fin 512) (e : Fin 64) : (res_main_v91 (F := Ideal) V0 (ix4 (row r i) h 2 e) : EReal) = Ideal.div (wv SL (Q V0) (K V0) (W V0) r h i e) (tot SL (Q V0) (K V0) r h i) := by
  unfold res_main_v91
  refine (cats_at2 _ _ _ _ h e).trans ((backs_at _ _ _ _ _).trans ?_)
  rw [row_sub, row_pos]
  exact out_at V0 r h i e
theorem v97_at (n : Fin 8192) (h : Fin 16) (g : Fin 3) (e : Fin 64) : (res_main_v97 (F := Ideal) V0 (ix4 n h g e) : EReal) = CT V0 n h e := by
  unfold res_main_v97
  pointwise
  rfl

/-! ## At finite arguments -/

/-- The arguments hold the real tensors of `A`. -/
structure Holds (A : Arg) : Prop where
  q : Q V0 = Arg.up A.q
  k : K V0 = Arg.up A.k
  v : W V0 = Arg.up A.v
  oa : OA V0 = Arg.up A.oa
  ob : OB V0 = Arg.up A.ob
  ct : CT V0 = Arg.up A.ct
  la : ∀ n h, LA V0 n h = (A.la n h : EReal)
  lb : ∀ n h, LB V0 n h = (A.lb n h : EReal)
  sl : SL = A.upS

variable {V0} {A : Arg} (H : Holds V0 A)
include H

theorem r1 (r h : Fin 16) (i : Fin 512) (e : Fin 64) : (res_main_v1 (F := Ideal) V0 (ix4 r h i e) : EReal) = (A.q (row r i) h e : EReal) := by
  rw [v1_at, H.q]; rfl
theorem r3 (r h : Fin 16) (i : Fin 512) (e : Fin 64) : (res_main_v3 (F := Ideal) V0 (ix4 r h i e) : EReal) = (A.k (row r i) h e : EReal) := by
  rw [v3_at, H.k]; rfl
theorem r5 (r h : Fin 16) (i : Fin 512) (e : Fin 64) : (res_main_v5 (F := Ideal) V0 (ix4 r h i e) : EReal) = (A.v (row r i) h e : EReal) := by
  rw [v5_at, H.v]; rfl
theorem r37 (r h : Fin 16) (i j : Fin 512) : (res_main_v37 (F := Ideal) V0 (ix4 r h i j) : EReal) = (A.p r h i j : EReal) := by
  rw [v37_at, H.q, H.k, H.sl, A.wt_eq]
theorem r39 (r h : Fin 16) (i : Fin 512) (u : Fin 1) : (res_main_v39 (F := Ideal) V0 (ix4 r h i u) : EReal) = (A.z r h i : EReal) := by
  rw [v39_at, H.q, H.k, H.sl, A.tot_eq]
theorem r40 (r h : Fin 16) (i : Fin 512) (e : Fin 64) : (res_main_v40 (F := Ideal) V0 (ix4 r h i e) : EReal) = (A.pv r h i e : EReal) := by
  rw [v40_at, H.q, H.k, H.v, H.sl, A.wv_eq]
theorem r56 (r h : Fin 16) (i : Fin 512) (g : Fin 3) : (res_main_v56 (F := Ideal) V0 (ix3 (row r i) h g) : EReal) = (A.l3 r h i g : EReal) := by
  match g with
  | 0 => rw [v56_at0, H.la]; rfl
  | 1 => rw [v56_at1, H.lb]; rfl
  | 2 => rw [v56_at2, H.q, H.k, H.sl, A.lden_eq]; rfl
theorem r59 (r h : Fin 16) (i : Fin 512) : (res_main_v59 (F := Ideal) V0 (ix2 (row r i) h) : EReal) = (A.mx r h i : EReal) := by
  rw [v59_at, r56 H, r56 H, r56 H]
  unfold Arg.mx
  rw [coe_max, coe_max]; rfl
theorem r79 (r h : Fin 16) (i : Fin 512) (g : Fin 3) : (res_main_v79 (F := Ideal) V0 (ix3 (row r i) h g) : EReal) = (A.e3 r h i g : EReal) := by
  unfold res_main_v79
  have ha := r56 H; have hb := r59 H
  generalize res_main_v56 V0 = a at ha
  generalize res_main_v59 V0 = b at hb
  pointwise
  rw [ha, hb, negInf, max_bot_left]
  unfold Arg.e3
  rw [← EReal.coe_sub, exp_coe]
theorem r81 (r h : Fin 16) (i : Fin 512) (u : Fin 1) : (res_main_v81 (F := Ideal) V0 (ix3 (row r i) h u) : EReal) = (A.den r h i : EReal) := by
  unfold res_main_v81
  have ha := r79 H
  generalize res_main_v79 V0 = a at ha
  pointwise
  simp only [ha]
  exact sum_coe _
theorem r87 (r h : Fin 16) (i : Fin 512) (g : Fin 3) (u : Fin 1) : (res_main_v87 (F := Ideal) V0 (ix4 (row r i) h g u) : EReal) = ((A.e3 r h i g / A.den r h i : ℝ) : EReal) := by
  unfold res_main_v87
  have ha := r79 H; have hb := r81 H
  generalize res_main_v79 V0 = a at ha
  generalize res_main_v81 V0 = b at hb
  pointwise
  rw [ha, hb, div_coe _ _ (A.den_pos r h i).ne']
theorem r91 (r h : Fin 16) (i : Fin 512) (g : Fin 3) (e : Fin 64) : (res_main_v91 (F := Ideal) V0 (ix4 (row r i) h g e) : EReal) = (A.o3 r h i e g : EReal) := by
  match g with
  | 0 => rw [v91_at0, H.oa]; rfl
  | 1 => rw [v91_at1, H.ob]; rfl
  | 2 => rw [v91_at2, H.q, H.k, H.v, H.sl, A.wv_eq, A.tot_eq, div_coe _ _ (A.z_pos r h i).ne']; rfl
theorem r97 (r h : Fin 16) (i : Fin 512) (g : Fin 3) (e : Fin 64) : (res_main_v97 (F := Ideal) V0 (ix4 (row r i) h g e) : EReal) = (A.ct (row r i) h e : EReal) := by
  rw [v97_at, H.ct]; rfl
theorem r99 (r h : Fin 16) (i : Fin 512) (g : Fin 3) (e : Fin 64) : (res_main_v99 (F := Ideal) V0 (ix4 (row r i) h g e) : EReal) = ((A.e3 r h i g / A.den r h i * A.ct (row r i) h e : ℝ) : EReal) := by
  unfold res_main_v99
  have ha := r87 H; have hb := r97 H
  generalize res_main_v87 V0 = a at ha
  generalize res_main_v97 V0 = b at hb
  pointwise
  rw [ha, hb, EReal.coe_mul]
theorem r109 (r h : Fin 16) (i : Fin 512) (g : Fin 3) : (res_main_v109 (F := Ideal) V0 (ix3 (row r i) h g) : EReal) = (A.D r h i g : EReal) := by
  unfold res_main_v109
  have ha := r91 H; have hb := r97 H
  generalize res_main_v91 V0 = a at ha
  generalize res_main_v97 V0 = b at hb
  pointwise
  simp only [ha, hb, ← EReal.coe_mul, sum_coe]
  rw [Fin.sum_univ_one]; rfl
theorem r121 (r h : Fin 16) (i : Fin 512) (g : Fin 3) : (res_main_v121 (F := Ideal) V0 (ix3 (row r i) h g) : EReal) = (A.dl r h i g : EReal) := by
  unfold res_main_v121
  have ha := r109 H; have hb := r81 H; have hc := r79 H
  generalize res_main_v109 V0 = a at ha
  generalize res_main_v81 V0 = b at hb
  generalize res_main_v79 V0 = c at hc
  pointwise
  have hd := (A.den_pos r h i).ne'
  simp only [ha, hb, hc, ← EReal.coe_mul, ← EReal.coe_one]
  simp only [div_coe _ _ hd, div_coe _ _ (mul_ne_zero hd hd), ← EReal.coe_mul, sum_coe, ← EReal.coe_neg, ← EReal.coe_add]
  rw [Fin.sum_univ_one]; rfl
theorem r131 (r h : Fin 16) (i : Fin 512) (e : Fin 64) : (res_main_v131 (F := Ideal) V0 (ix4 r h i e) : EReal) = (A.dO r h i e : EReal) := by
  unfold res_main_v131
  have ha := r99 H
  generalize res_main_v99 V0 = a at ha
  pointwise
  exact ha r h i 2 e
theorem r132 (r h : Fin 16) (i : Fin 512) (u : Fin 1) : (res_main_v132 (F := Ideal) V0 (ix4 r h i u) : EReal) = (A.dl r h i 2 : EReal) := by
  unfold res_main_v132
  have ha := r121 H
  generalize res_main_v121 V0 = a at ha
  pointwise
  exact ha r h i 2
theorem r142 (r h : Fin 16) (i : Fin 512) (e : Fin 64) : (res_main_v142 (F := Ideal) V0 (ix4 r h i e) : EReal) = ((A.dO r h i e / A.z r h i : ℝ) : EReal) := by
  unfold res_main_v142
  have ha := r131 H; have hb := r39 H
  generalize res_main_v131 V0 = a at ha
  generalize res_main_v39 V0 = b at hb
  pointwise
  rw [ha, hb, div_coe _ _ (A.z_pos r h i).ne']
theorem r149 (r h : Fin 16) (i j : Fin 512) : (res_main_v149 (F := Ideal) V0 (ix4 r h i j) : EReal) = (A.dp r h i j : EReal) := by
  unfold res_main_v149
  have h1 := r142 H; have h2 := r131 H; have h3 := r132 H; have h4 := r37 H; have h5 := r39 H; have h6 := r40 H; have h7 := r5 H
  generalize res_main_v142 V0 = a1 at h1
  generalize res_main_v131 V0 = a2 at h2
  generalize res_main_v132 V0 = a3 at h3
  generalize res_main_v37 V0 = a4 at h4
  generalize res_main_v39 V0 = a5 at h5
  generalize res_main_v40 V0 = a6 at h6
  generalize res_main_v5 V0 = a7 at h7
  pointwise
  have hd := (A.z_pos r h i).ne'
  simp only [h1, h2, h3, h4, h5, h6, h7, ← EReal.coe_mul, ← EReal.coe_one]
  simp only [div_coe _ _ hd, div_coe _ _ (mul_ne_zero hd hd), ← EReal.coe_mul, sum_coe, ← EReal.coe_neg, ← EReal.coe_add]
  rw [Fin.sum_univ_one]; rfl

omit H in
/-- Whether a score is its query's greatest, as a number: zero or one. -/
theorem v32_at (r h : Fin 16) (i j : Fin 512) : (res_main_v32 (F := Ideal) V0 (ix4 r h i j) : EReal) = ((0 : ℝ) : EReal) ∨ (res_main_v32 (F := Ideal) V0 (ix4 r h i j) : EReal) = ((1 : ℝ) : EReal) := by
  unfold res_main_v32
  generalize res_main_v27_0 V0 = a
  generalize res_main_v28 V0 = c
  pointwise
  by_cases hx : a (ix4 r h i j) = c (ix3 r h i)
  · right; rw [decide_eq_true hx]; show ((((1 : ℕ) : ℝ)) : EReal) = _; norm_num
  · left; rw [decide_eq_false hx]; show ((((0 : ℕ) : ℝ)) : EReal) = _; norm_num

omit H in
/-- A zero shared among marks of zero or one is zero. -/
theorem zero_share {n : ℕ} (a : Fin n → EReal) (ha : ∀ x, a x = ((0 : ℝ) : EReal) ∨ a x = ((1 : ℝ) : EReal)) (j : Fin n) :
    Ideal.div ((0 : ℝ) : EReal) (∑ x, a x) * a j = 0 := by
  rcases ha j with e | e
  · rw [e, EReal.coe_zero, mul_zero]
  · have hp : (0 : EReal) < ∑ x, a x := by
      have h6 : ∀ x, (0 : EReal) ≤ a x := fun x => by
        rcases ha x with e | e <;> rw [e] <;> norm_num
      refine lt_of_lt_of_le ?_ (Finset.single_le_sum (f := a) (fun x _ => h6 x) (Finset.mem_univ j))
      rw [e]; norm_num
    unfold Ideal.div
    rw [if_neg hp.ne', EReal.coe_zero, zero_mul, zero_mul]

/-- The gradient of a scaled score, the maximum's part gone. -/
theorem r161 (r h : Fin 16) (i j : Fin 512) : (res_main_v161 (F := Ideal) V0 (ix4 r h i j) : EReal) = ((A.ds r h i j / 8 : ℝ) : EReal) := by
  unfold res_main_v161
  have h1 := r149 H; have h2 := r132 H; have h3 := @v32_at V0; have h4 := v27_1_at V0
  generalize res_main_v149 V0 = a1 at h1
  generalize res_main_v132 V0 = a2 at h2
  generalize res_main_v32 V0 = a3 at h3
  generalize res_main_v27_1 V0 = a4 at h4
  pointwise
  simp only [h1, h2, h4, ← EReal.coe_neg, sum_coe, ← EReal.coe_add, Fin.sum_univ_one, A.dp_sum]
  have h5 := zero_share (fun x => a3 (ix4 r h i x)) (fun x => h3 r h i x) j
  rw [h5, eight, Cert.KernelIdeal.Win.near i.val j.val (by omega) (by omega), add_zero]
  by_cases hn : Arg.near i j
  · have : (decide (j.val - i.val + (i.val - j.val) ≤ 64)) = true := decide_eq_true hn
    rw [this]
    show Ideal.div (A.dp r h i j : EReal) _ = _
    rw [div_coe _ _ (by norm_num), A.dp_eq]
  · have : (decide (j.val - i.val + (i.val - j.val) ≤ 64)) = false := decide_eq_false hn
    rw [this]
    show Ideal.div 0 _ = _
    rw [← EReal.coe_zero, div_coe _ _ (by norm_num), ← A.dp_eq, A.dp_far r h i j hn]

/-! ## The three results -/

omit H in
theorem dq_gen (x : FVec Ideal S16x16x512x512 .f32) (y : FVec Ideal S16x16x512x64 .f32) (i : Fin 512) (c : Fin 16384) :
    ((truncf .bf16 (shapeCast S512x16384 (shapeCast S8192x16x64 (transpose S512x16x16x64 [2, 0, 1, 3] (Host.dotGeneral dot_S16x16x512x512_S16x16x512x64_S16x16x512x64_3_2_2_3_01_01 none x y) transposes_S16x16x512x64_S512x16x16x64_2_0_1_3) shapeCasts_S512x16x16x64_S8192x16x64) shapeCasts_S8192x16x64_S512x16384) bitsLt_bf16_f32 : FVec Ideal S512x16384 .bf16) (ix2 i c) : EReal)
      = ∑ j : Fin 512, x (ix4 (subOf c) (headOf c) i j) * y (ix4 (subOf c) (headOf c) j (entOf c)) := by
  pointwise; rfl
omit H in
theorem dk_gen (x : FVec Ideal S16x16x512x512 .f32) (y : FVec Ideal S16x16x512x64 .f32) (i : Fin 512) (c : Fin 16384) :
    ((truncf .bf16 (shapeCast S512x16384 (shapeCast S8192x16x64 (transpose S512x16x16x64 [2, 0, 1, 3] (Host.dotGeneral dot_S16x16x512x512_S16x16x512x64_S16x16x512x64_2_2_3_3_01_01 none x y) transposes_S16x16x512x64_S512x16x16x64_2_0_1_3) shapeCasts_S512x16x16x64_S8192x16x64) shapeCasts_S8192x16x64_S512x16384) bitsLt_bf16_f32 : FVec Ideal S512x16384 .bf16) (ix2 i c) : EReal)
      = ∑ j : Fin 512, x (ix4 (subOf c) (headOf c) j i) * y (ix4 (subOf c) (headOf c) j (entOf c)) := by
  pointwise; rfl
omit H in
theorem dv_gen (x : FVec Ideal S16x16x512x64 .f32) (y : FVec Ideal S16x16x512x512 .f32) (i : Fin 512) (c : Fin 16384) :
    ((truncf .bf16 (shapeCast S512x16384 (shapeCast S8192x16x64 (transpose S512x16x16x64 [2, 0, 1, 3] (transpose S16x16x512x64 [0, 1, 3, 2] (Host.dotGeneral dot_S16x16x512x64_S16x16x512x512_S16x16x64x512_2_2_3_3_01_01 none x y) transposes_S16x16x64x512_S16x16x512x64_0_1_3_2) transposes_S16x16x512x64_S512x16x16x64_2_0_1_3) shapeCasts_S512x16x16x64_S8192x16x64) shapeCasts_S8192x16x64_S512x16384) bitsLt_bf16_f32 : FVec Ideal S512x16384 .bf16) (ix2 i c) : EReal)
      = ∑ j : Fin 512, x (ix4 (subOf c) (headOf c) j (entOf c)) * y (ix4 (subOf c) (headOf c) j i) := by
  pointwise; rfl

/-- The queries' gradient. -/
theorem r171 (i : Fin 512) (c : Fin 16384) :
    ((truncf .bf16 (shapeCast S512x16384 (shapeCast S8192x16x64 (transpose S512x16x16x64 [2, 0, 1, 3] (Host.dotGeneral (φ₁ := .f32) (φ₂ := .f32) dot_S16x16x512x512_S16x16x512x64_S16x16x512x64_3_2_2_3_01_01 none (res_main_v161 V0) (res_main_v3 V0)) transposes_S16x16x512x64_S512x16x16x64_2_0_1_3) shapeCasts_S512x16x16x64_S8192x16x64) shapeCasts_S8192x16x64_S512x16384) bitsLt_bf16_f32 : FVec Ideal S512x16384 .bf16) (ix2 i c) : EReal)
      = (A.dq (subOf c) (headOf c) i (entOf c) : EReal) := by
  refine (dq_gen (res_main_v161 V0) (res_main_v3 V0) i c).trans ?_
  refine (Finset.sum_congr rfl fun j _ => (congrArg₂ (fun a b : EReal => a * b) (r161 H _ _ _ _) (r3 H _ _ _ _)).trans (EReal.coe_mul _ _).symm).trans ((sum_coe _).trans ?_)
  unfold Arg.dq
  rw [Finset.sum_div]
  exact congrArg _ (Finset.sum_congr rfl fun j _ => by ring)
/-- The keys' gradient. -/
theorem r173 (i : Fin 512) (c : Fin 16384) :
    ((truncf .bf16 (shapeCast S512x16384 (shapeCast S8192x16x64 (transpose S512x16x16x64 [2, 0, 1, 3] (Host.dotGeneral (φ₁ := .f32) (φ₂ := .f32) dot_S16x16x512x512_S16x16x512x64_S16x16x512x64_2_2_3_3_01_01 none (res_main_v161 V0) (res_main_v1 V0)) transposes_S16x16x512x64_S512x16x16x64_2_0_1_3) shapeCasts_S512x16x16x64_S8192x16x64) shapeCasts_S8192x16x64_S512x16384) bitsLt_bf16_f32 : FVec Ideal S512x16384 .bf16) (ix2 i c) : EReal)
      = (A.dk (subOf c) (headOf c) i (entOf c) : EReal) := by
  refine (dk_gen (res_main_v161 V0) (res_main_v1 V0) i c).trans ?_
  refine (Finset.sum_congr rfl fun j _ => (congrArg₂ (fun a b : EReal => a * b) (r161 H _ _ _ _) (r1 H _ _ _ _)).trans (EReal.coe_mul _ _).symm).trans ((sum_coe _).trans ?_)
  unfold Arg.dk
  rw [Finset.sum_div]
  exact congrArg _ (Finset.sum_congr rfl fun j _ => by ring)
/-- The values' gradient. -/
theorem r175 (i : Fin 512) (c : Fin 16384) :
    ((truncf .bf16 (shapeCast S512x16384 (shapeCast S8192x16x64 (transpose S512x16x16x64 [2, 0, 1, 3] (transpose S16x16x512x64 [0, 1, 3, 2] (Host.dotGeneral (φ₁ := .f32) (φ₂ := .f32) dot_S16x16x512x64_S16x16x512x512_S16x16x64x512_2_2_3_3_01_01 none (res_main_v142 V0) (res_main_v37 V0)) transposes_S16x16x64x512_S16x16x512x64_0_1_3_2) transposes_S16x16x512x64_S512x16x16x64_2_0_1_3) shapeCasts_S512x16x16x64_S8192x16x64) shapeCasts_S8192x16x64_S512x16384) bitsLt_bf16_f32 : FVec Ideal S512x16384 .bf16) (ix2 i c) : EReal)
      = (A.dv (subOf c) (headOf c) i (entOf c) : EReal) := by
  refine (dv_gen (res_main_v142 V0) (res_main_v37 V0) i c).trans ?_
  refine (Finset.sum_congr rfl fun j _ => (congrArg₂ (fun a b : EReal => a * b) (r142 H _ _ _ _) (r37 H _ _ _ _)).trans (EReal.coe_mul _ _).symm).trans ((sum_coe _).trans ?_)
  unfold Arg.dv
  exact congrArg _ (Finset.sum_congr rfl fun j _ => by rw [A.P_eq]; unfold Arg.dO; ring)

end Cert.ReferenceIdeal.Rd
end
-- ==== Proof.Host.lean ====
module

public import proofs.«01_k».proof.Proof.Row
public import proofs.«01_k».proof.Proof.Gen.KernelIdeal.Value
public import Idealize.ShloMosaic.Lib.Pipeline.ValueKit
@[expose] public section
set_option maxRecDepth 16384
noncomputable section

/-! What the host lines before the call put into the call's arrays: the named terms, that the arrays hold them, and their values at finite arguments. -/

namespace Cert.KernelIdeal.Host
open Idealize.ShloMosaic Idealize.ShloMosaic.TcCoe Idealize.ShloMosaic.Tactic Idealize.SL.Sem
open Idealize.ShloMosaic.Pipeline (Dat)
open Cert.KernelIdeal Cert.KernelIdeal.Gen Cert.Spec Cert.KernelIdeal.Win
variable (m : (ℓ : Loc nD τ sig) → Buf (Elt Ideal) ℓ) (c : Dev nD)

/-- The heads' slopes, laid out. -/
def slopes : FVec Ideal S16 .f32 := fun i => FloatOps.ofBits .f32 (lit0 (S16.rowMajor i))
/-- A tensor split into sub-sequences. -/
def sub (a : FVec Ideal S8192x16x64 .f32) : FVec Ideal S16x16x512x64 .f32 :=
  transpose S16x16x512x64 [1, 2, 0, 3] (shapeCast S512x16x16x64 a shapeCasts_S8192x16x64_S512x16x16x64) transposes_S512x16x16x64_S16x16x512x64_1_2_0_3
/-- The distances of two positions of a sub-sequence. -/
def delta : IVec S512x512 32 := absi (subi (iotaInDim S512x512 32 1) (iotaInDim S512x512 32 0))
/-- The masked scores. -/
def scores (q k : FVec Ideal S8192x16x64 .f32) : FVec Ideal S16x16x512x512 .f32 :=
  select (broadcastInDim S16x16x512x512 ![2, 3] bcast_S512x512_S16x16x512x512_2_3 (cmpi .sle delta (broadcastInDim S512x512 ![] bcast_S_S512x512 (constantI S_ 32 64#32))))
    (addf (Host.divf (Host.dotGeneral dot_S16x16x512x64_S16x16x512x64_S16x16x512x512_3_3_2_2_01_01 none (sub q) (sub k)) (broadcastInDim S16x16x512x512 ![] bcast_S_S16x16x512x512 (constant S_ .f32 0x41000000#32)))
      (broadcastInDim S16x16x512x512 ![0, 1, 2, 3] bcast_S1x16x512x512_S16x16x512x512_0_1_2_3 (broadcastInDim S1x16x512x512 ![1, 2, 3] bcast_S16x512x512_S1x16x512x512_1_2_3
        (mulf (broadcastInDim S16x512x512 ![0, 1, 2] bcast_S16x1x1_S16x512x512_0_1_2 (Host.negf (broadcastInDim S16x1x1 ![0] bcast_S16_S16x1x1_0 slopes)))
          (broadcastInDim S16x512x512 ![0, 1, 2] bcast_S1x512x512_S16x512x512_0_1_2 (broadcastInDim S1x512x512 ![1, 2] bcast_S512x512_S1x512x512_1_2 (sitofp .f32 (muli delta (broadcastInDim S512x512 ![] bcast_S_S512x512 (constantI S_ 32 16#32))))))))))
    (broadcastInDim S16x16x512x512 ![] bcast_S_S16x16x512x512 (id (constant S_ .f32 0xFF800000#32)))
/-- The queries' greatest scores. -/
def tops (q k : FVec Ideal S8192x16x64 .f32) : FVec Ideal S16x16x512x1 .f32 :=
  broadcastInDim S16x16x512x1 ![0, 1, 2] bcast_S16x16x512_S16x16x512x1_0_1_2 (Host.reduce FloatOps.maximumf (scores q k) (constant S_ .f32 0xFF800000#32) reducesTo_S16x16x512x512_S16x16x512_d3 h_S_)
/-- The unnormalised weights. -/
def wts (q k : FVec Ideal S8192x16x64 .f32) : FVec Ideal S16x16x512x512 .f32 :=
  Host.exp (subf (scores q k) (broadcastInDim S16x16x512x512 ![0, 1, 2, 3] bcast_S16x16x512x1_S16x16x512x512_0_1_2_3 (tops q k)))
/-- The weights' sums. -/
def tots (q k : FVec Ideal S8192x16x64 .f32) : FVec Ideal S16x16x512x1 .f32 :=
  broadcastInDim S16x16x512x1 ![0, 1, 2] bcast_S16x16x512_S16x16x512x1_0_1_2 (Host.reduceAdd (wts q k) (constant S_ .f32 0x00000000#32) reducesTo_S16x16x512x512_S16x16x512_d3 h_S_)
/-- The group's log-denominators. -/
def lsub (q k : FVec Ideal S8192x16x64 .f32) : FVec Ideal S8192x16 .f32 :=
  shapeCast S8192x16 (transpose S512x16x16 [2, 0, 1] (shapeCast S16x16x512 (addf (tops q k) (Host.log (tots q k))) shapeCasts_S16x16x512x1_S16x16x512) transposes_S16x16x512_S512x16x16_2_0_1) shapeCasts_S512x16x16_S8192x16
/-- The group's outputs. -/
def osub (q k v : FVec Ideal S8192x16x64 .f32) : FVec Ideal S8192x16x64 .f32 :=
  shapeCast S8192x16x64 (transpose S512x16x16x64 [2, 0, 1, 3] (Host.divf (Host.dotGeneral dot_S16x16x512x512_S16x16x512x64_S16x16x512x64_3_2_2_3_01_01 none (wts q k) (sub v)) (broadcastInDim S16x16x512x64 ![0, 1, 2, 3] bcast_S16x16x512x1_S16x16x512x64_0_1_2_3 (tots q k))) transposes_S16x16x512x64_S512x16x16x64_2_0_1_3) shapeCasts_S512x16x16x64_S8192x16x64

/-- The greatest of the three groups' log-denominators, a group's share, and the shares' sum. -/
def most (la lb lc : FVec Ideal S8192x16 .f32) : FVec Ideal S8192x16 .f32 := maximumf (maximumf la lb) lc
def share (l la lb lc : FVec Ideal S8192x16 .f32) : FVec Ideal S8192x16 .f32 := Host.exp (subf l (most la lb lc))
def shares (la lb lc : FVec Ideal S8192x16 .f32) : FVec Ideal S8192x16 .f32 := addf (addf (share la la lb lc) (share lb la lb lc)) (share lc la lb lc)
/-- A row value spread over a head's entries. -/
def wide (x : FVec Ideal S8192x16 .f32) : FVec Ideal S8192x16x64 .f32 :=
  broadcastInDim S8192x16x64 ![0, 1, 2] bcast_S8192x16x1_S8192x16x64_0_1_2 (broadcastInDim S8192x16x1 ![0, 1] bcast_S8192x16_S8192x16x1_0_1 x)
/-- The merged outputs and log-denominators. -/
def merged (la lb lc : FVec Ideal S8192x16 .f32) (oa ob oc : FVec Ideal S8192x16x64 .f32) : FVec Ideal S8192x16x64 .f32 :=
  Host.divf (addf (addf (mulf (wide (share la la lb lc)) oa) (mulf (wide (share lb la lb lc)) ob)) (mulf (wide (share lc la lb lc)) oc)) (wide (shares la lb lc))
def mergedL (la lb lc : FVec Ideal S8192x16 .f32) : FVec Ideal S8192x16 .f32 := addf (most la lb lc) (Host.log (shares la lb lc))
/-- Queries, keys and values packed side by side. -/
def packed (q k v : FVec Ideal S8192x16x64 .f32) : FVec Ideal S512x49152 .bf16 :=
  shapeCast S512x49152 (truncf .bf16 (concatenate S8192x3x16x64 1 [⟨S8192x1x16x64, (broadcastInDim S8192x1x16x64 ![0, 2, 3] bcast_S8192x16x64_S8192x1x16x64_0_2_3 q : (⟨S8192x1x16x64, .f32⟩ : BufTy).Contents (Elt Ideal))⟩, ⟨S8192x1x16x64, (broadcastInDim S8192x1x16x64 ![0, 2, 3] bcast_S8192x16x64_S8192x1x16x64_0_2_3 k : (⟨S8192x1x16x64, .f32⟩ : BufTy).Contents (Elt Ideal))⟩, ⟨S8192x1x16x64, (broadcastInDim S8192x1x16x64 ![0, 2, 3] bcast_S8192x16x64_S8192x1x16x64_0_2_3 v : (⟨S8192x1x16x64, .f32⟩ : BufTy).Contents (Elt Ideal))⟩] concatenates_S8192x1x16x64_S8192x1x16x64_S8192x1x16x64_S8192x3x16x64_d1 : FVec Ideal S8192x3x16x64 .f32) bitsLt_bf16_f32) shapeCasts_S8192x3x16x64_S512x49152

/-! ## The call's arrays -/

/-- The slopes. -/
theorem V0 : V m c main_cst_0 = (fun i => FloatOps.ofBits (F := Ideal) .f32 (lit1 (S16.rowMajor i)) : FVec Ideal S16 .f32) := by
  unfold V
  simp only [hostOps0, hostOps0_1, hostOps0_2, List.flatten_cons, List.flatten_nil, List.cons_append, List.nil_append, List.append_nil]
  after_results
  rfl
/-- The packed queries, keys and values. -/
theorem V78 : V m c main_v78 = packed (m (c.tc.loc main_arg0)) (m (c.tc.loc main_arg1)) (m (c.tc.loc main_arg2)) := by
  unfold V
  simp only [hostOps0, hostOps0_1, hostOps0_2, List.flatten_cons, List.flatten_nil, List.cons_append, List.nil_append, List.append_nil]
  after_results
  rfl
/-- The output's gradient. -/
theorem V80 : V m c main_v80 = (shapeCast S512x16384 (truncf .bf16 (m (c.tc.loc main_arg7) : FVec Ideal S8192x16x64 .f32) bitsLt_bf16_f32) shapeCasts_S8192x16x64_S512x16384 : FVec Ideal S512x16384 .bf16) := by
  unfold V
  simp only [hostOps0, hostOps0_1, hostOps0_2, List.flatten_cons, List.flatten_nil, List.cons_append, List.nil_append, List.append_nil]
  after_results
  rfl
/-- The merged outputs. -/
theorem V81 : V m c main_v81 = (shapeCast S512x16384 (merged (m (c.tc.loc main_arg4)) (m (c.tc.loc main_arg6)) (lsub (m (c.tc.loc main_arg0)) (m (c.tc.loc main_arg1))) (m (c.tc.loc main_arg3)) (m (c.tc.loc main_arg5)) (osub (m (c.tc.loc main_arg0)) (m (c.tc.loc main_arg1)) (m (c.tc.loc main_arg2)))) shapeCasts_S8192x16x64_S512x16384 : FVec Ideal S512x16384 .f32) := by
  unfold V
  simp only [hostOps0, hostOps0_1, hostOps0_2, List.flatten_cons, List.flatten_nil, List.cons_append, List.nil_append, List.append_nil]
  after_results
  rfl
/-- The merged log-denominators. -/
theorem V82 : V m c main_v82 = (shapeCast S512x16384 (wide (mergedL (m (c.tc.loc main_arg4)) (m (c.tc.loc main_arg6)) (lsub (m (c.tc.loc main_arg0)) (m (c.tc.loc main_arg1))))) shapeCasts_S8192x16x64_S512x16384 : FVec Ideal S512x16384 .f32) := by
  unfold V
  simp only [hostOps0, hostOps0_1, hostOps0_2, List.flatten_cons, List.flatten_nil, List.cons_append, List.nil_append, List.append_nil]
  after_results
  rfl

/-! ## Their values at an index -/

/-- The packed array at a query's, a key's or a value's column. -/
theorem packed_at (q k v : FVec Ideal S8192x16x64 .f32) (i : Fin 512) (b : Fin 49152) : (packed q k v (ix2 i b) : EReal) =
    if b.val / 1024 % 3 < 1 then q (ix3 ⟨i.val * 16 + b.val / 3072, by omega⟩ ⟨b.val / 64 % 16, by omega⟩ ⟨b.val % 64, by omega⟩)
    else if b.val / 1024 % 3 - 1 < 1 then k (ix3 ⟨i.val * 16 + b.val / 3072, by omega⟩ ⟨b.val / 64 % 16, by omega⟩ ⟨b.val % 64, by omega⟩)
    else v (ix3 ⟨i.val * 16 + b.val / 3072, by omega⟩ ⟨b.val / 64 % 16, by omega⟩ ⟨b.val % 64, by omega⟩) := by
  unfold packed
  pointwise
  rfl
theorem wide_at (x : FVec Ideal S8192x16 .f32) (i : Fin 512) (b : Fin 16384) : ((shapeCast S512x16384 (wide x) shapeCasts_S8192x16x64_S512x16384 : FVec Ideal S512x16384 .f32) (ix2 i b) : EReal) = x (ix2 (row (subOf b) i) (headOf b)) := by
  unfold wide
  pointwise
  rfl
theorem flat_at (x : FVec Ideal S8192x16x64 .f32) (i : Fin 512) (b : Fin 16384) : ((shapeCast S512x16384 x shapeCasts_S8192x16x64_S512x16384 : FVec Ideal S512x16384 .f32) (ix2 i b) : EReal) = x (ix3 (row (subOf b) i) (headOf b) (entOf b)) := by
  pointwise
  rfl
theorem flatb_at (x : FVec Ideal S8192x16x64 .f32) (i : Fin 512) (b : Fin 16384) : ((shapeCast S512x16384 (truncf .bf16 x bitsLt_bf16_f32) shapeCasts_S8192x16x64_S512x16384 : FVec Ideal S512x16384 .bf16) (ix2 i b) : EReal) = x (ix3 (row (subOf b) i) (headOf b) (entOf b)) := by
  pointwise
  rfl

/-- A tensor as a function of position, head and head entry. -/
def tenOf (x : FVec Ideal S8192x16x64 .f32) : Ten := fun n h e => x (ix3 n h e)
/-- The slope of a head. -/
def slopeOf (h : Fin 16) : EReal := slopes (ix1 h)

section
variable (q k v : FVec Ideal S8192x16x64 .f32)

theorem sub_at (r h : Fin 16) (i : Fin 512) (e : Fin 64) : (sub q (ix4 r h i e) : EReal) = tenOf q (row r i) h e := by
  unfold sub; pointwise; rfl
theorem delta_at (i j : Fin 512) : delta (ix2 i j) = dlt i.val j.val := by
  unfold delta; pointwise; rfl
theorem scores_at (r h : Fin 16) (i j : Fin 512) : (scores q k (ix4 r h i j) : EReal) = score slopeOf (tenOf q) (tenOf k) r h i j := by
  unfold scores
  have ha := sub_at q; have hb := sub_at k; have hc := delta_at
  have hs : ∀ h, slopes (ix1 h) = slopeOf h := fun _ => rfl
  generalize sub q = a at ha
  generalize sub k = b at hb
  generalize delta = d at hc
  generalize slopes = s at hs
  pointwise
  simp only [ha, hb, hc, hs]
  unfold score
  rw [← negInf]
  rfl
theorem tops_at (r h : Fin 16) (i : Fin 512) (u : Fin 1) : (tops q k (ix4 r h i u) : EReal) = top slopeOf (tenOf q) (tenOf k) r h i := by
  unfold tops
  have ha := scores_at q k
  generalize scores q k = a at ha
  pointwise
  rw [negInf]
  unfold top
  exact congrArg (fun f => Finset.fold (max : EReal → EReal → EReal) ⊥ f Finset.univ) (funext fun k => ha r h i k)
theorem wts_at (r h : Fin 16) (i j : Fin 512) : (wts q k (ix4 r h i j) : EReal) = wt slopeOf (tenOf q) (tenOf k) r h i j := by
  unfold wts
  have ha := scores_at q k; have hb := tops_at q k
  generalize scores q k = a at ha
  generalize tops q k = b at hb
  pointwise
  rw [ha, hb]; rfl
theorem tots_at (r h : Fin 16) (i : Fin 512) (u : Fin 1) : (tots q k (ix4 r h i u) : EReal) = tot slopeOf (tenOf q) (tenOf k) r h i := by
  unfold tots
  have ha := wts_at q k
  generalize wts q k = a at ha
  pointwise
  simp only [ha]; rfl
theorem wvs_at (r h : Fin 16) (i : Fin 512) (e : Fin 64) :
    (Host.dotGeneral dot_S16x16x512x512_S16x16x512x64_S16x16x512x64_3_2_2_3_01_01 none (wts q k) (sub v) (ix4 r h i e) : EReal) = wv slopeOf (tenOf q) (tenOf k) (tenOf v) r h i e := by
  have ha := wts_at q k; have hb := sub_at v
  generalize wts q k = a at ha
  generalize sub v = b at hb
  pointwise
  simp only [ha, hb]; rfl
theorem lsub_gen (a b : FVec Ideal S16x16x512x1 .f32) (n : Fin 8192) (h : Fin 16) :
    ((shapeCast S8192x16 (transpose S512x16x16 [2, 0, 1] (shapeCast S16x16x512 (addf a (Host.log b)) shapeCasts_S16x16x512x1_S16x16x512) transposes_S16x16x512_S512x16x16_2_0_1) shapeCasts_S512x16x16_S8192x16 : FVec Ideal S8192x16 .f32) (ix2 n h) : EReal)
      = a (ix4 ⟨n.val % 16, by omega⟩ h ⟨n.val / 16, by omega⟩ 0) + Ideal.log (b (ix4 ⟨n.val % 16, by omega⟩ h ⟨n.val / 16, by omega⟩ 0)) := by
  pointwise
theorem lsub_at (r h : Fin 16) (i : Fin 512) : (lsub q k (ix2 (row r i) h) : EReal) = lden slopeOf (tenOf q) (tenOf k) r h i := by
  unfold lsub lden
  rw [lsub_gen, row_sub, row_pos]
  exact congrArg₂ (fun a b : EReal => a + b) (tops_at q k r h i 0) (congrArg Ideal.log (tots_at q k r h i 0))
theorem osub_gen (a : FVec Ideal S16x16x512x64 .f32) (b : FVec Ideal S16x16x512x1 .f32) (n : Fin 8192) (h : Fin 16) (e : Fin 64) :
    ((shapeCast S8192x16x64 (transpose S512x16x16x64 [2, 0, 1, 3] (Host.divf a (broadcastInDim S16x16x512x64 ![0, 1, 2, 3] bcast_S16x16x512x1_S16x16x512x64_0_1_2_3 b)) transposes_S16x16x512x64_S512x16x16x64_2_0_1_3) shapeCasts_S512x16x16x64_S8192x16x64 : FVec Ideal S8192x16x64 .f32) (ix3 n h e) : EReal)
      = Ideal.div (a (ix4 ⟨n.val % 16, by omega⟩ h ⟨n.val / 16, by omega⟩ e)) (b (ix4 ⟨n.val % 16, by omega⟩ h ⟨n.val / 16, by omega⟩ 0)) := by
  pointwise
theorem osub_at (r h : Fin 16) (i : Fin 512) (e : Fin 64) : (osub q k v (ix3 (row r i) h e) : EReal) = Ideal.div (wv slopeOf (tenOf q) (tenOf k) (tenOf v) r h i e) (tot slopeOf (tenOf q) (tenOf k) r h i) := by
  unfold osub
  rw [osub_gen, row_sub, row_pos]
  exact congrArg₂ Ideal.div (wvs_at q k v r h i e) (tots_at q k r h i 0)
end

section
variable (la lb lc : FVec Ideal S8192x16 .f32)

theorem most_at (n : Fin 8192) (h : Fin 16) : (most la lb lc (ix2 n h) : EReal) = (max : EReal → EReal → EReal) ((max : EReal → EReal → EReal) (la (ix2 n h)) (lb (ix2 n h))) (lc (ix2 n h)) := rfl
theorem share_at (l : FVec Ideal S8192x16 .f32) (n : Fin 8192) (h : Fin 16) : (share l la lb lc (ix2 n h) : EReal) = Ideal.exp ((l (ix2 n h) : EReal) - most la lb lc (ix2 n h)) := rfl
theorem shares_at (n : Fin 8192) (h : Fin 16) : (shares la lb lc (ix2 n h) : EReal) = (share la la lb lc (ix2 n h) : EReal) + share lb la lb lc (ix2 n h) + share lc la lb lc (ix2 n h) := rfl
theorem mergedL_at (n : Fin 8192) (h : Fin 16) : (mergedL la lb lc (ix2 n h) : EReal) = (most la lb lc (ix2 n h) : EReal) + Ideal.log (shares la lb lc (ix2 n h)) := rfl
theorem merged_at (oa ob oc : FVec Ideal S8192x16x64 .f32) (n : Fin 8192) (h : Fin 16) (e : Fin 64) :
    (merged la lb lc oa ob oc (ix3 n h e) : EReal) = Ideal.div ((share la la lb lc (ix2 n h) : EReal) * oa (ix3 n h e) + (share lb la lb lc (ix2 n h) : EReal) * ob (ix3 n h e) + (share lc la lb lc (ix2 n h) : EReal) * oc (ix3 n h e)) (shares la lb lc (ix2 n h)) := by
  unfold merged wide
  generalize share la la lb lc = x
  generalize share lb la lb lc = y
  generalize share lc la lb lc = z
  generalize shares la lb lc = w
  pointwise
end

/-! ## At finite arguments -/

/-- Group 0's log-sum-exp. -/
abbrev LA : FVec Ideal S8192x16 .f32 := m (c.tc.loc main_arg4)
/-- Group 1's log-sum-exp. -/
abbrev LB : FVec Ideal S8192x16 .f32 := m (c.tc.loc main_arg6)
/-- Group 2's log-sum-exp, as the host computes it. -/
abbrev LC : FVec Ideal S8192x16 .f32 := lsub (m (c.tc.loc main_arg0)) (m (c.tc.loc main_arg1))
/-- Group 2's output, as the host computes it. -/
abbrev OC : FVec Ideal S8192x16x64 .f32 := osub (m (c.tc.loc main_arg0)) (m (c.tc.loc main_arg1)) (m (c.tc.loc main_arg2))

/-- The arguments hold the real tensors of `A`. -/
structure Holds (A : Arg) : Prop where
  q : tenOf (m (c.tc.loc main_arg0)) = Arg.up A.q
  k : tenOf (m (c.tc.loc main_arg1)) = Arg.up A.k
  v : tenOf (m (c.tc.loc main_arg2)) = Arg.up A.v
  oa : tenOf (m (c.tc.loc main_arg3)) = Arg.up A.oa
  la : ∀ n h, (LA m c (ix2 n h) : EReal) = (A.la n h : EReal)
  ob : tenOf (m (c.tc.loc main_arg5)) = Arg.up A.ob
  lb : ∀ n h, (LB m c (ix2 n h) : EReal) = (A.lb n h : EReal)
  ct : tenOf (m (c.tc.loc main_arg7)) = Arg.up A.ct
  sl : slopeOf = A.upS

variable {m c} {A : Arg} (H : Holds m c A)
include H

theorem lc_real (r h : Fin 16) (i : Fin 512) : ((LC m c) (ix2 (row r i) h) : EReal) = (A.lc r h i : EReal) := by
  refine (lsub_at _ _ r h i).trans ?_
  rw [H.q, H.k, H.sl, A.lden_eq]
theorem most_real (r h : Fin 16) (i : Fin 512) : (most (LA m c) (LB m c) (LC m c) (ix2 (row r i) h) : EReal) = (A.mx r h i : EReal) := by
  rw [most_at, lc_real H, H.la, H.lb]
  unfold Arg.mx
  rw [coe_max, coe_max]
theorem share0 (r h : Fin 16) (i : Fin 512) : (share (LA m c) (LA m c) (LB m c) (LC m c) (ix2 (row r i) h) : EReal) = (A.e3 r h i 0 : EReal) := by
  rw [share_at, most_real H, H.la, ← EReal.coe_sub, exp_coe]; rfl
theorem share1 (r h : Fin 16) (i : Fin 512) : (share (LB m c) (LA m c) (LB m c) (LC m c) (ix2 (row r i) h) : EReal) = (A.e3 r h i 1 : EReal) := by
  rw [share_at, most_real H, H.lb, ← EReal.coe_sub, exp_coe]; rfl
theorem share2 (r h : Fin 16) (i : Fin 512) : (share (LC m c) (LA m c) (LB m c) (LC m c) (ix2 (row r i) h) : EReal) = (A.e3 r h i 2 : EReal) := by
  rw [share_at, most_real H, lc_real H, ← EReal.coe_sub, exp_coe]; rfl
theorem shares_real (r h : Fin 16) (i : Fin 512) : (shares (LA m c) (LB m c) (LC m c) (ix2 (row r i) h) : EReal) = (A.den r h i : EReal) := by
  rw [shares_at, share0 H, share1 H, share2 H, ← EReal.coe_add, ← EReal.coe_add]
  unfold Arg.den; rw [Fin.sum_univ_three]
theorem mergedL_real (r h : Fin 16) (i : Fin 512) : (mergedL (LA m c) (LB m c) (LC m c) (ix2 (row r i) h) : EReal) = (A.mx r h i + Real.log (A.den r h i) : ℝ) := by
  rw [mergedL_at, shares_real H, most_real H, log_coe _ (A.den_pos r h i), EReal.coe_add]
theorem merged_real (r h : Fin 16) (i : Fin 512) (e : Fin 64) : (merged (LA m c) (LB m c) (LC m c) (m (c.tc.loc main_arg3)) (m (c.tc.loc main_arg5)) (OC m c) (ix3 (row r i) h e) : EReal) = (A.o r h i e : EReal) := by
  have ha : ((m (c.tc.loc main_arg3) : FVec Ideal S8192x16x64 .f32) (ix3 (row r i) h e) : EReal) = (A.oa (row r i) h e : EReal) := congrFun (congrFun (congrFun H.oa _) _) _
  have hb : ((m (c.tc.loc main_arg5) : FVec Ideal S8192x16x64 .f32) (ix3 (row r i) h e) : EReal) = (A.ob (row r i) h e : EReal) := congrFun (congrFun (congrFun H.ob _) _) _
  have hc : (OC m c (ix3 (row r i) h e) : EReal) = (A.pv r h i e / A.z r h i : ℝ) := by
    refine (osub_at _ _ _ r h i e).trans ?_
    rw [H.q, H.k, H.v, H.sl, A.wv_eq, A.tot_eq, div_coe _ _ (A.z_pos r h i).ne']
  rw [merged_at, share0 H, share1 H, share2 H, shares_real H, hc, ha, hb,
    ← EReal.coe_mul, ← EReal.coe_mul, ← EReal.coe_mul, ← EReal.coe_add, ← EReal.coe_add, div_coe _ _ (A.den_pos r h i).ne']
  unfold Arg.o; rw [Fin.sum_univ_three]; rfl

end Cert.KernelIdeal.Host
end
-- ==== Proof.Finite.lean ====
module

public import proofs.«01_k».proof.Proof.Rd
public import proofs.«01_k».proof.Proof.Host
public import proofs.«01_k».proof.Proof.Gen.Pre_finite
public import Idealize.ShloMosaic.Lib.ReduceAll

@[expose] public section
set_option maxRecDepth 16384
noncomputable section

/-! Arrays that satisfy the precondition hold real numbers; so do the slopes. -/

namespace Cert.Fin
open Idealize.ShloMosaic Idealize.ShloMosaic.TcCoe Idealize.ShloMosaic.Tactic Idealize.SL.Sem
open Cert.Pre_finite Cert.Spec

theorem top_lit : Ideal.ofBits .f32 0x7F800000#32 = (⊤ : EReal) := by
  simp [Ideal.ofBits, Ideal.ieee]

/-- A value above minus infinity and below infinity is a real number. -/
theorem real_of (x : EReal) (h : IntOp.andi (Ideal.cmp .ogt x (Ideal.ofBits .f32 0xFF800000#32)) (Ideal.cmp .olt x (Ideal.ofBits .f32 0x7F800000#32)) = 1#1) : x = ((x.toReal : ℝ) : EReal) := by
  rw [negInf, top_lit] at h
  induction x with
  | bot => simp [Ideal.cmp, IntOp.andi] at h
  | top => simp [Ideal.cmp, IntOp.andi] at h
  | coe r => rfl

theorem and_one (a b : BitVec 1) (h : IntOp.andi a b = 1#1) : a = 1#1 ∧ b = 1#1 := by
  revert h; revert a b; decide

variable (a0 a1 a2 a3 a5 a7 : FVec Ideal S8192x16x64 .f32) (a4 a6 : FVec Ideal S8192x16 .f32)

theorem ten_real (a : FVec Ideal S8192x16x64 .f32) (b0 b1 : FVec Ideal S8192x16x64 .f32) (init : IVec S_ 1) (hb0 : b0 = fun _ => Ideal.ofBits .f32 0xFF800000#32) (hb1 : b1 = fun _ => Ideal.ofBits .f32 0x7F800000#32)
    (h : Host.reduce IntOp.andi (andi (cmpf .ogt a b0) (cmpf .olt a b1)) init Facts.reducesTo_S8192x16x64_S_d0_1_2 Facts.h_S_ ix0 = 1#1) (i : S8192x16x64.Idx) : (a i : EReal) = (((a i : EReal).toReal : ℝ) : EReal) := by
  have := Host.reduce_andi_all _ _ _ _ ix0 h i
  subst hb0 hb1
  exact real_of _ this
theorem mat_real (a : FVec Ideal S8192x16 .f32) (b0 b1 : FVec Ideal S8192x16 .f32) (init : IVec S_ 1) (hb0 : b0 = fun _ => Ideal.ofBits .f32 0xFF800000#32) (hb1 : b1 = fun _ => Ideal.ofBits .f32 0x7F800000#32)
    (h : Host.reduce IntOp.andi (andi (cmpf .ogt a b0) (cmpf .olt a b1)) init Facts.reducesTo_S8192x16_S_d0_1 Facts.h_S_ ix0 = 1#1) (i : S8192x16.Idx) : (a i : EReal) = (((a i : EReal).toReal : ℝ) : EReal) := by
  have := Host.reduce_andi_all _ _ _ _ ix0 h i
  subst hb0 hb1
  exact real_of _ this

/-- Every argument of arrays that satisfy the precondition is real everywhere. -/
theorem all_real (h : Cert.Pre_finite.fn (F := Ideal) a0 a1 a2 a3 a4 a5 a6 a7 = fun _ => 1#1) :
    (∀ i, (a0 i : EReal) = (((a0 i : EReal).toReal : ℝ) : EReal)) ∧ (∀ i, (a1 i : EReal) = (((a1 i : EReal).toReal : ℝ) : EReal)) ∧ (∀ i, (a2 i : EReal) = (((a2 i : EReal).toReal : ℝ) : EReal)) ∧
    (∀ i, (a3 i : EReal) = (((a3 i : EReal).toReal : ℝ) : EReal)) ∧ (∀ i, (a4 i : EReal) = (((a4 i : EReal).toReal : ℝ) : EReal)) ∧ (∀ i, (a5 i : EReal) = (((a5 i : EReal).toReal : ℝ) : EReal)) ∧
    (∀ i, (a6 i : EReal) = (((a6 i : EReal).toReal : ℝ) : EReal)) ∧ (∀ i, (a7 i : EReal) = (((a7 i : EReal).toReal : ℝ) : EReal)) := by
  have h0 := congrFun h ix0
  dsimp only [fn, fn_part1, fn_part2, fn_part3] at h0
  obtain ⟨h0, h7⟩ := and_one _ _ h0
  obtain ⟨h0, h6⟩ := and_one _ _ h0
  obtain ⟨h0, h5⟩ := and_one _ _ h0
  obtain ⟨h0, h4⟩ := and_one _ _ h0
  obtain ⟨h0, h3⟩ := and_one _ _ h0
  obtain ⟨h0, h2⟩ := and_one _ _ h0
  obtain ⟨h0, h1⟩ := and_one _ _ h0
  exact ⟨ten_real _ _ _ _ rfl rfl h0, ten_real _ _ _ _ rfl rfl h1, ten_real _ _ _ _ rfl rfl h2, ten_real _ _ _ _ rfl rfl h3, mat_real _ _ _ _ rfl rfl h4,
    ten_real _ _ _ _ rfl rfl h5, mat_real _ _ _ _ rfl rfl h6, ten_real _ _ _ _ rfl rfl h7⟩

/-- The real tensors of the arguments. -/
def argOf : Arg where
  q n h e := (a0 (ix3 n h e) : EReal).toReal
  k n h e := (a1 (ix3 n h e) : EReal).toReal
  v n h e := (a2 (ix3 n h e) : EReal).toReal
  oa n h e := (a3 (ix3 n h e) : EReal).toReal
  la n h := (a4 (ix2 n h) : EReal).toReal
  ob n h e := (a5 (ix3 n h e) : EReal).toReal
  lb n h := (a6 (ix2 n h) : EReal).toReal
  ct n h e := (a7 (ix3 n h e) : EReal).toReal
  sl h := (Cert.KernelIdeal.Host.slopeOf h).toReal

/-- The slopes are real. -/
theorem slope_real (h : Fin 16) : Cert.KernelIdeal.Host.slopeOf h = (((Cert.KernelIdeal.Host.slopeOf h).toReal : ℝ) : EReal) := by
  have : ∃ r : ℝ, Cert.KernelIdeal.Host.slopeOf h = (r : EReal) := by
    fin_cases h <;> exact ⟨_, rfl⟩
  obtain ⟨r, hr⟩ := this
  rw [hr]; rfl

/-- The reference's table of slopes is the kernel's. -/
theorem slope_ref : Cert.ReferenceIdeal.Rd.SL = Cert.KernelIdeal.Host.slopeOf := by
  have : (Cert.ReferenceIdeal.lit0 : Fin 16 → BitVec 32) = Cert.KernelIdeal.lit0 := by decide +kernel
  funext h
  unfold Cert.ReferenceIdeal.Rd.SL Cert.KernelIdeal.Host.slopeOf Cert.KernelIdeal.Host.slopes
  rw [this]
  rfl
end Cert.Fin
end
-- ==== Proof.LnRow.lean ====
module

public import proofs.«01_k».proof.Proof.Row
@[expose] public section
set_option maxRecDepth 16384
noncomputable section

/-! One row of the gradient of the residual and its norm, as the kernel writes it and as the reference does, and why the
    two are the same number when everything they depend on is finite. -/

namespace Cert.Ln
open Idealize.ShloMosaic Idealize.ShloMosaic.TcCoe Idealize.ShloMosaic.Tactic Idealize.SL.Sem
open Cert.Spec

/-- The residual's factor, the row's width, the constant under the root, and the reference's minus a half and two. -/
def alpha : EReal := Ideal.ofBits .f32 0x3FD744FD#32
def width : EReal := Ideal.ofBits .f32 0x44800000#32
def eps : EReal := Ideal.ofBits .f32 0x3727C5AC#32
def mhalf : EReal := Ideal.ofBits .f32 0xBF000000#32
def two : EReal := Ideal.ofBits .f32 0x40000000#32

theorem width_eq : width = ((1024 : ℝ) : EReal) := by
  unfold width; simp [Ideal.ofBits, Ideal.ieee]; rw [← EReal.coe_mul]; norm_num
theorem two_eq : two = ((2 : ℝ) : EReal) := by
  unfold two; simp [Ideal.ofBits, Ideal.ieee]; rw [← EReal.coe_mul]; norm_num
theorem mhalf_eq : mhalf = ((-(1 / 2) : ℝ) : EReal) := by
  unfold mhalf; simp [Ideal.ofBits, Ideal.ieee]; rw [← EReal.coe_mul]; norm_num
theorem alpha_real : ∃ r : ℝ, alpha = (r : EReal) := by
  unfold alpha; simp [Ideal.ofBits, Ideal.ieee]; rw [← EReal.coe_mul]; exact ⟨_, rfl⟩
theorem eps_pos : ∃ r : ℝ, 0 < r ∧ eps = (r : EReal) := by
  unfold eps; simp [Ideal.ofBits, Ideal.ieee]; rw [← EReal.coe_mul]; exact ⟨_, by positivity, rfl⟩

/-! ## The row among the extended reals -/

/-- A row of numbers. -/
abbrev Vc := Fin 1024 → EReal
variable (x o gate g dy : Vc)

/-- The residual, -/
def res : Vc := fun k => alpha * x k + gate k * o k
/-- a row's mean, -/
def mean (f : Vc) : EReal := Ideal.div (∑ k, f k) width
/-- the centred residual, -/
def rc : Vc := fun k => res x o gate k - mean (res x o gate)
/-- its variance with the constant, -/
def vr : EReal := mean (fun k => rc x o gate k * rc x o gate k) + eps
/-- one over the root, -/
def rs : EReal := Ideal.rsqrt (vr x o gate)
/-- the normalised row, -/
def xh : Vc := fun k => rc x o gate k * rs x o gate
/-- and its gradient. -/
def dxh : Vc := fun k => dy k * g k

/-- The residual's gradient as the kernel writes it. -/
def gradK : Vc := fun k => rs x o gate * ((dxh g dy k - mean (dxh g dy)) - xh x o gate k * mean (fun l => dxh g dy l * xh x o gate l))

/-- In the reference: the share that passes through the centred residual, -/
def lin : Vc := fun k => dxh g dy k * rs x o gate
/-- the gradient of the sum of squares, -/
def co : EReal := Ideal.div ((∑ k, rc x o gate k * dxh g dy k) * (mhalf * Ideal.div (rs x o gate) (vr x o gate))) width
/-- the share that passes through the variance, -/
def sq : Vc := fun k => co x o gate g dy * (two * rc x o gate k)
/-- and both, less their means. -/
def gradR : Vc := fun k => (lin x o gate g dy k + sq x o gate g dy k) + Ideal.div ((∑ l, -lin x o gate g dy l) + ∑ l, -sq x o gate g dy l) width

/-! ## The same over the real numbers -/

theorem mean_coe (f : Fin 1024 → ℝ) : mean (fun k => (f k : EReal)) = (((∑ k, f k) / 1024 : ℝ) : EReal) := by
  unfold mean
  rw [width_eq, sum_coe, div_coe _ _ (by norm_num)]

section Real
variable (r d : Fin 1024 → ℝ)

/-- Both ways of writing the gradient, of a centred row of real numbers. -/
theorem real_eq (s V : ℝ) (hV : 0 < V) (hs : s * s * V = 1) (hr : ∑ k, r k = 0) (k : Fin 1024) :
    s * ((d k - (∑ l, d l) / 1024) - r k * s * ((∑ l, d l * (r l * s)) / 1024))
      = (d k * s + ((∑ l, r l * d l) * (-(1 / 2) * (s / V)) / 1024) * (2 * r k))
        + ((∑ l, -(d l * s)) + ∑ l, -(((∑ l, r l * d l) * (-(1 / 2) * (s / V)) / 1024) * (2 * r l))) / 1024 := by
  have e1 : ∑ l, d l * (r l * s) = (∑ l, r l * d l) * s := by
    rw [Finset.sum_mul]; exact Finset.sum_congr rfl fun l _ => by ring
  have e2 : ∑ l, -(d l * s) = -((∑ l, d l) * s) := by rw [Finset.sum_neg_distrib, Finset.sum_mul]
  have e3 (q : ℝ) : ∑ l, -(q * (2 * r l)) = 0 := by
    rw [Finset.sum_neg_distrib, ← Finset.mul_sum, ← Finset.mul_sum, hr]; ring
  have e4 : s / V = s * s * s := by
    rw [div_eq_iff hV.ne']; linear_combination (-s) * hs
  rw [e1, e2, e3, e4]
  ring
end Real

variable {x o gate g dy}
/-- The two gradients are the same row when the five rows are finite. -/
theorem grad_eq (hx : ∀ k, x k = ((x k).toReal : EReal)) (ho : ∀ k, o k = ((o k).toReal : EReal)) (hgate : ∀ k, gate k = ((gate k).toReal : EReal))
    (hg : ∀ k, g k = ((g k).toReal : EReal)) (hdy : ∀ k, dy k = ((dy k).toReal : EReal)) : gradK x o gate g dy = gradR x o gate g dy := by
  obtain ⟨a, ha⟩ := alpha_real
  obtain ⟨e, he, hee⟩ := eps_pos
  let R : Fin 1024 → ℝ := fun k => a * (x k).toReal + (gate k).toReal * (o k).toReal
  let r : Fin 1024 → ℝ := fun k => R k - (∑ l, R l) / 1024
  let V : ℝ := (∑ k, r k * r k) / 1024 + e
  let s : ℝ := (√V)⁻¹
  let d : Fin 1024 → ℝ := fun k => (dy k).toReal * (g k).toReal
  have hV : 0 < V := add_pos_of_nonneg_of_pos (div_nonneg (Finset.sum_nonneg fun k _ => mul_self_nonneg _) (by norm_num)) he
  have hs : s * s * V = 1 := by
    have h1 : √V * √V = V := Real.mul_self_sqrt hV.le
    have h2 : √V ≠ 0 := (Real.sqrt_pos.mpr hV).ne'
    show (√V)⁻¹ * (√V)⁻¹ * V = 1
    rw [← mul_inv, h1, inv_mul_cancel₀ hV.ne']
  have hr0 : ∑ k, r k = 0 := by
    show ∑ k, (R k - (∑ l, R l) / 1024) = 0
    rw [Finset.sum_sub_distrib, Finset.sum_const, Finset.card_univ, Fintype.card_fin, nsmul_eq_mul]
    push_cast; ring
  have hres : res x o gate = fun k => (R k : EReal) := by
    funext k; unfold res
    rw [hx k, ho k, hgate k, ha, ← EReal.coe_mul, ← EReal.coe_mul, ← EReal.coe_add]
  have hrc : rc x o gate = fun k => (r k : EReal) := by
    funext k; unfold rc
    rw [hres, mean_coe, ← EReal.coe_sub]
  have hvr : vr x o gate = (V : EReal) := by
    unfold vr
    rw [hrc, hee]
    simp only [← EReal.coe_mul]
    rw [mean_coe, ← EReal.coe_add]
  have hrs : rs x o gate = (s : EReal) := by
    unfold rs
    rw [hvr, Ideal.rsqrt_coe, if_neg (not_lt.mpr hV.le), if_neg hV.ne']
  have hd : dxh g dy = fun k => (d k : EReal) := by
    funext k; unfold dxh
    rw [hdy k, hg k, ← EReal.coe_mul]
  funext k
  unfold gradK gradR lin sq co xh
  rw [hrs, hvr, hrc, hd, mhalf_eq, two_eq, width_eq]
  simp only [← EReal.coe_mul, mean_coe, ← EReal.coe_sub, ← EReal.coe_neg, sum_coe, ← EReal.coe_add, div_coe _ _ hV.ne', div_coe _ (1024 : ℝ) (by norm_num)]
  exact congrArg _ (real_eq r d s V hV hs hr0 k)

end Cert.Ln
end
-- ==== Proof.GateRow.lean ====
module

public import proofs.«01_k».proof.Proof.LnRow
@[expose] public section
set_option maxRecDepth 16384
noncomputable section

/-! One row of the state space mixer's gate and norm and of their gradient, as the kernel writes it and as the reference
    does, and why the two gradients are the same numbers when everything they depend on is finite. -/

namespace Cert.Gate
open Idealize.ShloMosaic Idealize.ShloMosaic.TcCoe Idealize.ShloMosaic.Tactic Idealize.SL.Sem
open Cert.Spec
open Cert.Ln (eps mhalf two eps_pos mhalf_eq two_eq)

/-- The row's width, and one. -/
def width : EReal := Ideal.ofBits .f32 0x45000000#32
def one : EReal := Ideal.ofBits .f32 0x3F800000#32

theorem width_eq : width = ((2048 : ℝ) : EReal) := by
  unfold width; simp [Ideal.ofBits, Ideal.ieee]; rw [← EReal.coe_mul]; norm_num
theorem one_eq : one = ((1 : ℝ) : EReal) := by
  unfold one; simp [Ideal.ofBits, Ideal.ieee]; try (rw [← EReal.coe_mul]; norm_num)
theorem one_val : one = 1 := one_eq.trans EReal.coe_one

/-! ## The row among the extended reals -/

/-- A row of numbers. -/
abbrev Vc := Fin 2048 → EReal

/-- What a row of the gate and the norm depends on: the two directions, the mixer's input, the gate, the skip's factors. -/
structure Args where
  yf : Vc
  yb : Vc
  xs : Vc
  z : Vc
  d : Vc

variable (a : Args) (w dy : Vc)

/-- The two directions with the skip, -/
def yt : Vc := fun k => (a.yf k + a.yb k) + a.d k * a.xs k
/-- the gate's sigmoid, -/
def sg : Vc := fun k => Ideal.div one (one + Ideal.exp (-a.z k))
/-- the gate, -/
def si : Vc := fun k => a.z k * sg a k
/-- the gated row, -/
def yg : Vc := fun k => yt a k * si a k
/-- a row's mean, -/
def mean (f : Vc) : EReal := Ideal.div (∑ k, f k) width
/-- the mean square with the constant, -/
def vr : EReal := mean (fun k => yg a k * yg a k) + eps
/-- one over the root, -/
def rs : EReal := Ideal.rsqrt (vr a)
/-- the normalised row, -/
def yh : Vc := fun k => yg a k * rs a
/-- and its gradient. -/
def dyn : Vc := fun k => dy k * w k

/-- The gated row's gradient as the kernel writes it, -/
def gradK : Vc := fun k => rs a * (dyn w dy k - yh a k * mean (fun l => dyn w dy l * yh a l))
/-- and the gate's. -/
def dzK : Vc := fun k => gradK a w dy k * yt a k * (sg a k * (one + a.z k * (one - sg a k)))

/-- In the reference: the gradient of the sum of squares, -/
def co : EReal := Ideal.div ((∑ k, yg a k * dyn w dy k) * (mhalf * Ideal.div (rs a) (vr a))) width
/-- the gated row's gradient, -/
def gradR : Vc := fun k => dyn w dy k * rs a + co a w dy * (two * yg a k)
/-- and the gate's. -/
def dzR : Vc := fun k => (yt a k * gradR a w dy k) * sg a k + (a.z k * (yt a k * gradR a w dy k)) * (sg a k * (one - sg a k))

/-! ## The same over the real numbers -/

theorem mean_coe (f : Fin 2048 → ℝ) : mean (fun k => (f k : EReal)) = (((∑ k, f k) / 2048 : ℝ) : EReal) := by
  unfold mean
  rw [width_eq, sum_coe, div_coe _ _ (by norm_num)]

/-- Both ways of writing the gradient, of a row of real numbers. -/
theorem real_eq (y d : Fin 2048 → ℝ) (s V : ℝ) (hV : 0 < V) (hs : s * s * V = 1) (k : Fin 2048) :
    s * (d k - y k * s * ((∑ l, d l * (y l * s)) / 2048)) = d k * s + ((∑ l, y l * d l) * (-(1 / 2) * (s / V)) / 2048) * (2 * y k) := by
  have e1 : ∑ l, d l * (y l * s) = (∑ l, y l * d l) * s := by
    rw [Finset.sum_mul]; exact Finset.sum_congr rfl fun l _ => by ring
  have e4 : s / V = s * s * s := by
    rw [div_eq_iff hV.ne']; linear_combination (-s) * hs
  rw [e1, e4]
  ring

/-- A row of finite numbers. -/
abbrev IsReal (f : Vc) : Prop := ∀ k, f k = ((f k).toReal : EReal)
/-- Everything the row depends on is finite. -/
def Args.IsReal (a : Args) : Prop := Gate.IsReal a.yf ∧ Gate.IsReal a.yb ∧ Gate.IsReal a.xs ∧ Gate.IsReal a.z ∧ Gate.IsReal a.d

variable {a w dy}
/-- The stages of a finite row are real numbers. -/
theorem yt_real (h : a.IsReal) : ∃ f : Fin 2048 → ℝ, yt a = fun k => (f k : EReal) := by
  obtain ⟨h1, h2, h3, -, h5⟩ := h
  refine ⟨fun k => ((a.yf k).toReal + (a.yb k).toReal) + (a.d k).toReal * (a.xs k).toReal, funext fun k => ?_⟩
  unfold yt
  rw [h1 k, h2 k, h3 k, h5 k]
  simp only [← EReal.coe_mul, ← EReal.coe_add]
theorem sg_real (h : a.IsReal) : ∃ f : Fin 2048 → ℝ, sg a = fun k => (f k : EReal) := by
  obtain ⟨-, -, -, h4, -⟩ := h
  refine ⟨fun k => 1 / (1 + Real.exp (-(a.z k).toReal)), funext fun k => ?_⟩
  unfold sg
  have hp : (1 + Real.exp (-(a.z k).toReal)) ≠ 0 := by positivity
  rw [h4 k, one_eq, ← EReal.coe_neg, exp_coe, ← EReal.coe_add, div_coe _ _ hp]

/-- The two gradients of the gated row are the same, and real numbers, -/
theorem grad_real (h : a.IsReal) (hw : IsReal w) (hdy : IsReal dy) : gradK a w dy = gradR a w dy ∧ ∃ f : Fin 2048 → ℝ, gradR a w dy = fun k => (f k : EReal) := by
  obtain ⟨e, he, hee⟩ := eps_pos
  obtain ⟨t, ht⟩ := yt_real h
  obtain ⟨g, hg⟩ := sg_real h
  let y : Fin 2048 → ℝ := fun k => t k * ((a.z k).toReal * g k)
  let V : ℝ := (∑ k, y k * y k) / 2048 + e
  let s : ℝ := (√V)⁻¹
  let d : Fin 2048 → ℝ := fun k => (dy k).toReal * (w k).toReal
  have hV : 0 < V := add_pos_of_nonneg_of_pos (div_nonneg (Finset.sum_nonneg fun k _ => mul_self_nonneg _) (by norm_num)) he
  have hs : s * s * V = 1 := by
    have h1 : √V * √V = V := Real.mul_self_sqrt hV.le
    show (√V)⁻¹ * (√V)⁻¹ * V = 1
    rw [← mul_inv, h1, inv_mul_cancel₀ hV.ne']
  have hyg : yg a = fun k => (y k : EReal) := by
    funext k; unfold yg si
    rw [ht, hg, h.2.2.2.1 k]
    simp only [← EReal.coe_mul]; rfl
  have hvr : vr a = (V : EReal) := by
    unfold vr
    rw [hyg, hee]
    simp only [← EReal.coe_mul]
    rw [mean_coe, ← EReal.coe_add]
  have hrs : rs a = (s : EReal) := by
    unfold rs
    rw [hvr, Ideal.rsqrt_coe, if_neg (not_lt.mpr hV.le), if_neg hV.ne']
  have hd : dyn w dy = fun k => (d k : EReal) := by
    funext k; unfold dyn
    rw [hdy k, hw k, ← EReal.coe_mul]
  have hR : gradR a w dy = fun k => ((d k * s + ((∑ l, y l * d l) * (-(1 / 2) * (s / V)) / 2048) * (2 * y k) : ℝ) : EReal) := by
    funext k
    unfold gradR co
    rw [hrs, hvr, hyg, hd, mhalf_eq, two_eq, width_eq]
    simp only [← EReal.coe_mul, sum_coe, ← EReal.coe_add, div_coe _ _ hV.ne', div_coe _ (2048 : ℝ) (by norm_num)]
  refine ⟨?_, _, hR⟩
  rw [hR]
  funext k
  unfold gradK yh
  rw [hrs, hyg, hd]
  simp only [← EReal.coe_mul, mean_coe, ← EReal.coe_sub]
  exact congrArg _ (real_eq y d s V hV hs k)

/-- and so are the gate's. -/
theorem dz_eq (h : a.IsReal) (hw : IsReal w) (hdy : IsReal dy) : dzK a w dy = dzR a w dy := by
  obtain ⟨e, r, hr⟩ := grad_real h hw hdy
  obtain ⟨t, ht⟩ := yt_real h
  obtain ⟨g, hg⟩ := sg_real h
  funext k
  unfold dzK dzR
  rw [e, hr, ht, hg, h.2.2.2.1 k, one_eq]
  simp only [← EReal.coe_mul, ← EReal.coe_sub, ← EReal.coe_add]
  exact congrArg _ (by ring)

end Cert.Gate
end
-- ==== Proof.GateKer.lean ====
module

public import proofs.«01_k».proof.Proof.GateRow
public import proofs.«01_k».proof.Proof.Gen.Kernel20Ideal.Value
public import Idealize.ShloMosaic.Lib.Pipeline.ValueKit
public import Idealize.ShloMosaic.Lib.Pipeline.ReadBack
@[expose] public section
set_option maxRecDepth 16384
noncomputable section

/-! What the kernel of the gate's gradient computes of a block of 256 rows, read at an index. -/

namespace Cert.Kernel20Ideal.GateKer
open Idealize.ShloMosaic Idealize.ShloMosaic.TcCoe Idealize.ShloMosaic.Tactic Idealize.SL.Sem
open Cert.Kernel20Ideal Cert.Kernel20Ideal.Gen Cert.Gate

local notation "Blk" => FVec Ideal S256x2048 FTy.f32
local notation "Half" => FVec Ideal S256x2048 FTy.bf16
local notation "Dir" => FVec Ideal S1x256x2048 FTy.f32
local notation "Vec1" => FVec Ideal S1x2048 FTy.f32

/-- A row of a block, and a row vector. -/
abbrev row (a : Blk) (i : Fin 256) : Vc := fun k => (a (ix2 i k) : EReal)
abbrev vec (a : Vec1) : Vc := fun k => (a (ix2 0 k) : EReal)
/-- What a row depends on. -/
abbrev args (xs z : Half) (yf yb : Dir) (d : Vec1) (i : Fin 256) : Args :=
  ⟨fun k => (yf (ix3 0 i k) : EReal), fun k => (yb (ix3 0 i k) : EReal), fun k => (xs (ix2 i k) : EReal), fun k => (z (ix2 i k) : EReal), vec d⟩

variable (i : Fin 256) (k : Fin 2048) (u : Fin 1) (xs z : Half) (yf yb : Dir) (d w : Vec1) (dy : Blk)

theorem pay4_at : (k0_pay4 (F := Ideal) xs (ix2 i k) : EReal) = xs (ix2 i k) := by
  pointwise [k0_pay4]
theorem pay5_at : (k0_pay5 (F := Ideal) xs yf yb d (ix2 i k) : EReal) = yt (args xs z yf yb d i) k := by
  pointwise [k0_pay5, k0_pay4]; rfl
theorem pay6_at : (k0_pay6 (F := Ideal) z (ix2 i k) : EReal) = z (ix2 i k) := by
  pointwise [k0_pay6]
theorem pay7_at : (k0_pay7 (F := Ideal) z (ix2 i k) : EReal) = sg (args xs z yf yb d i) k := by
  pointwise [k0_pay7]; rw [pay6_at, zero_sub, ← one_val]; rfl
theorem pay8_at : (k0_pay8 (F := Ideal) z (ix2 i k) : EReal) = si (args xs z yf yb d i) k := by
  pointwise [k0_pay8]; rw [pay6_at, pay7_at i k xs z yf yb d]; rfl
theorem pay9_at : (k0_pay9 (F := Ideal) z (ix2 i k) : EReal)
    = sg (args xs z yf yb d i) k * (one + (args xs z yf yb d i).z k * (one - sg (args xs z yf yb d i) k)) := by
  pointwise [k0_pay9]; rw [pay6_at, pay7_at i k xs z yf yb d, ← one_val]
theorem pay10_at : (k0_pay10 (F := Ideal) xs yf yb d z (ix2 i k) : EReal) = yg (args xs z yf yb d i) k := by
  pointwise [k0_pay10]; rw [pay5_at i k xs z, pay8_at i k xs z yf yb d]; rfl
/-- The sums of squares, and their divisor. -/
abbrev sq : FVec Ideal S256x1 .f32 := k0_pay11 (F := Ideal) xs yf yb d z
abbrev gated : Blk := k0_pay10 (F := Ideal) xs yf yb d z
theorem pay13_at : (k0_pay13 (F := Ideal) (sq xs z yf yb d) k0_pay12 (ix2 i u) : EReal) = rs (args xs z yf yb d i) := by
  have h := fun l => pay10_at i l xs z yf yb d
  pointwise [k0_pay13, k0_pay12, k0_pay11]; simp only [h]; rfl
theorem pay14_at : (k0_pay14 (F := Ideal) (gated xs z yf yb d) (sq xs z yf yb d) k0_pay12 (ix2 i k) : EReal) = yh (args xs z yf yb d i) k := by
  pointwise [k0_pay14]; rw [pay13_at]
  exact congrArg (fun s : EReal => s * _) (pay10_at i k xs z yf yb d)
theorem pay15_at : (k0_pay15 (F := Ideal) (gated xs z yf yb d) (sq xs z yf yb d) k0_pay12 dy w (ix2 i k) : EReal)
    = gradK (args xs z yf yb d i) (vec w) (row dy i) k := by
  have h := fun l => pay14_at i l xs z yf yb d
  pointwise [k0_pay15]; simp only [h]; rw [pay13_at]; rfl
/-- The gradient of either direction, -/
theorem pay16_at : (k0_pay16 (F := Ideal) (k0_pay8 z) (gated xs z yf yb d) (sq xs z yf yb d) k0_pay12 dy w (ix2 i k) : EReal)
    = gradK (args xs z yf yb d i) (vec w) (row dy i) k * si (args xs z yf yb d i) k := by
  pointwise [k0_pay16]; rw [pay15_at, pay8_at i k xs z yf yb d]
/-- of the gate, -/
theorem pay17_at : (k0_pay17 (F := Ideal) (k0_pay5 xs yf yb d) (k0_pay9 z) (gated xs z yf yb d) (sq xs z yf yb d) k0_pay12 dy w (ix2 i k) : EReal)
    = dzK (args xs z yf yb d i) (vec w) (row dy i) k := by
  pointwise [k0_pay17]; rw [pay15_at, pay5_at i k xs z, pay9_at i k xs z yf yb d]; rfl
/-- and the two sums over the rows, added to what is there. -/
theorem pay18_at (a : Vec1) : (k0_pay18 (F := Ideal) (gated xs z yf yb d) (sq xs z yf yb d) k0_pay12 dy a (ix2 u k) : EReal)
    = (a (ix2 u k) : EReal) + ∑ i : Fin 256, row dy i k * yh (args xs z yf yb d i) k := by
  simp only [← pay14_at]; pointwise [k0_pay18]
theorem pay1_at (a : Vec1) : (k0_pay1 (F := Ideal) (k0_pay19 a) (k0_pay20 (k0_pay4 xs) (k0_pay8 z) (gated xs z yf yb d) (sq xs z yf yb d) k0_pay12 dy w) (ix2 u k) : EReal)
    = (a (ix2 u k) : EReal) + ∑ i : Fin 256, gradK (args xs z yf yb d i) (vec w) (row dy i) k * si (args xs z yf yb d i) k * (xs (ix2 i k) : EReal) := by
  pointwise [k0_pay1, k0_pay19, k0_pay20]
  refine congrArg (fun s : EReal => _ + s) (Finset.sum_congr rfl fun i _ => ?_)
  rw [pay16_at, pay4_at]

end Cert.Kernel20Ideal.GateKer
end
-- ==== Proof.GateRef.lean ====
module

public import proofs.«01_k».proof.Proof.GateRow
public import proofs.«01_k».proof.Proof.Gen.Reference20Ideal.Run
@[expose] public section
set_option maxRecDepth 16384
noncomputable section

/-! The reference's gate and norm and their gradients, read at an index. -/

namespace Cert.Reference20Ideal.GateRef
open Idealize.ShloMosaic Idealize.ShloMosaic.TcCoe Idealize.ShloMosaic.Tactic Idealize.SL.Sem
open Cert.Reference20Ideal Cert.Reference20Ideal.Gen Cert.Gate

local notation "Mat" => FVec Ideal S8192x2048 FTy.f32
local notation "Col" => FVec Ideal S8192x1 FTy.f32
local notation "Vec1" => FVec Ideal S1x2048 FTy.f32
local notation "Two" => FVec Ideal S2x8192x2048 FTy.f32
local notation "Conv" => FVec Ideal S8192x3072 FTy.f32
local notation "Proj" => FVec Ideal S8192x5120 FTy.f32

/-- A row of an array, and a row vector. -/
abbrev row (a : Mat) (n : Fin 8192) : Vc := fun k => (a (ix2 n k) : EReal)
abbrev vec (a : Vec1) : Vc := fun k => (a (ix2 0 k) : EReal)

/-! ## The operations the reference is made of -/

/-- A number, a row vector and a column, repeated over an array; -/
def lit (b : BitVec 32) : Mat := broadcastInDim S8192x2048 ![] bcast_S_S8192x2048 (constant S_ .f32 b)
def litc (b : BitVec 32) : Col := broadcastInDim S8192x1 ![] bcast_S_S8192x1 (constant S_ .f32 b)
def rep (a : Vec1) : Mat := broadcastInDim S8192x2048 ![0, 1] bcast_S1x2048_S8192x2048_0_1 a
def spread (a : Col) : Mat := broadcastInDim S8192x2048 ![0, 1] bcast_S8192x1_S8192x2048_0_1 a
/-- the rows' means and sums; -/
def mn (a : Mat) : Col := Host.divf (broadcastInDim S8192x1 ![0] bcast_S8192_S8192x1_0 (Host.reduceAdd a (constant S_ .f32 0x00000000#32) reducesTo_S8192x2048_S8192_d1 h_S_)) (litc 0x45000000#32)
def sums (a : Mat) : Col := shapeCast S8192x1 (Host.reduceAdd a (constant S_ .f32 0x00000000#32) reducesTo_S8192x2048_S8192_d1 h_S_) shapeCasts_S8192_S8192x1
/-- a column summed over its one entry and repeated over an array; -/
def flat (a : Col) : Mat := broadcastInDim S8192x2048 ![0] bcast_S8192_S8192x2048_0 (Host.reduceAdd a (constant S_ .f32 0x00000000#32) reducesTo_S8192x1_S8192_d1 h_S_)
/-- the columns' sums. -/
def down (a : Mat) : Vec1 := shapeCast S1x2048 (Host.reduceAdd a (constant S_ .f32 0x00000000#32) reducesTo_S8192x2048_S2048_d0 h_S_) shapeCasts_S2048_S1x2048

variable (n : Fin 8192) (k : Fin 2048) (u : Fin 1)
theorem lit_at (b : BitVec 32) : (lit b (ix2 n k) : EReal) = Ideal.ofBits .f32 b := by pointwise [lit]
theorem litc_at (b : BitVec 32) : (litc b (ix2 n u) : EReal) = Ideal.ofBits .f32 b := by pointwise [litc]
theorem rep_at (a : Vec1) : (rep a (ix2 n k) : EReal) = vec a k := by pointwise [rep]
theorem spread_at (a : Col) : (spread a (ix2 n k) : EReal) = a (ix2 n 0) := by pointwise [spread]
theorem mn_at (a : Mat) : (mn a (ix2 n u) : EReal) = mean (row a n) := by
  pointwise [mn, litc]; rfl
theorem sums_at (a : Mat) : (sums a (ix2 n u) : EReal) = ∑ l, row a n l := by
  pointwise [sums]
theorem flat_at (a : Col) : (flat a (ix2 n k) : EReal) = a (ix2 n 0) := by
  pointwise [flat]
  exact Fintype.sum_subsingleton _ 0
theorem down_at (a : Mat) (i : S1x2048.Idx) : (down a i : EReal) = ∑ l : Fin 8192, (a (ix2 l (i 1)) : EReal) := by
  pointwise [down]

/-! ## The gate and the norm, stage by stage -/

variable (y2 : Two) (xbc : Conv) (proj : Proj) (d w : Vec1) (ct : Mat)

/-- What a row depends on. -/
abbrev args : Args :=
  ⟨fun k => (y2 (ix3 0 n k) : EReal), fun k => (y2 (ix3 1 n k) : EReal), fun k => (xbc (ix2 n ⟨k.val, by omega⟩) : EReal),
    fun k => (proj (ix2 n ⟨k.val, by omega⟩) : EReal), vec d⟩

/-- The gate's argument and the mixer's input, -/
def z : Mat := extractStridedSlice S8192x2048 ![0, 0] proj slices_S8192x5120_S8192x2048_0_0
def xs : Mat := extractStridedSlice S8192x2048 ![0, 0] xbc slices_S8192x3072_S8192x2048_0_0
/-- the two directions with the skip, -/
def v9 : Mat := addf (addf (shapeCast S8192x2048 (extractStridedSlice S1x8192x2048 ![0, 0, 0] y2 slices_S2x8192x2048_S1x8192x2048_0_0_0) shapeCasts_S1x8192x2048_S8192x2048)
  (shapeCast S8192x2048 (extractStridedSlice S1x8192x2048 ![1, 0, 0] y2 slices_S2x8192x2048_S1x8192x2048_1_0_0) shapeCasts_S1x8192x2048_S8192x2048)) (mulf (rep d) (xs xbc))
/-- the sigmoid and the gate, -/
def sgm : Mat := Host.divf (lit 0x3F800000#32) (addf (lit 0x3F800000#32) (Host.exp (Host.negf (z proj))))
def gate : Mat := mulf (z proj) (sgm proj)
/-- the gated rows, their mean squares and their normalised rows. -/
def v11 : Mat := mulf (v9 y2 xbc d) (gate proj)
def v20 : Col := addf (mn (mulf (v11 y2 xbc proj d) (v11 y2 xbc proj d))) (litc 0x3727C5AC#32)
def v21 : Col := Host.rsqrt (v20 y2 xbc proj d)
def v26 : Mat := mulf (v11 y2 xbc proj d) (spread (v21 y2 xbc proj d))

theorem z_at : (z proj (ix2 n k) : EReal) = (args n y2 xbc proj d).z k := by pointwise [z]
theorem xs_at : (xs xbc (ix2 n k) : EReal) = (args n y2 xbc proj d).xs k := by pointwise [xs]
theorem v9_at : (v9 y2 xbc d (ix2 n k) : EReal) = yt (args n y2 xbc proj d) k := by
  pointwise [v9]; rw [rep_at, xs_at n k y2 xbc proj d]; rfl
theorem sgm_at : (sgm proj (ix2 n k) : EReal) = sg (args n y2 xbc proj d) k := by
  pointwise [sgm]; rw [lit_at, z_at n k y2 xbc proj d]; rfl
theorem gate_at : (gate proj (ix2 n k) : EReal) = si (args n y2 xbc proj d) k := by
  pointwise [gate]; rw [z_at n k y2 xbc proj d, sgm_at n k y2 xbc proj d]; rfl
theorem v11_at : (v11 y2 xbc proj d (ix2 n k) : EReal) = yg (args n y2 xbc proj d) k := by
  pointwise [v11]; rw [v9_at n k y2 xbc proj d, gate_at n k y2 xbc proj d]; rfl
theorem v20_at : (v20 y2 xbc proj d (ix2 n u) : EReal) = vr (args n y2 xbc proj d) := by
  pointwise [v20]; rw [mn_at, litc_at]; unfold vr
  refine congrArg (fun f : Vc => mean f + Cert.Ln.eps) (funext fun l => ?_)
  rw [← v11_at]; rfl
theorem v21_at : (v21 y2 xbc proj d (ix2 n u) : EReal) = rs (args n y2 xbc proj d) := by
  pointwise [v21]; rw [v20_at]; rfl
theorem v26_at : (v26 y2 xbc proj d (ix2 n k) : EReal) = yh (args n y2 xbc proj d) k := by
  pointwise [v26]; rw [v11_at, spread_at, v21_at]; rfl

/-! ## The gradient, stage by stage -/

def v33 : Mat := mulf ct (rep w)
def v41 : Col := Host.divf (mulf (sums (mulf (v11 y2 xbc proj d) (v33 w ct))) (mulf (litc 0xBF000000#32) (Host.divf (v21 y2 xbc proj d) (v20 y2 xbc proj d)))) (litc 0x45000000#32)
def v45 : Mat := addf (mulf (v33 w ct) (spread (v21 y2 xbc proj d))) (mulf (flat (v41 y2 xbc proj d w ct)) (mulf (lit 0x40000000#32) (v11 y2 xbc proj d)))

theorem v33_at : (v33 w ct (ix2 n k) : EReal) = dyn (vec w) (row ct n) k := by
  pointwise [v33]; rw [rep_at]; rfl
theorem v41_at : (v41 y2 xbc proj d w ct (ix2 n u) : EReal) = co (args n y2 xbc proj d) (vec w) (row ct n) := by
  pointwise [v41]; rw [sums_at, litc_at, litc_at, v21_at, v20_at]; unfold co
  refine congrArg (fun s : EReal => Ideal.div (s * _) _) (Finset.sum_congr rfl fun l _ => ?_)
  rw [← v11_at, ← v33_at]; rfl
theorem v45_at : (v45 y2 xbc proj d w ct (ix2 n k) : EReal) = gradR (args n y2 xbc proj d) (vec w) (row ct n) k := by
  pointwise [v45]; rw [v33_at, spread_at, v21_at, flat_at, v41_at, lit_at, v11_at]; rfl

/-! ## The results -/

/-- The gradient of either direction, -/
def DY : Mat := mulf (v45 y2 xbc proj d w ct) (gate proj)
/-- of the gate's argument, -/
def DZ : FVec Ideal S8192x2048 .bf16 :=
  truncf .bf16 (addf (mulf (mulf (v9 y2 xbc d) (v45 y2 xbc proj d w ct)) (sgm proj))
    (mulf (mulf (z proj) (mulf (v9 y2 xbc d) (v45 y2 xbc proj d w ct))) (mulf (sgm proj) (subf (lit 0x3F800000#32) (sgm proj))))) bitsLt_bf16_f32
/-- of the norm's factor, -/
def DW : Vec1 := down (mulf (v26 y2 xbc proj d) ct)
/-- and of the skip's. -/
def DD : Vec1 := down (mulf (DY y2 xbc proj d w ct) (xs xbc))

theorem dy_at : (DY y2 xbc proj d w ct (ix2 n k) : EReal) = gradR (args n y2 xbc proj d) (vec w) (row ct n) k * si (args n y2 xbc proj d) k := by
  pointwise [DY]; rw [v45_at, gate_at n k y2 xbc proj d]
theorem dz_at : (DZ y2 xbc proj d w ct (ix2 n k) : EReal) = dzR (args n y2 xbc proj d) (vec w) (row ct n) k := by
  pointwise [DZ]; rw [v45_at, v9_at n k y2 xbc proj d, sgm_at n k y2 xbc proj d, z_at n k y2 xbc proj d, lit_at]; rfl
theorem dw_at : (DW y2 xbc proj d ct (ix2 u k) : EReal) = ∑ l : Fin 8192, row ct l k * yh (args l y2 xbc proj d) k := by
  unfold DW
  refine (down_at _ _).trans (Finset.sum_congr rfl fun l _ => ?_)
  exact (congrArg (fun s : EReal => s * row ct l k) (v26_at l k y2 xbc proj d)).trans (mul_comm _ _)
theorem dd_at : (DD y2 xbc proj d w ct (ix2 u k) : EReal)
    = ∑ l : Fin 8192, gradR (args l y2 xbc proj d) (vec w) (row ct l) k * si (args l y2 xbc proj d) k * (args l y2 xbc proj d).xs k := by
  unfold DD
  refine (down_at _ _).trans (Finset.sum_congr rfl fun l _ => ?_)
  exact congrArg₂ (fun a b : EReal => a * b) (dy_at l k y2 xbc proj d w ct) (xs_at l k y2 xbc proj d)

/-! ## The reference's results are those -/

open Cert.Reference20Ideal.Value
variable (m : (ℓ : Loc nD τ sig) → Buf (Elt Ideal) ℓ) (c : Dev nD)

theorem dy_eq : res_main_v47 m c = DY (m (c.tc.loc main_arg0)) (m (c.tc.loc main_arg1)) (m (c.tc.loc main_arg2)) (m (c.tc.loc main_arg3)) (m (c.tc.loc main_arg4)) (m (c.tc.loc main_arg5)) := rfl
theorem dz_eq : res_main_v52 m c = DZ (m (c.tc.loc main_arg0)) (m (c.tc.loc main_arg1)) (m (c.tc.loc main_arg2)) (m (c.tc.loc main_arg3)) (m (c.tc.loc main_arg4)) (m (c.tc.loc main_arg5)) := rfl
theorem dd_eq : res_main_v51 m c = DD (m (c.tc.loc main_arg0)) (m (c.tc.loc main_arg1)) (m (c.tc.loc main_arg2)) (m (c.tc.loc main_arg3)) (m (c.tc.loc main_arg4)) (m (c.tc.loc main_arg5)) := rfl

end Cert.Reference20Ideal.GateRef
end
-- ==== Proof.Gate.lean ====
module

public import proofs.«01_k».proof.Proof.GateKer
public import proofs.«01_k».proof.Proof.GateRef
@[expose] public section
set_option maxRecDepth 16384
noncomputable section

/-! The kernel's four arrays after the run are the reference's four gradients. The first two are written block by block;
    the other two are zeroed at the first point, and every point adds its block's sums. -/

namespace Cert.Kernel20Ideal.Gate
open Idealize.ShloMosaic Idealize.ShloMosaic.TcCoe Idealize.ShloMosaic.Tactic Idealize.SL.Sem
open Idealize.ShloMosaic.Pipeline (Dat)
open Cert.Kernel20Ideal Cert.Kernel20Ideal.Gen Cert.Kernel20Ideal.GateKer Cert.Gate
open Cert.Reference20Ideal.GateRef (DY DZ DW DD dy_at dz_at dw_at dd_at)
variable (m : (ℓ : Loc nD τ sig) → Buf (Elt Ideal) ℓ) (c : Dev nD)

/-- The arguments. -/
abbrev Y2 : FVec Ideal S2x8192x2048 .f32 := m (c.tc.loc main_arg0)
abbrev XBC : FVec Ideal S8192x3072 .f32 := m (c.tc.loc main_arg1)
abbrev PROJ : FVec Ideal S8192x5120 .f32 := m (c.tc.loc main_arg2)
abbrev D : FVec Ideal S1x2048 .f32 := m (c.tc.loc main_arg3)
abbrev NW : FVec Ideal S1x2048 .f32 := m (c.tc.loc main_arg4)
abbrev CT : FVec Ideal S8192x2048 .f32 := m (c.tc.loc main_arg5)
/-- What a row of the arrays depends on, and a row of the result's gradient. -/
abbrev aargs (n : Fin 8192) : Args := Cert.Reference20Ideal.GateRef.args n (Y2 m c) (XBC m c) (PROJ m c) (D m c)
abbrev act (n : Fin 8192) : Vc := Cert.Reference20Ideal.GateRef.row (CT m c) n

theorem V0 : V m c main_v0 = truncf .bf16 (XBC m c) bitsLt_bf16_f32 := by
  unfold V
  simp only [hostOps0, List.flatten_cons, List.flatten_nil, List.cons_append, List.nil_append, List.append_nil]
  after_results
theorem V1 : V m c main_v1 = truncf .bf16 (PROJ m c) bitsLt_bf16_f32 := by
  unfold V
  simp only [hostOps0, List.flatten_cons, List.flatten_nil, List.cons_append, List.nil_append, List.append_nil]
  after_results

theorem idx : ∀ t : Fin cfg0.N, win0_0.index t = ![t.val, 0] ∧ win0_1.index t = ![0, t.val, 0] ∧ win0_2.index t = ![t.val, 0] ∧ win0_3.index t = ![t.val, 0] ∧ win0_4.index t = ![0, 0]
    ∧ win0_5.index t = ![0, 0] ∧ win0_6.index t = ![t.val, 0] ∧ win0_7.index t = ![t.val, 0] ∧ win0_8.index t = ![0, 0] ∧ win0_9.index t = ![0, 0] :=
  (by decide +kernel : ∀ t : Fin grid0.N, _)

/-- The array's row that is row `i` of block `t`. -/
abbrev at_ (t : Fin cfg0.N) (i : Fin 256) : Fin 8192 := ⟨t.val * 256 + i, by have : t.val < 32 := t.isLt; omega⟩

theorem readY (t : Fin cfg0.N) (h : Fin 2) (i : Fin 256) (k : Fin 2048) : (iblk m c 1 t (ix3 h i k) : EReal) = Y2 m c (ix3 h (at_ t i) k) := by
  refine Eq.trans ?_ (congrFun (V_main_arg0 m c) (ix3 h (at_ t i) k))
  blk_ext [iblk, idx t]
theorem rowCT (t : Fin cfg0.N) (i : Fin 256) : row (iblk m c 0 t) i = act m c (at_ t i) := by
  funext k
  refine Eq.trans (?_ : (iblk m c 0 t (ix2 i k) : EReal) = _) (congrFun (V_main_arg5 m c) (ix2 (at_ t i) k))
  blk_ext [iblk, idx t]
theorem vecD (t : Fin cfg0.N) : vec (iblk m c 4 t) = vec (D m c) := by
  funext k
  refine Eq.trans (?_ : (iblk m c 4 t (ix2 0 k) : EReal) = _) (congrFun (V_main_arg3 m c) (ix2 0 k))
  blk_ext [iblk, idx t]
theorem vecW (t : Fin cfg0.N) : vec (iblk m c 5 t) = vec (NW m c) := by
  funext k
  refine Eq.trans (?_ : (iblk m c 5 t (ix2 0 k) : EReal) = _) (congrFun (V_main_arg4 m c) (ix2 0 k))
  blk_ext [iblk, idx t]
theorem readXS (t : Fin cfg0.N) (i : Fin 256) (k : Fin 2048) : (X0_2 m c t (ix2 i k) : EReal) = (aargs m c (at_ t i)).xs k := by
  refine Eq.trans ?_ (congrFun (V0 m c) (ix2 (at_ t i) ⟨k.val, by omega⟩))
  unfold X0_2 Pipeline.Window.fill
  rw [dif_pos (moved0_2 t _)]
  blk_ext [iblk, idx t]
theorem readZ (t : Fin cfg0.N) (i : Fin 256) (k : Fin 2048) : (X0_3 m c t (ix2 i k) : EReal) = (aargs m c (at_ t i)).z k := by
  refine Eq.trans ?_ (congrFun (V1 m c) (ix2 (at_ t i) ⟨k.val, by omega⟩))
  unfold X0_3 Pipeline.Window.fill
  rw [dif_pos (moved0_3 t _)]
  blk_ext [iblk, idx t]

/-- A direction's half of the block of scans. -/
abbrev half0 (t : Fin cfg0.N) : FVec Ideal S1x256x2048 .f32 := View.ld (iblk m c 1 t) (Rect.unit ![0, 0, 0] ![1, 256, 2048] inb_S2x256x2048_S1x256x2048_0_0_0)
abbrev half1 (t : Fin cfg0.N) : FVec Ideal S1x256x2048 .f32 := View.ld (iblk m c 1 t) (Rect.unit ![1, 0, 0] ![1, 256, 2048] inb_S2x256x2048_S1x256x2048_1_0_0)
theorem readYF (t : Fin cfg0.N) (i : Fin 256) (k : Fin 2048) : (half0 m c t (ix3 0 i k) : EReal) = (aargs m c (at_ t i)).yf k := by
  refine (View.ld_unit_apply_of _ _ _ _ _ (ix3 0 i k) fun a => ?_).trans (readY m c t 0 i k)
  fin_cases a
  · rfl
  · exact (Nat.zero_add _).symm
  · exact (Nat.zero_add _).symm
theorem readYB (t : Fin cfg0.N) (i : Fin 256) (k : Fin 2048) : (half1 m c t (ix3 0 i k) : EReal) = (aargs m c (at_ t i)).yb k := by
  refine (View.ld_unit_apply_of _ _ _ _ _ (ix3 1 i k) fun a => ?_).trans (readY m c t 1 i k)
  fin_cases a
  · rfl
  · exact (Nat.zero_add _).symm
  · exact (Nat.zero_add _).symm

/-- What a row of a point's blocks depends on, in the arrays. -/
theorem argsB (t : Fin cfg0.N) (i : Fin 256) : args (X0_2 m c t) (X0_3 m c t) (half0 m c t) (half1 m c t) (iblk m c 4 t) i = aargs m c (at_ t i) := by
  have h0 : (fun k => (half0 m c t (ix3 0 i k) : EReal)) = (aargs m c (at_ t i)).yf := funext fun k => readYF m c t i k
  have h1 : (fun k => (half1 m c t (ix3 0 i k) : EReal)) = (aargs m c (at_ t i)).yb := funext fun k => readYB m c t i k
  have h2 : (fun k => (X0_2 m c t (ix2 i k) : EReal)) = (aargs m c (at_ t i)).xs := funext fun k => readXS m c t i k
  have h3 : (fun k => (X0_3 m c t (ix2 i k) : EReal)) = (aargs m c (at_ t i)).z := funext fun k => readZ m c t i k
  unfold args
  rw [h0, h1, h2, h3, vecD]

/-- The kernel's gradient of a row of the gated scans. -/
abbrev GR (n : Fin 8192) : Vc := gradK (aargs m c n) (vec (NW m c)) (act m c n)

/-- The two ways of writing the gradients agree in every row. -/
def Same : Prop := ∀ n, GR m c n = gradR (aargs m c n) (vec (NW m c)) (act m c n)
  ∧ dzK (aargs m c n) (vec (NW m c)) (act m c n) = dzR (aargs m c n) (vec (NW m c)) (act m c n)

theorem blk6 (t : Fin cfg0.N) (i : Fin 256) (k : Fin 2048) :
    ((outsAt0 m c t.val t.isLt).1 (ix2 i k) : EReal) = GR m c (at_ t i) k * si (aargs m c (at_ t i)) k := by
  have e := pay16_at i k (X0_2 m c t) (X0_3 m c t) (half0 m c t) (half1 m c t) (iblk m c 4 t) (iblk m c 5 t) (iblk m c 0 t)
  rw [argsB, rowCT, vecW] at e
  refine Eq.trans ?_ e
  by_cases h : t.val % 32 = 0
  · rw [outsAt0_A m c t h]; frame_out; rfl
  · rw [outsAt0_B m c t h]; frame_out; rfl
theorem blk7 (t : Fin cfg0.N) (i : Fin 256) (k : Fin 2048) :
    ((outsAt0 m c t.val t.isLt).2.1 (ix2 i k) : EReal) = dzK (aargs m c (at_ t i)) (vec (NW m c)) (act m c (at_ t i)) k := by
  have e := pay17_at i k (X0_2 m c t) (X0_3 m c t) (half0 m c t) (half1 m c t) (iblk m c 4 t) (iblk m c 5 t) (iblk m c 0 t)
  rw [argsB, rowCT, vecW] at e
  refine Eq.trans ?_ e
  by_cases h : t.val % 32 = 0
  · rw [outsAt0_A m c t h]; frame_out; rfl
  · rw [outsAt0_B m c t h]; frame_out; rfl

theorem final6 (S : Same m c) : (dats m 0 c).arrAt 6 (cfgs 0).N = DY (Y2 m c) (XBC m c) (PROJ m c) (D m c) (NW m c) (CT m c) := by
  refine (dats m 0 c).arrAt_eq_of_covers 6 _ (by decide +kernel) fun t _ y => ?_
  blk_simp
  rw [after0_6]
  have hy : ((View.whole main_v2_0).slice (win0_6.rect t)).emb y = ix2 (at_ t (y 0)) (y 1) := by
    blk_ext [idx t]
  rw [hy]
  refine (congrArg _ (ix2_eta y).symm).trans ((blk6 m c t _ _).trans (Eq.trans ?_ (dy_at _ _ _ _ _ _ _ _).symm))
  rw [(S _).1]
theorem final7 (S : Same m c) : (dats m 0 c).arrAt 7 (cfgs 0).N = DZ (Y2 m c) (XBC m c) (PROJ m c) (D m c) (NW m c) (CT m c) := by
  refine (dats m 0 c).arrAt_eq_of_covers 7 _ (by decide +kernel) fun t _ y => ?_
  blk_simp
  rw [after0_7]
  have hy : ((View.whole main_v2_1).slice (win0_7.rect t)).emb y = ix2 (at_ t (y 0)) (y 1) := by
    blk_ext [idx t]
  rw [hy]
  refine (congrArg _ (ix2_eta y).symm).trans ((blk7 m c t _ _).trans (Eq.trans ?_ (dz_at _ _ _ _ _ _ _ _).symm))
  rw [(S _).2]

/-! ## The two sums -/

/-- What is zero plus the first block's sum at the first point, and grows by every further block's sum, is in the end the
    sum over all rows. -/
theorem sum_rows (f : (n : ℕ) → n < cfg0.N → Fin 2048 → EReal) (R : Fin 8192 → Vc)
    (h0 : ∀ t : Fin cfg0.N, t.val % 32 = 0 → ∀ k, f t.val t.isLt k = 0 + ∑ i : Fin 256, R (at_ t i) k)
    (hs : ∀ t : Fin cfg0.N, ¬t.val % 32 = 0 → ∀ k, f t.val t.isLt k = f (t.val - 1) (Nat.lt_of_le_of_lt (Nat.sub_le _ _) t.isLt) k + ∑ i : Fin 256, R (at_ t i) k)
    (t : Fin cfg0.N) (h : t.val % 32 = 31) (k : Fin 2048) : f t.val t.isLt k = ∑ n, R n k := by
  refine ((Pipeline.eq_sum_fin_of_reset_step_apply_of_flush f 32 (fun _ => (0 : EReal)) (fun t k => ∑ i : Fin 256, R (at_ t i) k) h0 hs t h k).trans (zero_add _)).trans ?_
  have hN : t.val < 32 := t.isLt
  refine Fin.sum_mul_add_congr fun s i hl => congrArg (fun n => R n k) (Fin.ext ?_)
  dsimp only
  omega

/-- What a row adds to either. -/
abbrev RW (n : Fin 8192) : Vc := fun k => act m c n k * yh (aargs m c n) k
abbrev RD (n : Fin 8192) : Vc := fun k => GR m c n k * si (aargs m c n) k * (aargs m c n).xs k

theorem step8 (t : Fin cfg0.N) (k : Fin 2048) (a : FVec Ideal S1x2048 .f32) :
    (k0_pay18 (F := Ideal) (gated (X0_2 m c t) (X0_3 m c t) (half0 m c t) (half1 m c t) (iblk m c 4 t)) (sq (X0_2 m c t) (X0_3 m c t) (half0 m c t) (half1 m c t) (iblk m c 4 t)) k0_pay12 (iblk m c 0 t) a (ix2 0 k) : EReal)
      = (a (ix2 0 k) : EReal) + ∑ i : Fin 256, RW m c (at_ t i) k := by
  refine (pay18_at k 0 (X0_2 m c t) (X0_3 m c t) (half0 m c t) (half1 m c t) (iblk m c 4 t) (iblk m c 0 t) a).trans ?_
  refine congrArg (fun z : EReal => (a (ix2 0 k) : EReal) + z) (Finset.sum_congr rfl fun i _ => ?_)
  rw [argsB, rowCT]
theorem step9 (t : Fin cfg0.N) (k : Fin 2048) (a : FVec Ideal S1x2048 .f32) :
    (k0_pay1 (F := Ideal) (k0_pay19 a) (k0_pay20 (k0_pay4 (X0_2 m c t)) (k0_pay8 (X0_3 m c t)) (gated (X0_2 m c t) (X0_3 m c t) (half0 m c t) (half1 m c t) (iblk m c 4 t)) (sq (X0_2 m c t) (X0_3 m c t) (half0 m c t) (half1 m c t) (iblk m c 4 t)) k0_pay12 (iblk m c 0 t) (iblk m c 5 t)) (ix2 0 k) : EReal)
      = (a (ix2 0 k) : EReal) + ∑ i : Fin 256, RD m c (at_ t i) k := by
  refine (pay1_at k 0 (X0_2 m c t) (X0_3 m c t) (half0 m c t) (half1 m c t) (iblk m c 4 t) (iblk m c 5 t) (iblk m c 0 t) a).trans ?_
  refine congrArg (fun z : EReal => (a (ix2 0 k) : EReal) + z) (Finset.sum_congr rfl fun i _ => ?_)
  rw [argsB, rowCT, vecW, readXS]
/-- The two are zeroed at the first point. -/
theorem zero8 (k : Fin 2048) : (k0_pay2 (F := Ideal) (ix2 0 k) : EReal) = 0 := by pointwise [k0_pay2]
theorem zero9 (k : Fin 2048) : (k0_pay3 (F := Ideal) (ix2 0 k) : EReal) = 0 := by pointwise [k0_pay3]

theorem acc8 (t : Fin cfg0.N) (h : t.val % 32 = 31) (k : Fin 2048) : ((outsAt0 m c t.val t.isLt).2.2.1 (ix2 0 k) : EReal) = ∑ n, RW m c n k := by
  refine sum_rows (fun n h k => ((outsAt0 m c n h).2.2.1 (ix2 0 k) : EReal)) (RW m c) (fun t h k => ?_) (fun t h k => ?_) t h k
  · rw [outsAt0_A m c t h]; frame_out
    exact (step8 m c t k _).trans (congrArg (fun z : EReal => z + _) (zero8 k))
  · rw [outsAt0_B m c t h]; frame_out
    exact step8 m c t k _
theorem acc9 (t : Fin cfg0.N) (h : t.val % 32 = 31) (k : Fin 2048) : ((outsAt0 m c t.val t.isLt).2.2.2 (ix2 0 k) : EReal) = ∑ n, RD m c n k := by
  refine sum_rows (fun n h k => ((outsAt0 m c n h).2.2.2 (ix2 0 k) : EReal)) (RD m c) (fun t h k => ?_) (fun t h k => ?_) t h k
  · rw [outsAt0_A m c t h]; frame_out
    exact (step9 m c t k _).trans (congrArg (fun z : EReal => z + _) (zero9 k))
  · rw [outsAt0_B m c t h]; frame_out
    exact step9 m c t k _

theorem final8 : (dats m 0 c).arrAt 8 (cfgs 0).N = DW (Y2 m c) (XBC m c) (PROJ m c) (D m c) (CT m c) := by
  refine (dats m 0 c).arrAt_eq_of_covers 8 _ (by decide +kernel) fun t hf y => ?_
  blk_simp
  have hy : ((View.whole main_v2_2).slice (win0_8.rect t)).emb y = ix2 0 (y 1) := by
    blk_ext [idx t]
  have hy' : y = ix2 0 (y 1) := by blk_ext
  rw [after0_8, hy, hy']
  exact (acc8 m c t ((flush0_8 t).mp hf) _).trans (dw_at _ _ _ _ _ _ _).symm
theorem final9 (S : Same m c) : (dats m 0 c).arrAt 9 (cfgs 0).N = DD (Y2 m c) (XBC m c) (PROJ m c) (D m c) (NW m c) (CT m c) := by
  refine (dats m 0 c).arrAt_eq_of_covers 9 _ (by decide +kernel) fun t hf y => ?_
  blk_simp
  have hy : ((View.whole main_v2_3).slice (win0_9.rect t)).emb y = ix2 0 (y 1) := by
    blk_ext [idx t]
  have hy' : y = ix2 0 (y 1) := by blk_ext
  rw [after0_9, hy, hy']
  refine (acc9 m c t ((flush0_9 t).mp hf) _).trans (Eq.trans ?_ (dd_at _ _ _ _ _ _ _ _).symm)
  refine Finset.sum_congr rfl fun n _ => ?_
  dsimp only [RD]
  rw [(S n).1]
  rfl

end Cert.Kernel20Ideal.Gate
end
-- ==== Proof.GateFin.lean ====
module

public import proofs.«01_k».proof.Proof.Finite
public import proofs.«01_k».proof.Proof.Gate
public import proofs.«01_k».proof.Proof.Gen.Pre_finite20
@[expose] public section
set_option maxRecDepth 16384
noncomputable section

/-! Arguments that satisfy the gate's precondition are real numbers, so the two ways of writing the gradients agree in
    every row. -/

namespace Cert.Kernel20Ideal.Gate
open Idealize.ShloMosaic Idealize.ShloMosaic.TcCoe Idealize.ShloMosaic.Tactic Idealize.SL.Sem
open Cert.Kernel20Ideal Cert.Kernel20Ideal.Gen Cert.Kernel20Ideal.GateKer Cert.Gate
open Cert.Fin (real_of and_one)

/-- An array of which every entry was checked has real entries. -/
theorem all_real {S T : Shape} [Subsingleton T.Idx] {l : List (Fin S.rank)} (a b0 b1 : FVec Ideal S .f32) (init : IVec T 1) (hr : S.ReducesTo l T) (hT : 0 < T.numel) (j : T.Idx)
    (hb0 : b0 = fun _ => Ideal.ofBits .f32 0xFF800000#32) (hb1 : b1 = fun _ => Ideal.ofBits .f32 0x7F800000#32)
    (h : Host.reduce IntOp.andi (andi (cmpf .ogt a b0) (cmpf .olt a b1)) init hr hT j = 1#1) (i : S.Idx) : (a i : EReal) = (((a i : EReal).toReal : ℝ) : EReal) := by
  have := Host.reduce_andi_all _ _ _ _ j h i
  subst hb0 hb1
  exact real_of _ this

variable (m : (ℓ : Loc nD τ sig) → Buf (Elt Ideal) ℓ) (c : Dev nD)

theorem same (h : Cert.Pre_finite20.fn (F := Ideal) (Y2 m c) (XBC m c) (PROJ m c) (D m c) (NW m c) (CT m c) = fun _ => 1#1) : Same m c := by
  have h0 := congrFun h ix0
  dsimp only [Cert.Pre_finite20.fn, Cert.Pre_finite20.fn_part1, Cert.Pre_finite20.fn_part2] at h0
  obtain ⟨h0, h5⟩ := and_one _ _ h0
  obtain ⟨h0, h4⟩ := and_one _ _ h0
  obtain ⟨h0, h3⟩ := and_one _ _ h0
  obtain ⟨h0, h2⟩ := and_one _ _ h0
  obtain ⟨h0, h1⟩ := and_one _ _ h0
  have r0 := all_real (Y2 m c) _ _ _ _ _ _ rfl rfl h0
  have r1 := all_real (XBC m c) _ _ _ _ _ _ rfl rfl h1
  have r2 := all_real (PROJ m c) _ _ _ _ _ _ rfl rfl h2
  have r3 := all_real (D m c) _ _ _ _ _ _ rfl rfl h3
  have r4 := all_real (NW m c) _ _ _ _ _ _ rfl rfl h4
  have r5 := all_real (CT m c) _ _ _ _ _ _ rfl rfl h5
  intro n
  have ha : (aargs m c n).IsReal := ⟨fun k => r0 (ix3 0 n k), fun k => r0 (ix3 1 n k), fun k => r1 (ix2 n ⟨k.val, by omega⟩),
    fun k => r2 (ix2 n ⟨k.val, by omega⟩), fun k => r3 (ix2 0 k)⟩
  have hw : IsReal (vec (NW m c)) := fun k => r4 (ix2 0 k)
  have hd : IsReal (act m c n) := fun k => r5 (ix2 n k)
  exact ⟨(grad_real ha hw hd).1, dz_eq ha hw hd⟩

end Cert.Kernel20Ideal.Gate
end
-- ==== Proof.GateFwd.lean ====
module

public import proofs.«01_k».proof.Proof.GateRef
public import proofs.«01_k».proof.Proof.Gen.Kernel19Ideal.Value
public import proofs.«01_k».proof.Proof.Gen.Reference19Ideal.Run
public import Idealize.ShloMosaic.Lib.Pipeline.ValueKit
public import Idealize.ShloMosaic.Lib.Pipeline.ReadBack
@[expose] public section
set_option maxRecDepth 16384
noncomputable section

/-! The gated and normalised scans: every row of a block is the reference's row. -/

namespace Cert.Kernel19Ideal.GateFwd
open Idealize.ShloMosaic Idealize.ShloMosaic.TcCoe Idealize.ShloMosaic.Tactic Idealize.SL.Sem
open Idealize.ShloMosaic.Pipeline (Dat)
open Cert.Kernel19Ideal Cert.Kernel19Ideal.Gen Cert.Gate
open Cert.Reference20Ideal.GateRef (v26 v26_at rep rep_at)
variable (m : (ℓ : Loc nD τ sig) → Buf (Elt Ideal) ℓ) (c : Dev nD)

/-- The arguments. -/
abbrev Y2 : FVec Ideal S2x8192x2048 .f32 := m (c.tc.loc main_arg0)
abbrev XBC : FVec Ideal S8192x3072 .f32 := m (c.tc.loc main_arg1)
abbrev PROJ : FVec Ideal S8192x5120 .f32 := m (c.tc.loc main_arg2)
abbrev D : FVec Ideal S1x2048 .f32 := m (c.tc.loc main_arg3)
abbrev NW : FVec Ideal S1x2048 .f32 := m (c.tc.loc main_arg4)
/-- What a row of the arrays depends on. -/
abbrev aargs (n : Fin 8192) : Args := Cert.Reference20Ideal.GateRef.args n (Y2 m c) (XBC m c) (PROJ m c) (D m c)
abbrev vec (a : FVec Ideal S1x2048 .f32) : Vc := fun k => (a (ix2 0 k) : EReal)

/-- The reference's result. -/
def REF (y2 : FVec Ideal S2x8192x2048 .f32) (xbc : FVec Ideal S8192x3072 .f32) (proj : FVec Ideal S8192x5120 .f32) (d w : FVec Ideal S1x2048 .f32) : FVec Ideal S8192x2048 .bf16 :=
  truncf .bf16 (mulf (v26 y2 xbc proj d) (rep w)) bitsLt_bf16_f32

theorem ref_at (n : Fin 8192) (k : Fin 2048) : (REF (Y2 m c) (XBC m c) (PROJ m c) (D m c) (NW m c) (ix2 n k) : EReal) = yh (aargs m c n) k * vec (NW m c) k := by
  pointwise [REF]; rw [v26_at, rep_at]

theorem V0 : V m c main_v0 = truncf .bf16 (XBC m c) bitsLt_bf16_f32 := by
  unfold V
  simp only [hostOps0, List.flatten_cons, List.flatten_nil, List.cons_append, List.nil_append, List.append_nil]
  after_results
theorem V1 : V m c main_v1 = truncf .bf16 (PROJ m c) bitsLt_bf16_f32 := by
  unfold V
  simp only [hostOps0, List.flatten_cons, List.flatten_nil, List.cons_append, List.nil_append, List.append_nil]
  after_results

theorem idx : ∀ t : Fin cfg0.N, win0_0.index t = ![0, t.val, 0] ∧ win0_1.index t = ![t.val, 0] ∧ win0_2.index t = ![t.val, 0] ∧ win0_3.index t = ![0, 0] ∧ win0_4.index t = ![0, 0]
    ∧ win0_5.index t = ![t.val, 0] :=
  (by decide +kernel : ∀ t : Fin grid0.N, _)

/-- The array's row that is row `i` of block `t`. -/
abbrev at_ (t : Fin cfg0.N) (i : Fin 256) : Fin 8192 := ⟨t.val * 256 + i, by have : t.val < 32 := t.isLt; omega⟩

theorem readY (t : Fin cfg0.N) (h : Fin 2) (i : Fin 256) (k : Fin 2048) : (iblk m c 0 t (ix3 h i k) : EReal) = Y2 m c (ix3 h (at_ t i) k) := by
  refine Eq.trans ?_ (congrFun (V_main_arg0 m c) (ix3 h (at_ t i) k))
  blk_ext [iblk, idx t]
theorem vecD (t : Fin cfg0.N) : vec (iblk m c 3 t) = vec (D m c) := by
  funext k
  refine Eq.trans (?_ : (iblk m c 3 t (ix2 0 k) : EReal) = _) (congrFun (V_main_arg3 m c) (ix2 0 k))
  blk_ext [iblk, idx t]
theorem vecW (t : Fin cfg0.N) : vec (iblk m c 4 t) = vec (NW m c) := by
  funext k
  refine Eq.trans (?_ : (iblk m c 4 t (ix2 0 k) : EReal) = _) (congrFun (V_main_arg4 m c) (ix2 0 k))
  blk_ext [iblk, idx t]
theorem readXS (t : Fin cfg0.N) (i : Fin 256) (k : Fin 2048) : (X0_1 m c t (ix2 i k) : EReal) = (aargs m c (at_ t i)).xs k := by
  refine Eq.trans ?_ (congrFun (V0 m c) (ix2 (at_ t i) ⟨k.val, by omega⟩))
  unfold X0_1 Pipeline.Window.fill
  rw [dif_pos (moved0_1 t _)]
  blk_ext [iblk, idx t]
theorem readZ (t : Fin cfg0.N) (i : Fin 256) (k : Fin 2048) : (X0_2 m c t (ix2 i k) : EReal) = (aargs m c (at_ t i)).z k := by
  refine Eq.trans ?_ (congrFun (V1 m c) (ix2 (at_ t i) ⟨k.val, by omega⟩))
  unfold X0_2 Pipeline.Window.fill
  rw [dif_pos (moved0_2 t _)]
  blk_ext [iblk, idx t]
/-- A direction's half of the block of scans. -/
abbrev half0 (t : Fin cfg0.N) : FVec Ideal S1x256x2048 .f32 := View.ld (iblk m c 0 t) (Rect.unit ![0, 0, 0] ![1, 256, 2048] inb_S2x256x2048_S1x256x2048_0_0_0)
abbrev half1 (t : Fin cfg0.N) : FVec Ideal S1x256x2048 .f32 := View.ld (iblk m c 0 t) (Rect.unit ![1, 0, 0] ![1, 256, 2048] inb_S2x256x2048_S1x256x2048_1_0_0)
theorem readYF (t : Fin cfg0.N) (i : Fin 256) (k : Fin 2048) : (half0 m c t (ix3 0 i k) : EReal) = (aargs m c (at_ t i)).yf k := by
  refine (View.ld_unit_apply_of _ _ _ _ _ (ix3 0 i k) fun a => ?_).trans (readY m c t 0 i k)
  fin_cases a
  · rfl
  · exact (Nat.zero_add _).symm
  · exact (Nat.zero_add _).symm
theorem readYB (t : Fin cfg0.N) (i : Fin 256) (k : Fin 2048) : (half1 m c t (ix3 0 i k) : EReal) = (aargs m c (at_ t i)).yb k := by
  refine (View.ld_unit_apply_of _ _ _ _ _ (ix3 1 i k) fun a => ?_).trans (readY m c t 1 i k)
  fin_cases a
  · rfl
  · exact (Nat.zero_add _).symm
  · exact (Nat.zero_add _).symm

/-- What a row of a point's blocks depends on. -/
abbrev args (xs z : FVec Ideal S256x2048 .bf16) (yf yb : FVec Ideal S1x256x2048 .f32) (d : FVec Ideal S1x2048 .f32) (i : Fin 256) : Args :=
  ⟨fun k => (yf (ix3 0 i k) : EReal), fun k => (yb (ix3 0 i k) : EReal), fun k => (xs (ix2 i k) : EReal), fun k => (z (ix2 i k) : EReal), vec d⟩
theorem argsB (t : Fin cfg0.N) (i : Fin 256) : args (X0_1 m c t) (X0_2 m c t) (half0 m c t) (half1 m c t) (iblk m c 3 t) i = aargs m c (at_ t i) := by
  have h0 : (fun k => (half0 m c t (ix3 0 i k) : EReal)) = (aargs m c (at_ t i)).yf := funext fun k => readYF m c t i k
  have h1 : (fun k => (half1 m c t (ix3 0 i k) : EReal)) = (aargs m c (at_ t i)).yb := funext fun k => readYB m c t i k
  have h2 : (fun k => (X0_1 m c t (ix2 i k) : EReal)) = (aargs m c (at_ t i)).xs := funext fun k => readXS m c t i k
  have h3 : (fun k => (X0_2 m c t (ix2 i k) : EReal)) = (aargs m c (at_ t i)).z := funext fun k => readZ m c t i k
  unfold args
  rw [h0, h1, h2, h3, vecD]

/-- What a point computes of its blocks. -/
theorem pay_at (xs z : FVec Ideal S256x2048 .bf16) (yf yb : FVec Ideal S1x256x2048 .f32) (d w : FVec Ideal S1x2048 .f32) (i : Fin 256) (k : Fin 2048) :
    (k0_pay1 (F := Ideal) yf yb d xs z w (ix2 i k) : EReal) = yh (args xs z yf yb d i) k * vec w k := by
  pointwise [k0_pay1]
  simp only [zero_sub, ← one_val]
  rfl

theorem blk (t : Fin cfg0.N) (i : Fin 256) (k : Fin 2048) : (outsAt0 m c t (ix2 i k) : EReal) = yh (aargs m c (at_ t i)) k * vec (NW m c) k := by
  have e := pay_at (X0_1 m c t) (X0_2 m c t) (half0 m c t) (half1 m c t) (iblk m c 3 t) (iblk m c 4 t) i k
  rw [argsB, vecW] at e
  refine Eq.trans ?_ e
  unfold outsAt0 out0_A_5; frame_out; rfl

/-- The array after the run. -/
theorem final : (dats m 0 c).arrAt 5 (cfgs 0).N = REF (Y2 m c) (XBC m c) (PROJ m c) (D m c) (NW m c) := by
  refine (dats m 0 c).arrAt_eq_of_covers 5 _ (by decide +kernel) fun t _ y => ?_
  blk_simp
  rw [after0_5]
  have hy : ((View.whole main_v2).slice (win0_5.rect t)).emb y = ix2 (at_ t (y 0)) (y 1) := by
    blk_ext [idx t]
  rw [hy]
  exact (congrArg _ (ix2_eta y).symm).trans ((blk m c t _ _).trans (ref_at m c _ _).symm)

end Cert.Kernel19Ideal.GateFwd
end
-- ==== Proof.Blk.lean ====
module

public import proofs.«01_k».proof.Proof.Win
public import Idealize.ShloMosaic.Lib.Pipeline.ValueKit
public import Idealize.ShloMosaic.Lib.Pipeline.ReadBack
public import Idealize.ShloMosaic.Lib.Pointwise

@[expose] public section
set_option maxRecDepth 16384
noncomputable section

/-! The attention gradient's grid point, read at an index: two heads of one sub-sequence of 512 positions. -/

namespace Cert.KernelIdeal.Blk
open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Win

/-! ## What one grid point computes, as plain functions of its blocks -/

/-- Lane `e` of head `hh` among the 128 lanes of a block. -/
def lane (hh : Fin 2) (e : Fin 64) : Fin 128 := ⟨64 * hh.val + e.val, by have := hh.isLt; have := e.isLt; omega⟩

variable (sl : EReal) (q k v d : FVec Ideal S512x128 .bf16) (o l : FVec Ideal S512x128 .f32)

/-- The softmax weight of query row `i` on key row `j`, in head `hh` of slope `sl`: `exp (score - lse)`. -/
def prob (hh : Fin 2) (i j : Fin 512) : EReal :=
  Ideal.exp (Scalar.select (IntOp.cmpi .sle (dlt i.val j.val) 64#32)
    ((∑ e : Fin 64, q (ix2 i (lane hh e)) * k (ix2 j (lane hh e))) * Ideal.ofBits .f32 1040187392#32
      - sl * FloatOps.sitofp (F := Ideal) .f32 (IntOp.muli (dlt i.val j.val) 16#32))
    (Named.named (F := Ideal) (φ := .f32) κ "mask" 4048155338#32) - l (ix2 i (lane hh 0)))

/-- The score's gradient: the weight times (the weight's gradient less the row's own mean of it). -/
def dscore (hh : Fin 2) (i j : Fin 512) : EReal :=
  prob sl q k l hh i j * ((∑ e : Fin 64, d (ix2 i (lane hh e)) * v (ix2 j (lane hh e)))
    - ∑ e : Fin 64, d (ix2 i (lane hh e)) * o (ix2 i (lane hh e)))

/-- Every lane is some head's. -/
theorem exists_lane (b : Fin 128) : ∃ hh e, b = lane hh e := by
  have := b.isLt
  refine ⟨⟨b.val / 64, by omega⟩, ⟨b.val % 64, by omega⟩, Fin.ext ?_⟩
  simp only [lane]
  omega

/-- The mask's constant is minus infinity. -/
theorem mask_eq : Named.named (F := Ideal) (φ := .f32) κ "mask" 4048155338#32 = (⊥ : EReal) := rfl

/-- Far-off rows have no weight, -/
theorem prob_far (hh : Fin 2) (i j : Fin 512) (h : 64 < (j.val - i.val) + (i.val - j.val)) : prob sl q k l hh i j = 0 := by
  have := i.isLt; have := j.isLt
  unfold prob
  rw [far i.val j.val (by omega) (by omega) h, mask_eq]
  show Ideal.exp (⊥ - _) = 0
  rw [EReal.bot_sub]
  rfl

/-- nor a gradient. -/
theorem dscore_far (hh : Fin 2) (i j : Fin 512) (h : 64 < (j.val - i.val) + (i.val - j.val)) : dscore sl q k v d o l hh i j = 0 := by
  rw [dscore, prob_far _ _ _ _ _ _ _ h, zero_mul]

/-! ## One block of 128 rows against its window of 256 rows, from the loaded arrays -/

/-- The softmax weight of a block's row `r` on its window's row `a`, in head `hh`: `exp (score - lse)`. -/
def wprob (D : FVec Ideal S128x256 .f32) (V : IVec S128x256 1) (q : FVec Ideal S128x128 .bf16) (k : FVec Ideal S256x128 .bf16)
    (l : FVec Ideal S128x128 .f32) (s : Fin 2 → EReal) (hh : Fin 2) (r : Fin 128) (a : Fin 256) : EReal :=
  Ideal.exp (Scalar.select (V (ix2 r a))
    ((∑ e : Fin 64, q (ix2 r (lane hh e)) * k (ix2 a (lane hh e))) * Ideal.ofBits .f32 1040187392#32 - s hh * D (ix2 r a))
    (Named.named (F := Ideal) (φ := .f32) κ "mask" 4048155338#32) - l (ix2 r (lane hh 0)))

/-- The score's gradient there: the weight times (the weight's gradient less the row's own mean of it). -/
def wds (D : FVec Ideal S128x256 .f32) (V : IVec S128x256 1) (q d : FVec Ideal S128x128 .bf16) (k v : FVec Ideal S256x128 .bf16)
    (o l : FVec Ideal S128x128 .f32) (s : Fin 2 → EReal) (hh : Fin 2) (r : Fin 128) (a : Fin 256) : EReal :=
  wprob D V q k l s hh r a * ((∑ e : Fin 64, d (ix2 r (lane hh e)) * v (ix2 a (lane hh e)))
    - ∑ e : Fin 64, d (ix2 r (lane hh e)) * o (ix2 r (lane hh e)))

set_option maxHeartbeats 2000000 in
/-- Block 0 of a step: the query gradient's rows. -/
theorem dq0 (D : FVec Ideal S128x256 .f32) (V : IVec S128x256 1) (q d : FVec Ideal S128x128 .bf16) (k v : FVec Ideal S256x128 .bf16) (o l : FVec Ideal S128x128 .f32) (s : Fin 2 → EReal) (a : Fin 128) (hh : Fin 2) (e : Fin 64) :
    ((k0_pay29 D V (k0_pay11 k) (k0_pay12 v) (k0_pay14 d) (k0_pay17 (k0_pay15 d) (k0_pay16 o)) (k0_pay18 l)
      (k0_pay21 D V (k0_pay11 k) (k0_pay12 v) (k0_pay13 q) (k0_pay14 d) (k0_pay15 d) (k0_pay16 o) l (s 0))
      (k0_pay24 (k0_pay13 q)) (k0_pay25 (k0_pay11 k)) (s 1)) (ix2 a (lane hh e)) : EReal) =
      (∑ r : Fin 256, wds D V q d k v o l s hh a r * k (ix2 r (lane hh e))) * Ideal.ofBits .f32 1040187392#32 := by
  fin_cases hh <;> pointwise [lane, wprob, wds, k0_pay11, k0_pay12, k0_pay13, k0_pay14, k0_pay15, k0_pay16, k0_pay17, k0_pay18, k0_pay19, k0_pay20, k0_pay21, k0_pay24, k0_pay25, k0_pay26, k0_pay27, k0_pay29]

set_option maxHeartbeats 2000000 in
/-- Block 0 of a step: the key gradient's window after the block is added. -/
theorem dk0 (D : FVec Ideal S128x256 .f32) (V : IVec S128x256 1) (q d : FVec Ideal S128x128 .bf16) (k v : FVec Ideal S256x128 .bf16) (o l : FVec Ideal S128x128 .f32) (s : Fin 2 → EReal) (acc : FVec Ideal S256x128 .f32) (a : Fin 256) (hh : Fin 2) (e : Fin 64) :
    ((k0_pay31 (k0_pay30 D V (k0_pay12 v) (k0_pay13 q) (k0_pay14 d) (k0_pay17 (k0_pay15 d) (k0_pay16 o)) (k0_pay18 l) (k0_pay22 D V (k0_pay11 k) (k0_pay12 v) (k0_pay13 q) (k0_pay14 d) (k0_pay15 d) (k0_pay16 o) l (s 0)) (k0_pay24 (k0_pay13 q)) (k0_pay25 (k0_pay11 k)) (s 1) acc)) (ix2 a (lane hh e)) : EReal) = acc (ix2 a (lane hh e)) +
      (∑ r : Fin 128, wds D V q d k v o l s hh r a * q (ix2 r (lane hh e))) * Ideal.ofBits .f32 1040187392#32 := by
  fin_cases hh <;> pointwise [lane, wprob, wds, k0_pay11, k0_pay12, k0_pay13, k0_pay14, k0_pay15, k0_pay16, k0_pay17, k0_pay18, k0_pay19, k0_pay20, k0_pay22, k0_pay24, k0_pay25, k0_pay26, k0_pay27, k0_pay30, k0_pay31]

/-- Block 0 of a step: the value gradient's window after the block is added. -/
theorem dv0 (D : FVec Ideal S128x256 .f32) (V : IVec S128x256 1) (q d : FVec Ideal S128x128 .bf16) (k v : FVec Ideal S256x128 .bf16) (o l : FVec Ideal S128x128 .f32) (s : Fin 2 → EReal) (acc : FVec Ideal S256x128 .f32) (a : Fin 256) (hh : Fin 2) (e : Fin 64) :
    ((k0_pay32 (k0_pay23 D V (k0_pay11 k) (k0_pay13 q) (k0_pay14 d) l (s 0)) (k0_pay28 D V (k0_pay14 d) (k0_pay18 l) (k0_pay24 (k0_pay13 q)) (k0_pay25 (k0_pay11 k)) (s 1)) acc) (ix2 a (lane hh e)) : EReal) = acc (ix2 a (lane hh e)) +
      ∑ r : Fin 128, wprob D V q k l s hh r a * d (ix2 r (lane hh e)) := by
  fin_cases hh <;> pointwise [lane, wprob, wds, k0_pay11, k0_pay13, k0_pay14, k0_pay18, k0_pay19, k0_pay23, k0_pay24, k0_pay25, k0_pay26, k0_pay28, k0_pay32]

set_option maxHeartbeats 2000000 in
/-- Block 1 of a step: the query gradient's rows. -/
theorem dq1 (D : FVec Ideal S128x256 .f32) (V : IVec S128x256 1) (q d : FVec Ideal S128x128 .bf16) (k v : FVec Ideal S256x128 .bf16) (o l : FVec Ideal S128x128 .f32) (s : Fin 2 → EReal) (a : Fin 128) (hh : Fin 2) (e : Fin 64) :
    ((k0_pay53 D V (k0_pay36 k) (k0_pay37 v) (k0_pay38 q) (k0_pay39 d) (k0_pay40 d o) (k0_pay41 l)
      (k0_pay44 D V (k0_pay36 k) (k0_pay37 v) (k0_pay38 q) d o l (s 0)) (s 1)) (ix2 a (lane hh e)) : EReal) =
      (∑ r : Fin 256, wds D V q d k v o l s hh a r * k (ix2 r (lane hh e))) * Ideal.ofBits .f32 1040187392#32 := by
  fin_cases hh <;> pointwise [lane, wprob, wds, k0_pay36, k0_pay37, k0_pay38, k0_pay39, k0_pay40, k0_pay41, k0_pay42, k0_pay43, k0_pay44, k0_pay49, k0_pay50, k0_pay53]

set_option maxHeartbeats 2000000 in
/-- Block 1 of a step: the key gradient's window after the block is added. -/
theorem dk1 (D : FVec Ideal S128x256 .f32) (V : IVec S128x256 1) (q d : FVec Ideal S128x128 .bf16) (k v : FVec Ideal S256x128 .bf16) (o l : FVec Ideal S128x128 .f32) (s : Fin 2 → EReal) (acc : FVec Ideal S256x128 .f32) (a : Fin 256) (hh : Fin 2) (e : Fin 64) :
    ((k0_pay54 (k0_pay45 D V (k0_pay36 k) (k0_pay37 v) (k0_pay38 q) d o l (s 0)) (k0_pay51 D V (k0_pay36 k) (k0_pay37 v) (k0_pay38 q) (k0_pay39 d) (k0_pay40 d o) (k0_pay41 l) (s 1)) acc) (ix2 a (lane hh e)) : EReal) = acc (ix2 a (lane hh e)) +
      (∑ r : Fin 128, wds D V q d k v o l s hh r a * q (ix2 r (lane hh e))) * Ideal.ofBits .f32 1040187392#32 := by
  fin_cases hh <;> pointwise [lane, wprob, wds, k0_pay36, k0_pay37, k0_pay38, k0_pay39, k0_pay40, k0_pay41, k0_pay42, k0_pay43, k0_pay45, k0_pay49, k0_pay50, k0_pay51, k0_pay54]

/-- Block 1 of a step: the value gradient's window after the block is added. -/
theorem dv1 (D : FVec Ideal S128x256 .f32) (V : IVec S128x256 1) (q d : FVec Ideal S128x128 .bf16) (k v : FVec Ideal S256x128 .bf16) (o l : FVec Ideal S128x128 .f32) (s : Fin 2 → EReal) (acc : FVec Ideal S256x128 .f32) (a : Fin 256) (hh : Fin 2) (e : Fin 64) :
    ((k0_pay55 (k0_pay48 (k0_pay46 D V (k0_pay36 k) (k0_pay38 q) l (s 0)) (k0_pay47 d)) (k0_pay52 D V (k0_pay36 k) (k0_pay38 q) (k0_pay39 d) (k0_pay41 l) (s 1)) acc) (ix2 a (lane hh e)) : EReal) = acc (ix2 a (lane hh e)) +
      ∑ r : Fin 128, wprob D V q k l s hh r a * d (ix2 r (lane hh e)) := by
  fin_cases hh <;> pointwise [lane, wprob, wds, k0_pay36, k0_pay38, k0_pay39, k0_pay41, k0_pay42, k0_pay46, k0_pay47, k0_pay48, k0_pay49, k0_pay52, k0_pay55]

set_option maxHeartbeats 2000000 in
/-- Block 2 of a step: the query gradient's rows. -/
theorem dq2 (D : FVec Ideal S128x256 .f32) (V : IVec S128x256 1) (q d : FVec Ideal S128x128 .bf16) (k v : FVec Ideal S256x128 .bf16) (o l : FVec Ideal S128x128 .f32) (s : Fin 2 → EReal) (a : Fin 128) (hh : Fin 2) (e : Fin 64) :
    ((k0_pay76 (k0_pay75 D V (k0_pay59 k) (k0_pay60 v) (k0_pay61 q) (k0_pay62 d) (k0_pay63 d o) (k0_pay64 l)
      (k0_pay67 D V (k0_pay59 k) (k0_pay60 v) q d o l (s 0)) (s 1))) (ix2 a (lane hh e)) : EReal) =
      (∑ r : Fin 256, wds D V q d k v o l s hh a r * k (ix2 r (lane hh e))) * Ideal.ofBits .f32 1040187392#32 := by
  fin_cases hh <;> pointwise [lane, wprob, wds, k0_pay59, k0_pay60, k0_pay61, k0_pay62, k0_pay63, k0_pay64, k0_pay65, k0_pay66, k0_pay67, k0_pay71, k0_pay72, k0_pay75, k0_pay76]

set_option maxHeartbeats 2000000 in
/-- Block 2 of a step: the key gradient's window after the block is added. -/
theorem dk2 (D : FVec Ideal S128x256 .f32) (V : IVec S128x256 1) (q d : FVec Ideal S128x128 .bf16) (k v : FVec Ideal S256x128 .bf16) (o l : FVec Ideal S128x128 .f32) (s : Fin 2 → EReal) (acc : FVec Ideal S256x128 .f32) (a : Fin 256) (hh : Fin 2) (e : Fin 64) :
    ((k0_pay77 (k0_pay69 (k0_pay66 D V (k0_pay59 k) (k0_pay60 v) q d o l (s 0)) (k0_pay68 q) (constant (F := Ideal) S256x64 FTy.f32 0#32)) (k0_pay73 D V (k0_pay59 k) (k0_pay60 v) (k0_pay61 q) (k0_pay62 d) (k0_pay63 d o) (k0_pay64 l) (s 1)) acc) (ix2 a (lane hh e)) : EReal) = acc (ix2 a (lane hh e)) +
      (∑ r : Fin 128, wds D V q d k v o l s hh r a * q (ix2 r (lane hh e))) * Ideal.ofBits .f32 1040187392#32 := by
  fin_cases hh <;> pointwise [lane, wprob, wds, k0_pay59, k0_pay60, k0_pay61, k0_pay62, k0_pay63, k0_pay64, k0_pay65, k0_pay66, k0_pay68, k0_pay69, k0_pay71, k0_pay72, k0_pay73, k0_pay77]

/-- Block 2 of a step: the value gradient's window after the block is added. -/
theorem dv2 (D : FVec Ideal S128x256 .f32) (V : IVec S128x256 1) (q d : FVec Ideal S128x128 .bf16) (k v : FVec Ideal S256x128 .bf16) (o l : FVec Ideal S128x128 .f32) (s : Fin 2 → EReal) (acc : FVec Ideal S256x128 .f32) (a : Fin 256) (hh : Fin 2) (e : Fin 64) :
    ((k0_pay78 (k0_pay70 (k0_pay62 d) (k0_pay65 D V (k0_pay59 k) q l (s 0))) (k0_pay74 D V (k0_pay59 k) (k0_pay61 q) (k0_pay62 d) (k0_pay64 l) (s 1)) acc) (ix2 a (lane hh e)) : EReal) = acc (ix2 a (lane hh e)) +
      ∑ r : Fin 128, wprob D V q k l s hh r a * d (ix2 r (lane hh e)) := by
  fin_cases hh <;> pointwise [lane, wprob, wds, k0_pay59, k0_pay61, k0_pay62, k0_pay64, k0_pay65, k0_pay70, k0_pay71, k0_pay74, k0_pay78]

set_option maxHeartbeats 2000000 in
/-- Block 3 of a step: the query gradient's rows. -/
theorem dq3 (D : FVec Ideal S128x256 .f32) (V : IVec S128x256 1) (q d : FVec Ideal S128x128 .bf16) (k v : FVec Ideal S256x128 .bf16) (o l : FVec Ideal S128x128 .f32) (s : Fin 2 → EReal) (a : Fin 128) (hh : Fin 2) (e : Fin 64) :
    ((k0_pay1
      (k0_pay91
        (k0_pay89 D V k v q d o l (s 0))
        (k0_pay90 k)
        (constant (F := Ideal) S128x64 FTy.f32 0#32))
      (k0_pay96 D V (k0_pay82 k) (k0_pay83 v) (k0_pay84 q) (k0_pay85 d) (k0_pay86 d o) (k0_pay87 l) (s 1))) (ix2 a (lane hh e)) : EReal) =
      (∑ r : Fin 256, wds D V q d k v o l s hh a r * k (ix2 r (lane hh e))) * Ideal.ofBits .f32 1040187392#32 := by
  fin_cases hh <;> pointwise [lane, wprob, wds, k0_pay1, k0_pay82, k0_pay83, k0_pay84, k0_pay85, k0_pay86, k0_pay87, k0_pay88, k0_pay89, k0_pay90, k0_pay91, k0_pay94, k0_pay95, k0_pay96]

set_option maxHeartbeats 2000000 in
/-- Block 3 of a step: the key gradient's window after the block is added. -/
theorem dk3 (D : FVec Ideal S128x256 .f32) (V : IVec S128x256 1) (q d : FVec Ideal S128x128 .bf16) (k v : FVec Ideal S256x128 .bf16) (o l : FVec Ideal S128x128 .f32) (s : Fin 2 → EReal) (acc : FVec Ideal S256x128 .f32) (a : Fin 256) (hh : Fin 2) (e : Fin 64) :
    ((k0_pay2 (k0_pay92 (k0_pay84 q) (k0_pay89 D V k v q d o l (s 0))) (k0_pay97 D V (k0_pay82 k) (k0_pay83 v) (k0_pay84 q) (k0_pay85 d) (k0_pay86 d o) (k0_pay87 l) (s 1)) k0_pay98 acc) (ix2 a (lane hh e)) : EReal) = acc (ix2 a (lane hh e)) +
      (∑ r : Fin 128, wds D V q d k v o l s hh r a * q (ix2 r (lane hh e))) * Ideal.ofBits .f32 1040187392#32 := by
  fin_cases hh <;> pointwise [lane, wprob, wds, k0_pay2, k0_pay82, k0_pay83, k0_pay84, k0_pay85, k0_pay86, k0_pay87, k0_pay88, k0_pay89, k0_pay92, k0_pay94, k0_pay95, k0_pay97, k0_pay98]

/-- Block 3 of a step: the value gradient's window after the block is added. -/
theorem dv3 (D : FVec Ideal S128x256 .f32) (V : IVec S128x256 1) (q d : FVec Ideal S128x128 .bf16) (k v : FVec Ideal S256x128 .bf16) (o l : FVec Ideal S128x128 .f32) (s : Fin 2 → EReal) (acc : FVec Ideal S256x128 .f32) (a : Fin 256) (hh : Fin 2) (e : Fin 64) :
    ((k0_pay3 (k0_pay85 d) (k0_pay93 (k0_pay85 d) (k0_pay88 D V k q l (s 0))) (k0_pay94 D V (k0_pay82 k) (k0_pay84 q) (k0_pay87 l) (s 1)) acc) (ix2 a (lane hh e)) : EReal) = acc (ix2 a (lane hh e)) +
      ∑ r : Fin 128, wprob D V q k l s hh r a * d (ix2 r (lane hh e)) := by
  fin_cases hh <;> pointwise [lane, wprob, wds, k0_pay3, k0_pay82, k0_pay84, k0_pay85, k0_pay87, k0_pay88, k0_pay93, k0_pay94]

end Cert.KernelIdeal.Blk
end
-- ==== Proof.Pt.lean ====
module

public import proofs.«01_k».proof.Proof.Blk

@[expose] public section
set_option maxRecDepth 16384
noncomputable section

/-! What a grid point of the attention gradient leaves in its three output blocks, at an index. -/

namespace Cert.KernelIdeal.Blk
open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Win
variable (m : (ℓ : Loc nD τ sig) → Buf (Elt Ideal) ℓ)

/-! ## The distance words of the four blocks -/

theorem word_add (a b : ℕ) : IntOp.addi (BitVec.ofNat 32 a) (BitVec.ofNat 32 b) = BitVec.ofNat 32 (a + b) := by
  rw [BitVec.ofNat_add]; rfl

/-- The grid's last coordinate is zero. -/
theorem step_zero (i : grid0.Coords) : BitVec.ofNat 32 (i 2).val = 0#32 := by
  have h := (i 2).isLt
  have : (i 2).val = 0 := by
    have h' : (i 2).val < 1 := h
    omega
  rw [this]

/-- Block 0's distances: rows from 0 on against rows from 0 on. -/
theorem word0 (i : grid0.Coords) (r : Fin 128) (a : Fin 256) : k0_pay8 i (ix2 r a) = dlt (0 + r.val) (0 + a.val) := by
  rw [dlt, ← word_add, ← word_add]
  pointwise [k0_pay8]
  rfl
theorem dist0 (i : grid0.Coords) (r : Fin 128) (a : Fin 256) :
    (k0_pay9 (F := Ideal) i (ix2 r a) : EReal) = FloatOps.sitofp (F := Ideal) .f32 (IntOp.muli (dlt (0 + r.val) (0 + a.val)) 16#32) := by
  rw [← word0 i]; rfl
theorem near0 (i : grid0.Coords) (r : Fin 128) (a : Fin 256) :
    k0_pay10 i (ix2 r a) = IntOp.cmpi .sle (dlt (0 + r.val) (0 + a.val)) 64#32 := by
  rw [← word0 i]; rfl

/-- Block 1's distances: rows from 128 on against rows from 64 on. -/
theorem word1 (r : Fin 128) (a : Fin 256) : k0_pay33 0#32 (ix2 r a) = dlt (128 + r.val) (64 + a.val) := by
  rw [dlt, ← word_add, ← word_add]
  pointwise [k0_pay33]
  rfl
theorem dist1 (i : grid0.Coords) (r : Fin 128) (a : Fin 256) :
    (k0_pay34 (F := Ideal) (BitVec.ofNat 32 (i 2).val) (ix2 r a) : EReal) = FloatOps.sitofp (F := Ideal) .f32 (IntOp.muli (dlt (128 + r.val) (64 + a.val)) 16#32) := by
  rw [← word1, step_zero]; rfl
theorem near1 (i : grid0.Coords) (r : Fin 128) (a : Fin 256) :
    k0_pay35 (BitVec.ofNat 32 (i 2).val) (ix2 r a) = IntOp.cmpi .sle (dlt (128 + r.val) (64 + a.val)) 64#32 := by
  rw [← word1, step_zero]; rfl

/-- Block 2's distances: rows from 256 on against rows from 192 on. -/
theorem word2 (r : Fin 128) (a : Fin 256) : k0_pay56 0#32 (ix2 r a) = dlt (256 + r.val) (192 + a.val) := by
  rw [dlt, ← word_add, ← word_add]
  pointwise [k0_pay56]
  rfl
theorem dist2 (i : grid0.Coords) (r : Fin 128) (a : Fin 256) :
    (k0_pay57 (F := Ideal) (BitVec.ofNat 32 (i 2).val) (ix2 r a) : EReal) = FloatOps.sitofp (F := Ideal) .f32 (IntOp.muli (dlt (256 + r.val) (192 + a.val)) 16#32) := by
  rw [← word2, step_zero]; rfl
theorem near2 (i : grid0.Coords) (r : Fin 128) (a : Fin 256) :
    k0_pay58 (BitVec.ofNat 32 (i 2).val) (ix2 r a) = IntOp.cmpi .sle (dlt (256 + r.val) (192 + a.val)) 64#32 := by
  rw [← word2, step_zero]; rfl

/-- Block 3's distances: rows from 384 on against rows from 256 on. -/
theorem word3 (r : Fin 128) (a : Fin 256) : k0_pay79 0#32 (ix2 r a) = dlt (384 + r.val) (256 + a.val) := by
  rw [dlt, ← word_add, ← word_add]
  pointwise [k0_pay79]
  rfl
theorem dist3 (i : grid0.Coords) (r : Fin 128) (a : Fin 256) :
    (k0_pay80 (F := Ideal) (BitVec.ofNat 32 (i 2).val) (ix2 r a) : EReal) = FloatOps.sitofp (F := Ideal) .f32 (IntOp.muli (dlt (384 + r.val) (256 + a.val)) 16#32) := by
  rw [← word3, step_zero]; rfl
theorem near3 (i : grid0.Coords) (r : Fin 128) (a : Fin 256) :
    k0_pay81 (BitVec.ofNat 32 (i 2).val) (ix2 r a) = IntOp.cmpi .sle (dlt (384 + r.val) (256 + a.val)) 64#32 := by
  rw [← word3, step_zero]; rfl

/-- The two heads' slopes are entries `2 hp` and `2 hp + 1` of the table, `hp` the grid's second coordinate. -/
theorem slope_off (t : Fin cfg0.N) (h : Fin 2) :
    (2 * (grid0.coords t 1).val + h.val < 16) ∧ k0_off2 (grid0.coords t) (BitVec.ofNat 32 h.val) = ![2 * (grid0.coords t 1).val + h.val] :=
  (by decide +kernel : ∀ (t : Fin grid0.N) (h : Fin 2), (2 * (grid0.coords t 1).val + h.val < 16) ∧
    k0_off2 (grid0.coords t) (BitVec.ofNat 32 h.val) = ![2 * (grid0.coords t 1).val + h.val]) t h

/-- The slope of a grid point's head `h`. -/
def slope (x : FVec Ideal S16 .f32) (t : Fin cfg0.N) (h : Fin 2) : EReal := x (ix1 ⟨2 * (grid0.coords t 1).val + h.val, (slope_off t h).1⟩)

/-! ## A block against its window, in terms of all the rows -/

section
variable {n s : ℕ} (hn : n + 128 ≤ 512) (hs : s + 256 ≤ 512)
  {D : FVec Ideal S128x256 .f32} {V : IVec S128x256 1} {q d : FVec Ideal S128x128 .bf16} {k v : FVec Ideal S256x128 .bf16}
  {o l : FVec Ideal S128x128 .f32} {sl : Fin 2 → EReal} {X1 X2 X3 X4 : FVec Ideal S512x128 .bf16} {X5 X6 : FVec Ideal S512x128 .f32}
  (hD : ∀ r a, (D (ix2 r a) : EReal) = FloatOps.sitofp (F := Ideal) .f32 (IntOp.muli (dlt (n + r.val) (s + a.val)) 16#32))
  (hV : ∀ r a, V (ix2 r a) = IntOp.cmpi .sle (dlt (n + r.val) (s + a.val)) 64#32)
  (hq : ∀ r b, q (ix2 r b) = X1 (ix2 ⟨n + r.val, by omega⟩ b)) (hk : ∀ a b, k (ix2 a b) = X2 (ix2 ⟨s + a.val, by omega⟩ b))
  (hv : ∀ a b, v (ix2 a b) = X3 (ix2 ⟨s + a.val, by omega⟩ b)) (hd : ∀ r b, d (ix2 r b) = X4 (ix2 ⟨n + r.val, by omega⟩ b))
  (ho : ∀ r b, o (ix2 r b) = X5 (ix2 ⟨n + r.val, by omega⟩ b)) (hl : ∀ r b, l (ix2 r b) = X6 (ix2 ⟨n + r.val, by omega⟩ b))
include hn hs hD hV hq hk hl

/-- The weights of a block are the weights of its rows on its window's rows; -/
theorem wprob_eq (hh : Fin 2) (r : Fin 128) (a : Fin 256) :
    wprob D V q k l sl hh r a = prob (sl hh) X1 X2 X6 hh ⟨n + r.val, by omega⟩ ⟨s + a.val, by omega⟩ := by
  unfold wprob prob
  rw [hD, hV, hl]
  simp only [hq, hk]

include hv hd ho

/-- so are the scores' gradients. -/
theorem wds_eq (hh : Fin 2) (r : Fin 128) (a : Fin 256) :
    wds D V q d k v o l sl hh r a = dscore (sl hh) X1 X2 X3 X4 X5 X6 hh ⟨n + r.val, by omega⟩ ⟨s + a.val, by omega⟩ := by
  unfold wds dscore
  rw [wprob_eq hn hs hD hV hq hk hl]
  simp only [hd, hv, ho]
end

/-! ## A sum added block by block is the sum over all rows -/

/-- A row of the value gradient: the blocks' terms at a key row, those of its windows, add up to the sum over all query rows. -/
theorem gather (g : Fin 512 → Fin 512 → EReal) (h0 : ∀ i j : Fin 512, 64 < (j.val - i.val) + (i.val - j.val) → g i j = 0) (k : Fin 512) :
    ((((0 : EReal) + (if h : 0 ≤ k.val ∧ k.val < 0 + 256 then ∑ r : Fin 128, g ⟨0 + r.val, by omega⟩ ⟨0 + (k.val - 0), by omega⟩ else 0))
      + (if h : 64 ≤ k.val ∧ k.val < 64 + 256 then ∑ r : Fin 128, g ⟨128 + r.val, by omega⟩ ⟨64 + (k.val - 64), by omega⟩ else 0))
      + (if h : 192 ≤ k.val ∧ k.val < 192 + 256 then ∑ r : Fin 128, g ⟨256 + r.val, by omega⟩ ⟨192 + (k.val - 192), by omega⟩ else 0))
      + (if h : 256 ≤ k.val ∧ k.val < 256 + 256 then ∑ r : Fin 128, g ⟨384 + r.val, by omega⟩ ⟨256 + (k.val - 256), by omega⟩ else 0)
    = ∑ i, g i k := by
  have key : ∀ (n s : ℕ) (hn : n + 128 ≤ 512) (hs : s + 256 ≤ 512) (_ : s = 0 ∨ s + 64 ≤ n) (_ : s = 256 ∨ n + 128 + 64 ≤ s + 256),
      (if h : s ≤ k.val ∧ k.val < s + 256 then ∑ r : Fin 128, g ⟨n + r.val, by omega⟩ ⟨s + (k.val - s), by omega⟩ else 0)
        = ∑ r : Fin 128, g ⟨n + r.val, by omega⟩ k := by
    intro n s hn hs h1 h2
    split
    next h =>
      have e : (⟨s + (k.val - s), by omega⟩ : Fin 512) = k := Fin.ext (by show s + (k.val - s) = k.val; omega)
      rw [e]
    next h =>
      symm
      apply Finset.sum_eq_zero
      intro r _
      apply h0
      have := k.isLt; have := r.isLt
      show 64 < (k.val - (n + r.val)) + ((n + r.val) - k.val)
      omega
  rw [key 0 0 (by omega) (by omega) (by omega) (by omega), key 128 64 (by omega) (by omega) (by omega) (by omega),
    key 256 192 (by omega) (by omega) (by omega) (by omega), key 384 256 (by omega) (by omega) (by omega) (by omega), zero_add]
  exact (sum_blocks fun i => g i k).symm

/-! ## Scaling by an eighth -/

/-- The kernel's scale is an eighth. -/
theorem scale_eq : Ideal.ofBits .f32 1040187392#32 = ((1 / 8 : ℝ) : EReal) := by
  simp [Ideal.ofBits, Ideal.ieee]
  rw [← EReal.coe_mul]
  norm_num

/-- A sum of scaled terms is the scaled sum. -/
theorem sum_scale {ι : Type} (s : Finset ι) (f : ι → EReal) :
    (∑ i ∈ s, f i) * Ideal.ofBits .f32 1040187392#32 = ∑ i ∈ s, f i * Ideal.ofBits .f32 1040187392#32 := by
  classical
  induction s using Finset.induction_on with
  | empty => simp
  | insert a s ha ih =>
    rw [Finset.sum_insert ha, Finset.sum_insert ha, ← ih]
    refine EReal.right_distrib_of_nonneg_of_ne_top ?_ ?_ _ _
    · rw [scale_eq]; exact EReal.coe_nonneg.mpr (by norm_num)
    · rw [scale_eq]; exact EReal.coe_ne_top _

theorem pay4_apply (v : Vec Ideal S512x128 .f32) (y : S512x128.Idx) : k0_pay4 v y = v y := by
  pointwise [k0_pay4]

theorem pay5_apply (v : Vec Ideal S512x128 .f32) (y : S512x128.Idx) : k0_pay5 v y = v y := by
  pointwise [k0_pay5]

theorem pay6_apply (y : S512x128.Idx) : (k0_pay6 (F := Ideal) y : EReal) = 0 := by
  pointwise [k0_pay6]

theorem pay7_apply (y : S512x128.Idx) : (k0_pay7 (F := Ideal) y : EReal) = 0 := by
  pointwise [k0_pay7]

/-- Before the first block is added the accumulators are zero. -/
theorem base6 (y : S512x128.Idx) : (View.canon (Val := Elt Ideal) (s := S512x128) (e := .f32) [⟨Rect.unit ![0, 0] ![512, 128] inb_S512x128_S512x128_0_0, k0_pay6 (F := Ideal)⟩] y : EReal) = 0 := by
  exact (congrFun (View.canon_cons_unit_lit _ _ _ (by decide)) _).trans (pay6_apply _)

theorem base7 (y : S512x128.Idx) : (View.canon (Val := Elt Ideal) (s := S512x128) (e := .f32) [⟨Rect.unit ![0, 0] ![512, 128] inb_S512x128_S512x128_0_0, k0_pay7 (F := Ideal)⟩] y : EReal) = 0 := by
  exact (congrFun (View.canon_cons_unit_lit _ _ _ (by decide)) _).trans (pay7_apply _)

/-! ## The three outputs of a grid point -/

set_option maxHeartbeats 2000000 in
/-- The value gradient: at key row `k` the weights of all query rows on it, times their cotangents. -/
theorem dv_point (c : Dev nD) (t : Fin cfg0.N) (k : Fin 512) (hh : Fin 2) (e : Fin 64) :
    ((outsAt0 m c t).2.2 (ix2 k (lane hh e)) : EReal) =
      ∑ i : Fin 512, prob (slope (iblk m c 0 t) t hh) (iblk m c 1 t) (iblk m c 2 t) (iblk m c 6 t) hh i k * (iblk m c 4 t : FVec Ideal S512x128 .bf16) (ix2 i (lane hh e)) := by
  simp only [outsAt0]
  frame_open
  simp only [View.readCov_eq_canon', placed_k0_off1_0, placed_k0_off1_1, placed_k0_off1_2, placed_k0_off1_3]
  frame_out
  rw [pay5_apply]
  beta_reduce
  rw [whole_idx]
  generalize iblk m c 0 t = x0
  generalize iblk m c 1 t = x1
  generalize iblk m c 2 t = x2
  generalize iblk m c 3 t = x3
  generalize iblk m c 4 t = x4
  generalize iblk m c 5 t = x5
  generalize iblk m c 6 t = x6
  refine Eq.trans ?_ (gather (fun i j => prob (slope x0 t hh) x1 x2 x6 hh i j * (x4 (ix2 i (lane hh e)) : EReal)) (by intro i j h; show prob _ _ _ _ _ _ _ * _ = 0; rw [prob_far _ _ _ _ _ _ _ h, zero_mul]) k)
  refine (acc_step 256 (by omega) _ _ _ (lane hh e) (fun a => ∑ r : Fin 128, (fun i j => prob (slope x0 t hh) x1 x2 x6 hh i j * (x4 (ix2 i (lane hh e)) : EReal)) ⟨384 + r.val, by omega⟩ ⟨256 + a.val, by omega⟩) (fun a => ?_) k).trans (congrArg (· + _) ?_)
  · refine (dv3 _ _ _ _ _ (fun _ => 0) (fun _ => 0) _ (fun h => View.ld x0 (Rect.unit (k0_off2 (grid0.coords t) (BitVec.ofNat 32 h.val)) ![1] (by rw [(slope_off t h).2]; have := (slope_off t h).1; intro a; fin_cases a; show 2 * (grid0.coords t 1).val + h.val + 1 ≤ 16; omega)) (Shape.Idx.first (by show 0 < Shape.numel ⟨1, ![1]⟩; decide))) _ a hh e).trans (congr (congrArg HAdd.hAdd ?_) ?_)
    · exact congrArg (View.canon (Val := Elt Ideal) _) (win_idx 256 256 (placed_k0_off1_3 _) _ _ (by omega) _)
    · refine Finset.sum_congr rfl fun r _ => congr (congrArg HMul.hMul ?_) (congrArg x4 (win_idx 128 384 rfl _ _ (by omega) _))
      refine (wprob_eq (n := 384) (s := 256) (X1 := x1) (X2 := x2) (X6 := x6) (by omega) (by omega) (hD := fun r a => dist3 _ r a) (hV := fun r a => near3 _ r a) (hq := fun r b => congrArg x1 (win_idx 128 384 rfl _ _ (by omega) _)) (hk := fun a b => congrArg x2 (win_idx 256 256 (placed_k0_off1_3 _) _ _ (by omega) _)) (hl := fun r b => congrArg x6 (win_idx 128 384 rfl _ _ (by omega) _)) hh r a).trans ?_
      exact congrArg (fun z => prob z x1 x2 x6 hh _ _) (congrArg x0 (one_idx _ (slope_off t hh).2 _ (slope_off t hh).1 _))
  refine (acc_step 192 (by omega) _ _ _ (lane hh e) (fun a => ∑ r : Fin 128, (fun i j => prob (slope x0 t hh) x1 x2 x6 hh i j * (x4 (ix2 i (lane hh e)) : EReal)) ⟨256 + r.val, by omega⟩ ⟨192 + a.val, by omega⟩) (fun a => ?_) k).trans (congrArg (· + _) ?_)
  · refine (dv2 _ _ _ _ _ (fun _ => 0) (fun _ => 0) _ (fun h => View.ld x0 (Rect.unit (k0_off2 (grid0.coords t) (BitVec.ofNat 32 h.val)) ![1] (by rw [(slope_off t h).2]; have := (slope_off t h).1; intro a; fin_cases a; show 2 * (grid0.coords t 1).val + h.val + 1 ≤ 16; omega)) (Shape.Idx.first (by show 0 < Shape.numel ⟨1, ![1]⟩; decide))) _ a hh e).trans (congr (congrArg HAdd.hAdd ?_) ?_)
    · exact congrArg (View.canon (Val := Elt Ideal) _) (win_idx 256 192 (placed_k0_off1_2 _) _ _ (by omega) _)
    · refine Finset.sum_congr rfl fun r _ => congr (congrArg HMul.hMul ?_) (congrArg x4 (win_idx 128 256 rfl _ _ (by omega) _))
      refine (wprob_eq (n := 256) (s := 192) (X1 := x1) (X2 := x2) (X6 := x6) (by omega) (by omega) (hD := fun r a => dist2 _ r a) (hV := fun r a => near2 _ r a) (hq := fun r b => congrArg x1 (win_idx 128 256 rfl _ _ (by omega) _)) (hk := fun a b => congrArg x2 (win_idx 256 192 (placed_k0_off1_2 _) _ _ (by omega) _)) (hl := fun r b => congrArg x6 (win_idx 128 256 rfl _ _ (by omega) _)) hh r a).trans ?_
      exact congrArg (fun z => prob z x1 x2 x6 hh _ _) (congrArg x0 (one_idx _ (slope_off t hh).2 _ (slope_off t hh).1 _))
  refine (acc_step 64 (by omega) _ _ _ (lane hh e) (fun a => ∑ r : Fin 128, (fun i j => prob (slope x0 t hh) x1 x2 x6 hh i j * (x4 (ix2 i (lane hh e)) : EReal)) ⟨128 + r.val, by omega⟩ ⟨64 + a.val, by omega⟩) (fun a => ?_) k).trans (congrArg (· + _) ?_)
  · refine (dv1 _ _ _ _ _ (fun _ => 0) (fun _ => 0) _ (fun h => View.ld x0 (Rect.unit (k0_off2 (grid0.coords t) (BitVec.ofNat 32 h.val)) ![1] (by rw [(slope_off t h).2]; have := (slope_off t h).1; intro a; fin_cases a; show 2 * (grid0.coords t 1).val + h.val + 1 ≤ 16; omega)) (Shape.Idx.first (by show 0 < Shape.numel ⟨1, ![1]⟩; decide))) _ a hh e).trans (congr (congrArg HAdd.hAdd ?_) ?_)
    · exact congrArg (View.canon (Val := Elt Ideal) _) (win_idx 256 64 (placed_k0_off1_1 _) _ _ (by omega) _)
    · refine Finset.sum_congr rfl fun r _ => congr (congrArg HMul.hMul ?_) (congrArg x4 (win_idx 128 128 rfl _ _ (by omega) _))
      refine (wprob_eq (n := 128) (s := 64) (X1 := x1) (X2 := x2) (X6 := x6) (by omega) (by omega) (hD := fun r a => dist1 _ r a) (hV := fun r a => near1 _ r a) (hq := fun r b => congrArg x1 (win_idx 128 128 rfl _ _ (by omega) _)) (hk := fun a b => congrArg x2 (win_idx 256 64 (placed_k0_off1_1 _) _ _ (by omega) _)) (hl := fun r b => congrArg x6 (win_idx 128 128 rfl _ _ (by omega) _)) hh r a).trans ?_
      exact congrArg (fun z => prob z x1 x2 x6 hh _ _) (congrArg x0 (one_idx _ (slope_off t hh).2 _ (slope_off t hh).1 _))
  refine (acc_step 0 (by omega) _ _ _ (lane hh e) (fun a => ∑ r : Fin 128, (fun i j => prob (slope x0 t hh) x1 x2 x6 hh i j * (x4 (ix2 i (lane hh e)) : EReal)) ⟨0 + r.val, by omega⟩ ⟨0 + a.val, by omega⟩) (fun a => ?_) k).trans (congrArg (· + _) ?_)
  · refine (dv0 _ _ _ _ _ (fun _ => 0) (fun _ => 0) _ (fun h => View.ld x0 (Rect.unit (k0_off2 (grid0.coords t) (BitVec.ofNat 32 h.val)) ![1] (by rw [(slope_off t h).2]; have := (slope_off t h).1; intro a; fin_cases a; show 2 * (grid0.coords t 1).val + h.val + 1 ≤ 16; omega)) (Shape.Idx.first (by show 0 < Shape.numel ⟨1, ![1]⟩; decide))) _ a hh e).trans (congr (congrArg HAdd.hAdd ?_) ?_)
    · exact (pay7_apply _).trans (base7 _).symm
    · refine Finset.sum_congr rfl fun r _ => congr (congrArg HMul.hMul ?_) (congrArg x4 (win_idx 128 0 rfl _ _ (by omega) _))
      refine (wprob_eq (n := 0) (s := 0) (X1 := x1) (X2 := x2) (X6 := x6) (by omega) (by omega) (hD := fun r a => dist0 _ r a) (hV := fun r a => near0 _ r a) (hq := fun r b => congrArg x1 (win_idx 128 0 rfl _ _ (by omega) _)) (hk := fun a b => congrArg x2 (win_idx 256 0 (placed_k0_off1_0 _) _ _ (by omega) _)) (hl := fun r b => congrArg x6 (win_idx 128 0 rfl _ _ (by omega) _)) hh r a).trans ?_
      exact congrArg (fun z => prob z x1 x2 x6 hh _ _) (congrArg x0 (one_idx _ (slope_off t hh).2 _ (slope_off t hh).1 _))
  exact base7 _

set_option maxHeartbeats 2000000 in
/-- The key gradient: at key row `k` the scores' gradients of all query rows on it, times their queries, over eight. -/
theorem dk_point (c : Dev nD) (t : Fin cfg0.N) (k : Fin 512) (hh : Fin 2) (e : Fin 64) :
    ((outsAt0 m c t).2.1 (ix2 k (lane hh e)) : EReal) =
      (∑ i : Fin 512, dscore (slope (iblk m c 0 t) t hh) (iblk m c 1 t) (iblk m c 2 t) (iblk m c 3 t) (iblk m c 4 t) (iblk m c 5 t) (iblk m c 6 t) hh i k * (iblk m c 1 t : FVec Ideal S512x128 .bf16) (ix2 i (lane hh e))) * Ideal.ofBits .f32 1040187392#32 := by
  simp only [outsAt0]
  frame_open
  simp only [View.readCov_eq_canon', placed_k0_off1_0, placed_k0_off1_1, placed_k0_off1_2, placed_k0_off1_3]
  frame_out
  rw [pay4_apply]
  beta_reduce
  rw [whole_idx]
  rw [sum_scale]
  generalize iblk m c 0 t = x0
  generalize iblk m c 1 t = x1
  generalize iblk m c 2 t = x2
  generalize iblk m c 3 t = x3
  generalize iblk m c 4 t = x4
  generalize iblk m c 5 t = x5
  generalize iblk m c 6 t = x6
  refine Eq.trans ?_ (gather (fun i j => dscore (slope x0 t hh) x1 x2 x3 x4 x5 x6 hh i j * (x1 (ix2 i (lane hh e)) : EReal) * Ideal.ofBits .f32 1040187392#32) (by intro i j h; show dscore _ _ _ _ _ _ _ _ _ _ * _ * _ = 0; rw [dscore_far _ _ _ _ _ _ _ _ _ _ h, zero_mul, zero_mul]) k)
  refine (acc_step 256 (by omega) _ _ _ (lane hh e) (fun a => ∑ r : Fin 128, (fun i j => dscore (slope x0 t hh) x1 x2 x3 x4 x5 x6 hh i j * (x1 (ix2 i (lane hh e)) : EReal) * Ideal.ofBits .f32 1040187392#32) ⟨384 + r.val, by omega⟩ ⟨256 + a.val, by omega⟩) (fun a => ?_) k).trans (congrArg (· + _) ?_)
  · refine (dk3 _ _ _ _ _ _ _ _ (fun h => View.ld x0 (Rect.unit (k0_off2 (grid0.coords t) (BitVec.ofNat 32 h.val)) ![1] (by rw [(slope_off t h).2]; have := (slope_off t h).1; intro a; fin_cases a; show 2 * (grid0.coords t 1).val + h.val + 1 ≤ 16; omega)) (Shape.Idx.first (by show 0 < Shape.numel ⟨1, ![1]⟩; decide))) _ a hh e).trans (congr (congrArg HAdd.hAdd ?_) ?_)
    · exact congrArg (View.canon (Val := Elt Ideal) _) (win_idx 256 256 (placed_k0_off1_3 _) _ _ (by omega) _)
    · refine (sum_scale _ _).trans (Finset.sum_congr rfl fun r _ => congrArg (· * _) (congr (congrArg HMul.hMul ?_) (congrArg x1 (win_idx 128 384 rfl _ _ (by omega) _))))
      refine (wds_eq (n := 384) (s := 256) (X1 := x1) (X2 := x2) (X3 := x3) (X4 := x4) (X5 := x5) (X6 := x6) (by omega) (by omega) (hD := fun r a => dist3 _ r a) (hV := fun r a => near3 _ r a) (hq := fun r b => congrArg x1 (win_idx 128 384 rfl _ _ (by omega) _)) (hk := fun a b => congrArg x2 (win_idx 256 256 (placed_k0_off1_3 _) _ _ (by omega) _)) (hl := fun r b => congrArg x6 (win_idx 128 384 rfl _ _ (by omega) _)) (hv := fun a b => congrArg x3 (win_idx 256 256 (placed_k0_off1_3 _) _ _ (by omega) _)) (hd := fun r b => congrArg x4 (win_idx 128 384 rfl _ _ (by omega) _)) (ho := fun r b => congrArg x5 (win_idx 128 384 rfl _ _ (by omega) _)) hh r a).trans ?_
      exact congrArg (fun z => dscore z x1 x2 x3 x4 x5 x6 hh _ _) (congrArg x0 (one_idx _ (slope_off t hh).2 _ (slope_off t hh).1 _))
  refine (acc_step 192 (by omega) _ _ _ (lane hh e) (fun a => ∑ r : Fin 128, (fun i j => dscore (slope x0 t hh) x1 x2 x3 x4 x5 x6 hh i j * (x1 (ix2 i (lane hh e)) : EReal) * Ideal.ofBits .f32 1040187392#32) ⟨256 + r.val, by omega⟩ ⟨192 + a.val, by omega⟩) (fun a => ?_) k).trans (congrArg (· + _) ?_)
  · refine (dk2 _ _ _ _ _ _ _ _ (fun h => View.ld x0 (Rect.unit (k0_off2 (grid0.coords t) (BitVec.ofNat 32 h.val)) ![1] (by rw [(slope_off t h).2]; have := (slope_off t h).1; intro a; fin_cases a; show 2 * (grid0.coords t 1).val + h.val + 1 ≤ 16; omega)) (Shape.Idx.first (by show 0 < Shape.numel ⟨1, ![1]⟩; decide))) _ a hh e).trans (congr (congrArg HAdd.hAdd ?_) ?_)
    · exact congrArg (View.canon (Val := Elt Ideal) _) (win_idx 256 192 (placed_k0_off1_2 _) _ _ (by omega) _)
    · refine (sum_scale _ _).trans (Finset.sum_congr rfl fun r _ => congrArg (· * _) (congr (congrArg HMul.hMul ?_) (congrArg x1 (win_idx 128 256 rfl _ _ (by omega) _))))
      refine (wds_eq (n := 256) (s := 192) (X1 := x1) (X2 := x2) (X3 := x3) (X4 := x4) (X5 := x5) (X6 := x6) (by omega) (by omega) (hD := fun r a => dist2 _ r a) (hV := fun r a => near2 _ r a) (hq := fun r b => congrArg x1 (win_idx 128 256 rfl _ _ (by omega) _)) (hk := fun a b => congrArg x2 (win_idx 256 192 (placed_k0_off1_2 _) _ _ (by omega) _)) (hl := fun r b => congrArg x6 (win_idx 128 256 rfl _ _ (by omega) _)) (hv := fun a b => congrArg x3 (win_idx 256 192 (placed_k0_off1_2 _) _ _ (by omega) _)) (hd := fun r b => congrArg x4 (win_idx 128 256 rfl _ _ (by omega) _)) (ho := fun r b => congrArg x5 (win_idx 128 256 rfl _ _ (by omega) _)) hh r a).trans ?_
      exact congrArg (fun z => dscore z x1 x2 x3 x4 x5 x6 hh _ _) (congrArg x0 (one_idx _ (slope_off t hh).2 _ (slope_off t hh).1 _))
  refine (acc_step 64 (by omega) _ _ _ (lane hh e) (fun a => ∑ r : Fin 128, (fun i j => dscore (slope x0 t hh) x1 x2 x3 x4 x5 x6 hh i j * (x1 (ix2 i (lane hh e)) : EReal) * Ideal.ofBits .f32 1040187392#32) ⟨128 + r.val, by omega⟩ ⟨64 + a.val, by omega⟩) (fun a => ?_) k).trans (congrArg (· + _) ?_)
  · refine (dk1 _ _ _ _ _ _ _ _ (fun h => View.ld x0 (Rect.unit (k0_off2 (grid0.coords t) (BitVec.ofNat 32 h.val)) ![1] (by rw [(slope_off t h).2]; have := (slope_off t h).1; intro a; fin_cases a; show 2 * (grid0.coords t 1).val + h.val + 1 ≤ 16; omega)) (Shape.Idx.first (by show 0 < Shape.numel ⟨1, ![1]⟩; decide))) _ a hh e).trans (congr (congrArg HAdd.hAdd ?_) ?_)
    · exact congrArg (View.canon (Val := Elt Ideal) _) (win_idx 256 64 (placed_k0_off1_1 _) _ _ (by omega) _)
    · refine (sum_scale _ _).trans (Finset.sum_congr rfl fun r _ => congrArg (· * _) (congr (congrArg HMul.hMul ?_) (congrArg x1 (win_idx 128 128 rfl _ _ (by omega) _))))
      refine (wds_eq (n := 128) (s := 64) (X1 := x1) (X2 := x2) (X3 := x3) (X4 := x4) (X5 := x5) (X6 := x6) (by omega) (by omega) (hD := fun r a => dist1 _ r a) (hV := fun r a => near1 _ r a) (hq := fun r b => congrArg x1 (win_idx 128 128 rfl _ _ (by omega) _)) (hk := fun a b => congrArg x2 (win_idx 256 64 (placed_k0_off1_1 _) _ _ (by omega) _)) (hl := fun r b => congrArg x6 (win_idx 128 128 rfl _ _ (by omega) _)) (hv := fun a b => congrArg x3 (win_idx 256 64 (placed_k0_off1_1 _) _ _ (by omega) _)) (hd := fun r b => congrArg x4 (win_idx 128 128 rfl _ _ (by omega) _)) (ho := fun r b => congrArg x5 (win_idx 128 128 rfl _ _ (by omega) _)) hh r a).trans ?_
      exact congrArg (fun z => dscore z x1 x2 x3 x4 x5 x6 hh _ _) (congrArg x0 (one_idx _ (slope_off t hh).2 _ (slope_off t hh).1 _))
  refine (acc_step 0 (by omega) _ _ _ (lane hh e) (fun a => ∑ r : Fin 128, (fun i j => dscore (slope x0 t hh) x1 x2 x3 x4 x5 x6 hh i j * (x1 (ix2 i (lane hh e)) : EReal) * Ideal.ofBits .f32 1040187392#32) ⟨0 + r.val, by omega⟩ ⟨0 + a.val, by omega⟩) (fun a => ?_) k).trans (congrArg (· + _) ?_)
  · refine (dk0 _ _ _ _ _ _ _ _ (fun h => View.ld x0 (Rect.unit (k0_off2 (grid0.coords t) (BitVec.ofNat 32 h.val)) ![1] (by rw [(slope_off t h).2]; have := (slope_off t h).1; intro a; fin_cases a; show 2 * (grid0.coords t 1).val + h.val + 1 ≤ 16; omega)) (Shape.Idx.first (by show 0 < Shape.numel ⟨1, ![1]⟩; decide))) _ a hh e).trans (congr (congrArg HAdd.hAdd ?_) ?_)
    · exact (pay6_apply _).trans (base6 _).symm
    · refine (sum_scale _ _).trans (Finset.sum_congr rfl fun r _ => congrArg (· * _) (congr (congrArg HMul.hMul ?_) (congrArg x1 (win_idx 128 0 rfl _ _ (by omega) _))))
      refine (wds_eq (n := 0) (s := 0) (X1 := x1) (X2 := x2) (X3 := x3) (X4 := x4) (X5 := x5) (X6 := x6) (by omega) (by omega) (hD := fun r a => dist0 _ r a) (hV := fun r a => near0 _ r a) (hq := fun r b => congrArg x1 (win_idx 128 0 rfl _ _ (by omega) _)) (hk := fun a b => congrArg x2 (win_idx 256 0 (placed_k0_off1_0 _) _ _ (by omega) _)) (hl := fun r b => congrArg x6 (win_idx 128 0 rfl _ _ (by omega) _)) (hv := fun a b => congrArg x3 (win_idx 256 0 (placed_k0_off1_0 _) _ _ (by omega) _)) (hd := fun r b => congrArg x4 (win_idx 128 0 rfl _ _ (by omega) _)) (ho := fun r b => congrArg x5 (win_idx 128 0 rfl _ _ (by omega) _)) hh r a).trans ?_
      exact congrArg (fun z => dscore z x1 x2 x3 x4 x5 x6 hh _ _) (congrArg x0 (one_idx _ (slope_off t hh).2 _ (slope_off t hh).1 _))
  exact base6 _

set_option maxHeartbeats 2000000 in
/-- The query gradient: at query row `i` its scores' gradients over all key rows, times their keys, over eight. -/
theorem dq_point (c : Dev nD) (t : Fin cfg0.N) (i : Fin 512) (hh : Fin 2) (e : Fin 64) :
    ((outsAt0 m c t).1 (ix2 i (lane hh e)) : EReal) =
      (∑ j : Fin 512, dscore (slope (iblk m c 0 t) t hh) (iblk m c 1 t) (iblk m c 2 t) (iblk m c 3 t) (iblk m c 4 t) (iblk m c 5 t) (iblk m c 6 t) hh i j * (iblk m c 2 t : FVec Ideal S512x128 .bf16) (ix2 j (lane hh e))) * Ideal.ofBits .f32 1040187392#32 := by
  simp only [outsAt0]
  frame_open
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  have hi := i.isLt
  have cut : ∀ (n s : ℕ) (hn : n + 128 ≤ 512) (hs : s + 256 ≤ 512) (_ : s = 0 ∨ s + 64 ≤ n) (_ : s = 256 ∨ n + 128 + 64 ≤ s + 256) (h : n ≤ i.val ∧ i.val < n + 128),
      (∑ a : Fin 256, dscore (slope x0 t hh) x1 x2 x3 x4 x5 x6 hh ⟨n + (i.val - n), by omega⟩ ⟨s + a.val, by omega⟩ * (x2 (ix2 ⟨s + a.val, by omega⟩ (lane hh e)) : EReal)) * Ideal.ofBits .f32 1040187392#32
      = (∑ j : Fin 512, dscore (slope x0 t hh) x1 x2 x3 x4 x5 x6 hh i j * (x2 (ix2 j (lane hh e)) : EReal)) * Ideal.ofBits .f32 1040187392#32 := by
    intro n s hn hs h1 h2 h
    have e0 : (⟨n + (i.val - n), by omega⟩ : Fin 512) = i := Fin.ext (by show n + (i.val - n) = i.val; omega)
    rw [e0]
    refine congrArg (· * _) (sum_window s hs (fun j => dscore (slope x0 t hh) x1 x2 x3 x4 x5 x6 hh i j * (x2 (ix2 j (lane hh e)) : EReal)) ?_)
    intro j hj
    have := j.isLt
    show dscore _ _ _ _ _ _ _ _ _ _ * _ = 0
    rw [dscore_far _ _ _ _ _ _ _ _ _ _ (by omega), zero_mul]
  refine (put_step 384 (by omega) _ _ _ (lane hh e) (fun r => (∑ a : Fin 256, dscore (slope x0 t hh) x1 x2 x3 x4 x5 x6 hh ⟨384 + r.val, by omega⟩ ⟨256 + a.val, by omega⟩ * (x2 (ix2 ⟨256 + a.val, by omega⟩ (lane hh e)) : EReal)) * Ideal.ofBits .f32 1040187392#32) (fun r => ?_) i).trans ?_
  · refine (dq3 _ _ _ _ _ _ _ _ (fun h => View.ld x0 (Rect.unit (k0_off2 (grid0.coords t) (BitVec.ofNat 32 h.val)) ![1] (by rw [(slope_off t h).2]; have := (slope_off t h).1; intro a; fin_cases a; show 2 * (grid0.coords t 1).val + h.val + 1 ≤ 16; omega)) (Shape.Idx.first (by show 0 < Shape.numel ⟨1, ![1]⟩; decide))) r hh e).trans (congrArg (· * _) (Finset.sum_congr rfl fun a _ => congr (congrArg HMul.hMul ?_) (congrArg x2 (win_idx 256 256 (placed_k0_off1_3 _) _ _ (by omega) _))))
    refine (wds_eq (n := 384) (s := 256) (X1 := x1) (X2 := x2) (X3 := x3) (X4 := x4) (X5 := x5) (X6 := x6) (by omega) (by omega) (hD := fun r a => dist3 _ r a) (hV := fun r a => near3 _ r a) (hq := fun r b => congrArg x1 (win_idx 128 384 rfl _ _ (by omega) _)) (hk := fun a b => congrArg x2 (win_idx 256 256 (placed_k0_off1_3 _) _ _ (by omega) _)) (hl := fun r b => congrArg x6 (win_idx 128 384 rfl _ _ (by omega) _)) (hv := fun a b => congrArg x3 (win_idx 256 256 (placed_k0_off1_3 _) _ _ (by omega) _)) (hd := fun r b => congrArg x4 (win_idx 128 384 rfl _ _ (by omega) _)) (ho := fun r b => congrArg x5 (win_idx 128 384 rfl _ _ (by omega) _)) hh r a).trans ?_
    exact congrArg (fun z => dscore z x1 x2 x3 x4 x5 x6 hh _ _) (congrArg x0 (one_idx _ (slope_off t hh).2 _ (slope_off t hh).1 _))
  by_cases h3 : 384 ≤ i.val ∧ i.val < 384 + 128
  · rw [dif_pos h3]
    exact cut 384 256 (by omega) (by omega) (by omega) (by omega) h3
  rw [dif_neg h3]
  refine (put_step 256 (by omega) _ _ _ (lane hh e) (fun r => (∑ a : Fin 256, dscore (slope x0 t hh) x1 x2 x3 x4 x5 x6 hh ⟨256 + r.val, by omega⟩ ⟨192 + a.val, by omega⟩ * (x2 (ix2 ⟨192 + a.val, by omega⟩ (lane hh e)) : EReal)) * Ideal.ofBits .f32 1040187392#32) (fun r => ?_) i).trans ?_
  · refine (dq2 _ _ _ _ _ _ _ _ (fun h => View.ld x0 (Rect.unit (k0_off2 (grid0.coords t) (BitVec.ofNat 32 h.val)) ![1] (by rw [(slope_off t h).2]; have := (slope_off t h).1; intro a; fin_cases a; show 2 * (grid0.coords t 1).val + h.val + 1 ≤ 16; omega)) (Shape.Idx.first (by show 0 < Shape.numel ⟨1, ![1]⟩; decide))) r hh e).trans (congrArg (· * _) (Finset.sum_congr rfl fun a _ => congr (congrArg HMul.hMul ?_) (congrArg x2 (win_idx 256 192 (placed_k0_off1_2 _) _ _ (by omega) _))))
    refine (wds_eq (n := 256) (s := 192) (X1 := x1) (X2 := x2) (X3 := x3) (X4 := x4) (X5 := x5) (X6 := x6) (by omega) (by omega) (hD := fun r a => dist2 _ r a) (hV := fun r a => near2 _ r a) (hq := fun r b => congrArg x1 (win_idx 128 256 rfl _ _ (by omega) _)) (hk := fun a b => congrArg x2 (win_idx 256 192 (placed_k0_off1_2 _) _ _ (by omega) _)) (hl := fun r b => congrArg x6 (win_idx 128 256 rfl _ _ (by omega) _)) (hv := fun a b => congrArg x3 (win_idx 256 192 (placed_k0_off1_2 _) _ _ (by omega) _)) (hd := fun r b => congrArg x4 (win_idx 128 256 rfl _ _ (by omega) _)) (ho := fun r b => congrArg x5 (win_idx 128 256 rfl _ _ (by omega) _)) hh r a).trans ?_
    exact congrArg (fun z => dscore z x1 x2 x3 x4 x5 x6 hh _ _) (congrArg x0 (one_idx _ (slope_off t hh).2 _ (slope_off t hh).1 _))
  by_cases h2 : 256 ≤ i.val ∧ i.val < 256 + 128
  · rw [dif_pos h2]
    exact cut 256 192 (by omega) (by omega) (by omega) (by omega) h2
  rw [dif_neg h2]
  refine (put_step 128 (by omega) _ _ _ (lane hh e) (fun r => (∑ a : Fin 256, dscore (slope x0 t hh) x1 x2 x3 x4 x5 x6 hh ⟨128 + r.val, by omega⟩ ⟨64 + a.val, by omega⟩ * (x2 (ix2 ⟨64 + a.val, by omega⟩ (lane hh e)) : EReal)) * Ideal.ofBits .f32 1040187392#32) (fun r => ?_) i).trans ?_
  · refine (dq1 _ _ _ _ _ _ _ _ (fun h => View.ld x0 (Rect.unit (k0_off2 (grid0.coords t) (BitVec.ofNat 32 h.val)) ![1] (by rw [(slope_off t h).2]; have := (slope_off t h).1; intro a; fin_cases a; show 2 * (grid0.coords t 1).val + h.val + 1 ≤ 16; omega)) (Shape.Idx.first (by show 0 < Shape.numel ⟨1, ![1]⟩; decide))) r hh e).trans (congrArg (· * _) (Finset.sum_congr rfl fun a _ => congr (congrArg HMul.hMul ?_) (congrArg x2 (win_idx 256 64 (placed_k0_off1_1 _) _ _ (by omega) _))))
    refine (wds_eq (n := 128) (s := 64) (X1 := x1) (X2 := x2) (X3 := x3) (X4 := x4) (X5 := x5) (X6 := x6) (by omega) (by omega) (hD := fun r a => dist1 _ r a) (hV := fun r a => near1 _ r a) (hq := fun r b => congrArg x1 (win_idx 128 128 rfl _ _ (by omega) _)) (hk := fun a b => congrArg x2 (win_idx 256 64 (placed_k0_off1_1 _) _ _ (by omega) _)) (hl := fun r b => congrArg x6 (win_idx 128 128 rfl _ _ (by omega) _)) (hv := fun a b => congrArg x3 (win_idx 256 64 (placed_k0_off1_1 _) _ _ (by omega) _)) (hd := fun r b => congrArg x4 (win_idx 128 128 rfl _ _ (by omega) _)) (ho := fun r b => congrArg x5 (win_idx 128 128 rfl _ _ (by omega) _)) hh r a).trans ?_
    exact congrArg (fun z => dscore z x1 x2 x3 x4 x5 x6 hh _ _) (congrArg x0 (one_idx _ (slope_off t hh).2 _ (slope_off t hh).1 _))
  by_cases h1 : 128 ≤ i.val ∧ i.val < 128 + 128
  · rw [dif_pos h1]
    exact cut 128 64 (by omega) (by omega) (by omega) (by omega) h1
  rw [dif_neg h1]
  refine (put_step 0 (by omega) _ _ _ (lane hh e) (fun r => (∑ a : Fin 256, dscore (slope x0 t hh) x1 x2 x3 x4 x5 x6 hh ⟨0 + r.val, by omega⟩ ⟨0 + a.val, by omega⟩ * (x2 (ix2 ⟨0 + a.val, by omega⟩ (lane hh e)) : EReal)) * Ideal.ofBits .f32 1040187392#32) (fun r => ?_) i).trans ?_
  · refine (dq0 _ _ _ _ _ _ _ _ (fun h => View.ld x0 (Rect.unit (k0_off2 (grid0.coords t) (BitVec.ofNat 32 h.val)) ![1] (by rw [(slope_off t h).2]; have := (slope_off t h).1; intro a; fin_cases a; show 2 * (grid0.coords t 1).val + h.val + 1 ≤ 16; omega)) (Shape.Idx.first (by show 0 < Shape.numel ⟨1, ![1]⟩; decide))) r hh e).trans (congrArg (· * _) (Finset.sum_congr rfl fun a _ => congr (congrArg HMul.hMul ?_) (congrArg x2 (win_idx 256 0 (placed_k0_off1_0 _) _ _ (by omega) _))))
    refine (wds_eq (n := 0) (s := 0) (X1 := x1) (X2 := x2) (X3 := x3) (X4 := x4) (X5 := x5) (X6 := x6) (by omega) (by omega) (hD := fun r a => dist0 _ r a) (hV := fun r a => near0 _ r a) (hq := fun r b => congrArg x1 (win_idx 128 0 rfl _ _ (by omega) _)) (hk := fun a b => congrArg x2 (win_idx 256 0 (placed_k0_off1_0 _) _ _ (by omega) _)) (hl := fun r b => congrArg x6 (win_idx 128 0 rfl _ _ (by omega) _)) (hv := fun a b => congrArg x3 (win_idx 256 0 (placed_k0_off1_0 _) _ _ (by omega) _)) (hd := fun r b => congrArg x4 (win_idx 128 0 rfl _ _ (by omega) _)) (ho := fun r b => congrArg x5 (win_idx 128 0 rfl _ _ (by omega) _)) hh r a).trans ?_
    exact congrArg (fun z => dscore z x1 x2 x3 x4 x5 x6 hh _ _) (congrArg x0 (one_idx _ (slope_off t hh).2 _ (slope_off t hh).1 _))
  by_cases h0 : 0 ≤ i.val ∧ i.val < 0 + 128
  · rw [dif_pos h0]
    exact cut 0 0 (by omega) (by omega) (by omega) (by omega) h0
  rw [dif_neg h0]
  omega

end Cert.KernelIdeal.Blk
end
-- ==== Proof.Arr.lean ====
module

public import proofs.«01_k».proof.Proof.Pt
public import proofs.«01_k».proof.Proof.Host

@[expose] public section
set_option maxRecDepth 16384
noncomputable section

/-! The kernel's three result arrays at finite arguments. -/

namespace Cert.KernelIdeal.Arr
open Idealize.ShloMosaic Idealize.ShloMosaic.TcCoe Idealize.ShloMosaic.Tactic Idealize.SL.Sem
open Idealize.ShloMosaic.Pipeline (Dat)
open Cert.Spec Cert.KernelIdeal Cert.KernelIdeal.Gen Cert.KernelIdeal.Win Cert.KernelIdeal.Blk Cert.KernelIdeal.Host
variable (m : (ℓ : Loc nD τ sig) → Buf (Elt Ideal) ℓ) (c : Dev nD)

/-- A grid point's sub-sequence. -/
def rOf (t : Fin cfg0.N) : Fin 16 := grid0.coords t 0
/-- A grid point's pair of heads. -/
def hpOf (t : Fin cfg0.N) : Fin 8 := grid0.coords t 1
/-- The head of a grid point's half of the lanes. -/
def headAt (t : Fin cfg0.N) (hh : Fin 2) : Fin 16 := ⟨2 * (hpOf t).val + hh.val, by have := (hpOf t).isLt; omega⟩

theorem off1 : ∀ t : Fin cfg0.N, win0_1.index t = ![0, (rOf t).val * 24 + (hpOf t).val] :=
  (by decide +kernel : ∀ t : Fin grid0.N, win0_1.index t = ![0, (rOf t).val * 24 + (hpOf t).val])
theorem off2 : ∀ t : Fin cfg0.N, win0_2.index t = ![0, (rOf t).val * 24 + 8 + (hpOf t).val] :=
  (by decide +kernel : ∀ t : Fin grid0.N, win0_2.index t = ![0, (rOf t).val * 24 + 8 + (hpOf t).val])
theorem off3 : ∀ t : Fin cfg0.N, win0_3.index t = ![0, (rOf t).val * 24 + 16 + (hpOf t).val] :=
  (by decide +kernel : ∀ t : Fin grid0.N, win0_3.index t = ![0, (rOf t).val * 24 + 16 + (hpOf t).val])
theorem off4 : ∀ t : Fin cfg0.N, win0_4.index t = ![0, (rOf t).val * 8 + (hpOf t).val] :=
  (by decide +kernel : ∀ t : Fin grid0.N, win0_4.index t = ![0, (rOf t).val * 8 + (hpOf t).val])
theorem off5 : ∀ t : Fin cfg0.N, win0_5.index t = ![0, (rOf t).val * 8 + (hpOf t).val] :=
  (by decide +kernel : ∀ t : Fin grid0.N, win0_5.index t = ![0, (rOf t).val * 8 + (hpOf t).val])
theorem off6 : ∀ t : Fin cfg0.N, win0_6.index t = ![0, (rOf t).val * 8 + (hpOf t).val] :=
  (by decide +kernel : ∀ t : Fin grid0.N, win0_6.index t = ![0, (rOf t).val * 8 + (hpOf t).val])
theorem off7 : ∀ t : Fin cfg0.N, win0_7.index t = ![0, (rOf t).val * 8 + (hpOf t).val] :=
  (by decide +kernel : ∀ t : Fin grid0.N, win0_7.index t = ![0, (rOf t).val * 8 + (hpOf t).val])
theorem off8 : ∀ t : Fin cfg0.N, win0_8.index t = ![0, (rOf t).val * 8 + (hpOf t).val] :=
  (by decide +kernel : ∀ t : Fin grid0.N, win0_8.index t = ![0, (rOf t).val * 8 + (hpOf t).val])
theorem off9 : ∀ t : Fin cfg0.N, win0_9.index t = ![0, (rOf t).val * 8 + (hpOf t).val] :=
  (by decide +kernel : ∀ t : Fin grid0.N, win0_9.index t = ![0, (rOf t).val * 8 + (hpOf t).val])
theorem off0 : ∀ t : Fin cfg0.N, win0_0.index t = ![0] := (by decide +kernel : ∀ t : Fin grid0.N, win0_0.index t = ![0])
theorem read1 (t : Fin cfg0.N) (i : Fin 512) (b : Fin 128) :
    (iblk m c 1 t (ix2 i b) : EReal) = V m c main_v78 (ix2 i ⟨((rOf t).val * 24 + (hpOf t).val) * 128 + b.val, by have := (rOf t).isLt; have := (hpOf t).isLt; omega⟩) := by
  blk_ext [iblk, off1 t]
theorem read2 (t : Fin cfg0.N) (i : Fin 512) (b : Fin 128) :
    (iblk m c 2 t (ix2 i b) : EReal) = V m c main_v78 (ix2 i ⟨((rOf t).val * 24 + 8 + (hpOf t).val) * 128 + b.val, by have := (rOf t).isLt; have := (hpOf t).isLt; omega⟩) := by
  blk_ext [iblk, off2 t]
theorem read3 (t : Fin cfg0.N) (i : Fin 512) (b : Fin 128) :
    (iblk m c 3 t (ix2 i b) : EReal) = V m c main_v78 (ix2 i ⟨((rOf t).val * 24 + 16 + (hpOf t).val) * 128 + b.val, by have := (rOf t).isLt; have := (hpOf t).isLt; omega⟩) := by
  blk_ext [iblk, off3 t]
theorem read4 (t : Fin cfg0.N) (i : Fin 512) (b : Fin 128) :
    (iblk m c 4 t (ix2 i b) : EReal) = V m c main_v80 (ix2 i ⟨((rOf t).val * 8 + (hpOf t).val) * 128 + b.val, by have := (rOf t).isLt; have := (hpOf t).isLt; omega⟩) := by
  blk_ext [iblk, off4 t]
theorem read5 (t : Fin cfg0.N) (i : Fin 512) (b : Fin 128) :
    (iblk m c 5 t (ix2 i b) : EReal) = V m c main_v81 (ix2 i ⟨((rOf t).val * 8 + (hpOf t).val) * 128 + b.val, by have := (rOf t).isLt; have := (hpOf t).isLt; omega⟩) := by
  blk_ext [iblk, off5 t]
theorem read6 (t : Fin cfg0.N) (i : Fin 512) (b : Fin 128) :
    (iblk m c 6 t (ix2 i b) : EReal) = V m c main_v82 (ix2 i ⟨((rOf t).val * 8 + (hpOf t).val) * 128 + b.val, by have := (rOf t).isLt; have := (hpOf t).isLt; omega⟩) := by
  blk_ext [iblk, off6 t]
theorem read0 (t : Fin cfg0.N) (h : Fin 16) : (iblk m c 0 t (ix1 h) : EReal) = V m c main_cst_0 (ix1 h) := by
  blk_ext [iblk, off0 t]

/-- The two printed tables of slopes are one. -/
theorem lits : (lit1 : Fin 16 → BitVec 32) = lit0 := by decide +kernel
theorem slope_eq (t : Fin cfg0.N) (hh : Fin 2) : slope (iblk m c 0 t) t hh = slopeOf (headAt t hh) := by
  refine (read0 m c t _).trans ?_
  rw [V0, lits]
  rfl

/-- The output column of a lane of a grid point's block. -/
def col (t : Fin cfg0.N) (hh : Fin 2) (e : Fin 64) : Fin 16384 := ⟨((rOf t).val * 8 + (hpOf t).val) * 128 + (lane hh e).val, by have := (rOf t).isLt; have := (hpOf t).isLt; have := (lane hh e).isLt; omega⟩
theorem lane_val (hh : Fin 2) (e : Fin 64) : (lane hh e).val = 64 * hh.val + e.val := rfl
theorem col_sub (t : Fin cfg0.N) (hh : Fin 2) (e : Fin 64) : subOf (col t hh e) = rOf t := by
  apply Fin.ext; show (((rOf t).val * 8 + (hpOf t).val) * 128 + (lane hh e).val) / 1024 = (rOf t).val
  have := (rOf t).isLt; have := (hpOf t).isLt; have := hh.isLt; have := e.isLt; rw [lane_val]; omega
theorem col_head (t : Fin cfg0.N) (hh : Fin 2) (e : Fin 64) : headOf (col t hh e) = headAt t hh := by
  apply Fin.ext; show (((rOf t).val * 8 + (hpOf t).val) * 128 + (lane hh e).val) / 64 % 16 = 2 * (hpOf t).val + hh.val
  have := (rOf t).isLt; have := (hpOf t).isLt; have := hh.isLt; have := e.isLt; rw [lane_val]; omega
theorem col_ent (t : Fin cfg0.N) (hh : Fin 2) (e : Fin 64) : entOf (col t hh e) = e := by
  apply Fin.ext; show (((rOf t).val * 8 + (hpOf t).val) * 128 + (lane hh e).val) % 64 = e.val
  have := (rOf t).isLt; have := (hpOf t).isLt; have := hh.isLt; have := e.isLt; rw [lane_val]; omega

/-! ## The block formulas over real blocks -/

section
variable (A : Arg) (r h : Fin 16) {q k v d : FVec Ideal S512x128 .bf16} {o l : FVec Ideal S512x128 .f32} (hh : Fin 2)
  (hq : ∀ i e, (q (ix2 i (lane hh e)) : EReal) = (A.q (row r i) h e : EReal)) (hk : ∀ i e, (k (ix2 i (lane hh e)) : EReal) = (A.k (row r i) h e : EReal))
  (hv : ∀ i e, (v (ix2 i (lane hh e)) : EReal) = (A.v (row r i) h e : EReal)) (hd : ∀ i e, (d (ix2 i (lane hh e)) : EReal) = (A.ct (row r i) h e : EReal))
  (ho : ∀ i e, (o (ix2 i (lane hh e)) : EReal) = (A.o r h i e : EReal)) (hl : ∀ i, (l (ix2 i (lane hh 0)) : EReal) = ((A.mx r h i + Real.log (A.den r h i) : ℝ) : EReal))
include hq hk hl

theorem prob_gen (i j : Fin 512) : prob (A.sl h) q k l hh i j = (A.P r h i j : EReal) := by
  unfold prob
  have e1 : (∑ e : Fin 64, ((q (ix2 i (lane hh e)) : EReal) * k (ix2 j (lane hh e))) : EReal) = ((∑ e : Fin 64, A.q (row r i) h e * A.k (row r j) h e : ℝ) : EReal) := by
    rw [← sum_coe]
    refine Finset.sum_congr rfl fun e _ => ?_
    rw [hq, hk]; exact (EReal.coe_mul _ _).symm
  rw [e1, hl, mask_eq, scale_eq, Win.near i.val j.val (by omega) (by omega)]
  unfold Arg.P
  by_cases h1 : Arg.near i j
  · rw [if_pos h1]
    have : (decide (j.val - i.val + (i.val - j.val) ≤ 64)) = true := decide_eq_true h1
    rw [this]
    show Ideal.exp (((((_ : ℝ) : EReal)) * ((1 / 8 : ℝ) : EReal) - ((A.sl h : ℝ) : EReal) * (((IntOp.muli (dlt i.val j.val) 16#32).toInt : ℝ) : EReal)) - _) = _
    rw [← EReal.coe_mul, ← EReal.coe_mul, ← EReal.coe_sub, ← EReal.coe_sub, exp_coe]
    congr 2
    unfold Arg.s
    ring
  · rw [if_neg h1]
    have : (decide (j.val - i.val + (i.val - j.val) ≤ 64)) = false := decide_eq_false h1
    rw [this]
    show Ideal.exp ((⊥ : EReal) - _) = _
    rw [EReal.bot_sub]
    rfl

include hv hd ho in
theorem dscore_gen (i j : Fin 512) : dscore (A.sl h) q k v d o l hh i j = (A.ds r h i j : EReal) := by
  unfold dscore
  rw [prob_gen A r h hh hq hk hl]
  have e1 : (∑ e : Fin 64, ((d (ix2 i (lane hh e)) : EReal) * v (ix2 j (lane hh e))) : EReal) = ((∑ e : Fin 64, A.ct (row r i) h e * A.v (row r j) h e : ℝ) : EReal) := by
    rw [← sum_coe]
    refine Finset.sum_congr rfl fun e _ => ?_
    rw [hd, hv]; exact (EReal.coe_mul _ _).symm
  have e2 : (∑ e : Fin 64, ((d (ix2 i (lane hh e)) : EReal) * o (ix2 i (lane hh e))) : EReal) = ((∑ e : Fin 64, A.ct (row r i) h e * A.o r h i e : ℝ) : EReal) := by
    rw [← sum_coe]
    refine Finset.sum_congr rfl fun e _ => ?_
    rw [hd, ho]; exact (EReal.coe_mul _ _).symm
  rw [e1, e2, ← EReal.coe_sub, ← EReal.coe_mul]
  rfl
end

variable {m c} {A : Arg} (H : Holds m c A)
include H

theorem q_blk (t : Fin cfg0.N) (i : Fin 512) (hh : Fin 2) (e : Fin 64) : (iblk m c 1 t (ix2 i (lane hh e)) : EReal) = (A.q (row (rOf t) i) (headAt t hh) e : EReal) := by
  have h1 := (rOf t).isLt; have h2 := (hpOf t).isLt; have h3 := hh.isLt; have h4 := e.isLt; have h5 := lane_val hh e
  rw [read1, V78, packed_at]
  rw [if_pos (by dsimp only; omega)]
  have a1 : (⟨i.val * 16 + (((rOf t).val * 24 + (hpOf t).val) * 128 + (lane hh e).val) / 3072, by omega⟩ : Fin 8192) = row (rOf t) i := by
    apply Fin.ext; show i.val * 16 + (((rOf t).val * 24 + (hpOf t).val) * 128 + (lane hh e).val) / 3072 = i.val * 16 + (rOf t).val; omega
  have a2 : (⟨(((rOf t).val * 24 + (hpOf t).val) * 128 + (lane hh e).val) / 64 % 16, by omega⟩ : Fin 16) = headAt t hh := by
    apply Fin.ext; show (((rOf t).val * 24 + (hpOf t).val) * 128 + (lane hh e).val) / 64 % 16 = 2 * (hpOf t).val + hh.val; omega
  have a3 : (⟨(((rOf t).val * 24 + (hpOf t).val) * 128 + (lane hh e).val) % 64, by omega⟩ : Fin 64) = e := by
    apply Fin.ext; show (((rOf t).val * 24 + (hpOf t).val) * 128 + (lane hh e).val) % 64 = e.val; omega
  have a4 := congrFun (congrFun (congrFun H.q (row (rOf t) i)) (headAt t hh)) e
  refine Eq.trans ?_ a4
  unfold tenOf
  exact congrArg (m (c.tc.loc main_arg0) : FVec Ideal S8192x16x64 .f32) (congr (congr (congrArg ix3 a1) a2) a3)
theorem k_blk (t : Fin cfg0.N) (i : Fin 512) (hh : Fin 2) (e : Fin 64) : (iblk m c 2 t (ix2 i (lane hh e)) : EReal) = (A.k (row (rOf t) i) (headAt t hh) e : EReal) := by
  have h1 := (rOf t).isLt; have h2 := (hpOf t).isLt; have h3 := hh.isLt; have h4 := e.isLt; have h5 := lane_val hh e
  rw [read2, V78, packed_at]
  rw [if_neg (by dsimp only; omega), if_pos (by dsimp only; omega)]
  have a1 : (⟨i.val * 16 + (((rOf t).val * 24 + 8 + (hpOf t).val) * 128 + (lane hh e).val) / 3072, by omega⟩ : Fin 8192) = row (rOf t) i := by
    apply Fin.ext; show i.val * 16 + (((rOf t).val * 24 + 8 + (hpOf t).val) * 128 + (lane hh e).val) / 3072 = i.val * 16 + (rOf t).val; omega
  have a2 : (⟨(((rOf t).val * 24 + 8 + (hpOf t).val) * 128 + (lane hh e).val) / 64 % 16, by omega⟩ : Fin 16) = headAt t hh := by
    apply Fin.ext; show (((rOf t).val * 24 + 8 + (hpOf t).val) * 128 + (lane hh e).val) / 64 % 16 = 2 * (hpOf t).val + hh.val; omega
  have a3 : (⟨(((rOf t).val * 24 + 8 + (hpOf t).val) * 128 + (lane hh e).val) % 64, by omega⟩ : Fin 64) = e := by
    apply Fin.ext; show (((rOf t).val * 24 + 8 + (hpOf t).val) * 128 + (lane hh e).val) % 64 = e.val; omega
  have a4 := congrFun (congrFun (congrFun H.k (row (rOf t) i)) (headAt t hh)) e
  refine Eq.trans ?_ a4
  unfold tenOf
  exact congrArg (m (c.tc.loc main_arg1) : FVec Ideal S8192x16x64 .f32) (congr (congr (congrArg ix3 a1) a2) a3)
theorem v_blk (t : Fin cfg0.N) (i : Fin 512) (hh : Fin 2) (e : Fin 64) : (iblk m c 3 t (ix2 i (lane hh e)) : EReal) = (A.v (row (rOf t) i) (headAt t hh) e : EReal) := by
  have h1 := (rOf t).isLt; have h2 := (hpOf t).isLt; have h3 := hh.isLt; have h4 := e.isLt; have h5 := lane_val hh e
  rw [read3, V78, packed_at]
  rw [if_neg (by dsimp only; omega), if_neg (by dsimp only; omega)]
  have a1 : (⟨i.val * 16 + (((rOf t).val * 24 + 16 + (hpOf t).val) * 128 + (lane hh e).val) / 3072, by omega⟩ : Fin 8192) = row (rOf t) i := by
    apply Fin.ext; show i.val * 16 + (((rOf t).val * 24 + 16 + (hpOf t).val) * 128 + (lane hh e).val) / 3072 = i.val * 16 + (rOf t).val; omega
  have a2 : (⟨(((rOf t).val * 24 + 16 + (hpOf t).val) * 128 + (lane hh e).val) / 64 % 16, by omega⟩ : Fin 16) = headAt t hh := by
    apply Fin.ext; show (((rOf t).val * 24 + 16 + (hpOf t).val) * 128 + (lane hh e).val) / 64 % 16 = 2 * (hpOf t).val + hh.val; omega
  have a3 : (⟨(((rOf t).val * 24 + 16 + (hpOf t).val) * 128 + (lane hh e).val) % 64, by omega⟩ : Fin 64) = e := by
    apply Fin.ext; show (((rOf t).val * 24 + 16 + (hpOf t).val) * 128 + (lane hh e).val) % 64 = e.val; omega
  have a4 := congrFun (congrFun (congrFun H.v (row (rOf t) i)) (headAt t hh)) e
  refine Eq.trans ?_ a4
  unfold tenOf
  exact congrArg (m (c.tc.loc main_arg2) : FVec Ideal S8192x16x64 .f32) (congr (congr (congrArg ix3 a1) a2) a3)
theorem ct_blk (t : Fin cfg0.N) (i : Fin 512) (hh : Fin 2) (e : Fin 64) : (iblk m c 4 t (ix2 i (lane hh e)) : EReal) = (A.ct (row (rOf t) i) (headAt t hh) e : EReal) := by
  rw [read4, V80, flatb_at]
  have a1 := col_sub t hh e; have a2 := col_head t hh e; have a3 := col_ent t hh e
  unfold col at a1 a2 a3
  rw [a1, a2, a3]
  exact congrFun (congrFun (congrFun H.ct (row (rOf t) i)) (headAt t hh)) e
theorem o_blk (t : Fin cfg0.N) (i : Fin 512) (hh : Fin 2) (e : Fin 64) : (iblk m c 5 t (ix2 i (lane hh e)) : EReal) = (A.o (rOf t) (headAt t hh) i e : EReal) := by
  rw [read5, V81, flat_at]
  have a1 := col_sub t hh e; have a2 := col_head t hh e; have a3 := col_ent t hh e
  unfold col at a1 a2 a3
  rw [a1, a2, a3]
  exact merged_real H (rOf t) (headAt t hh) i e
theorem l_blk (t : Fin cfg0.N) (i : Fin 512) (hh : Fin 2) (e : Fin 64) : (iblk m c 6 t (ix2 i (lane hh e)) : EReal) = ((A.mx (rOf t) (headAt t hh) i + Real.log (A.den (rOf t) (headAt t hh) i) : ℝ) : EReal) := by
  rw [read6, V82, wide_at]
  have a1 := col_sub t hh e; have a2 := col_head t hh e
  unfold col at a1 a2
  rw [a1, a2]
  exact mergedL_real H (rOf t) (headAt t hh) i

/-- A block's probability of a key is the merged weight. -/
theorem prob_real (t : Fin cfg0.N) (hh : Fin 2) (i j : Fin 512) :
    prob (slope (iblk m c 0 t) t hh) (iblk m c 1 t) (iblk m c 2 t) (iblk m c 6 t) hh i j = (A.P (rOf t) (headAt t hh) i j : EReal) := by
  rw [show slope (iblk m c 0 t) t hh = (A.sl (headAt t hh) : EReal) by rw [slope_eq, H.sl]; rfl]
  exact prob_gen A _ _ hh (q_blk H t · hh) (k_blk H t · hh) (fun i => l_blk H t i hh 0) i j

/-- A block's gradient of a score. -/
theorem dscore_real (t : Fin cfg0.N) (hh : Fin 2) (i j : Fin 512) :
    dscore (slope (iblk m c 0 t) t hh) (iblk m c 1 t) (iblk m c 2 t) (iblk m c 3 t) (iblk m c 4 t) (iblk m c 5 t) (iblk m c 6 t) hh i j = (A.ds (rOf t) (headAt t hh) i j : EReal) := by
  rw [show slope (iblk m c 0 t) t hh = (A.sl (headAt t hh) : EReal) by rw [slope_eq, H.sl]; rfl]
  exact dscore_gen A _ _ hh (q_blk H t · hh) (k_blk H t · hh) (v_blk H t · hh) (ct_blk H t · hh) (o_blk H t · hh) (fun i => l_blk H t i hh 0) i j

theorem dv_real (t : Fin cfg0.N) (k : Fin 512) (hh : Fin 2) (e : Fin 64) :
    ((outsAt0 m c t).2.2 (ix2 k (lane hh e)) : EReal) = (A.dv (rOf t) (headAt t hh) k e : EReal) := by
  rw [dv_point]
  unfold Arg.dv
  rw [← sum_coe]
  refine Finset.sum_congr rfl fun i _ => ?_
  rw [EReal.coe_mul]
  exact congrArg₂ (fun a b : EReal => a * b) (prob_real H t hh i k) (ct_blk H t i hh e)
theorem dk_real (t : Fin cfg0.N) (k : Fin 512) (hh : Fin 2) (e : Fin 64) :
    ((outsAt0 m c t).2.1 (ix2 k (lane hh e)) : EReal) = (A.dk (rOf t) (headAt t hh) k e : EReal) := by
  rw [dk_point]
  unfold Arg.dk
  rw [div_eq_mul_one_div, EReal.coe_mul, ← sum_coe, scale_eq]
  refine congrArg₂ (fun a b : EReal => a * b) (Finset.sum_congr rfl fun i _ => ?_) rfl
  rw [EReal.coe_mul]
  exact congrArg₂ (fun a b : EReal => a * b) (dscore_real H t hh i k) (q_blk H t i hh e)
theorem dq_real (t : Fin cfg0.N) (i : Fin 512) (hh : Fin 2) (e : Fin 64) :
    ((outsAt0 m c t).1 (ix2 i (lane hh e)) : EReal) = (A.dq (rOf t) (headAt t hh) i e : EReal) := by
  rw [dq_point]
  unfold Arg.dq
  rw [div_eq_mul_one_div, EReal.coe_mul, ← sum_coe, scale_eq]
  refine congrArg₂ (fun a b : EReal => a * b) (Finset.sum_congr rfl fun j _ => ?_) rfl
  rw [EReal.coe_mul]
  exact congrArg₂ (fun a b : EReal => a * b) (dscore_real H t hh i j) (k_blk H t j hh e)

omit H in
theorem exists_ix (y : S512x128.Idx) : ∃ (i : Fin 512) (hh : Fin 2) (e : Fin 64), y = ix2 i (lane hh e) := by
  obtain ⟨hh, e, h⟩ := exists_lane (y 1)
  refine ⟨y 0, hh, e, ?_⟩
  funext a; fin_cases a
  · rfl
  · exact h
omit H in
/-- A lane of output block 0 is a column of the array. -/
theorem emb_col7 (t : Fin cfg0.N) (i : Fin 512) (hh : Fin 2) (e : Fin 64) : (win0_7.blk t).view.emb (ix2 i (lane hh e)) = ix2 i (col t hh e) := by
  blk_ext [off7 t, col]
omit H in
/-- A lane of output block 1 is a column of the array. -/
theorem emb_col8 (t : Fin cfg0.N) (i : Fin 512) (hh : Fin 2) (e : Fin 64) : (win0_8.blk t).view.emb (ix2 i (lane hh e)) = ix2 i (col t hh e) := by
  blk_ext [off8 t, col]
omit H in
/-- A lane of output block 2 is a column of the array. -/
theorem emb_col9 (t : Fin cfg0.N) (i : Fin 512) (hh : Fin 2) (e : Fin 64) : (win0_9.blk t).view.emb (ix2 i (lane hh e)) = ix2 i (col t hh e) := by
  blk_ext [off9 t, col]

/-- The queries' gradient. -/
theorem dq_arr : (dats m 0 c).arrAt 7 cfg0.N = (fun y => (A.dq (subOf (y 1)) (headOf (y 1)) (y 0) (entOf (y 1)) : EReal) : FVec Ideal S512x16384 .bf16) := by
  refine (dats m 0 c).arrAt_eq_of_covers 7 _ (by decide +kernel) fun t hf y => ?_
  blk_simp
  rw [after0_7]
  obtain ⟨i, hh, e, hy⟩ := exists_ix y
  have h1 := dq_real H t i hh e
  have h2 := emb_col7 t i hh e
  refine (congrArg (outsAt0 m c t).1 hy).trans (h1.trans ?_)
  refine Eq.trans ?_ (congrArg (fun y : S512x16384.Idx => (A.dq (subOf (y 1)) (headOf (y 1)) (y 0) (entOf (y 1)) : EReal)) ((congrArg _ hy).trans h2).symm)
  show _ = (A.dq (subOf (col t hh e)) (headOf (col t hh e)) i (entOf (col t hh e)) : EReal)
  rw [col_sub, col_head, col_ent]

/-- The keys' gradient. -/
theorem dk_arr : (dats m 0 c).arrAt 8 cfg0.N = (fun y => (A.dk (subOf (y 1)) (headOf (y 1)) (y 0) (entOf (y 1)) : EReal) : FVec Ideal S512x16384 .bf16) := by
  refine (dats m 0 c).arrAt_eq_of_covers 8 _ (by decide +kernel) fun t hf y => ?_
  blk_simp
  rw [after0_8]
  obtain ⟨i, hh, e, hy⟩ := exists_ix y
  have h1 := dk_real H t i hh e
  have h2 := emb_col8 t i hh e
  refine (congrArg (outsAt0 m c t).2.1 hy).trans (h1.trans ?_)
  refine Eq.trans ?_ (congrArg (fun y : S512x16384.Idx => (A.dk (subOf (y 1)) (headOf (y 1)) (y 0) (entOf (y 1)) : EReal)) ((congrArg _ hy).trans h2).symm)
  show _ = (A.dk (subOf (col t hh e)) (headOf (col t hh e)) i (entOf (col t hh e)) : EReal)
  rw [col_sub, col_head, col_ent]

/-- The values' gradient. -/
theorem dv_arr : (dats m 0 c).arrAt 9 cfg0.N = (fun y => (A.dv (subOf (y 1)) (headOf (y 1)) (y 0) (entOf (y 1)) : EReal) : FVec Ideal S512x16384 .bf16) := by
  refine (dats m 0 c).arrAt_eq_of_covers 9 _ (by decide +kernel) fun t hf y => ?_
  blk_simp
  rw [after0_9]
  obtain ⟨i, hh, e, hy⟩ := exists_ix y
  have h1 := dv_real H t i hh e
  have h2 := emb_col9 t i hh e
  refine (congrArg (outsAt0 m c t).2.2 hy).trans (h1.trans ?_)
  refine Eq.trans ?_ (congrArg (fun y : S512x16384.Idx => (A.dv (subOf (y 1)) (headOf (y 1)) (y 0) (entOf (y 1)) : EReal)) ((congrArg _ hy).trans h2).symm)
  show _ = (A.dv (subOf (col t hh e)) (headOf (col t hh e)) i (entOf (col t hh e)) : EReal)
  rw [col_sub, col_head, col_ent]

end Cert.KernelIdeal.Arr
end
-- ==== Proof.Sums.lean ====
module

public import Idealize.ShloMosaic.Lib.Pipeline.ValueKit
@[expose] public section
noncomputable section

/-! Sums over the points of a grid, in which only the last point of each run counts, as one sum over the rows. -/

namespace Cert.Sums
open Finset

variable {M : Type} [AddCommMonoid M]

/-- A function of the rows below `L`, zero beyond. -/
def ext {L : ℕ} (g : Fin L → M) (k : ℕ) : M := if h : k < L then g ⟨k, h⟩ else 0
theorem ext_lt {L : ℕ} (g : Fin L → M) (k : ℕ) (h : k < L) : ext g k = g ⟨k, h⟩ := dif_pos h

/-- The last points of `A` runs of `n` points. -/
theorem sum_last (A n : ℕ) (hn : 0 < n) (g : ℕ → M) :
    ∑ k ∈ range (A * n), (if k % n = n - 1 then g (k / n) else 0) = ∑ a ∈ range A, g a := by
  rw [sum_range_mul_split]
  refine sum_congr rfl fun a _ => ?_
  have e : ∀ b, b < n → (a * n + b) % n = b := fun b hb => by rw [Nat.add_comm, Nat.add_mul_mod_self_right, Nat.mod_eq_of_lt hb]
  have d : (a * n + (n - 1)) / n = a := by rw [Nat.add_comm, Nat.add_mul_div_right _ _ hn, Nat.div_eq_of_lt (by omega), Nat.zero_add]
  rw [sum_eq_single (n - 1), e _ (by omega), d, if_pos rfl]
  · intro b hb hne
    rw [e b (mem_range.mp hb), if_neg hne]
  · intro h
    exact absurd (mem_range.mpr (by omega)) h

/-- Each such point adding its block of `B` rows, the total is the sum over all rows. -/
theorem sum_rows (A n B L : ℕ) (hn : 0 < n) (hL : A * B = L) (g : Fin L → M) :
    ∑ k ∈ range (A * n), (if k % n = n - 1 then ∑ i : Fin B, ext g (k / n * B + i.val) else 0) = ∑ l : Fin L, g l := by
  subst hL
  rw [sum_last A n hn (fun a => ∑ i : Fin B, ext g (a * B + i.val))]
  have e : ∀ a, ∑ i : Fin B, ext g (a * B + i.val) = ∑ i ∈ range B, ext g (a * B + i) := fun a =>
    Fin.sum_univ_eq_sum_range (fun i => ext g (a * B + i)) B
  simp only [e]
  rw [← sum_range_mul_split A B (ext g), ← Fin.sum_univ_eq_sum_range (ext g) (A * B)]
  exact sum_congr rfl fun l _ => ext_lt g l.val l.isLt

/-- Zero terms at the end do not count. -/
theorem sum_pad (n p : ℕ) (g : Fin n → M) : ∑ l : Fin (n + p), ext g l.val = ∑ k : Fin n, g k := by
  rw [Fin.sum_univ_add]
  have e : ∀ i : Fin p, ext g (Fin.natAdd n i).val = 0 := fun i => dif_neg (by simp)
  simp only [e, sum_const_zero, add_zero]
  exact sum_congr rfl fun k _ => ext_lt g k.val k.isLt

/-- A buffer that is zero after the first point, grows by a block of `B` rows at the last point of each run and is kept
    at the others: after the grid's last point it is the sum over all rows. -/
theorem total {ι : Type} {N : ℕ} (J A n B L : ℕ) (hn : 1 < n) (hN : N = J) (hJ : J = A * n) (hL : A * B = L) (f : (k : ℕ) → k < N → ι → M) (g : ι → Fin L → M)
    (h0 : ∀ t : Fin N, t.val % J = 0 → ∀ i, f t.val t.isLt i = 0)
    (hk : ∀ t : Fin N, ¬t.val % J = 0 → ¬t.val % n = n - 1 → ∀ i, f t.val t.isLt i = f (t.val - 1) (Nat.lt_of_le_of_lt (Nat.sub_le _ _) t.isLt) i)
    (hs : ∀ t : Fin N, t.val % n = n - 1 → ∀ i, f t.val t.isLt i = f (t.val - 1) (Nat.lt_of_le_of_lt (Nat.sub_le _ _) t.isLt) i + ∑ b : Fin B, ext (g i) (t.val / n * B + b.val))
    (t : Fin N) (ht : t.val % J = J - 1) (i : ι) : f t.val t.isLt i = ∑ l : Fin L, g i l := by
  subst hN
  have ht' : t.val + 1 = A * n := by rw [Nat.mod_eq_of_lt t.isLt] at ht; have := t.isLt; omega
  rw [← sum_rows A n B L (by omega) hL, ← ht']
  refine (Idealize.ShloMosaic.Pipeline.eq_sum_of_reset_step_apply_single f N (fun _ => 0)
    (fun k i => if k % n = n - 1 then ∑ b : Fin B, ext (g i) (k / n * B + b.val) else 0) (fun t h j => ?_) (fun t h j => ?_) le_rfl t i).trans (zero_add _)
  · rw [Nat.mod_eq_of_lt t.isLt] at h
    rw [if_neg (by rw [h, Nat.zero_mod]; omega), zero_add]
    exact h0 t (by rw [h, Nat.zero_mod]) j
  · by_cases hl : t.val % n = n - 1
    · rw [if_pos hl]; exact hs t hl j
    · rw [if_neg hl, add_zero]; exact hk t h hl j

end Cert.Sums
end
-- ==== Proof.Dh.lean ====
module

public import proofs.«01_k».proof.Proof.Gen.Kernel2Ideal.Value
public import proofs.«01_k».proof.Proof.Gen.Reference2Ideal.Run
public import proofs.«01_k».proof.Proof.Sums
public import Idealize.ShloMosaic.Lib.Pipeline.ReadBack
@[expose] public section
set_option maxRecDepth 16384
noncomputable section

/-! The gradients of an attention layer's modulated input: five partial products add up to a row block of the product
    of the projection's gradient with the transposed matrix; with it the residual's gradient is completed, and the
    gradients of the scale and the shift are summed over the row blocks. -/

namespace Cert.Kernel2Ideal.Dh
open Idealize.ShloMosaic Idealize.ShloMosaic.TcCoe Idealize.ShloMosaic.Tactic Idealize.SL.Sem
open Idealize.ShloMosaic.Pipeline (Dat)
open Cert.Kernel2Ideal Cert.Kernel2Ideal.Gen Cert.Sums
variable (m : (ℓ : Loc nD τ sig) → Buf (Elt Ideal) ℓ) (c : Dev nD)

theorem V0 : V m c main_v0 = truncf (F := Ideal) .bf16 (m (c.tc.loc main_arg5)) bitsLt_bf16_f32 := by
  unfold V
  simp only [hostOps0, List.flatten_cons, List.flatten_nil, List.cons_append, List.nil_append, List.append_nil]
  after_results
theorem V1 : V m c main_v1 = truncf (F := Ideal) .bf16 (m (c.tc.loc main_arg3)) bitsLt_bf16_f32 := by
  unfold V
  simp only [hostOps0, List.flatten_cons, List.flatten_nil, List.cons_append, List.nil_append, List.append_nil]
  after_results

/-! What a point computes -/

theorem part_at (a : FVec Ideal S512x2048 .bf16) (b : FVec Ideal S1024x2048 .bf16) (j : S512x1024.Idx) :
    (k0_pay1 (F := Ideal) a b j : EReal) = ∑ k : Fin 2048, (a (ix2 (j 0) k) : EReal) * (b (ix2 (j 1) k) : EReal) := by pointwise [k0_pay1]
theorem first_at (a : FVec Ideal S512x2048 .bf16) (b : FVec Ideal S1024x2048 .bf16) (j : S512x1024.Idx) :
    (k0_pay2 (F := Ideal) a b j : EReal) = 0 + k0_pay1 (F := Ideal) a b j := by
  rw [zero_add]; pointwise [k0_pay2]
theorem next_at (a : FVec Ideal S512x2048 .bf16) (b : FVec Ideal S1024x2048 .bf16) (d : FVec Ideal S512x1024 .f32) (j : S512x1024.Idx) :
    (k0_pay3 (F := Ideal) a b d j : EReal) = (d j : EReal) + k0_pay1 (F := Ideal) a b j := by pointwise [k0_pay3]
theorem zero_sc (j : S1x1024.Idx) : (k0_pay4 (F := Ideal) j : EReal) = 0 := by pointwise [k0_pay4]
theorem zero_sh (j : S1x1024.Idx) : (k0_pay5 (F := Ideal) j : EReal) = 0 := by pointwise [k0_pay5]
theorem dx_at (d p : FVec Ideal S512x1024 .f32) (s : FVec Ideal S1x1024 .f32) (j : S512x1024.Idx) :
    (k0_pay6 (F := Ideal) d p s j : EReal) = p j + d j * (1 + s (ix2 0 (j 1))) := by pointwise [k0_pay6]
theorem dsc_at (d x : FVec Ideal S512x1024 .f32) (s : FVec Ideal S1x1024 .f32) (j : S1x1024.Idx) :
    (k0_pay7 (F := Ideal) d s x j : EReal) = s j + ∑ i : Fin 512, (d (ix2 i (j 1)) : EReal) * x (ix2 i (j 1)) := by pointwise [k0_pay7]
theorem dsh_at (d : FVec Ideal S512x1024 .f32) (s : FVec Ideal S1x1024 .f32) (j : S1x1024.Idx) :
    (k0_pay8 (F := Ideal) d s j : EReal) = s j + ∑ i : Fin 512, (d (ix2 i (j 1)) : EReal) := by pointwise [k0_pay8]

/-! The blocks read, in the arrays -/

theorem idx : ∀ t : Fin cfg0.N, win0_0.index t = ![t.val / 5, t.val % 5] ∧ win0_1.index t = ![0, t.val % 5] ∧ win0_2.index t = ![t.val / 5, 0]
    ∧ win0_3.index t = ![t.val / 5, 0] ∧ win0_4.index t = ![0, 0] ∧ win0_5.index t = ![t.val / 5, 0] ∧ win0_6.index t = ![0, 0] ∧ win0_7.index t = ![0, 0] :=
  (by decide +kernel : ∀ t : Fin grid0.N, _)
theorem read0 (t : Fin cfg0.N) (x : S512x2048.Idx) (i : S8192x10240.Idx) (h0 : (i 0 : ℕ) = t.val / 5 * 512 + x 0) (h1 : (i 1 : ℕ) = t.val % 5 * 2048 + x 1) :
    (iblk m c 0 t x : EReal) = V m c main_v0 i := by
  blk_ext [iblk, idx t]
theorem read1 (t : Fin cfg0.N) (x : S1024x2048.Idx) (i : S1024x10240.Idx) (h0 : (i 0 : ℕ) = x 0) (h1 : (i 1 : ℕ) = t.val % 5 * 2048 + x 1) :
    (iblk m c 1 t x : EReal) = V m c main_v1 i := by
  blk_ext [iblk, idx t]
theorem read2 (t : Fin cfg0.N) (x : S512x1024.Idx) (i : S8192x1024.Idx) (h0 : (i 0 : ℕ) = t.val / 5 * 512 + x 0) (h1 : (i 1 : ℕ) = x 1) :
    (iblk m c 2 t x : EReal) = V m c main_arg4 i := by
  blk_ext [iblk, idx t]
theorem read3 (t : Fin cfg0.N) (x : S512x1024.Idx) (i : S8192x1024.Idx) (h0 : (i 0 : ℕ) = t.val / 5 * 512 + x 0) (h1 : (i 1 : ℕ) = x 1) :
    (iblk m c 3 t x : EReal) = V m c main_arg0 i := by
  blk_ext [iblk, idx t]
theorem read4 (t : Fin cfg0.N) (x i : S1x1024.Idx) (h0 : (i 0 : ℕ) = x 0) (h1 : (i 1 : ℕ) = x 1) :
    (iblk m c 4 t x : EReal) = V m c main_arg1 i := by
  blk_ext [iblk, idx t]

/-! The product -/

/-- The reference's product: the gradient of the modulated input. -/
abbrev DH (w : FVec Ideal S1024x10240 .f32) (ct : FVec Ideal S8192x10240 .f32) : FVec Ideal S8192x1024 .f32 :=
  Host.dotGeneral (F := Ideal) Cert.Reference2Ideal.dot_S8192x10240_S1024x10240_S8192x1024_1_1_0_0_n_n none ct w
theorem dh_at (w : FVec Ideal S1024x10240 .f32) (ct : FVec Ideal S8192x10240 .f32) (i : S8192x1024.Idx) :
    (DH w ct i : EReal) = ∑ l : Fin 10240, (ct (ix2 (i 0) l) : EReal) * w (ix2 (i 1) l) := by pointwise [DH]

/-- The scratch at a run's last point: the row block of the product. -/
theorem acc (t : Fin cfg0.N) (h : t.val % 5 = 4) (j : S512x1024.Idx) (i : S8192x1024.Idx) (h0 : (i 0 : ℕ) = t.val / 5 * 512 + j 0) (h1 : (i 1 : ℕ) = j 1) :
    ((outsAt0 m c t.val t.isLt).2.2.2 j : EReal) = DH (m (c.tc.loc main_arg3)) (m (c.tc.loc main_arg5)) i := by
  refine (Pipeline.eq_sum_fin_of_reset_step_apply_of_flush (fun n h => (outsAt0 m c n h).2.2.2) 5 (fun _ => (0 : EReal)) (fun t j => k0_pay1 (iblk m c 0 t) (iblk m c 1 t) j)
    (fun t h j => ?_) (fun t h j => ?_) t h j).trans ((zero_add _).trans ?_)
  · by_cases h2 : t.val % 80 = 0
    · rw [outsAt0_A m c t h (by omega) h2 (by omega)]; frame_out
      exact first_at _ _ j
    · rw [outsAt0_D m c t h (by omega) h2 (by omega)]; frame_out
      exact first_at _ _ j
  · by_cases h2 : t.val % 5 = 4
    · rw [outsAt0_C m c t h (by omega) (by omega) h2]; frame_out
      rw [read_unread_whole]
      exact next_at _ _ _ j
    · rw [outsAt0_B m c t h (by omega) (by omega) h2]; frame_out
      rw [read_unread_whole]
      exact next_at _ _ _ j
  · rw [dh_at]
    simp only [part_at]
    refine Fin.sum_mul_add_congr fun s k hl => ?_
    have hs := s.isLt
    refine congrArg₂ (fun a b : EReal => a * b) ((read0 m c _ _ (ix2 (i 0) ⟨s * 2048 + k, hl⟩) ?_ ?_).trans (congrFun (V0 m c) _)) ((read1 m c _ _ (ix2 (i 1) ⟨s * 2048 + k, hl⟩) ?_ ?_).trans (congrFun (V1 m c) _))
    all_goals (dsimp only [ix2] <;> first | rfl | omega | (simp; omega))

/-- The results at a run's last point, of the product there. -/
theorem dx_last (t : Fin cfg0.N) (h : t.val % 5 = 4) :
    (outsAt0 m c t.val t.isLt).1 = k0_pay6 (F := Ideal) (outsAt0 m c t.val t.isLt).2.2.2 (iblk m c 2 t) (iblk m c 4 t) := by
  rw [outsAt0_C m c t (by omega) (by omega) (by omega) h]; frame_out
theorem dsc_last (t : Fin cfg0.N) (h : t.val % 5 = 4) (j : S1x1024.Idx) :
    ((outsAt0 m c t.val t.isLt).2.1 j : EReal) = k0_pay7 (F := Ideal) (outsAt0 m c t.val t.isLt).2.2.2 (outsAt0 m c (t.val - 1) (Nat.lt_of_le_of_lt (Nat.sub_le _ _) t.isLt)).2.1 (iblk m c 3 t) j := by
  rw [outsAt0_C m c t (by omega) (by omega) (by omega) h]; frame_out
theorem dsh_last (t : Fin cfg0.N) (h : t.val % 5 = 4) (j : S1x1024.Idx) :
    ((outsAt0 m c t.val t.isLt).2.2.1 j : EReal) = k0_pay8 (F := Ideal) (outsAt0 m c t.val t.isLt).2.2.2 (outsAt0 m c (t.val - 1) (Nat.lt_of_le_of_lt (Nat.sub_le _ _) t.isLt)).2.2.1 j := by
  rw [outsAt0_C m c t (by omega) (by omega) (by omega) h]; frame_out

/-! The three results, of the gradient `d` of the modulated input -/

/-- The reference's gradient of the residual, -/
abbrev DX (scale : FVec Ideal S1x1024 .f32) (dxp d : FVec Ideal S8192x1024 .f32) : FVec Ideal S8192x1024 .f32 :=
  addf dxp (mulf d (broadcastInDim S8192x1024 ![0, 1] Cert.Reference2Ideal.Gen.bcast_S1x1024_S8192x1024_0_1 (addf (broadcastInDim S1x1024 ![] Cert.Reference2Ideal.Gen.bcast_S_S1x1024 (constant Cert.Reference2Ideal.S_ .f32 0x3F800000#32)) scale)))
/-- of the shift, -/
abbrev DSH (d : FVec Ideal S8192x1024 .f32) : FVec Ideal S1x1024 .f32 :=
  shapeCast S1x1024 (Host.reduceAdd d (constant Cert.Reference2Ideal.S_ .f32 0x00000000#32) Cert.Reference2Ideal.Gen.reducesTo_S8192x1024_S1024_d0 Cert.Reference2Ideal.Gen.h_S_) Cert.Reference2Ideal.Gen.shapeCasts_S1024_S1x1024
/-- and of the scale. -/
abbrev DSC (x d : FVec Ideal S8192x1024 .f32) : FVec Ideal S1x1024 .f32 := DSH (mulf x d)

theorem DX_at (scale : FVec Ideal S1x1024 .f32) (dxp d : FVec Ideal S8192x1024 .f32) (i : S8192x1024.Idx) :
    (DX scale dxp d i : EReal) = dxp i + d i * (1 + scale (ix2 0 (i 1))) := by pointwise [DX]
theorem DSH_at (d : FVec Ideal S8192x1024 .f32) (i : S1x1024.Idx) :
    (DSH d i : EReal) = ∑ l : Fin 8192, (d (ix2 l (i 1)) : EReal) := by pointwise [DSH]
theorem DSC_at (x d : FVec Ideal S8192x1024 .f32) (i : S1x1024.Idx) :
    (DSC x d i : EReal) = ∑ l : Fin 8192, (d (ix2 l (i 1)) : EReal) * x (ix2 l (i 1)) :=
  (DSH_at _ i).trans (Finset.sum_congr rfl fun _ _ => mul_comm (G := EReal) _ _)

/-- The residual's gradient after the run. -/
theorem final_dx : (dats m 0 c).arrAt 5 (cfgs 0).N = DX (m (c.tc.loc main_arg1)) (m (c.tc.loc main_arg4)) (DH (m (c.tc.loc main_arg3)) (m (c.tc.loc main_arg5))) := by
  refine (dats m 0 c).arrAt_eq_of_covers 5 _ (by decide +kernel) fun t hf y => ?_
  blk_simp
  have h := (flush0_5 t).mp hf
  have e := idx t
  rw [after0_5, dx_last m c t h]
  refine (dx_at _ _ _ _).trans (Eq.trans ?_ (DX_at _ _ _ _).symm)
  refine congrArg₂ (fun a b : EReal => a + b) ((read2 m c t y _ ?_ ?_).trans (congrFun (V_main_arg4 m c) _))
    (congrArg₂ (fun a b : EReal => a * (1 + b)) (acc m c t h y _ ?_ ?_) ((read4 m c t _ _ ?_ ?_).trans (congrFun (V_main_arg1 m c) _)))
  all_goals (blk_simp [e] <;> dsimp only [ix2] <;> omega)

/-- The rows of a point's block. -/
theorem term_lt (t : Fin cfg0.N) (h : t.val % 5 = 4) (i : Fin 512) : t.val / 5 * 512 + i.val < 8192 := by
  have := Nat.lt_of_lt_of_eq t.isLt N_0
  omega

/-- The scale's gradient at the last point, -/
theorem dsc_acc (t : Fin cfg0.N) (ht : t.val % 80 = 79) (j : S1x1024.Idx) :
    ((outsAt0 m c t.val t.isLt).2.1 j : EReal) = DSC (m (c.tc.loc main_arg0)) (DH (m (c.tc.loc main_arg3)) (m (c.tc.loc main_arg5))) j := by
  refine Eq.trans ?_ (DSC_at _ _ j).symm
  refine total (M := EReal) 80 16 5 512 8192 (by decide) N_0 (by decide) (by decide) (fun k h => (outsAt0 m c k h).2.1) (fun j l => (DH (m (c.tc.loc main_arg3)) (m (c.tc.loc main_arg5)) (ix2 l (j 1)) : EReal) * m (c.tc.loc main_arg0) (ix2 l (j 1)))
    (fun t h j => ?_) (fun t h hl j => ?_) (fun t h j => ?_) t ht j
  · rw [outsAt0_A m c t (by omega) (by omega) h (by omega)]; frame_out
    exact zero_sc j
  · by_cases h0 : t.val % 5 = 0
    · rw [outsAt0_D m c t h0 (by omega) h hl]; rfl
    · rw [outsAt0_B m c t h0 (by omega) h hl]; rfl
  · refine (dsc_last m c t h j).trans ((dsc_at _ _ _ _).trans (congrArg (fun b : EReal => _ + b) (Finset.sum_congr rfl fun i _ => ?_)))
    rw [ext_lt _ _ (term_lt t h i)]
    exact congrArg₂ (fun a b : EReal => a * b) (acc m c t h _ _ rfl rfl) ((read3 m c t _ _ rfl rfl).trans (congrFun (V_main_arg0 m c) _))
/-- and the shift's. -/
theorem dsh_acc (t : Fin cfg0.N) (ht : t.val % 80 = 79) (j : S1x1024.Idx) :
    ((outsAt0 m c t.val t.isLt).2.2.1 j : EReal) = DSH (DH (m (c.tc.loc main_arg3)) (m (c.tc.loc main_arg5))) j := by
  refine Eq.trans ?_ (DSH_at _ j).symm
  refine total (M := EReal) 80 16 5 512 8192 (by decide) N_0 (by decide) (by decide) (fun k h => (outsAt0 m c k h).2.2.1) (fun j l => (DH (m (c.tc.loc main_arg3)) (m (c.tc.loc main_arg5)) (ix2 l (j 1)) : EReal))
    (fun t h j => ?_) (fun t h hl j => ?_) (fun t h j => ?_) t ht j
  · rw [outsAt0_A m c t (by omega) (by omega) h (by omega)]; frame_out
    exact zero_sh j
  · by_cases h0 : t.val % 5 = 0
    · rw [outsAt0_D m c t h0 (by omega) h hl]; rfl
    · rw [outsAt0_B m c t h0 (by omega) h hl]; rfl
  · refine (dsh_last m c t h j).trans ((dsh_at _ _ _).trans (congrArg (fun b : EReal => _ + b) (Finset.sum_congr rfl fun i _ => ?_)))
    rw [ext_lt _ _ (term_lt t h i)]
    exact acc m c t h _ _ rfl rfl

/-- The scale's gradient after the run, -/
theorem final_dsc : (dats m 0 c).arrAt 6 (cfgs 0).N = DSC (m (c.tc.loc main_arg0)) (DH (m (c.tc.loc main_arg3)) (m (c.tc.loc main_arg5))) := by
  refine (dats m 0 c).arrAt_eq_of_covers 6 _ (by decide +kernel) fun t hf y => ?_
  blk_simp
  have e := idx t
  rw [after0_6, dsc_acc m c t ((flush0_6 t).mp hf) y]
  refine congrArg _ (funext fun a => Fin.ext ?_)
  fin_cases a <;> (blk_simp [e] <;> dsimp only <;> omega)
/-- and the shift's. -/
theorem final_dsh : (dats m 0 c).arrAt 7 (cfgs 0).N = DSH (DH (m (c.tc.loc main_arg3)) (m (c.tc.loc main_arg5))) := by
  refine (dats m 0 c).arrAt_eq_of_covers 7 _ (by decide +kernel) fun t hf y => ?_
  blk_simp
  have e := idx t
  rw [after0_7, dsh_acc m c t ((flush0_7 t).mp hf) y]
  refine congrArg _ (funext fun a => Fin.ext ?_)
  fin_cases a <;> (blk_simp [e] <;> dsimp only <;> omega)

end Cert.Kernel2Ideal.Dh
end
-- ==== Proof.DhB.lean ====
module

public import proofs.«01_k».proof.Proof.Gen.Kernel3Ideal.Value
public import proofs.«01_k».proof.Proof.Gen.Reference3Ideal.Run
public import proofs.«01_k».proof.Proof.Dh
@[expose] public section
set_option maxRecDepth 16384
noncomputable section

/-! The gradients of a state space layer's modulated input. The projection's columns are padded with zeros to three
    blocks; a padded column's product is zero, so the padded product is the reference's. What a point does with the
    product is what it does in an attention layer, and is taken from there. -/

namespace Cert.Kernel3Ideal.DhB
open Idealize.ShloMosaic Idealize.ShloMosaic.TcCoe Idealize.ShloMosaic.Tactic Idealize.SL.Sem
open Idealize.ShloMosaic.Pipeline (Dat)
open Cert.Kernel3Ideal Cert.Kernel3Ideal.Gen Cert.Sums
open Cert.Kernel2Ideal.Dh (DX DSC DSH)
variable (m : (ℓ : Loc nD τ sig) → Buf (Elt Ideal) ℓ) (c : Dev nD)

/-! The padded operands -/

/-- The projection's gradient, padded. -/
def padCt (ct : FVec Ideal S8192x5184 .f32) : FVec Ideal S8192x5376 .bf16 :=
  pad S8192x5376 ![0, 0] ![0, 192] ![0, 0] (truncf .bf16 ct bitsLt_bf16_f32) (sitofp .bf16 (constantI S_ 32 0#32)) pads_S8192x5184_S8192x5376_000_01920 h_S_
/-- The matrix, padded. -/
def padW (w : FVec Ideal S1024x5184 .f32) : FVec Ideal S1024x5376 .bf16 :=
  pad S1024x5376 ![0, 0] ![0, 192] ![0, 0] (truncf .bf16 w bitsLt_bf16_f32) (sitofp .bf16 (constantI S_ 32 0#32)) pads_S1024x5184_S1024x5376_000_01920 h_S_

theorem V1 : V m c main_v1 = padCt (m (c.tc.loc main_arg5)) := by
  unfold V
  simp only [hostOps0, hostOps0_1, hostOps0_2, hostOps0_3, List.flatten_cons, List.flatten_nil, List.cons_append, List.nil_append, List.append_nil]
  after_results
  rfl
theorem V3 : V m c main_v3 = padW (m (c.tc.loc main_arg3)) := by
  unfold V
  simp only [hostOps0, hostOps0_1, hostOps0_2, hostOps0_3, List.flatten_cons, List.flatten_nil, List.cons_append, List.nil_append, List.append_nil]
  after_results
  rfl

theorem zero_bf16 : (FloatOps.sitofp (F := Ideal) .bf16 (0#32) : EReal) = 0 := by
  show (((0#32 : BitVec 32).toInt : ℝ) : EReal) = 0
  simp
theorem padCt_at (ct : FVec Ideal S8192x5184 .f32) (i : S8192x5376.Idx) :
    (padCt ct i : EReal) = if h : (i 1 : ℕ) < 5184 then ct (ix2 (i 0) ⟨i 1, h⟩) else (0 : EReal) := by
  pointwise [padCt, zero_bf16]
theorem padW_at (w : FVec Ideal S1024x5184 .f32) (i : S1024x5376.Idx) :
    (padW w i : EReal) = if h : (i 1 : ℕ) < 5184 then w (ix2 (i 0) ⟨i 1, h⟩) else (0 : EReal) := by
  pointwise [padW, zero_bf16]

/-- The reference's product, -/
abbrev DH (w : FVec Ideal S1024x5184 .f32) (ct : FVec Ideal S8192x5184 .f32) : FVec Ideal S8192x1024 .f32 :=
  Host.dotGeneral (F := Ideal) Cert.Reference3Ideal.dot_S8192x5184_S1024x5184_S8192x1024_1_1_0_0_n_n none ct w
theorem dh_at (w : FVec Ideal S1024x5184 .f32) (ct : FVec Ideal S8192x5184 .f32) (i : S8192x1024.Idx) :
    (DH w ct i : EReal) = ∑ l : Fin 5184, (ct (ix2 (i 0) l) : EReal) * w (ix2 (i 1) l) := by pointwise [DH]
/-- over the padded columns. -/
theorem dh_pad (w : FVec Ideal S1024x5184 .f32) (ct : FVec Ideal S8192x5184 .f32) (i : S8192x1024.Idx) :
    (DH w ct i : EReal) = ∑ l : Fin 5376, (padCt ct (ix2 (i 0) l) : EReal) * padW w (ix2 (i 1) l) := by
  rw [dh_at, ← sum_pad (M := EReal) 5184 192]
  refine Finset.sum_congr rfl fun l _ => ?_
  by_cases h : l.val < 5184
  · rw [ext_lt _ _ h]
    have e : (padCt ct (ix2 (i 0) l) : EReal) = ct (ix2 (i 0) ⟨l.val, h⟩) := (padCt_at _ _).trans (dif_pos h)
    have e' : (padW w (ix2 (i 1) l) : EReal) = w (ix2 (i 1) ⟨l.val, h⟩) := (padW_at _ _).trans (dif_pos h)
    exact (congrArg₂ (fun a b : EReal => a * b) e e').symm
  · have e : (padCt ct (ix2 (i 0) l) : EReal) = 0 := (padCt_at _ _).trans (dif_neg h)
    have e' : (padW w (ix2 (i 1) l) : EReal) = 0 := (padW_at _ _).trans (dif_neg h)
    exact (dif_neg h).trans ((congrArg₂ (fun a b : EReal => a * b) e e').trans (mul_zero (0 : EReal))).symm

/-! The blocks read, in the arrays -/

theorem idx : ∀ t : Fin cfg0.N, win0_0.index t = ![t.val / 3, t.val % 3] ∧ win0_1.index t = ![0, t.val % 3] ∧ win0_2.index t = ![t.val / 3, 0]
    ∧ win0_3.index t = ![t.val / 3, 0] ∧ win0_4.index t = ![0, 0] ∧ win0_5.index t = ![t.val / 3, 0] ∧ win0_6.index t = ![0, 0] ∧ win0_7.index t = ![0, 0] :=
  (by decide +kernel : ∀ t : Fin grid0.N, _)
theorem readCt (t : Fin cfg0.N) (x : S512x1792.Idx) (i : S8192x5376.Idx) (h0 : (i 0 : ℕ) = t.val / 3 * 512 + x 0) (h1 : (i 1 : ℕ) = t.val % 3 * 1792 + x 1) :
    (iblk m c 0 t x : EReal) = padCt (m (c.tc.loc main_arg5)) i :=
  Eq.trans (b := (V m c main_v1 i : EReal)) (by blk_ext [iblk, idx t]) (congrFun (V1 m c) i)
theorem readW (t : Fin cfg0.N) (x : S1024x1792.Idx) (i : S1024x5376.Idx) (h0 : (i 0 : ℕ) = x 0) (h1 : (i 1 : ℕ) = t.val % 3 * 1792 + x 1) :
    (iblk m c 1 t x : EReal) = padW (m (c.tc.loc main_arg3)) i :=
  Eq.trans (b := (V m c main_v3 i : EReal)) (by blk_ext [iblk, idx t]) (congrFun (V3 m c) i)
theorem readDx (t : Fin cfg0.N) (x : S512x1024.Idx) (i : S8192x1024.Idx) (h0 : (i 0 : ℕ) = t.val / 3 * 512 + x 0) (h1 : (i 1 : ℕ) = x 1) :
    (iblk m c 2 t x : EReal) = m (c.tc.loc main_arg4) i :=
  Eq.trans (b := (V m c main_arg4 i : EReal)) (by blk_ext [iblk, idx t]) (congrFun (V_main_arg4 m c) i)
theorem readX (t : Fin cfg0.N) (x : S512x1024.Idx) (i : S8192x1024.Idx) (h0 : (i 0 : ℕ) = t.val / 3 * 512 + x 0) (h1 : (i 1 : ℕ) = x 1) :
    (iblk m c 3 t x : EReal) = m (c.tc.loc main_arg0) i :=
  Eq.trans (b := (V m c main_arg0 i : EReal)) (by blk_ext [iblk, idx t]) (congrFun (V_main_arg0 m c) i)
theorem readScale (t : Fin cfg0.N) (x i : S1x1024.Idx) (h0 : (i 0 : ℕ) = x 0) (h1 : (i 1 : ℕ) = x 1) :
    (iblk m c 4 t x : EReal) = m (c.tc.loc main_arg1) i :=
  Eq.trans (b := (V m c main_arg1 i : EReal)) (by blk_ext [iblk, idx t]) (congrFun (V_main_arg1 m c) i)

/-! The product -/

theorem part_at (a : FVec Ideal S512x1792 .bf16) (b : FVec Ideal S1024x1792 .bf16) (j : S512x1024.Idx) :
    (k0_pay1 (F := Ideal) a b j : EReal) = ∑ k : Fin 1792, (a (ix2 (j 0) k) : EReal) * (b (ix2 (j 1) k) : EReal) := by pointwise [k0_pay1]
theorem first_at (a : FVec Ideal S512x1792 .bf16) (b : FVec Ideal S1024x1792 .bf16) (j : S512x1024.Idx) :
    (k0_pay2 (F := Ideal) a b j : EReal) = 0 + k0_pay1 (F := Ideal) a b j := by
  rw [zero_add]; pointwise [k0_pay2]
theorem next_at (a : FVec Ideal S512x1792 .bf16) (b : FVec Ideal S1024x1792 .bf16) (d : FVec Ideal S512x1024 .f32) (j : S512x1024.Idx) :
    (k0_pay3 (F := Ideal) a b d j : EReal) = (d j : EReal) + k0_pay1 (F := Ideal) a b j := by pointwise [k0_pay3]

/-- The scratch at a run's last point: the row block of the product. -/
theorem acc (t : Fin cfg0.N) (h : t.val % 3 = 2) (j : S512x1024.Idx) (i : S8192x1024.Idx) (h0 : (i 0 : ℕ) = t.val / 3 * 512 + j 0) (h1 : (i 1 : ℕ) = j 1) :
    ((outsAt0 m c t.val t.isLt).2.2.2 j : EReal) = DH (m (c.tc.loc main_arg3)) (m (c.tc.loc main_arg5)) i := by
  refine (Pipeline.eq_sum_fin_of_reset_step_apply_of_flush (fun n h => (outsAt0 m c n h).2.2.2) 3 (fun _ => (0 : EReal)) (fun t j => k0_pay1 (iblk m c 0 t) (iblk m c 1 t) j)
    (fun t h j => ?_) (fun t h j => ?_) t h j).trans ((zero_add _).trans ?_)
  · refine Eq.trans ?_ (first_at (iblk m c 0 t) (iblk m c 1 t) j)
    by_cases first : t.val % 48 = 0
    · rw [outsAt0_A m c t h (by omega) first (by omega)]; frame_out
    · rw [outsAt0_D m c t h (by omega) first (by omega)]; frame_out
  · refine Eq.trans ?_ (next_at (iblk m c 0 t) (iblk m c 1 t) _ j)
    by_cases last : t.val % 3 = 2
    · rw [outsAt0_C m c t h (by omega) (by omega) last]; frame_out; rw [read_unread_whole]
    · rw [outsAt0_B m c t h (by omega) (by omega) last]; frame_out; rw [read_unread_whole]
  · rw [dh_pad]
    simp only [part_at]
    refine Fin.sum_mul_add_congr fun s k hl => ?_
    have hs := s.isLt
    refine congrArg₂ (fun a b : EReal => a * b) (readCt m c _ _ (ix2 (i 0) ⟨s * 1792 + k, hl⟩) ?_ ?_) (readW m c _ _ (ix2 (i 1) ⟨s * 1792 + k, hl⟩) ?_ ?_)
    all_goals (dsimp only [ix2] <;> first | rfl | omega | (simp; omega))

/-! The three results at a run's last point -/

theorem dx_last (t : Fin cfg0.N) (h : t.val % 3 = 2) :
    (outsAt0 m c t.val t.isLt).1 = Cert.Kernel2Ideal.Gen.k0_pay6 (F := Ideal) (outsAt0 m c t.val t.isLt).2.2.2 (iblk m c 2 t) (iblk m c 4 t) := by
  rw [outsAt0_C m c t (by omega) (by omega) (by omega) h]; frame_out; rfl
theorem dsc_last (t : Fin cfg0.N) (h : t.val % 3 = 2) (j : S1x1024.Idx) :
    ((outsAt0 m c t.val t.isLt).2.1 j : EReal) = (outsAt0 m c (t.val - 1) (Nat.lt_of_le_of_lt (Nat.sub_le _ _) t.isLt)).2.1 j
      + ∑ i : Fin 512, ((outsAt0 m c t.val t.isLt).2.2.2 (ix2 i (j 1)) : EReal) * (iblk m c 3 t (ix2 i (j 1)) : EReal) := by
  refine Eq.trans ?_ (Cert.Kernel2Ideal.Dh.dsc_at (outsAt0 m c t.val t.isLt).2.2.2 (iblk m c 3 t) _ j)
  rw [outsAt0_C m c t (by omega) (by omega) (by omega) h]; frame_out; rfl
theorem dsh_last (t : Fin cfg0.N) (h : t.val % 3 = 2) (j : S1x1024.Idx) :
    ((outsAt0 m c t.val t.isLt).2.2.1 j : EReal) = (outsAt0 m c (t.val - 1) (Nat.lt_of_le_of_lt (Nat.sub_le _ _) t.isLt)).2.2.1 j
      + ∑ i : Fin 512, ((outsAt0 m c t.val t.isLt).2.2.2 (ix2 i (j 1)) : EReal) := by
  refine Eq.trans ?_ (Cert.Kernel2Ideal.Dh.dsh_at (outsAt0 m c t.val t.isLt).2.2.2 _ j)
  rw [outsAt0_C m c t (by omega) (by omega) (by omega) h]; frame_out; rfl

/-- A point that is not the last of its run keeps both sums. -/
theorem kept (t : Fin cfg0.N) (h : ¬t.val % 48 = 0) (hl : ¬t.val % 3 = 2) :
    (outsAt0 m c t.val t.isLt).2.1 = (outsAt0 m c (t.val - 1) (Nat.lt_of_le_of_lt (Nat.sub_le _ _) t.isLt)).2.1
    ∧ (outsAt0 m c t.val t.isLt).2.2.1 = (outsAt0 m c (t.val - 1) (Nat.lt_of_le_of_lt (Nat.sub_le _ _) t.isLt)).2.2.1 := by
  by_cases h0 : t.val % 3 = 0
  · rw [outsAt0_D m c t h0 (by omega) h hl]; exact ⟨rfl, rfl⟩
  · rw [outsAt0_B m c t h0 (by omega) h hl]; exact ⟨rfl, rfl⟩
/-- The first point clears them. -/
theorem cleared (t : Fin cfg0.N) (h : t.val % 48 = 0) (j : S1x1024.Idx) :
    ((outsAt0 m c t.val t.isLt).2.1 j : EReal) = 0 ∧ ((outsAt0 m c t.val t.isLt).2.2.1 j : EReal) = 0 := by
  rw [outsAt0_A m c t (by omega) (by omega) h (by omega)]
  refine ⟨Eq.trans ?_ (Cert.Kernel2Ideal.Dh.zero_sc j), Eq.trans ?_ (Cert.Kernel2Ideal.Dh.zero_sh j)⟩
  · frame_out; rfl
  · frame_out; rfl
theorem row_lt (t : Fin cfg0.N) (h : t.val % 3 = 2) (i : Fin 512) : t.val / 3 * 512 + i.val < 8192 := by
  have := Nat.lt_of_lt_of_eq t.isLt N_0
  omega

/-! The three arrays after the run -/

theorem final_dx : (dats m 0 c).arrAt 5 (cfgs 0).N = DX (m (c.tc.loc main_arg1)) (m (c.tc.loc main_arg4)) (DH (m (c.tc.loc main_arg3)) (m (c.tc.loc main_arg5))) := by
  refine (dats m 0 c).arrAt_eq_of_covers 5 _ (by decide +kernel) fun t hf y => ?_
  blk_simp
  have h := (flush0_5 t).mp hf
  have e := idx t
  rw [after0_5, dx_last m c t h]
  refine (Cert.Kernel2Ideal.Dh.dx_at _ _ _ _).trans (Eq.trans ?_ (Cert.Kernel2Ideal.Dh.DX_at _ _ _ _).symm)
  refine congrArg₂ (fun a b : EReal => a + b) (readDx m c t y _ ?_ ?_) (congrArg₂ (fun a b : EReal => a * (1 + b)) (acc m c t h y _ ?_ ?_) (readScale m c t _ _ ?_ ?_))
  all_goals (blk_simp [e] <;> dsimp only [ix2] <;> omega)

theorem dsc_sum (t : Fin cfg0.N) (ht : t.val % 48 = 47) (j : S1x1024.Idx) :
    ((outsAt0 m c t.val t.isLt).2.1 j : EReal) = DSC (m (c.tc.loc main_arg0)) (DH (m (c.tc.loc main_arg3)) (m (c.tc.loc main_arg5))) j := by
  refine Eq.trans ?_ (Cert.Kernel2Ideal.Dh.DSC_at _ _ j).symm
  refine total (M := EReal) 48 16 3 512 8192 (by decide) N_0 (by decide) (by decide) (fun k h => (outsAt0 m c k h).2.1) (fun j l => (DH (m (c.tc.loc main_arg3)) (m (c.tc.loc main_arg5)) (ix2 l (j 1)) : EReal) * m (c.tc.loc main_arg0) (ix2 l (j 1)))
    (fun t h j => (cleared m c t h j).1) (fun t h hl j => congrFun (kept m c t h hl).1 j) (fun t h j => (dsc_last m c t h j).trans (congrArg (fun b : EReal => _ + b) (Finset.sum_congr rfl fun i _ => ?_))) t ht j
  rw [ext_lt _ _ (row_lt t h i)]
  exact congrArg₂ (fun a b : EReal => a * b) (acc m c t h _ _ rfl rfl) (readX m c t _ _ rfl rfl)
theorem dsh_sum (t : Fin cfg0.N) (ht : t.val % 48 = 47) (j : S1x1024.Idx) :
    ((outsAt0 m c t.val t.isLt).2.2.1 j : EReal) = DSH (DH (m (c.tc.loc main_arg3)) (m (c.tc.loc main_arg5))) j := by
  refine Eq.trans ?_ (Cert.Kernel2Ideal.Dh.DSH_at _ j).symm
  refine total (M := EReal) 48 16 3 512 8192 (by decide) N_0 (by decide) (by decide) (fun k h => (outsAt0 m c k h).2.2.1) (fun j l => (DH (m (c.tc.loc main_arg3)) (m (c.tc.loc main_arg5)) (ix2 l (j 1)) : EReal))
    (fun t h j => (cleared m c t h j).2) (fun t h hl j => congrFun (kept m c t h hl).2 j) (fun t h j => (dsh_last m c t h j).trans (congrArg (fun b : EReal => _ + b) (Finset.sum_congr rfl fun i _ => ?_))) t ht j
  rw [ext_lt _ _ (row_lt t h i)]
  exact acc m c t h _ _ rfl rfl

theorem final_dsc : (dats m 0 c).arrAt 6 (cfgs 0).N = DSC (m (c.tc.loc main_arg0)) (DH (m (c.tc.loc main_arg3)) (m (c.tc.loc main_arg5))) := by
  refine (dats m 0 c).arrAt_eq_of_covers 6 _ (by decide +kernel) fun t hf y => ?_
  blk_simp
  have e := idx t
  rw [after0_6, dsc_sum m c t ((flush0_6 t).mp hf) y]
  refine congrArg _ (funext fun a => Fin.ext ?_)
  fin_cases a <;> (blk_simp [e] <;> dsimp only <;> omega)
theorem final_dsh : (dats m 0 c).arrAt 7 (cfgs 0).N = DSH (DH (m (c.tc.loc main_arg3)) (m (c.tc.loc main_arg5))) := by
  refine (dats m 0 c).arrAt_eq_of_covers 7 _ (by decide +kernel) fun t hf y => ?_
  blk_simp
  have e := idx t
  rw [after0_7, dsh_sum m c t ((flush0_7 t).mp hf) y]
  refine congrArg _ (funext fun a => Fin.ext ?_)
  fin_cases a <;> (blk_simp [e] <;> dsimp only <;> omega)

end Cert.Kernel3Ideal.DhB
end
-- ==== Proof.Dw.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
@[expose] public section
set_option maxRecDepth 16384
noncomputable section

/-! The gradient of a layer's projection matrix: the blocks' partial products, added up over a run of eight points, are
    the reference's one product over all positions. -/

namespace Cert.Kernel4Ideal.Dw
open Idealize.ShloMosaic Idealize.ShloMosaic.TcCoe Idealize.ShloMosaic.Tactic Idealize.SL.Sem
open Idealize.ShloMosaic.Pipeline (Dat)
open Cert.Kernel4Ideal Cert.Kernel4Ideal.Gen
variable (m : (ℓ : Loc nD τ sig) → Buf (Elt Ideal) ℓ) (c : Dev nD)

/-- The modulated input, its positions last. -/
def lhs (x : FVec Ideal S8192x1024 .f32) (scale shift : FVec Ideal S1x1024 .f32) : FVec Ideal S1024x8192 .bf16 :=
  transpose S1024x8192 [1, 0] (truncf .bf16 (addf (mulf x (broadcastInDim S8192x1024 ![0, 1] bcast_S1x1024_S8192x1024_0_1
    (addf (broadcastInDim S1x1024 ![] bcast_S_S1x1024 (constant S_ .f32 0x3F800000#32)) scale)))
      (broadcastInDim S8192x1024 ![0, 1] bcast_S1x1024_S8192x1024_0_1 shift)) bitsLt_bf16_f32) transposes_S8192x1024_S1024x8192_1_0
/-- The output's gradient, padded with zero columns. -/
def rhs (ct : FVec Ideal S8192x5184 .f32) : FVec Ideal S8192x5376 .bf16 :=
  pad S8192x5376 ![0, 0] ![0, 192] ![0, 0] (truncf .bf16 ct bitsLt_bf16_f32) (sitofp .bf16 (constantI S_ 32 0#32)) pads_S8192x5184_S8192x5376_000_01920 h_S_

theorem V9 : V m c main_v9 = lhs (m (c.tc.loc main_arg0)) (m (c.tc.loc main_arg1)) (m (c.tc.loc main_arg2)) := by
  unfold V
  simp only [hostOps0, hostOps0_1, hostOps0_2, List.flatten_cons, List.flatten_nil, List.cons_append, List.nil_append, List.append_nil]
  after_results
  rfl
theorem V8 : V m c main_v8 = rhs (m (c.tc.loc main_arg4)) := by
  unfold V
  simp only [hostOps0, hostOps0_1, hostOps0_2, List.flatten_cons, List.flatten_nil, List.cons_append, List.nil_append, List.append_nil]
  after_results
  rfl

/-- A block's partial product. -/
theorem part_at (a : FVec Ideal S1024x1024 .bf16) (b : FVec Ideal S1024x896 .bf16) (j : S1024x896.Idx) :
    (k0_pay1 (F := Ideal) a b j : EReal) = ∑ k : Fin 1024, (a (ix2 (j 0) k) : EReal) * (b (ix2 k (j 1)) : EReal) := by pointwise [k0_pay1]
/-- Storing it. -/
theorem first_at (a : FVec Ideal S1024x1024 .bf16) (b : FVec Ideal S1024x896 .bf16) (j : S1024x896.Idx) :
    (k0_pay2 (F := Ideal) a b j : EReal) = 0 + k0_pay1 (F := Ideal) a b j := by
  rw [zero_add]; pointwise [k0_pay2]
/-- Adding it to what is there. -/
theorem next_at (a : FVec Ideal S1024x1024 .bf16) (b : FVec Ideal S1024x896 .bf16) (d : FVec Ideal S1024x896 .f32) (j : S1024x896.Idx) :
    (k0_pay3 (F := Ideal) a b d j : EReal) = (d j : EReal) + k0_pay1 (F := Ideal) a b j := by
  pointwise [k0_pay3]

theorem idx : ∀ t : Fin cfg0.N, win0_0.index t = ![0, t.val % 8] ∧ win0_1.index t = ![t.val % 8, t.val / 8] ∧ win0_2.index t = ![0, t.val / 8] :=
  (by decide +kernel : ∀ t : Fin grid0.N, _)

/-- The scratch at a run's last point: the run's partial products, added. -/
theorem acc (t : Fin cfg0.N) (h : t.val % 8 = 7) (j : S1024x896.Idx) :
    (outsAt0 m c t.val t.isLt).2 j = ∑ s : Fin 8, k0_pay1 (iblk m c 0 ⟨8 * (t.val / 8) + s.val, Pipeline.run_point_lt_of_flush t h s⟩) (iblk m c 1 ⟨8 * (t.val / 8) + s.val, Pipeline.run_point_lt_of_flush t h s⟩) j := by
  refine (Pipeline.eq_sum_fin_of_reset_step_apply_of_flush (fun n h => (outsAt0 m c n h).2) 8 (fun _ => (0 : EReal)) (fun t j => k0_pay1 (iblk m c 0 t) (iblk m c 1 t) j)
    (fun t h j => ?_) (fun t h j => ?_) t h j).trans (zero_add _)
  · rw [outsAt0_A m c t h (by omega) (by omega)]; frame_out
    exact first_at _ _ j
  · by_cases h2 : t.val % 8 = 7
    · rw [outsAt0_C m c t h (by omega) h2]; frame_out
      rw [read_unread_whole]
      exact next_at _ _ _ j
    · rw [outsAt0_B m c t h (by omega) h2]; frame_out
      rw [read_unread_whole]
      exact next_at _ _ _ j
/-- The output block there is the scratch. -/
theorem out_eq (t : Fin cfg0.N) (h : t.val % 8 = 7) : (outsAt0 m c t.val t.isLt).1 = (outsAt0 m c t.val t.isLt).2 := by
  rw [outsAt0_C m c t (by omega) (by omega) h]; frame_out

/-- The reference's gradient. -/
abbrev REF (x : FVec Ideal S8192x1024 .f32) (scale shift : FVec Ideal S1x1024 .f32) (ct : FVec Ideal S8192x5184 .f32) : FVec Ideal S1024x5376 .f32 :=
  pad S1024x5376 ![0, 0] ![0, 192] ![0, 0] (transpose S1024x5184 [1, 0] (Host.dotGeneral (F := Ideal) Cert.Reference4Ideal.dot_S8192x5184_S8192x1024_S5184x1024_0_0_1_1_n_n none ct (addf (mulf x (broadcastInDim S8192x1024 ![0, 1] Cert.Reference4Ideal.Gen.bcast_S1x1024_S8192x1024_0_1 (addf (broadcastInDim S1x1024 ![] Cert.Reference4Ideal.Gen.bcast_S_S1x1024 (constant S_ .f32 0x3F800000#32)) scale))) (broadcastInDim S8192x1024 ![0, 1] Cert.Reference4Ideal.Gen.bcast_S1x1024_S8192x1024_0_1 shift))) Cert.Reference4Ideal.Gen.transposes_S5184x1024_S1024x5184_1_0) (sitofp .f32 (constantI S_ 32 0#32)) Cert.Reference4Ideal.Gen.pads_S1024x5184_S1024x5376_000_01920 Cert.Reference4Ideal.Gen.h_S_

theorem zero_bf16 : (FloatOps.sitofp (F := Ideal) .bf16 (0#32) : EReal) = 0 := by
  show (((0#32 : BitVec 32).toInt : ℝ) : EReal) = 0
  simp
theorem zero_f32 : (FloatOps.sitofp (F := Ideal) .f32 (0#32) : EReal) = 0 := by
  show (((0#32 : BitVec 32).toInt : ℝ) : EReal) = 0
  simp
theorem lhs_at (x : FVec Ideal S8192x1024 .f32) (scale shift : FVec Ideal S1x1024 .f32) (i : S1024x8192.Idx) :
    (lhs x scale shift i : EReal) = x (ix2 (i 1) (i 0)) * (1 + scale (ix2 0 (i 0))) + shift (ix2 0 (i 0)) := by
  pointwise [lhs]
theorem rhs_at (ct : FVec Ideal S8192x5184 .f32) (i : S8192x5376.Idx) :
    (rhs ct i : EReal) = if h : (i 1 : ℕ) < 5184 then ct (ix2 (i 0) ⟨i 1, h⟩) else (0 : EReal) := by
  pointwise [rhs, zero_bf16]
theorem ref_at (x : FVec Ideal S8192x1024 .f32) (scale shift : FVec Ideal S1x1024 .f32) (ct : FVec Ideal S8192x5184 .f32) (i : S1024x5376.Idx) :
    (REF x scale shift ct i : EReal) = ∑ l : Fin 8192, (lhs x scale shift (ix2 (i 0) l) : EReal) * (rhs ct (ix2 l (i 1)) : EReal) := by
  simp only [lhs_at, rhs_at]
  pointwise [REF, zero_f32]
  split
  · exact Finset.sum_congr rfl fun l _ => mul_comm _ _
  · simp only [mul_zero, Finset.sum_const_zero]

/-- The blocks read, in the arrays. -/
theorem read0 (t : Fin cfg0.N) (x : S1024x1024.Idx) (i : S1024x8192.Idx) (h0 : (i 0 : ℕ) = x 0) (h1 : (i 1 : ℕ) = t.val % 8 * 1024 + x 1) :
    (iblk m c 0 t x : EReal) = V m c main_v9 i := by
  blk_ext [iblk, idx t]
theorem read1 (t : Fin cfg0.N) (x : S1024x896.Idx) (i : S8192x5376.Idx) (h0 : (i 0 : ℕ) = t.val % 8 * 1024 + x 0) (h1 : (i 1 : ℕ) = t.val / 8 * 896 + x 1) :
    (iblk m c 1 t x : EReal) = V m c main_v8 i := by
  blk_ext [iblk, idx t]

/-- The gradient's array after the run. -/
theorem final : (dats m 0 c).arrAt 2 (cfgs 0).N = REF (m (c.tc.loc main_arg0)) (m (c.tc.loc main_arg1)) (m (c.tc.loc main_arg2)) (m (c.tc.loc main_arg4)) := by
  refine (dats m 0 c).arrAt_eq_of_covers 2 _ (by decide +kernel) fun t hf y => ?_
  blk_simp
  rw [after0_2, out_eq m c t ((flush0_2 t).mp hf), acc m c t ((flush0_2 t).mp hf)]
  refine Eq.trans ?_ (ref_at _ _ _ _ _).symm
  simp only [part_at]
  refine Fin.sum_mul_add_congr fun s k hl => ?_
  have e := idx t
  have hs := s.isLt
  refine congrArg₂ (fun a b : EReal => a * b) ((read0 m c _ _ (ix2 (((View.whole main_v10).slice (win0_2.rect t)).emb y 0) ⟨s * 1024 + k, hl⟩) ?_ ?_).trans (congrFun (V9 m c) _)) ((read1 m c _ _ (ix2 ⟨s * 1024 + k, hl⟩ (((View.whole main_v10).slice (win0_2.rect t)).emb y 1)) ?_ ?_).trans (congrFun (V8 m c) _))
  all_goals (blk_simp [e] <;> dsimp only <;> omega)

end Cert.Kernel4Ideal.Dw
end
-- ==== Proof.MmIn.lean ====
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
@[expose] public section
set_option maxRecDepth 16384
noncomputable section

/-! A state space layer's projection: each block is the reference's product at its rows and columns. -/

namespace Cert.Kernel5Ideal.MmIn
open Idealize.ShloMosaic Idealize.ShloMosaic.TcCoe Idealize.ShloMosaic.Tactic Idealize.SL.Sem
open Idealize.ShloMosaic.Pipeline (Dat)
open Cert.Kernel5Ideal Cert.Kernel5Ideal.Gen
variable (m : (ℓ : Loc nD τ sig) → Buf (Elt Ideal) ℓ) (c : Dev nD)

/-- The modulated input. -/
def lhs (x : FVec Ideal S8192x1024 .f32) (scale shift : FVec Ideal S1x1024 .f32) : FVec Ideal S8192x1024 .bf16 :=
  truncf .bf16 (addf (mulf x (broadcastInDim S8192x1024 ![0, 1] bcast_S1x1024_S8192x1024_0_1
    (addf (broadcastInDim S1x1024 ![] bcast_S_S1x1024 (constant S_ .f32 0x3F800000#32)) scale)))
      (broadcastInDim S8192x1024 ![0, 1] bcast_S1x1024_S8192x1024_0_1 shift)) bitsLt_bf16_f32
/-- The columns of the gate and the convolution. -/
def rhs (w : FVec Ideal S1024x5184 .f32) : FVec Ideal S1024x5120 .bf16 :=
  extractStridedSlice S1024x5120 ![0, 0] (truncf .bf16 w bitsLt_bf16_f32) slices_S1024x5184_S1024x5120_0_0

theorem V6 : V m c main_v6 = lhs (m (c.tc.loc main_arg0)) (m (c.tc.loc main_arg1)) (m (c.tc.loc main_arg2)) := by
  unfold V
  simp only [hostOps0, List.flatten_cons, List.flatten_nil, List.cons_append, List.nil_append, List.append_nil]
  after_results
  rfl
theorem V8 : V m c main_v8 = rhs (m (c.tc.loc main_arg3)) := by
  unfold V
  simp only [hostOps0, List.flatten_cons, List.flatten_nil, List.cons_append, List.nil_append, List.append_nil]
  after_results
  rfl

/-- What a point computes of its blocks. -/
theorem out_at (a : FVec Ideal S512x1024 .bf16) (b : FVec Ideal S1024x1024 .bf16) (j : S512x1024.Idx) :
    (out0_2 (F := Ideal) a b j : EReal) = ∑ k : Fin 1024, (a (ix2 (j 0) k) : EReal) * (b (ix2 k (j 1)) : EReal) := by
  unfold out0_2
  frame_out
  pointwise [k0_pay1]

theorem idx : ∀ t : Fin cfg0.N, win0_0.index t = ![t.val / 5, 0] ∧ win0_1.index t = ![0, t.val % 5] ∧ win0_2.index t = ![t.val / 5, t.val % 5] :=
  (by decide +kernel : ∀ t : Fin grid0.N, _)

/-- The reference's projection. -/
abbrev REF (x : FVec Ideal S8192x1024 .f32) (scale shift : FVec Ideal S1x1024 .f32) (w : FVec Ideal S1024x5184 .f32) : FVec Ideal S8192x5120 .bf16 :=
  truncf .bf16 (extractStridedSlice S8192x5120 ![0, 0] (Host.dotGeneral (F := Ideal) Cert.Reference5Ideal.dot_S8192x1024_S1024x5184_S8192x5184_1_0_0_1_n_n none (addf (mulf x (broadcastInDim S8192x1024 ![0, 1] Cert.Reference5Ideal.Gen.bcast_S1x1024_S8192x1024_0_1 (addf (broadcastInDim S1x1024 ![] Cert.Reference5Ideal.Gen.bcast_S_S1x1024 (constant S_ .f32 0x3F800000#32)) scale))) (broadcastInDim S8192x1024 ![0, 1] Cert.Reference5Ideal.Gen.bcast_S1x1024_S8192x1024_0_1 shift)) w) Cert.Reference5Ideal.Gen.slices_S8192x5184_S8192x5120_0_0) Cert.Reference5Ideal.Gen.bitsLt_bf16_f32

theorem ref_at (x : FVec Ideal S8192x1024 .f32) (scale shift : FVec Ideal S1x1024 .f32) (w : FVec Ideal S1024x5184 .f32) (i : S8192x5120.Idx) :
    (REF x scale shift w i : EReal) = ∑ l : Fin 1024, (lhs x scale shift (ix2 (i 0) l) : EReal) * (rhs w (ix2 l (i 1)) : EReal) := by
  pointwise [REF, lhs, rhs]

/-- The blocks read, in the arrays. -/
theorem read0 (t : Fin cfg0.N) (x : S512x1024.Idx) (i : S8192x1024.Idx) (h0 : (i 0 : ℕ) = t.val / 5 * 512 + x 0) (h1 : (i 1 : ℕ) = x 1) :
    (iblk m c 0 t x : EReal) = V m c main_v6 i := by
  blk_ext [iblk, idx t]
theorem read1 (t : Fin cfg0.N) (x : S1024x1024.Idx) (i : S1024x5120.Idx) (h0 : (i 0 : ℕ) = x 0) (h1 : (i 1 : ℕ) = t.val % 5 * 1024 + x 1) :
    (iblk m c 1 t x : EReal) = V m c main_v8 i := by
  blk_ext [iblk, idx t]

/-- The projection's array after the run. -/
theorem final : (dats m 0 c).arrAt 2 (cfgs 0).N = REF (m (c.tc.loc main_arg0)) (m (c.tc.loc main_arg1)) (m (c.tc.loc main_arg2)) (m (c.tc.loc main_arg3)) := by
  refine (dats m 0 c).arrAt_eq_of_covers 2 _ (by decide +kernel) fun t _ y => ?_
  blk_simp
  rw [after0_2]
  refine (out_at _ _ _).trans (Eq.trans ?_ (ref_at _ _ _ _ _).symm)
  have e := idx t
  refine Finset.sum_congr rfl fun k _ => congrArg₂ (fun a b : EReal => a * b)
    ((read0 m c _ _ (ix2 (((View.whole main_v9).slice (win0_2.rect t)).emb y 0) k) ?_ ?_).trans (congrFun (V6 m c) _))
    ((read1 m c _ _ (ix2 k (((View.whole main_v9).slice (win0_2.rect t)).emb y 1)) ?_ ?_).trans (congrFun (V8 m c) _))
  all_goals (blk_simp [e] <;> dsimp only <;> omega)

end Cert.Kernel5Ideal.MmIn
end
-- ==== Proof.MmIn0.lean ====
module

public import proofs.«01_k».proof.Proof.Gen.Kernel6Ideal.Value
public import proofs.«01_k».proof.Proof.Gen.Reference6Ideal.Run
public import proofs.«01_k».proof.Proof.MmIn
@[expose] public section
set_option maxRecDepth 16384
noncomputable section

/-! An attention layer's projection onto the first group's queries, keys and values and onto the gate. -/

namespace Cert.Kernel6Ideal.MmIn0
open Idealize.ShloMosaic Idealize.ShloMosaic.TcCoe Idealize.ShloMosaic.Tactic Idealize.SL.Sem
open Idealize.ShloMosaic.Pipeline (Dat)
open Cert.Kernel6Ideal Cert.Kernel6Ideal.Gen
open Cert.Kernel5Ideal.MmIn (lhs)
variable (m : (ℓ : Loc nD τ sig) → Buf (Elt Ideal) ℓ) (c : Dev nD)

/-- The matrix's columns taken. -/
def rhs (w : FVec Ideal S1024x10240 .f32) : FVec Ideal S1024x4096 .bf16 :=
  concatenate S1024x4096 1 [⟨S1024x3072, extractStridedSlice S1024x3072 ![0, 0] (truncf .bf16 w bitsLt_bf16_f32) slices_S1024x10240_S1024x3072_0_0⟩,
    ⟨S1024x1024, extractStridedSlice S1024x1024 ![0, 9216] (truncf .bf16 w bitsLt_bf16_f32) slices_S1024x10240_S1024x1024_0_9216⟩] concatenates_S1024x3072_S1024x1024_S1024x4096_d1

theorem V6 : V m c main_v6 = lhs (m (c.tc.loc main_arg0)) (m (c.tc.loc main_arg1)) (m (c.tc.loc main_arg2)) := by
  unfold V
  simp only [hostOps0, List.flatten_cons, List.flatten_nil, List.cons_append, List.nil_append, List.append_nil]
  after_results
  rfl
theorem V10 : V m c main_v10 = rhs (m (c.tc.loc main_arg3)) := by
  unfold V
  simp only [hostOps0, List.flatten_cons, List.flatten_nil, List.cons_append, List.nil_append, List.append_nil]
  after_results
  rfl

/-- What a point computes of its blocks. -/
theorem out_at (a : FVec Ideal S1024x1024 .bf16) (b : FVec Ideal S1024x1024 .bf16) (j : S1024x1024.Idx) :
    (out0_2 (F := Ideal) a b j : EReal) = ∑ k : Fin 1024, (a (ix2 (j 0) k) : EReal) * (b (ix2 k (j 1)) : EReal) := by
  unfold out0_2
  frame_out
  pointwise [k0_pay1]

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The reference's projection onto all columns, -/
abbrev PROJ (x : FVec Ideal S8192x1024 .f32) (scale shift : FVec Ideal S1x1024 .f32) (w : FVec Ideal S1024x10240 .f32) : FVec Ideal Cert.Reference6Ideal.S8192x10240 .f32 :=
  Host.dotGeneral (F := Ideal) Cert.Reference6Ideal.dot_S8192x1024_S1024x10240_S8192x10240_1_0_0_1_n_n none (addf (mulf x (broadcastInDim S8192x1024 ![0, 1] Cert.Reference6Ideal.Gen.bcast_S1x1024_S8192x1024_0_1 (addf (broadcastInDim S1x1024 ![] Cert.Reference6Ideal.Gen.bcast_S_S1x1024 (constant S_ .f32 0x3F800000#32)) scale))) (broadcastInDim S8192x1024 ![0, 1] Cert.Reference6Ideal.Gen.bcast_S1x1024_S8192x1024_0_1 shift)) w
/-- and its columns taken. -/
abbrev REF (x : FVec Ideal S8192x1024 .f32) (scale shift : FVec Ideal S1x1024 .f32) (w : FVec Ideal S1024x10240 .f32) : FVec Ideal S8192x4096 .bf16 :=
  truncf .bf16 (concatenate S8192x4096 1 [⟨Cert.Reference6Ideal.S8192x3072, extractStridedSlice Cert.Reference6Ideal.S8192x3072 ![0, 0] (PROJ x scale shift w) Cert.Reference6Ideal.Gen.slices_S8192x10240_S8192x3072_0_0⟩,
    ⟨S8192x1024, extractStridedSlice S8192x1024 ![0, 9216] (PROJ x scale shift w) Cert.Reference6Ideal.Gen.slices_S8192x10240_S8192x1024_0_9216⟩] Cert.Reference6Ideal.Gen.concatenates_S8192x3072_S8192x1024_S8192x4096_d1) Cert.Reference6Ideal.Gen.bitsLt_bf16_f32

theorem rhs_at (w : FVec Ideal S1024x10240 .f32) (i : S1024x4096.Idx) :
    (rhs w i : EReal) = if h : (i 1 : ℕ) < 3072 then (w (ix2 (i 0) ⟨i 1, by omega⟩) : EReal) else (w (ix2 (i 0) ⟨9216 + ((i 1 : ℕ) - 3072), by have : (i 1 : ℕ) < 4096 := (i 1).isLt; omega⟩) : EReal) := by
  pointwise [rhs]
theorem ref_at (x : FVec Ideal S8192x1024 .f32) (scale shift : FVec Ideal S1x1024 .f32) (w : FVec Ideal S1024x10240 .f32) (i : S8192x4096.Idx) :
    (REF x scale shift w i : EReal) = ∑ l : Fin 1024, (lhs x scale shift (ix2 (i 0) l) : EReal) * (rhs w (ix2 l (i 1)) : EReal) := by
  simp only [rhs_at]
  pointwise [REF, PROJ, lhs]
  by_cases h : (i 1 : ℕ) < 3072 <;> simp only [h, ↓reduceDIte]

/-- The blocks read, in the arrays. -/
theorem read0 (t : Fin cfg0.N) (x : S1024x1024.Idx) (i : S8192x1024.Idx) (h0 : (i 0 : ℕ) = t.val / 4 * 1024 + x 0) (h1 : (i 1 : ℕ) = x 1) :
    (iblk m c 0 t x : EReal) = V m c main_v6 i := by
  blk_ext [iblk, idx t]
theorem read1 (t : Fin cfg0.N) (x : S1024x1024.Idx) (i : S1024x4096.Idx) (h0 : (i 0 : ℕ) = x 0) (h1 : (i 1 : ℕ) = t.val % 4 * 1024 + x 1) :
    (iblk m c 1 t x : EReal) = V m c main_v10 i := by
  blk_ext [iblk, idx t]

/-- The projection's array after the run. -/
theorem final : (dats m 0 c).arrAt 2 (cfgs 0).N = REF (m (c.tc.loc main_arg0)) (m (c.tc.loc main_arg1)) (m (c.tc.loc main_arg2)) (m (c.tc.loc main_arg3)) := by
  refine (dats m 0 c).arrAt_eq_of_covers 2 _ (by decide +kernel) fun t _ y => ?_
  blk_simp
  rw [after0_2]
  refine (out_at _ _ _).trans (Eq.trans ?_ (ref_at _ _ _ _ _).symm)
  have e := idx t
  refine Finset.sum_congr rfl fun k _ => congrArg₂ (fun a b : EReal => a * b)
    ((read0 m c _ _ (ix2 (((View.whole main_v11).slice (win0_2.rect t)).emb y 0) k) ?_ ?_).trans (congrFun (V6 m c) _))
    ((read1 m c _ _ (ix2 k (((View.whole main_v11).slice (win0_2.rect t)).emb y 1)) ?_ ?_).trans (congrFun (V10 m c) _))
  all_goals (blk_simp [e] <;> dsimp only <;> omega)

end Cert.Kernel6Ideal.MmIn0
end
-- ==== Proof.Dil.lean ====
module

public import Idealize.ShloMosaic.Lib.Pipeline.ValueKit
public import Idealize.ShloMosaic.Lib.Pipeline.ReadBack
@[expose] public section
set_option maxRecDepth 16384
noncomputable section

/-! A block of 512 rows is kept as 24 planes of 128 columns and read back by rows at a stride. The planes hold the
    block; a row of the output is the 24 strided reads side by side; the output is its rows side by side. -/

namespace Cert.Dil
open Idealize.ShloMosaic Idealize.ShloMosaic.TcCoe Idealize.ShloMosaic.Tactic Idealize.SL.Sem

abbrev Block : Shape := ⟨2, ![512, 3072]⟩
abbrev Planes : Shape := ⟨3, ![24, 512, 128]⟩
abbrev Plane : Shape := ⟨3, ![1, 512, 128]⟩
abbrev Tile : Shape := ⟨2, ![512, 128]⟩
abbrev Part (n : ℕ) : Shape := ⟨2, ![n, 128]⟩
abbrev Line (n : ℕ) : Shape := ⟨2, ![n, 3072]⟩

/-- The block, by planes. -/
def planes (P : Vec Ideal Block .f32) : Vec Ideal Planes .f32 := fun y =>
  P (ix2 (y 1) ⟨128 * (y 0).val + (y 2).val, by have h0 : (y 0).val < 24 := (y 0).isLt; have h2 : (y 2).val < 128 := (y 2).isLt; show _ < 3072; omega⟩)

/-- The stores `L` hold the first `k` planes of the block. -/
structure Fill (P : Vec Ideal Block .f32) (k : ℕ) (L : List (View.Piece (Elt Ideal) Planes .f32)) : Prop where
  agree : ∀ p ∈ L, ∀ x : p.1.shape.Idx, p.2 x = planes P (p.1.emb x)
  cover : ∀ y : Planes.Idx, (y 0).val < k → ∃ p ∈ L, y ∈ p.1.set

theorem Fill.nil (P : Vec Ideal Block .f32) : Fill P 0 [] := ⟨by simp, fun y h => absurd h (by omega)⟩

/-- One more plane stored. -/
theorem Fill.cons {P : Vec Ideal Block .f32} (k o : ℕ) {L : List (View.Piece (Elt Ideal) Planes .f32)}
    {inb : ∀ a, (![k, 0, 0] : Fin 3 → ℕ) a + (![1, 512, 128] : Fin 3 → ℕ) a ≤ Planes.size a} {hs : Block.Slices ![0, o] Tile} {hc : Tile.ShapeCasts Plane}
    (ho : o = 128 * k) (h : Fill P k L) :
    Fill P (k + 1) (⟨Rect.unit ![k, 0, 0] ![1, 512, 128] inb, shapeCast Plane (extractStridedSlice Tile ![0, o] P hs) hc⟩ :: L) := by
  subst ho
  refine ⟨fun p hp => ?_, fun y hy => ?_⟩
  · rcases List.mem_cons.1 hp with rfl | hp
    · intro x
      pointwise [planes]
      have h0 : (x 0).val < 1 := (x 0).isLt
      refine congrArg P (Shape.idx_ext₂ ?_ ?_)
      · show (x 1).val = 0 + 1 * (x 1).val
        omega
      · show 128 * k + (x 2).val = 128 * (k + 1 * (x 0).val) + (0 + 1 * (x 2).val)
        omega
    · exact h.agree p hp
  · by_cases hk : (y 0).val < k
    · obtain ⟨p, hp, hy⟩ := h.cover y hk
      exact ⟨p, List.mem_cons_of_mem _ hp, hy⟩
    · refine ⟨_, List.mem_cons_self, ?_⟩
      have h1 : (y 1).val < 512 := (y 1).isLt
      have h2 : (y 2).val < 128 := (y 2).isLt
      rw [Rect.mem_set_unit]
      intro a
      fin_cases a <;> simp <;> omega

theorem Fill.canon {P : Vec Ideal Block .f32} {L : List (View.Piece (Elt Ideal) Planes .f32)} (h : Fill P 24 L) (y : Planes.Idx) :
    View.canon L y = planes P y :=
  View.canon_apply_of_pieces _ L h.agree y (h.cover y (y 0).isLt)

/-- Row `r` of each group of rows, in one plane. -/
def part (P : Vec Ideal Block .f32) (n d r : ℕ) (hn : ∀ i < n, d * i + r < 512) (k : ℕ) (hk : k < 24) : Vec Ideal (Part n) .f32 := fun j =>
  P (ix2 ⟨d * (j 0).val + r, hn _ (j 0).isLt⟩ ⟨128 * k + (j 1).val, by have h2 : (j 1).val < 128 := (j 1).isLt; show _ < 3072; omega⟩)

/-- A strided read of one stored plane. -/
theorem load_at {P : Vec Ideal Block .f32} {L : List (View.Piece (Elt Ideal) Planes .f32)} (h : Fill P 24 L) {sig : RefSig} {κ : Kind} {sp : Space}
    (v : View sig κ sp Planes .f32) (n d r : ℕ) (hn : ∀ i < n, d * i + r < 512) (k : ℕ) (hk : k < 24)
    {inb : ∀ a, (![k, 0, 0] : Fin 3 → ℕ) a + (![1, 512, 128] : Fin 3 → ℕ) a ≤ Planes.size a} {hu}
    {inl : ∀ a, (![n, 128] : Fin 2 → ℕ) a = 0 ∨ (![r, 0] : Fin 2 → ℕ) a + (![d, 1] : Fin 2 → ℕ) a * ((![n, 128] : Fin 2 → ℕ) a - 1) < Tile.size a}
    {h0 h1} {hR} :
    (LoadRect.valAlong (lr := ({ off := ![r, 0], size := ![n, 128], stride := ![d, 1], inb := inl } : LoadRect Tile)) hR
      (v.readCov L ((Rect.unit (s := Planes) ![k, 0, 0] ![1, 512, 128] inb).withinL
        (LoadRect.consLift ({ off := ![r, 0], size := ![n, 128], stride := ![d, 1], inb := inl } : LoadRect Tile) ![1, 512, 128] h0 h1) hu)) :
        (Part n).Idx → Elt Ideal .f32) = part P n d r hn k hk := by
  funext j
  show v.readCov L _ (Shape.reshapeEquiv hR j) = _
  rw [View.readCov_eq_canon']
  beta_reduce
  rw [h.canon, show Shape.reshapeEquiv hR j = Fin.cons ⟨0, Nat.one_pos⟩ j from Shape.reshapeEquiv_cons_one (d := ![n, 128]) _ j]
  refine congrArg P (Shape.idx_ext₂ ?_ ?_)
  · show 0 + r + d * (j 0).val = d * (j 0).val + r
    omega
  · show 128 * (k + 0 + 1 * 0) + (0 + 0 + 1 * (j 1).val) = 128 * k + (j 1).val
    omega

/-- The parts of row `r`, from plane `k` on. -/
def parts (P : Vec Ideal Block .f32) (n d r : ℕ) (hn : ∀ i < n, d * i + r < 512) : (k l : ℕ) → k + l ≤ 24 → List ((s : Shape) × (s.Idx → Elt Ideal .f32))
  | _, 0, _ => []
  | k, l + 1, h => ⟨Part n, part P n d r hn k (by omega)⟩ :: parts P n d r hn (k + 1) l (by omega)

theorem parts_cons {P : Vec Ideal Block .f32} {n d r : ℕ} {hn : ∀ i < n, d * i + r < 512} {k l : ℕ} {h : k + (l + 1) ≤ 24}
    {a : (Part n).Idx → Elt Ideal .f32} {t : List ((s : Shape) × (s.Idx → Elt Ideal .f32))}
    (ha : a = part P n d r hn k (by omega)) (ht : t = parts P n d r hn (k + 1) l (by omega)) :
    (⟨Part n, a⟩ :: t : List ((s : Shape) × (s.Idx → Elt Ideal .f32))) = parts P n d r hn k (l + 1) h := by
  rw [ha, ht]
  rfl

theorem parts_eq (P : Vec Ideal Block .f32) (n d r : ℕ) (hn : ∀ i < n, d * i + r < 512) :
    parts P n d r hn 0 24 le_rfl = List.ofFn fun k : Fin 24 => (⟨Part n, part P n d r hn k.val k.isLt⟩ : (s : Shape) × (s.Idx → Elt Ideal .f32)) := by
  simp only [parts, List.ofFn_succ, List.ofFn_zero]
  rfl

/-- The parts of row `r` side by side, rounded: the row. -/
theorem line_at {P : Vec Ideal Block .f32} {n d r : ℕ} {hn : ∀ i < n, d * i + r < 512} {L : List ((s : Shape) × (s.Idx → Elt Ideal .f32))} {h} {hb}
    (hL : L = parts P n d r hn 0 24 le_rfl) (j : (Line n).Idx) :
    (truncf (F := Ideal) .bf16 (concatenate (Line n) 1 L h : FVec Ideal (Line n) .f32) hb j : EReal) = P (ix2 ⟨d * (j 0).val + r, hn _ (j 0).isLt⟩ (j 1)) := by
  subst hL
  have hj : (j 1).val < 3072 := (j 1).isLt
  revert h
  rw [parts_eq]
  intro h
  refine (concatenate_ofFn_apply 1 (fun k : Fin 24 => part P n d r hn k.val k.isLt) h rfl 128 rfl j ⟨(j 1).val / 128, by omega⟩ rfl
    (ix2 (j 0) ⟨(j 1).val % 128, Nat.mod_lt _ (by omega)⟩) rfl (fun b hb => ?_)).trans (congrArg P (Shape.idx_ext₂ rfl ?_))
  · fin_cases b
    · rfl
    · exact absurd rfl hb
  · show 128 * ((j 1).val / 128) + (j 1).val % 128 = (j 1).val
    omega

/-- The block's rows, `d` of them side by side. -/
def wide (P : Vec Ideal Block .f32) (n d w : ℕ) (hn : ∀ i < n, ∀ r < d, d * i + r < 512) (hw : w = 3072 * d) : Vec Ideal ⟨2, ![n, w]⟩ .bf16 := fun y =>
  P (ix2 ⟨d * (y 0).val + (y 1).val / 3072, hn _ (y 0).isLt _ (by have h : (y 1).val < w := (y 1).isLt; omega)⟩ ⟨(y 1).val % 3072, Nat.mod_lt _ (by omega)⟩)

/-- The stores `L` hold the first `k` rows of every group. -/
structure Lines (P : Vec Ideal Block .f32) (n d w : ℕ) (hn : ∀ i < n, ∀ r < d, d * i + r < 512) (hw : w = 3072 * d) (k : ℕ) (L : List (View.Piece (Elt Ideal) ⟨2, ![n, w]⟩ .bf16)) : Prop where
  agree : ∀ p ∈ L, ∀ x : p.1.shape.Idx, p.2 x = wide P n d w hn hw (p.1.emb x)
  cover : ∀ y : Shape.Idx ⟨2, ![n, w]⟩, (y 1).val < 3072 * k → ∃ p ∈ L, y ∈ p.1.set

section
variable {P : Vec Ideal Block .f32} {n d w : ℕ} {hn : ∀ i < n, ∀ r < d, d * i + r < 512} {hw : w = 3072 * d}

theorem Lines.nil : Lines P n d w hn hw 0 [] := ⟨by simp, fun y h => absurd h (by omega)⟩

/-- One more row of every group stored. -/
theorem Lines.cons (k : ℕ) (hk : k < d) {o : ℕ} {L : List (View.Piece (Elt Ideal) ⟨2, ![n, w]⟩ .bf16)}
    {inb : ∀ a, (![0, o] : Fin 2 → ℕ) a + (![n, 3072] : Fin 2 → ℕ) a ≤ (⟨2, ![n, w]⟩ : Shape).size a} {T : List ((s : Shape) × (s.Idx → Elt Ideal .f32))} {hT} {hb} (ho : o = 3072 * k)
    (hp : T = parts P n d k (fun i hi => hn i hi k hk) 0 24 le_rfl) (h : Lines P n d w hn hw k L) :
    Lines P n d w hn hw (k + 1) (⟨Rect.unit ![0, o] ![n, 3072] inb, truncf (F := Ideal) .bf16 (concatenate (Line n) 1 T hT : FVec Ideal (Line n) .f32) hb⟩ :: L) := by
  subst ho
  refine ⟨fun q hq => ?_, fun y hy => ?_⟩
  · rcases List.mem_cons.1 hq with rfl | hq
    · intro x
      have h1 : (x 1).val < 3072 := (x 1).isLt
      refine (line_at hp x).trans (congrArg P (Shape.idx_ext₂ ?_ ?_))
      · show d * (x 0).val + k = d * (0 + 1 * (x 0).val) + (3072 * k + 1 * (x 1).val) / 3072
        rw [show (3072 * k + 1 * (x 1).val) / 3072 = k by omega, Nat.zero_add, Nat.one_mul]
      · show (x 1).val = (3072 * k + 1 * (x 1).val) % 3072
        omega
    · exact h.agree q hq
  · by_cases hk : (y 1).val < 3072 * k
    · obtain ⟨q, hq, hy⟩ := h.cover y hk
      exact ⟨q, List.mem_cons_of_mem _ hq, hy⟩
    · refine ⟨_, List.mem_cons_self, ?_⟩
      have h0 : (y 0).val < n := (y 0).isLt
      rw [Rect.mem_set_unit]
      intro a
      fin_cases a <;> simp <;> omega

theorem Lines.canon {L : List (View.Piece (Elt Ideal) ⟨2, ![n, w]⟩ .bf16)} (h : Lines P n d w hn hw d L) : View.canon L = wide P n d w hn hw :=
  funext fun y => View.canon_apply_of_pieces _ L h.agree y (h.cover y (by rw [← hw]; exact (y 1).isLt))

end

end Cert.Dil
end
-- ==== Proof.MmDil.lean ====
module

public import proofs.«01_k».proof.Proof.Gen.Kernel14Ideal.Value
public import proofs.«01_k».proof.Proof.Gen.Reference14Ideal.Run
public import proofs.«01_k».proof.Proof.MmIn
public import proofs.«01_k».proof.Proof.Dil
@[expose] public section
set_option maxRecDepth 16384
noncomputable section

/-! An attention layer's projection onto the second group's queries, keys and values: each block is the reference's product
    at its rows, four rows side by side. -/

namespace Cert.Kernel14Ideal.MmDil
open Idealize.ShloMosaic Idealize.ShloMosaic.TcCoe Idealize.ShloMosaic.Tactic Idealize.SL.Sem
open Idealize.ShloMosaic.Pipeline (Dat)
open Cert.Kernel14Ideal Cert.Kernel14Ideal.Gen Cert.Dil
open Cert.Kernel5Ideal.MmIn (lhs)
variable (m : (ℓ : Loc nD τ sig) → Buf (Elt Ideal) ℓ) (c : Dev nD)

/-- The second group's columns. -/
def rhs (w : FVec Ideal S1024x10240 .f32) : FVec Ideal S1024x3072 .bf16 :=
  extractStridedSlice S1024x3072 ![0, 3072] (truncf .bf16 w bitsLt_bf16_f32) slices_S1024x10240_S1024x3072_0_3072

theorem V6 : V m c main_v6 = lhs (m (c.tc.loc main_arg0)) (m (c.tc.loc main_arg1)) (m (c.tc.loc main_arg2)) := by
  unfold V
  simp only [hostOps0, List.flatten_cons, List.flatten_nil, List.cons_append, List.nil_append, List.append_nil]
  after_results
  rfl
theorem V8 : V m c main_v8 = rhs (m (c.tc.loc main_arg3)) := by
  unfold V
  simp only [hostOps0, List.flatten_cons, List.flatten_nil, List.cons_append, List.nil_append, List.append_nil]
  after_results
  rfl

section
variable (i : grid0.Coords) (arg1 : Memref sig .tc .vmem S512x1024 .bf16) (harg1 : arg1.IsWhole) (arg2 : Memref sig .tc .vmem S1024x3072 .bf16) (harg2 : arg2.IsWhole)
  (arg3 : Memref sig .tc .vmem S128x12288 .bf16) (harg3 : arg3.IsWhole) (arg4 : Memref sig .tc .vmem S24x512x128 .f32) (harg4 : arg4.IsWhole)
  (x0 : Vec Ideal S512x1024 .bf16) (x1 : Vec Ideal S1024x3072 .bf16)

/-- A point's product. -/
abbrev prod : Vec Ideal S512x3072 .f32 :=
  k0_pay2 (View.readAt (Elt Ideal) arg1.view (Rect.unit ![0, 0] S512x1024.size inb_S512x1024_S512x1024_0_0).toLoadRect (harg1.unread x0))
    (View.readAt (Elt Ideal) arg2.view (Rect.unit ![0, 0] S1024x3072.size inb_S1024x3072_S1024x3072_0_0).toLoadRect (harg2.unread x1))

theorem prod_at (j : S512x3072.Idx) : (prod arg1 harg1 arg2 harg2 x0 x1 j : EReal) = ∑ k : Fin 1024, (x0 (ix2 (j 0) k) : EReal) * (x1 (ix2 k (j 1)) : EReal) := by
  unfold prod
  frame_out
  pointwise [k0_pay2]

/-- The stores into the planes hold the product. -/
theorem fill : Fill (prod arg1 harg1 arg2 harg2 x0 x1) 24 (kernelRun0_A c i arg1 harg1 arg2 harg2 arg3 harg3 arg4 harg4 x0 x1).2.1 := by
  unfold kernelRun0_A
  dsimp only
  iterate 24 refine Fill.cons _ _ (hs := by decide) (by rfl) ?_
  exact Fill.nil _

theorem rows_lt : ∀ i < 128, ∀ r < 4, 4 * i + r < 512 := by omega

/-- What a point leaves: the rows of its product, four side by side. -/
theorem out_eq : out0_A_2 c i arg1 harg1 arg2 harg2 arg3 harg3 arg4 harg4 x0 x1 = wide (prod arg1 harg1 arg2 harg2 x0 x1) 128 4 12288 rows_lt rfl := by
  have hf := fill c i arg1 harg1 arg2 harg2 arg3 harg3 arg4 harg4 x0 x1
  unfold out0_A_2
  rw [View.read_writes_eq_canon _ _ _ (cover0_A_2 c i arg1 harg1 arg2 harg2 arg3 harg3 arg4 harg4 x0 x1)]
  refine Lines.canon ?_
  unfold kernelRun0_A at hf ⊢
  dsimp only at hf ⊢
  iterate 4
    refine Lines.cons _ (by omega) (by rfl) ?_ ?_
    · iterate 24 refine parts_cons (load_at hf _ _ _ _ _ _ (by omega)) ?_
      rfl
  exact Lines.nil
end

theorem idx : ∀ t : Fin cfg0.N, win0_0.index t = ![t.val, 0] ∧ win0_1.index t = ![0, 0] ∧ win0_2.index t = ![t.val, 0] :=
  (by decide +kernel : ∀ t : Fin grid0.N, _)

/-- The reference's projection. -/
abbrev REF (x : FVec Ideal S8192x1024 .f32) (scale shift : FVec Ideal S1x1024 .f32) (w : FVec Ideal S1024x10240 .f32) : FVec Ideal S2048x12288 .bf16 :=
  truncf .bf16 (shapeCast _ (extractStridedSlice Cert.Reference14Ideal.S8192x3072 ![0, 3072] (Host.dotGeneral (F := Ideal) Cert.Reference14Ideal.dot_S8192x1024_S1024x10240_S8192x10240_1_0_0_1_n_n none (addf (mulf x (broadcastInDim S8192x1024 ![0, 1] Cert.Reference14Ideal.Gen.bcast_S1x1024_S8192x1024_0_1 (addf (broadcastInDim S1x1024 ![] Cert.Reference14Ideal.Gen.bcast_S_S1x1024 (constant S_ .f32 0x3F800000#32)) scale))) (broadcastInDim S8192x1024 ![0, 1] Cert.Reference14Ideal.Gen.bcast_S1x1024_S8192x1024_0_1 shift)) w) Cert.Reference14Ideal.Gen.slices_S8192x10240_S8192x3072_0_3072) Cert.Reference14Ideal.Gen.shapeCasts_S8192x3072_S2048x12288) Cert.Reference14Ideal.Gen.bitsLt_bf16_f32

theorem ref_at (x : FVec Ideal S8192x1024 .f32) (scale shift : FVec Ideal S1x1024 .f32) (w : FVec Ideal S1024x10240 .f32) (i : S2048x12288.Idx)
    (a : Fin 8192) (b : Fin 3072) (ha : a.val = 4 * (i 0).val + (i 1).val / 3072) (hb : b.val = (i 1).val % 3072) :
    (REF x scale shift w i : EReal) = ∑ l : Fin 1024, (lhs x scale shift (ix2 a l) : EReal) * (rhs w (ix2 l b) : EReal) := by
  have h0 : (i 0).val < 2048 := (i 0).isLt
  have h1 : (i 1).val < 12288 := (i 1).isLt
  rw [show a = ⟨(i 0).val * 4 + (i 1).val / 3072, by omega⟩ from Fin.ext (ha.trans (by rw [Nat.mul_comm])), show b = ⟨(i 1).val % 3072, by omega⟩ from Fin.ext hb]
  pointwise [REF, lhs, rhs]

/-- The blocks read, in the arrays. -/
theorem read0 (t : Fin cfg0.N) (x : S512x1024.Idx) (i : S8192x1024.Idx) (h0 : (i 0 : ℕ) = t.val * 512 + x 0) (h1 : (i 1 : ℕ) = x 1) :
    (iblk m c 0 t x : EReal) = V m c main_v6 i := by
  blk_ext [iblk, idx t]
theorem read1 (t : Fin cfg0.N) (x : S1024x3072.Idx) : (iblk m c 1 t x : EReal) = V m c main_v8 x := by
  blk_ext [iblk, idx t]

/-- The projection's array after the run. -/
theorem final : (dats m 0 c).arrAt 2 (cfgs 0).N = REF (m (c.tc.loc main_arg0)) (m (c.tc.loc main_arg1)) (m (c.tc.loc main_arg2)) (m (c.tc.loc main_arg3)) := by
  refine (dats m 0 c).arrAt_eq_of_covers 2 _ (by decide +kernel) fun t _ y => ?_
  blk_simp
  rw [after0_2]
  have e := idx t
  unfold outsAt0
  rw [out_eq]
  have hy : (y 0).val < 128 ∧ (y 1).val < 12288 := ⟨(y 0).isLt, (y 1).isLt⟩
  have ht : t.val < 16 := t.isLt
  refine (prod_at _ _ _ _ _ _ _).trans (Eq.trans ?_ (ref_at _ _ _ _ _ ⟨t.val * 512 + (4 * (y 0).val + (y 1).val / 3072), by omega⟩
    ⟨(y 1).val % 3072, by omega⟩ ?_ ?_).symm)
  · exact Finset.sum_congr rfl fun k _ => congrArg₂ (fun a b : EReal => a * b)
      ((read0 m c _ _ (ix2 _ k) rfl rfl).trans (congrFun (V6 m c) _)) ((read1 m c _ _).trans (congrFun (V8 m c) _))
  all_goals (blk_simp [e] <;> dsimp only <;> omega)

end Cert.Kernel14Ideal.MmDil
end
-- ==== Proof.MmDil16.lean ====
module

public import proofs.«01_k».proof.Proof.Gen.Kernel15Ideal.Value
public import proofs.«01_k».proof.Proof.Gen.Reference15Ideal.Run
public import proofs.«01_k».proof.Proof.MmIn
public import proofs.«01_k».proof.Proof.Dil
@[expose] public section
set_option maxRecDepth 16384
noncomputable section

/-! An attention layer's projection onto the third group's queries, keys and values: each block is the reference's product
    at its rows, sixteen rows side by side. -/

namespace Cert.Kernel15Ideal.MmDil16
open Idealize.ShloMosaic Idealize.ShloMosaic.TcCoe Idealize.ShloMosaic.Tactic Idealize.SL.Sem
open Idealize.ShloMosaic.Pipeline (Dat)
open Cert.Kernel15Ideal Cert.Kernel15Ideal.Gen Cert.Dil
open Cert.Kernel5Ideal.MmIn (lhs)
variable (m : (ℓ : Loc nD τ sig) → Buf (Elt Ideal) ℓ) (c : Dev nD)

/-- The third group's columns. -/
def rhs (w : FVec Ideal S1024x10240 .f32) : FVec Ideal S1024x3072 .bf16 :=
  extractStridedSlice S1024x3072 ![0, 6144] (truncf .bf16 w bitsLt_bf16_f32) slices_S1024x10240_S1024x3072_0_6144

theorem V6 : V m c main_v6 = lhs (m (c.tc.loc main_arg0)) (m (c.tc.loc main_arg1)) (m (c.tc.loc main_arg2)) := by
  unfold V
  simp only [hostOps0, List.flatten_cons, List.flatten_nil, List.cons_append, List.nil_append, List.append_nil]
  after_results
  rfl
theorem V8 : V m c main_v8 = rhs (m (c.tc.loc main_arg3)) := by
  unfold V
  simp only [hostOps0, List.flatten_cons, List.flatten_nil, List.cons_append, List.nil_append, List.append_nil]
  after_results
  rfl

section
variable (i : grid0.Coords) (arg1 : Memref sig .tc .vmem S512x1024 .bf16) (harg1 : arg1.IsWhole) (arg2 : Memref sig .tc .vmem S1024x3072 .bf16) (harg2 : arg2.IsWhole)
  (arg3 : Memref sig .tc .vmem S32x49152 .bf16) (harg3 : arg3.IsWhole) (arg4 : Memref sig .tc .vmem S24x512x128 .f32) (harg4 : arg4.IsWhole)
  (x0 : Vec Ideal S512x1024 .bf16) (x1 : Vec Ideal S1024x3072 .bf16)

/-- A point's product. -/
abbrev prod : Vec Ideal S512x3072 .f32 :=
  k0_pay2 (View.readAt (Elt Ideal) arg1.view (Rect.unit ![0, 0] S512x1024.size inb_S512x1024_S512x1024_0_0).toLoadRect (harg1.unread x0))
    (View.readAt (Elt Ideal) arg2.view (Rect.unit ![0, 0] S1024x3072.size inb_S1024x3072_S1024x3072_0_0).toLoadRect (harg2.unread x1))

theorem prod_at (j : S512x3072.Idx) : (prod arg1 harg1 arg2 harg2 x0 x1 j : EReal) = ∑ k : Fin 1024, (x0 (ix2 (j 0) k) : EReal) * (x1 (ix2 k (j 1)) : EReal) := by
  unfold prod
  frame_out
  pointwise [k0_pay2]

/-- The stores into the planes hold the product. -/
theorem fill : Fill (prod arg1 harg1 arg2 harg2 x0 x1) 24 (kernelRun0_A c i arg1 harg1 arg2 harg2 arg3 harg3 arg4 harg4 x0 x1).2.1 := by
  unfold kernelRun0_A
  dsimp only
  iterate 24 refine Fill.cons _ _ (hs := by decide) (by rfl) ?_
  exact Fill.nil _

theorem rows_lt : ∀ i < 32, ∀ r < 16, 16 * i + r < 512 := by omega

set_option maxHeartbeats 2000000 in
/-- What a point leaves: the rows of its product, sixteen side by side. -/
theorem out_eq : out0_A_2 c i arg1 harg1 arg2 harg2 arg3 harg3 arg4 harg4 x0 x1 = wide (prod arg1 harg1 arg2 harg2 x0 x1) 32 16 49152 rows_lt rfl := by
  have hf := fill c i arg1 harg1 arg2 harg2 arg3 harg3 arg4 harg4 x0 x1
  unfold out0_A_2
  rw [View.read_writes_eq_canon _ _ _ (cover0_A_2 c i arg1 harg1 arg2 harg2 arg3 harg3 arg4 harg4 x0 x1)]
  refine Lines.canon ?_
  unfold kernelRun0_A at hf ⊢
  dsimp only at hf ⊢
  iterate 16
    refine Lines.cons _ (by omega) (by rfl) ?_ ?_
    · iterate 24 refine parts_cons (load_at hf _ _ _ _ _ _ (by omega)) ?_
      rfl
  exact Lines.nil
end

theorem idx : ∀ t : Fin cfg0.N, win0_0.index t = ![t.val, 0] ∧ win0_1.index t = ![0, 0] ∧ win0_2.index t = ![t.val, 0] :=
  (by decide +kernel : ∀ t : Fin grid0.N, _)

/-- The reference's projection. -/
abbrev REF (x : FVec Ideal S8192x1024 .f32) (scale shift : FVec Ideal S1x1024 .f32) (w : FVec Ideal S1024x10240 .f32) : FVec Ideal S512x49152 .bf16 :=
  truncf .bf16 (shapeCast _ (extractStridedSlice Cert.Reference15Ideal.S8192x3072 ![0, 6144] (Host.dotGeneral (F := Ideal) Cert.Reference15Ideal.dot_S8192x1024_S1024x10240_S8192x10240_1_0_0_1_n_n none (addf (mulf x (broadcastInDim S8192x1024 ![0, 1] Cert.Reference15Ideal.Gen.bcast_S1x1024_S8192x1024_0_1 (addf (broadcastInDim S1x1024 ![] Cert.Reference15Ideal.Gen.bcast_S_S1x1024 (constant S_ .f32 0x3F800000#32)) scale))) (broadcastInDim S8192x1024 ![0, 1] Cert.Reference15Ideal.Gen.bcast_S1x1024_S8192x1024_0_1 shift)) w) Cert.Reference15Ideal.Gen.slices_S8192x10240_S8192x3072_0_6144) Cert.Reference15Ideal.Gen.shapeCasts_S8192x3072_S512x49152) Cert.Reference15Ideal.Gen.bitsLt_bf16_f32

theorem ref_at (x : FVec Ideal S8192x1024 .f32) (scale shift : FVec Ideal S1x1024 .f32) (w : FVec Ideal S1024x10240 .f32) (i : S512x49152.Idx)
    (a : Fin 8192) (b : Fin 3072) (ha : a.val = 16 * (i 0).val + (i 1).val / 3072) (hb : b.val = (i 1).val % 3072) :
    (REF x scale shift w i : EReal) = ∑ l : Fin 1024, (lhs x scale shift (ix2 a l) : EReal) * (rhs w (ix2 l b) : EReal) := by
  have h0 : (i 0).val < 512 := (i 0).isLt
  have h1 : (i 1).val < 49152 := (i 1).isLt
  rw [show a = ⟨(i 0).val * 16 + (i 1).val / 3072, by omega⟩ from Fin.ext (ha.trans (by rw [Nat.mul_comm])), show b = ⟨(i 1).val % 3072, by omega⟩ from Fin.ext hb]
  pointwise [REF, lhs, rhs]

/-- The blocks read, in the arrays. -/
theorem read0 (t : Fin cfg0.N) (x : S512x1024.Idx) (i : S8192x1024.Idx) (h0 : (i 0 : ℕ) = t.val * 512 + x 0) (h1 : (i 1 : ℕ) = x 1) :
    (iblk m c 0 t x : EReal) = V m c main_v6 i := by
  blk_ext [iblk, idx t]
theorem read1 (t : Fin cfg0.N) (x : S1024x3072.Idx) : (iblk m c 1 t x : EReal) = V m c main_v8 x := by
  blk_ext [iblk, idx t]

/-- The projection's array after the run. -/
theorem final : (dats m 0 c).arrAt 2 (cfgs 0).N = REF (m (c.tc.loc main_arg0)) (m (c.tc.loc main_arg1)) (m (c.tc.loc main_arg2)) (m (c.tc.loc main_arg3)) := by
  refine (dats m 0 c).arrAt_eq_of_covers 2 _ (by decide +kernel) fun t _ y => ?_
  blk_simp
  rw [after0_2]
  have e := idx t
  unfold outsAt0
  rw [out_eq]
  have hy : (y 0).val < 32 ∧ (y 1).val < 49152 := ⟨(y 0).isLt, (y 1).isLt⟩
  have ht : t.val < 16 := t.isLt
  refine (prod_at _ _ _ _ _ _ _).trans (Eq.trans ?_ (ref_at _ _ _ _ _ ⟨t.val * 512 + (16 * (y 0).val + (y 1).val / 3072), by omega⟩
    ⟨(y 1).val % 3072, by omega⟩ ?_ ?_).symm)
  · exact Finset.sum_congr rfl fun k _ => congrArg₂ (fun a b : EReal => a * b)
      ((read0 m c _ _ (ix2 _ k) rfl rfl).trans (congrFun (V6 m c) _)) ((read1 m c _ _).trans (congrFun (V8 m c) _))
  all_goals (blk_simp [e] <;> dsimp only <;> omega)

end Cert.Kernel15Ideal.MmDil16
end
-- ==== Proof.MmDu.lean ====
module

public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
@[expose] public section
set_option maxRecDepth 16384
noncomputable section

/-! The gradient of the gated and normalised state space output: the output's gradient times the transposed matrix. -/

namespace Cert.Kernel7Ideal.MmDu
open Idealize.ShloMosaic Idealize.ShloMosaic.TcCoe Idealize.ShloMosaic.Tactic Idealize.SL.Sem
open Idealize.ShloMosaic.Pipeline (Dat)
open Cert.Kernel7Ideal Cert.Kernel7Ideal.Gen
variable (m : (ℓ : Loc nD τ sig) → Buf (Elt Ideal) ℓ) (c : Dev nD)

theorem V0 (i : S8192x1024.Idx) : (V m c main_v0 i : EReal) = m (c.tc.loc main_arg2) i := by
  unfold V
  simp only [hostOps0, List.flatten_cons, List.flatten_nil, List.cons_append, List.nil_append, List.append_nil]
  after_results
  rfl
theorem V1 (i : S2048x1024.Idx) : (V m c main_v1 i : EReal) = m (c.tc.loc main_arg1) i := by
  unfold V
  simp only [hostOps0, List.flatten_cons, List.flatten_nil, List.cons_append, List.nil_append, List.append_nil]
  after_results
  rfl

/-- What a point computes of its blocks. -/
theorem out_at (a : FVec Ideal S512x1024 .bf16) (b : FVec Ideal S1024x1024 .bf16) (j : S512x1024.Idx) :
    (out0_2 (F := Ideal) a b j : EReal) = ∑ k : Fin 1024, (a (ix2 (j 0) k) : EReal) * (b (ix2 (j 1) k) : EReal) := by
  unfold out0_2
  frame_out
  pointwise [k0_pay1]

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The reference's gradient. -/
abbrev REF (w : FVec Ideal S2048x1024 .f32) (ct : FVec Ideal S8192x1024 .f32) : FVec Ideal S8192x2048 .f32 :=
  Host.dotGeneral (F := Ideal) Cert.Reference7Ideal.dot_S8192x1024_S2048x1024_S8192x2048_1_1_0_0_n_n none ct w

theorem ref_at (w : FVec Ideal S2048x1024 .f32) (ct : FVec Ideal S8192x1024 .f32) (i : S8192x2048.Idx) :
    (REF w ct i : EReal) = ∑ l : Fin 1024, (ct (ix2 (i 0) l) : EReal) * (w (ix2 (i 1) l) : EReal) := by
  pointwise [REF]

/-- The blocks read, in the arrays. -/
theorem read0 (t : Fin cfg0.N) (x : S512x1024.Idx) (i : S8192x1024.Idx) (h0 : (i 0 : ℕ) = t.val / 2 * 512 + x 0) (h1 : (i 1 : ℕ) = x 1) :
    (iblk m c 0 t x : EReal) = V m c main_v0 i := by
  blk_ext [iblk, idx t]
theorem read1 (t : Fin cfg0.N) (x : S1024x1024.Idx) (i : S2048x1024.Idx) (h0 : (i 0 : ℕ) = t.val % 2 * 1024 + x 0) (h1 : (i 1 : ℕ) = x 1) :
    (iblk m c 1 t x : EReal) = V m c main_v1 i := by
  blk_ext [iblk, idx t]

/-- The gradient's array after the run. -/
theorem final : (dats m 0 c).arrAt 2 (cfgs 0).N = REF (m (c.tc.loc main_arg1)) (m (c.tc.loc main_arg2)) := by
  refine (dats m 0 c).arrAt_eq_of_covers 2 _ (by decide +kernel) fun t _ y => ?_
  blk_simp
  rw [after0_2]
  refine (out_at _ _ _).trans (Eq.trans ?_ (ref_at _ _ _).symm)
  have e := idx t
  refine Finset.sum_congr rfl fun k _ => congrArg₂ (fun a b : EReal => a * b)
    ((read0 m c _ _ (ix2 (((View.whole main_v2).slice (win0_2.rect t)).emb y 0) k) ?_ ?_).trans (V0 m c _))
    ((read1 m c _ _ (ix2 (((View.whole main_v2).slice (win0_2.rect t)).emb y 1) k) ?_ ?_).trans (V1 m c _))
  all_goals (blk_simp [e] <;> dsimp only <;> omega)

end Cert.Kernel7Ideal.MmDu
end
-- ==== Proof.MmDwOut.lean ====
module

public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
@[expose] public section
set_option maxRecDepth 16384
noncomputable section

/-! The gradient of a state space layer's output matrix: the blocks' partial products, added up over a run of sixteen
    points, are the reference's one product over all positions. -/

namespace Cert.Kernel9Ideal.MmDwOut
open Idealize.ShloMosaic Idealize.ShloMosaic.TcCoe Idealize.ShloMosaic.Tactic Idealize.SL.Sem
open Idealize.ShloMosaic.Pipeline (Dat)
open Cert.Kernel9Ideal Cert.Kernel9Ideal.Gen
variable (m : (ℓ : Loc nD τ sig) → Buf (Elt Ideal) ℓ) (c : Dev nD)

theorem V0 (i : S8192x2048.Idx) : (V m c main_v0 i : EReal) = m (c.tc.loc main_arg0) i := by
  unfold V
  simp only [hostOps0, List.flatten_cons, List.flatten_nil, List.cons_append, List.nil_append, List.append_nil]
  after_results
  rfl
theorem V1 (i : S8192x1024.Idx) : (V m c main_v1 i : EReal) = m (c.tc.loc main_arg2) i := by
  unfold V
  simp only [hostOps0, List.flatten_cons, List.flatten_nil, List.cons_append, List.nil_append, List.append_nil]
  after_results
  rfl

/-- A block's partial product, -/
theorem part_at (a b : FVec Ideal S512x1024 .bf16) (j : S1024x1024.Idx) :
    (k0_pay1 (F := Ideal) a b j : EReal) = ∑ k : Fin 512, (a (ix2 k (j 0)) : EReal) * (b (ix2 k (j 1)) : EReal) := by pointwise [k0_pay1]
/-- storing it, -/
theorem first_at (a b : FVec Ideal S512x1024 .bf16) (j : S1024x1024.Idx) :
    (k0_pay2 (F := Ideal) a b j : EReal) = 0 + k0_pay1 (F := Ideal) a b j := by
  rw [zero_add]; pointwise [k0_pay2]
/-- adding it to what is there. -/
theorem next_at (a b : FVec Ideal S512x1024 .bf16) (d : FVec Ideal S1024x1024 .f32) (j : S1024x1024.Idx) :
    (k0_pay3 (F := Ideal) a b d j : EReal) = (d j : EReal) + k0_pay1 (F := Ideal) a b j := by
  pointwise [k0_pay3]

theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

/-- The scratch at a run's last point: the run's partial products, added. -/
theorem acc (t : Fin cfg0.N) (h : t.val % 16 = 15) (j : S1024x1024.Idx) :
    (outsAt0 m c t.val t.isLt).2 j = ∑ s : Fin 16, k0_pay1 (iblk m c 0 ⟨16 * (t.val / 16) + s.val, Pipeline.run_point_lt_of_flush t h s⟩) (iblk m c 1 ⟨16 * (t.val / 16) + s.val, Pipeline.run_point_lt_of_flush t h s⟩) j := by
  refine (Pipeline.eq_sum_fin_of_reset_step_apply_of_flush (fun n h => (outsAt0 m c n h).2) 16 (fun _ => (0 : EReal)) (fun t j => k0_pay1 (iblk m c 0 t) (iblk m c 1 t) j)
    (fun t h j => ?_) (fun t h j => ?_) t h j).trans (zero_add _)
  · rw [outsAt0_A m c t h (by omega) (by omega)]; frame_out
    exact first_at _ _ j
  · by_cases h2 : t.val % 16 = 15
    · rw [outsAt0_C m c t h (by omega) h2]; frame_out
      rw [read_unread_whole]
      exact next_at _ _ _ j
    · rw [outsAt0_B m c t h (by omega) h2]; frame_out
      rw [read_unread_whole]
      exact next_at _ _ _ j
/-- The output block there is the scratch. -/
theorem out_eq (t : Fin cfg0.N) (h : t.val % 16 = 15) : (outsAt0 m c t.val t.isLt).1 = (outsAt0 m c t.val t.isLt).2 := by
  rw [outsAt0_C m c t (by omega) (by omega) h]; frame_out

/-- The reference's gradient. -/
abbrev REF (u : FVec Ideal S8192x2048 .f32) (ct : FVec Ideal S8192x1024 .f32) : FVec Ideal S2048x1024 .f32 :=
  transpose S2048x1024 [1, 0] (Host.dotGeneral (F := Ideal) Cert.Reference9Ideal.dot_S8192x1024_S8192x2048_S1024x2048_0_0_1_1_n_n none ct u) Cert.Reference9Ideal.Gen.transposes_S1024x2048_S2048x1024_1_0

theorem ref_at (u : FVec Ideal S8192x2048 .f32) (ct : FVec Ideal S8192x1024 .f32) (i : S2048x1024.Idx) :
    (REF u ct i : EReal) = ∑ l : Fin 8192, (u (ix2 l (i 0)) : EReal) * (ct (ix2 l (i 1)) : EReal) := by
  pointwise [REF]
  exact Finset.sum_congr rfl fun l _ => mul_comm _ _

/-- The blocks read, in the arrays. -/
theorem read0 (t : Fin cfg0.N) (x : S512x1024.Idx) (i : S8192x2048.Idx) (h0 : (i 0 : ℕ) = t.val % 16 * 512 + x 0) (h1 : (i 1 : ℕ) = t.val / 16 * 1024 + x 1) :
    (iblk m c 0 t x : EReal) = V m c main_v0 i := by
  blk_ext [iblk, idx t]
theorem read1 (t : Fin cfg0.N) (x : S512x1024.Idx) (i : S8192x1024.Idx) (h0 : (i 0 : ℕ) = t.val % 16 * 512 + x 0) (h1 : (i 1 : ℕ) = x 1) :
    (iblk m c 1 t x : EReal) = V m c main_v1 i := by
  blk_ext [iblk, idx t]

/-- The gradient's array after the run. -/
theorem final : (dats m 0 c).arrAt 2 (cfgs 0).N = REF (m (c.tc.loc main_arg0)) (m (c.tc.loc main_arg2)) := by
  refine (dats m 0 c).arrAt_eq_of_covers 2 _ (by decide +kernel) fun t hf y => ?_
  blk_simp
  rw [after0_2, out_eq m c t ((flush0_2 t).mp hf), acc m c t ((flush0_2 t).mp hf)]
  refine Eq.trans ?_ (ref_at _ _ _).symm
  simp only [part_at]
  refine Fin.sum_mul_add_congr fun s k hl => ?_
  have e := idx t
  have hs := s.isLt
  refine congrArg₂ (fun a b : EReal => a * b) ((read0 m c _ _ (ix2 ⟨s * 512 + k, hl⟩ (((View.whole main_v2).slice (win0_2.rect t)).emb y 0)) ?_ ?_).trans (V0 m c _)) ((read1 m c _ _ (ix2 ⟨s * 512 + k, hl⟩ (((View.whole main_v2).slice (win0_2.rect t)).emb y 1)) ?_ ?_).trans (V1 m c _))
  all_goals (blk_simp [e] <;> dsimp only <;> omega)

end Cert.Kernel9Ideal.MmDwOut
end
-- ==== Proof.MmDy.lean ====
module

public import proofs.«01_k».proof.Proof.MmDu
public import proofs.«01_k».proof.Proof.Gen.Kernel10Ideal.Value
public import proofs.«01_k».proof.Proof.Gen.Reference10Ideal.Run
@[expose] public section
set_option maxRecDepth 16384
noncomputable section

/-! The gradient of what an attention layer's output matrix takes: the output's gradient times the transposed matrix.
    A point computes what the state space layer's kernel computes of blocks of the same shape. -/

namespace Cert.Kernel10Ideal.MmDy
open Idealize.ShloMosaic Idealize.ShloMosaic.TcCoe Idealize.ShloMosaic.Tactic Idealize.SL.Sem
open Idealize.ShloMosaic.Pipeline (Dat)
open Cert.Kernel10Ideal Cert.Kernel10Ideal.Gen
variable (m : (ℓ : Loc nD τ sig) → Buf (Elt Ideal) ℓ) (c : Dev nD)

theorem V0 (i : S8192x1024.Idx) : (V m c main_v0 i : EReal) = m (c.tc.loc main_arg2) i := by
  unfold V
  simp only [hostOps0, List.flatten_cons, List.flatten_nil, List.cons_append, List.nil_append, List.append_nil]
  after_results
  rfl
theorem V1 (i : S1024x1024.Idx) : (V m c main_v1 i : EReal) = m (c.tc.loc main_arg1) i := by
  unfold V
  simp only [hostOps0, List.flatten_cons, List.flatten_nil, List.cons_append, List.nil_append, List.append_nil]
  after_results
  rfl

theorem idx : ∀ t : Fin cfg0.N, win0_0.index t = ![t.val, 0] ∧ win0_1.index t = ![0, 0] ∧ win0_2.index t = ![t.val, 0] :=
  (by decide +kernel : ∀ t : Fin grid0.N, _)

/-- The reference's gradient. -/
abbrev REF (w : FVec Ideal S1024x1024 .f32) (ct : FVec Ideal S8192x1024 .f32) : FVec Ideal S8192x1024 .f32 :=
  Host.dotGeneral (F := Ideal) Cert.Reference10Ideal.dot_S8192x1024_S1024x1024_S8192x1024_1_1_0_0_n_n none ct w

theorem ref_at (w : FVec Ideal S1024x1024 .f32) (ct : FVec Ideal S8192x1024 .f32) (i : S8192x1024.Idx) :
    (REF w ct i : EReal) = ∑ l : Fin 1024, (ct (ix2 (i 0) l) : EReal) * (w (ix2 (i 1) l) : EReal) := by
  pointwise [REF]

/-- The blocks read, in the arrays. -/
theorem read0 (t : Fin cfg0.N) (x : S512x1024.Idx) (i : S8192x1024.Idx) (h0 : (i 0 : ℕ) = t.val * 512 + x 0) (h1 : (i 1 : ℕ) = x 1) :
    (iblk m c 0 t x : EReal) = V m c main_v0 i := by
  blk_ext [iblk, idx t]
theorem read1 (t : Fin cfg0.N) (x : S1024x1024.Idx) (i : S1024x1024.Idx) (h0 : (i 0 : ℕ) = x 0) (h1 : (i 1 : ℕ) = x 1) :
    (iblk m c 1 t x : EReal) = V m c main_v1 i := by
  blk_ext [iblk, idx t]

/-- The gradient's array after the run. -/
theorem final : (dats m 0 c).arrAt 2 (cfgs 0).N = REF (m (c.tc.loc main_arg1)) (m (c.tc.loc main_arg2)) := by
  refine (dats m 0 c).arrAt_eq_of_covers 2 _ (by decide +kernel) fun t _ y => ?_
  blk_simp
  rw [after0_2]
  refine (Cert.Kernel7Ideal.MmDu.out_at _ _ _).trans (Eq.trans ?_ (ref_at _ _ _).symm)
  have e := idx t
  refine Finset.sum_congr rfl fun k _ => congrArg₂ (fun a b : EReal => a * b)
    ((read0 m c _ _ (ix2 (((View.whole main_v2).slice (win0_2.rect t)).emb y 0) k) ?_ ?_).trans (V0 m c _))
    ((read1 m c _ _ (ix2 (((View.whole main_v2).slice (win0_2.rect t)).emb y 1) k) ?_ ?_).trans (V1 m c _))
  all_goals (blk_simp [e] <;> dsimp only <;> omega)

end Cert.Kernel10Ideal.MmDy
end
-- ==== Proof.MmDwOutA.lean ====
module

public import proofs.«01_k».proof.Proof.MmDwOut
public import proofs.«01_k».proof.Proof.Gen.Kernel11Ideal.Value
public import proofs.«01_k».proof.Proof.Gen.Reference11Ideal.Run
@[expose] public section
set_option maxRecDepth 16384
noncomputable section

/-! The gradient of an attention layer's output matrix: one run of sixteen points, each of which adds what the state
    space layer's kernel adds of blocks of the same shape. -/

namespace Cert.Kernel11Ideal.MmDwOutA
open Idealize.ShloMosaic Idealize.ShloMosaic.TcCoe Idealize.ShloMosaic.Tactic Idealize.SL.Sem
open Idealize.ShloMosaic.Pipeline (Dat)
open Cert.Kernel11Ideal Cert.Kernel11Ideal.Gen
variable (m : (ℓ : Loc nD τ sig) → Buf (Elt Ideal) ℓ) (c : Dev nD)

theorem V0 (i : S8192x1024.Idx) : (V m c main_v0 i : EReal) = m (c.tc.loc main_arg0) i := by
  unfold V
  simp only [hostOps0, List.flatten_cons, List.flatten_nil, List.cons_append, List.nil_append, List.append_nil]
  after_results
  rfl
theorem V1 (i : S8192x1024.Idx) : (V m c main_v1 i : EReal) = m (c.tc.loc main_arg2) i := by
  unfold V
  simp only [hostOps0, List.flatten_cons, List.flatten_nil, List.cons_append, List.nil_append, List.append_nil]
  after_results
  rfl

theorem idx : ∀ t : Fin cfg0.N, win0_0.index t = ![t.val, 0] ∧ win0_1.index t = ![t.val, 0] ∧ win0_2.index t = ![0, 0] :=
  (by decide +kernel : ∀ t : Fin grid0.N, _)

/-- The scratch at the last point: the partial products, added. -/
theorem acc (t : Fin cfg0.N) (h : t.val % 16 = 15) (j : S1024x1024.Idx) :
    (outsAt0 m c t.val t.isLt).2 j = ∑ s : Fin 16, k0_pay1 (iblk m c 0 ⟨16 * (t.val / 16) + s.val, Pipeline.run_point_lt_of_flush t h s⟩) (iblk m c 1 ⟨16 * (t.val / 16) + s.val, Pipeline.run_point_lt_of_flush t h s⟩) j := by
  refine (Pipeline.eq_sum_fin_of_reset_step_apply_of_flush (fun n h => (outsAt0 m c n h).2) 16 (fun _ => (0 : EReal)) (fun t j => k0_pay1 (iblk m c 0 t) (iblk m c 1 t) j)
    (fun t h j => ?_) (fun t h j => ?_) t h j).trans (zero_add _)
  · have hN : t.val < 16 := t.isLt
    rw [outsAt0_A m c t h (by omega) (by omega)]; frame_out
    exact Cert.Kernel9Ideal.MmDwOut.first_at _ _ j
  · by_cases h2 : t.val % 16 = 15
    · rw [outsAt0_C m c t h (by omega) h2]; frame_out
      rw [read_unread_whole]
      exact Cert.Kernel9Ideal.MmDwOut.next_at _ _ _ j
    · rw [outsAt0_B m c t h (by omega) h2]; frame_out
      rw [read_unread_whole]
      exact Cert.Kernel9Ideal.MmDwOut.next_at _ _ _ j
/-- The output block there is the scratch. -/
theorem out_eq (t : Fin cfg0.N) (h : t.val % 16 = 15) : (outsAt0 m c t.val t.isLt).1 = (outsAt0 m c t.val t.isLt).2 := by
  rw [outsAt0_C m c t (by omega) (by omega) h]; frame_out

/-- The reference's gradient. -/
abbrev REF (u ct : FVec Ideal S8192x1024 .f32) : FVec Ideal S1024x1024 .f32 :=
  transpose S1024x1024 [1, 0] (Host.dotGeneral (F := Ideal) Cert.Reference11Ideal.dot_S8192x1024_S8192x1024_S1024x1024_0_0_1_1_n_n none ct u) Cert.Reference11Ideal.Gen.transposes_S1024x1024_S1024x1024_1_0

theorem ref_at (u ct : FVec Ideal S8192x1024 .f32) (i : S1024x1024.Idx) :
    (REF u ct i : EReal) = ∑ l : Fin 8192, (u (ix2 l (i 0)) : EReal) * (ct (ix2 l (i 1)) : EReal) := by
  pointwise [REF]
  exact Finset.sum_congr rfl fun l _ => mul_comm _ _

/-- The blocks read, in the arrays. -/
theorem read0 (t : Fin cfg0.N) (x : S512x1024.Idx) (i : S8192x1024.Idx) (h0 : (i 0 : ℕ) = t.val * 512 + x 0) (h1 : (i 1 : ℕ) = x 1) :
    (iblk m c 0 t x : EReal) = V m c main_v0 i := by
  blk_ext [iblk, idx t]
theorem read1 (t : Fin cfg0.N) (x : S512x1024.Idx) (i : S8192x1024.Idx) (h0 : (i 0 : ℕ) = t.val * 512 + x 0) (h1 : (i 1 : ℕ) = x 1) :
    (iblk m c 1 t x : EReal) = V m c main_v1 i := by
  blk_ext [iblk, idx t]

/-- The gradient's array after the run. -/
theorem final : (dats m 0 c).arrAt 2 (cfgs 0).N = REF (m (c.tc.loc main_arg0)) (m (c.tc.loc main_arg2)) := by
  refine (dats m 0 c).arrAt_eq_of_covers 2 _ (by decide +kernel) fun t hf y => ?_
  have ht := (flush0_2 t).mp hf
  blk_simp
  rw [after0_2, out_eq m c t (by omega), acc m c t (by omega)]
  refine Eq.trans ?_ (ref_at _ _ _).symm
  have hp : ∀ (a b : FVec Ideal S512x1024 .bf16) (j : S1024x1024.Idx), (k0_pay1 (F := Ideal) a b j : EReal) = _ := Cert.Kernel9Ideal.MmDwOut.part_at
  simp only [hp]
  refine Fin.sum_mul_add_congr fun s k hl => ?_
  have e := idx t
  have hs := s.isLt
  have hN : t.val / 16 = 0 := by have := t.isLt; have : cfg0.N = 16 := rfl; omega
  refine congrArg₂ (fun a b : EReal => a * b) ((read0 m c _ _ (ix2 ⟨s * 512 + k, hl⟩ (((View.whole main_v2).slice (win0_2.rect t)).emb y 0)) ?_ ?_).trans (V0 m c _)) ((read1 m c _ _ (ix2 ⟨s * 512 + k, hl⟩ (((View.whole main_v2).slice (win0_2.rect t)).emb y 1)) ?_ ?_).trans (V1 m c _))
  all_goals (blk_simp [e] <;> dsimp only <;> omega)

end Cert.Kernel11Ideal.MmDwOutA
end
-- ==== Proof.MmOut.lean ====
module

public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack
@[expose] public section
set_option maxRecDepth 16384
noncomputable section

/-! The output projections of the forward pass, an attention layer's and a state space layer's: every point multiplies
    its block of rows by the whole matrix. -/

namespace Cert.Kernel12Ideal.MmOut
open Idealize.ShloMosaic Idealize.ShloMosaic.TcCoe Idealize.ShloMosaic.Tactic Idealize.SL.Sem
open Idealize.ShloMosaic.Pipeline (Dat)
open Cert.Kernel12Ideal Cert.Kernel12Ideal.Gen
variable (m : (ℓ : Loc nD τ sig) → Buf (Elt Ideal) ℓ) (c : Dev nD)

theorem V0 (i : S8192x1024.Idx) : (V m c main_v0 i : EReal) = m (c.tc.loc main_arg0) i := by
  unfold V
  simp only [hostOps0, List.flatten_cons, List.flatten_nil, List.cons_append, List.nil_append, List.append_nil]
  after_results
  rfl
theorem V1 (i : S1024x1024.Idx) : (V m c main_v1 i : EReal) = m (c.tc.loc main_arg1) i := by
  unfold V
  simp only [hostOps0, List.flatten_cons, List.flatten_nil, List.cons_append, List.nil_append, List.append_nil]
  after_results
  rfl

/-- What a point computes of its blocks. -/
theorem out_at (a : FVec Ideal S512x1024 .bf16) (b : FVec Ideal S1024x1024 .bf16) (j : S512x1024.Idx) :
    (out0_2 (F := Ideal) a b j : EReal) = ∑ k : Fin 1024, (a (ix2 (j 0) k) : EReal) * (b (ix2 k (j 1)) : EReal) := by
  unfold out0_2
  frame_out
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- The reference's projection. -/
abbrev REF (y : FVec Ideal S8192x1024 .f32) (w : FVec Ideal S1024x1024 .f32) : FVec Ideal S8192x1024 .f32 :=
  Host.dotGeneral (F := Ideal) Cert.Reference12Ideal.dot_S8192x1024_S1024x1024_S8192x1024_1_0_0_1_n_n none y w

theorem ref_at (y : FVec Ideal S8192x1024 .f32) (w : FVec Ideal S1024x1024 .f32) (i : S8192x1024.Idx) :
    (REF y w i : EReal) = ∑ l : Fin 1024, (y (ix2 (i 0) l) : EReal) * (w (ix2 l (i 1)) : EReal) := by
  pointwise [REF]

/-- The blocks read, in the arrays. -/
theorem read0 (t : Fin cfg0.N) (x : S512x1024.Idx) (i : S8192x1024.Idx) (h0 : (i 0 : ℕ) = t.val * 512 + x 0) (h1 : (i 1 : ℕ) = x 1) :
    (iblk m c 0 t x : EReal) = V m c main_v0 i := by
  blk_ext [iblk, idx t]
theorem read1 (t : Fin cfg0.N) (x : S1024x1024.Idx) (i : S1024x1024.Idx) (h0 : (i 0 : ℕ) = x 0) (h1 : (i 1 : ℕ) = x 1) :
    (iblk m c 1 t x : EReal) = V m c main_v1 i := by
  blk_ext [iblk, idx t]

/-- The projection's array after the run. -/
theorem final : (dats m 0 c).arrAt 2 (cfgs 0).N = REF (m (c.tc.loc main_arg0)) (m (c.tc.loc main_arg1)) := by
  refine (dats m 0 c).arrAt_eq_of_covers 2 _ (by decide +kernel) fun t _ y => ?_
  blk_simp
  rw [after0_2]
  refine (out_at _ _ _).trans (Eq.trans ?_ (ref_at _ _ _).symm)
  have e := idx t
  refine Finset.sum_congr rfl fun k _ => congrArg₂ (fun a b : EReal => a * b)
    ((read0 m c _ _ (ix2 (((View.whole main_v2).slice (win0_2.rect t)).emb y 0) k) ?_ ?_).trans (V0 m c _))
    ((read1 m c _ _ (ix2 k (((View.whole main_v2).slice (win0_2.rect t)).emb y 1)) ?_ ?_).trans (V1 m c _))
  all_goals (blk_simp [e] <;> dsimp only <;> omega)

end Cert.Kernel12Ideal.MmOut

namespace Cert.Kernel13Ideal.MmOut
open Idealize.ShloMosaic Idealize.ShloMosaic.TcCoe Idealize.ShloMosaic.Tactic Idealize.SL.Sem
open Idealize.ShloMosaic.Pipeline (Dat)
open Cert.Kernel13Ideal Cert.Kernel13Ideal.Gen
variable (m : (ℓ : Loc nD τ sig) → Buf (Elt Ideal) ℓ) (c : Dev nD)

theorem V0 (i : S8192x2048.Idx) : (V m c main_v0 i : EReal) = m (c.tc.loc main_arg0) i := by
  unfold V
  simp only [hostOps0, List.flatten_cons, List.flatten_nil, List.cons_append, List.nil_append, List.append_nil]
  after_results
  rfl
theorem V1 (i : S2048x1024.Idx) : (V m c main_v1 i : EReal) = m (c.tc.loc main_arg1) i := by
  unfold V
  simp only [hostOps0, List.flatten_cons, List.flatten_nil, List.cons_append, List.nil_append, List.append_nil]
  after_results
  rfl

/-- What a point computes of its blocks, -/
theorem out_at (a : FVec Ideal S512x2048 .bf16) (b : FVec Ideal S2048x1024 .bf16) (j : S512x1024.Idx) :
    (out0_2 (F := Ideal) a b j : EReal) = ∑ k : Fin 2048, (a (ix2 (j 0) k) : EReal) * (b (ix2 k (j 1)) : EReal) := by
  unfold out0_2
  frame_out
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- the reference's projection, -/
abbrev REF (u : FVec Ideal S8192x2048 .f32) (w : FVec Ideal S2048x1024 .f32) : FVec Ideal S8192x1024 .f32 :=
  Host.dotGeneral (F := Ideal) Cert.Reference13Ideal.dot_S8192x2048_S2048x1024_S8192x1024_1_0_0_1_n_n none u w

theorem ref_at (u : FVec Ideal S8192x2048 .f32) (w : FVec Ideal S2048x1024 .f32) (i : S8192x1024.Idx) :
    (REF u w i : EReal) = ∑ l : Fin 2048, (u (ix2 (i 0) l) : EReal) * (w (ix2 l (i 1)) : EReal) := by
  pointwise [REF]

/-- the blocks read, in the arrays, -/
theorem read0 (t : Fin cfg0.N) (x : S512x2048.Idx) (i : S8192x2048.Idx) (h0 : (i 0 : ℕ) = t.val * 512 + x 0) (h1 : (i 1 : ℕ) = x 1) :
    (iblk m c 0 t x : EReal) = V m c main_v0 i := by
  blk_ext [iblk, idx t]
theorem read1 (t : Fin cfg0.N) (x i : S2048x1024.Idx) (h0 : (i 0 : ℕ) = x 0) (h1 : (i 1 : ℕ) = x 1) :
    (iblk m c 1 t x : EReal) = V m c main_v1 i := by
  blk_ext [iblk, idx t]

/-- and the projection's array after the run. -/
theorem final : (dats m 0 c).arrAt 2 (cfgs 0).N = REF (m (c.tc.loc main_arg0)) (m (c.tc.loc main_arg1)) := by
  refine (dats m 0 c).arrAt_eq_of_covers 2 _ (by decide +kernel) fun t _ y => ?_
  blk_simp
  rw [after0_2]
  refine (out_at _ _ _).trans (Eq.trans ?_ (ref_at _ _ _).symm)
  have e := idx t
  refine Finset.sum_congr rfl fun k _ => congrArg₂ (fun a b : EReal => a * b)
    ((read0 m c _ _ (ix2 (((View.whole main_v2).slice (win0_2.rect t)).emb y 0) k) ?_ ?_).trans (V0 m c _))
    ((read1 m c _ _ (ix2 k (((View.whole main_v2).slice (win0_2.rect t)).emb y 1)) ?_ ?_).trans (V1 m c _))
  all_goals (blk_simp [e] <;> dsimp only <;> omega)

end Cert.Kernel13Ideal.MmOut
end
-- ==== Proof.LnKer.lean ====
module

public import proofs.«01_k».proof.Proof.LnRow
public import proofs.«01_k».proof.Proof.Gen.Kernel8Ideal.Value
public import Idealize.ShloMosaic.Lib.Pipeline.ValueKit
public import Idealize.ShloMosaic.Lib.Pipeline.ReadBack
@[expose] public section
set_option maxRecDepth 16384
noncomputable section

/-! What the kernel of the residual's gradient computes of a block of 512 rows, read at an index. -/

namespace Cert.Kernel8Ideal.LnKer
open Idealize.ShloMosaic Idealize.ShloMosaic.TcCoe Idealize.ShloMosaic.Tactic Idealize.SL.Sem
open Cert.Kernel8Ideal Cert.Kernel8Ideal.Gen Cert.Ln

local notation "Blk" => FVec Ideal S512x1024 FTy.f32
local notation "Vec1" => FVec Ideal S1x1024 FTy.f32

/-- A row of a block, and a row vector. -/
abbrev row (a : Blk) (i : Fin 512) : Vc := fun k => (a (ix2 i k) : EReal)
abbrev vec (a : Vec1) : Vc := fun k => (a (ix2 0 k) : EReal)

variable (i : Fin 512) (k : Fin 1024) (u : Fin 1) (x o dy : Blk) (gate g : Vec1)

theorem pay5_at : (k0_pay5 (F := Ideal) o x gate (ix2 i k) : EReal) = rc (row x i) (row o i) (vec gate) k := by
  pointwise [k0_pay5]; rfl
theorem pay6_at : (k0_pay6 (F := Ideal) o x gate (ix2 i u) : EReal) = rs (row x i) (row o i) (vec gate) := by
  have h := fun l => pay5_at i l x o gate
  pointwise [k0_pay6]; simp only [h]; rfl
theorem pay7_at : (k0_pay7 (F := Ideal) o x gate (ix2 i k) : EReal) = xh (row x i) (row o i) (vec gate) k := by
  pointwise [k0_pay7]; rw [pay5_at, pay6_at]; rfl
theorem pay8_at : (k0_pay8 (F := Ideal) dy g (ix2 i k) : EReal) = dxh (vec g) (row dy i) k := by
  pointwise [k0_pay8]; rfl
theorem pay9_at : (k0_pay9 (F := Ideal) dy g (ix2 i k) : EReal) = dxh (vec g) (row dy i) k - mean (dxh (vec g) (row dy i)) := by
  have h := fun l => pay8_at i l dy g
  pointwise [k0_pay9]; simp only [h]; rfl
theorem pay10_at : (k0_pay10 (F := Ideal) o x gate dy g (ix2 i k) : EReal) = dxh (vec g) (row dy i) k * xh (row x i) (row o i) (vec gate) k := by
  pointwise [k0_pay10]; rw [pay7_at, pay8_at]

/-- The residual's gradient in the block, -/
def dr : Blk := k0_pay11 (F := Ideal) (k0_pay6 o x gate) (k0_pay7 o x gate) (k0_pay9 dy g) (k0_pay10 o x gate dy g)
theorem dr_at : (dr x o dy gate g (ix2 i k) : EReal) = gradK (row x i) (row o i) (vec gate) (vec g) (row dy i) k := by
  have h := fun l => pay10_at i l x o dy gate g
  pointwise [dr, k0_pay11]; simp only [h]; rw [pay6_at, pay7_at, pay9_at]; rfl
/-- the two that are written for every row, -/
theorem pay12_at : (k0_pay12 (F := Ideal) (k0_pay6 o x gate) (k0_pay7 o x gate) (k0_pay9 dy g) (k0_pay10 o x gate dy g) (ix2 i k) : EReal) = alpha * gradK (row x i) (row o i) (vec gate) (vec g) (row dy i) k := by
  rw [← dr_at]; pointwise [k0_pay12, dr]; rfl
theorem pay13_at : (k0_pay13 (F := Ideal) (k0_pay6 o x gate) (k0_pay7 o x gate) (k0_pay9 dy g) (k0_pay10 o x gate dy g) gate (ix2 i k) : EReal) = vec gate k * gradK (row x i) (row o i) (vec gate) (vec g) (row dy i) k := by
  rw [← dr_at]; pointwise [k0_pay13, dr]
/-- and the three sums over the rows, added to what is there. -/
theorem pay14_at (a : Vec1) : (k0_pay14 (F := Ideal) o (k0_pay6 o x gate) (k0_pay7 o x gate) (k0_pay9 dy g) (k0_pay10 o x gate dy g) a (ix2 u k) : EReal)
    = (a (ix2 u k) : EReal) + ∑ i : Fin 512, gradK (row x i) (row o i) (vec gate) (vec g) (row dy i) k * row o i k := by
  simp only [← dr_at]; pointwise [k0_pay14, dr]
theorem pay15_at (a : Vec1) : (k0_pay15 (F := Ideal) (k0_pay7 o x gate) dy a (ix2 u k) : EReal)
    = (a (ix2 u k) : EReal) + ∑ i : Fin 512, row dy i k * xh (row x i) (row o i) (vec gate) k := by
  simp only [← pay7_at]; pointwise [k0_pay15]
theorem pay1_at (a : Vec1) : (k0_pay1 (F := Ideal) (k0_pay16 a) (k0_pay17 dy) (ix2 u k) : EReal)
    = (a (ix2 u k) : EReal) + ∑ i : Fin 512, row dy i k := by
  pointwise [k0_pay1, k0_pay16, k0_pay17]

end Cert.Kernel8Ideal.LnKer
end
-- ==== Proof.LnRef.lean ====
module

public import proofs.«01_k».proof.Proof.LnRow
public import proofs.«01_k».proof.Proof.Gen.Reference8Ideal.Run
@[expose] public section
set_option maxRecDepth 16384
noncomputable section

/-! The reference's gradients of the residual and its norm, read at an index. -/

namespace Cert.Reference8Ideal.LnRef
open Idealize.ShloMosaic Idealize.ShloMosaic.TcCoe Idealize.ShloMosaic.Tactic Idealize.SL.Sem
open Cert.Reference8Ideal Cert.Reference8Ideal.Gen Cert.Ln

local notation "Mat" => FVec Ideal S8192x1024 FTy.f32
local notation "Col" => FVec Ideal S8192x1 FTy.f32
local notation "Vec1" => FVec Ideal S1x1024 FTy.f32

/-- A row of an array, and a row vector. -/
abbrev row (a : Mat) (n : Fin 8192) : Vc := fun k => (a (ix2 n k) : EReal)
abbrev vec (a : Vec1) : Vc := fun k => (a (ix2 0 k) : EReal)

/-! ## The operations the reference is made of -/

/-- A number, a row vector and a column, repeated over an array; -/
def lit (b : BitVec 32) : Mat := broadcastInDim S8192x1024 ![] bcast_S_S8192x1024 (constant S_ .f32 b)
def litc (b : BitVec 32) : Col := broadcastInDim S8192x1 ![] bcast_S_S8192x1 (constant S_ .f32 b)
def rep (a : Vec1) : Mat := broadcastInDim S8192x1024 ![0, 1] bcast_S1x1024_S8192x1024_0_1 a
def spread (a : Col) : Mat := broadcastInDim S8192x1024 ![0, 1] bcast_S8192x1_S8192x1024_0_1 a
/-- the rows' means and sums; -/
def mn (a : Mat) : Col := Host.divf (broadcastInDim S8192x1 ![0] bcast_S8192_S8192x1_0 (Host.reduceAdd a (constant S_ .f32 0x00000000#32) reducesTo_S8192x1024_S8192_d1 h_S_)) (litc 0x44800000#32)
def sums (a : Mat) : Col := shapeCast S8192x1 (Host.reduceAdd a (constant S_ .f32 0x00000000#32) reducesTo_S8192x1024_S8192_d1 h_S_) shapeCasts_S8192_S8192x1
/-- a column summed over its one entry and repeated over an array; -/
def flat (a : Col) : Mat := broadcastInDim S8192x1024 ![0] bcast_S8192_S8192x1024_0 (Host.reduceAdd a (constant S_ .f32 0x00000000#32) reducesTo_S8192x1_S8192_d1 h_S_)
/-- the columns' sums. -/
def down (a : Mat) : Vec1 := shapeCast S1x1024 (Host.reduceAdd a (constant S_ .f32 0x00000000#32) reducesTo_S8192x1024_S1024_d0 h_S_) shapeCasts_S1024_S1x1024

variable (n : Fin 8192) (k : Fin 1024) (u : Fin 1)
theorem lit_at (b : BitVec 32) : (lit b (ix2 n k) : EReal) = Ideal.ofBits .f32 b := by pointwise [lit]
theorem litc_at (b : BitVec 32) : (litc b (ix2 n u) : EReal) = Ideal.ofBits .f32 b := by pointwise [litc]
theorem rep_at (a : Vec1) : (rep a (ix2 n k) : EReal) = vec a k := by pointwise [rep]
theorem spread_at (a : Col) : (spread a (ix2 n k) : EReal) = a (ix2 n 0) := by pointwise [spread]
theorem mn_at (a : Mat) : (mn a (ix2 n u) : EReal) = mean (row a n) := by
  pointwise [mn, litc]; rfl
theorem sums_at (a : Mat) : (sums a (ix2 n u) : EReal) = ∑ l, row a n l := by
  pointwise [sums]
theorem flat_at (a : Col) : (flat a (ix2 n k) : EReal) = a (ix2 n 0) := by
  pointwise [flat]
  exact Fintype.sum_subsingleton _ 0
theorem down_at (a : Mat) (i : S1x1024.Idx) : (down a i : EReal) = ∑ l : Fin 8192, (a (ix2 l (i 1)) : EReal) := by
  pointwise [down]

/-! ## The gradient, stage by stage -/

variable (x o ct : Mat) (gate g : Vec1)

def v4 : Mat := addf (mulf (lit 0x3FD744FD#32) x) (mulf (rep gate) o)
def v10 : Mat := subf (v4 x o gate) (spread (mn (v4 x o gate)))
def v21 : Col := addf (mn (mulf (v10 x o gate) (v10 x o gate))) (litc 0x3727C5AC#32)
def v22 : Col := Host.rsqrt (v21 x o gate)
def v27 : Mat := mulf (v10 x o gate) (spread (v22 x o gate))
def v39 : Mat := mulf (shapeCast S8192x1024 ct shapeCasts_S8192x1024_S8192x1024) (rep g)
def v44 : Mat := mulf (v39 ct g) (spread (v22 x o gate))
def v50 : Col := Host.divf (mulf (sums (mulf (v10 x o gate) (v39 ct g))) (mulf (litc 0xBF000000#32) (Host.divf (v22 x o gate) (v21 x o gate)))) (litc 0x44800000#32)
def v53 : Mat := mulf (flat (v50 x o ct gate g)) (mulf (lit 0x40000000#32) (v10 x o gate))
def v60 : Col := Host.divf (addf (sums (Host.negf (v44 x o ct gate g))) (sums (Host.negf (v53 x o ct gate g)))) (litc 0x44800000#32)
def v63 : Mat := addf (addf (v44 x o ct gate g) (v53 x o ct gate g)) (flat (v60 x o ct gate g))

theorem v4_at : (v4 x o gate (ix2 n k) : EReal) = res (row x n) (row o n) (vec gate) k := by
  pointwise [v4]; rw [lit_at, rep_at]; rfl
theorem v10_at : (v10 x o gate (ix2 n k) : EReal) = rc (row x n) (row o n) (vec gate) k := by
  pointwise [v10]; rw [spread_at, mn_at, v4_at]; unfold rc
  exact congrArg (fun f : Vc => res (row x n) (row o n) (vec gate) k - mean f) (funext fun l => v4_at n l x o gate)
theorem v21_at : (v21 x o gate (ix2 n u) : EReal) = vr (row x n) (row o n) (vec gate) := by
  pointwise [v21]; rw [mn_at, litc_at]; unfold vr
  refine congrArg (fun f : Vc => mean f + eps) (funext fun l => ?_)
  rw [← v10_at]; rfl
theorem v22_at : (v22 x o gate (ix2 n u) : EReal) = rs (row x n) (row o n) (vec gate) := by
  pointwise [v22]; rw [v21_at]; rfl
theorem v27_at : (v27 x o gate (ix2 n k) : EReal) = xh (row x n) (row o n) (vec gate) k := by
  pointwise [v27]; rw [v10_at, spread_at, v22_at]; rfl
theorem v39_at : (v39 ct g (ix2 n k) : EReal) = dxh (vec g) (row ct n) k := by
  pointwise [v39]; rw [rep_at]; rfl
theorem v44_at : (v44 x o ct gate g (ix2 n k) : EReal) = lin (row x n) (row o n) (vec gate) (vec g) (row ct n) k := by
  pointwise [v44]; rw [v39_at, spread_at, v22_at]; rfl
theorem v50_at : (v50 x o ct gate g (ix2 n u) : EReal) = co (row x n) (row o n) (vec gate) (vec g) (row ct n) := by
  pointwise [v50]; rw [sums_at, litc_at, litc_at, v22_at, v21_at]; unfold co
  refine congrArg (fun s : EReal => Ideal.div (s * _) _) (Finset.sum_congr rfl fun l _ => ?_)
  rw [← v10_at, ← v39_at]; rfl
theorem v53_at : (v53 x o ct gate g (ix2 n k) : EReal) = sq (row x n) (row o n) (vec gate) (vec g) (row ct n) k := by
  pointwise [v53]; rw [flat_at, v50_at, lit_at, v10_at]; rfl
theorem v63_at : (v63 x o ct gate g (ix2 n k) : EReal) = gradR (row x n) (row o n) (vec gate) (vec g) (row ct n) k := by
  pointwise [v63]; rw [v44_at, v53_at, flat_at]; unfold gradR
  refine congrArg (fun s : EReal => lin (row x n) (row o n) (vec gate) (vec g) (row ct n) k + Cert.Ln.sq (row x n) (row o n) (vec gate) (vec g) (row ct n) k + s) ?_
  pointwise [v60]; rw [sums_at, sums_at, litc_at]
  refine congrArg₂ (fun a b : EReal => Ideal.div (a + b) _) (Finset.sum_congr rfl fun l _ => ?_) (Finset.sum_congr rfl fun l _ => ?_)
  · rw [← v44_at]; rfl
  · rw [← v53_at]; rfl

/-! ## The results -/

/-- The gradient of the residual's first summand, -/
def DX : Mat := mulf (lit 0x3FD744FD#32) (v63 x o ct gate g)
/-- of its second, -/
def DOUT : FVec Ideal S8192x1024 .bf16 := truncf .bf16 (mulf (rep gate) (v63 x o ct gate g)) bitsLt_bf16_f32
/-- of the gate, -/
def DGATE : Vec1 := down (mulf (v63 x o ct gate g) o)
/-- of the norm's factor, -/
def DG : Vec1 := down (mulf (v27 x o gate) (shapeCast S8192x1024 ct shapeCasts_S8192x1024_S8192x1024))
/-- and of its shift. -/
def DB : Vec1 := down ct

theorem dx_at : (DX x o ct gate g (ix2 n k) : EReal) = alpha * gradR (row x n) (row o n) (vec gate) (vec g) (row ct n) k := by
  pointwise [DX]; rw [lit_at, v63_at]; rfl
theorem dout_at : (DOUT x o ct gate g (ix2 n k) : EReal) = vec gate k * gradR (row x n) (row o n) (vec gate) (vec g) (row ct n) k := by
  pointwise [DOUT]; rw [rep_at, v63_at]
theorem dgate_at : (DGATE x o ct gate g (ix2 u k) : EReal) = ∑ l : Fin 8192, gradR (row x l) (row o l) (vec gate) (vec g) (row ct l) k * row o l k := by
  unfold DGATE
  refine (down_at _ _).trans (Finset.sum_congr rfl fun l _ => ?_)
  exact congrArg (fun s : EReal => s * row o l k) (v63_at l k x o ct gate g)
theorem dg_at : (DG x o ct gate (ix2 u k) : EReal) = ∑ l : Fin 8192, row ct l k * xh (row x l) (row o l) (vec gate) k := by
  unfold DG
  refine (down_at _ _).trans (Finset.sum_congr rfl fun l _ => ?_)
  have h : (shapeCast S8192x1024 ct shapeCasts_S8192x1024_S8192x1024 (ix2 l k) : EReal) = row ct l k := by pointwise
  exact (congrArg₂ (fun a b : EReal => a * b) (v27_at l k x o gate) h).trans (mul_comm _ _)
theorem db_at : (DB ct (ix2 u k) : EReal) = ∑ l : Fin 8192, row ct l k := down_at ct _

end Cert.Reference8Ideal.LnRef
end
-- ==== Proof.Ln.lean ====
module

public import proofs.«01_k».proof.Proof.LnKer
public import proofs.«01_k».proof.Proof.LnRef
@[expose] public section
set_option maxRecDepth 16384
noncomputable section

/-! The kernel's five arrays after the run are the reference's five gradients. The first two are written block by block;
    the other three are zeroed at the first point, and every point adds its block's sums. -/

namespace Cert.Kernel8Ideal.Ln
open Idealize.ShloMosaic Idealize.ShloMosaic.TcCoe Idealize.ShloMosaic.Tactic Idealize.SL.Sem
open Idealize.ShloMosaic.Pipeline (Dat)
open Cert.Kernel8Ideal Cert.Kernel8Ideal.Gen Cert.Kernel8Ideal.LnKer Cert.Ln
open Cert.Reference8Ideal.LnRef (DX DOUT DGATE DG DB dx_at dout_at dgate_at dg_at db_at)
variable (m : (ℓ : Loc nD τ sig) → Buf (Elt Ideal) ℓ) (c : Dev nD)

local notation "Mat" => FVec Ideal S8192x1024 FTy.f32
local notation "Vec1" => FVec Ideal S1x1024 FTy.f32

/-- The arguments. -/
abbrev X : Mat := m (c.tc.loc main_arg0)
abbrev O : Mat := m (c.tc.loc main_arg1)
abbrev GATE : Vec1 := m (c.tc.loc main_arg2)
abbrev G : Vec1 := m (c.tc.loc main_arg3)
abbrev CT : Mat := m (c.tc.loc main_arg5)
/-- Rows of the arrays. -/
abbrev arow (a : Mat) (n : Fin 8192) : Vc := Cert.Reference8Ideal.LnRef.row a n

theorem idx : ∀ t : Fin cfg0.N, win0_0.index t = ![t.val, 0] ∧ win0_1.index t = ![t.val, 0] ∧ win0_2.index t = ![0, 0] ∧ win0_3.index t = ![0, 0] ∧ win0_4.index t = ![t.val, 0]
    ∧ win0_5.index t = ![t.val, 0] ∧ win0_6.index t = ![t.val, 0] ∧ win0_7.index t = ![0, 0] ∧ win0_8.index t = ![0, 0] ∧ win0_9.index t = ![0, 0] :=
  (by decide +kernel : ∀ t : Fin grid0.N, _)

/-- The array's row that is row `i` of block `t`. -/
abbrev at_ (t : Fin cfg0.N) (i : Fin 512) : Fin 8192 := ⟨t.val * 512 + i, by have : t.val < 16 := t.isLt; omega⟩

/-- The blocks read, in the arrays. -/
theorem rowX (t : Fin cfg0.N) (i : Fin 512) : row (iblk m c 0 t) i = arow (X m c) (at_ t i) := by
  funext k
  refine Eq.trans (?_ : (iblk m c 0 t (ix2 i k) : EReal) = _) (congrFun (V_main_arg0 m c) (ix2 (at_ t i) k))
  blk_ext [iblk, idx t]
theorem rowO (t : Fin cfg0.N) (i : Fin 512) : row (iblk m c 1 t) i = arow (O m c) (at_ t i) := by
  funext k
  refine Eq.trans (?_ : (iblk m c 1 t (ix2 i k) : EReal) = _) (congrFun (V_main_arg1 m c) (ix2 (at_ t i) k))
  blk_ext [iblk, idx t]
theorem rowCT (t : Fin cfg0.N) (i : Fin 512) : row (iblk m c 4 t) i = arow (CT m c) (at_ t i) := by
  funext k
  refine Eq.trans (?_ : (iblk m c 4 t (ix2 i k) : EReal) = _) (congrFun (V_main_arg5 m c) (ix2 (at_ t i) k))
  blk_ext [iblk, idx t]
theorem vecGATE (t : Fin cfg0.N) : vec (iblk m c 2 t) = vec (GATE m c) := by
  funext k
  refine Eq.trans (?_ : (iblk m c 2 t (ix2 0 k) : EReal) = _) (congrFun (V_main_arg2 m c) (ix2 0 k))
  blk_ext [iblk, idx t]
theorem vecG (t : Fin cfg0.N) : vec (iblk m c 3 t) = vec (G m c) := by
  funext k
  refine Eq.trans (?_ : (iblk m c 3 t (ix2 0 k) : EReal) = _) (congrFun (V_main_arg3 m c) (ix2 0 k))
  blk_ext [iblk, idx t]

/-- The kernel's gradient in a row of the arrays. -/
abbrev GR (n : Fin 8192) : Vc := gradK (arow (X m c) n) (arow (O m c) n) (vec (GATE m c)) (vec (G m c)) (arow (CT m c) n)
/-- The gradients are the reference's in every row. -/
abbrev Same : Prop := ∀ n, GR m c n = gradR (arow (X m c) n) (arow (O m c) n) (vec (GATE m c)) (vec (G m c)) (arow (CT m c) n)

/-! ## The two arrays written block by block -/

theorem blk5 (t : Fin cfg0.N) (i : Fin 512) (k : Fin 1024) : ((outsAt0 m c t.val t.isLt).1 (ix2 i k) : EReal) = alpha * GR m c (at_ t i) k := by
  have e := pay12_at i k (iblk m c 0 t) (iblk m c 1 t) (iblk m c 4 t) (iblk m c 2 t) (iblk m c 3 t)
  rw [rowX, rowO, rowCT, vecGATE, vecG] at e
  refine Eq.trans ?_ e
  by_cases h : t.val % 16 = 0
  · rw [outsAt0_A m c t h]; frame_out
  · rw [outsAt0_B m c t h]; frame_out
theorem blk6 (t : Fin cfg0.N) (i : Fin 512) (k : Fin 1024) : ((outsAt0 m c t.val t.isLt).2.1 (ix2 i k) : EReal) = vec (GATE m c) k * GR m c (at_ t i) k := by
  have e := pay13_at i k (iblk m c 0 t) (iblk m c 1 t) (iblk m c 4 t) (iblk m c 2 t) (iblk m c 3 t)
  rw [rowX, rowO, rowCT, vecGATE, vecG] at e
  refine Eq.trans ?_ e
  by_cases h : t.val % 16 = 0
  · rw [outsAt0_A m c t h]; frame_out
  · rw [outsAt0_B m c t h]; frame_out

/-- An index of an array, from its two coordinates. -/
theorem eta {a b : ℕ} (y : (Shape.mk 2 ![a, b]).Idx) : y = ix2 (y 0) (y 1) := by
  funext d; fin_cases d <;> rfl

theorem final5 (S : Same m c) : (dats m 0 c).arrAt 5 (cfgs 0).N = DX (X m c) (O m c) (CT m c) (GATE m c) (G m c) := by
  refine (dats m 0 c).arrAt_eq_of_covers 5 _ (by decide +kernel) fun t _ y => ?_
  blk_simp
  rw [after0_5]
  have e := idx t
  have hy : ((View.whole main_v0_0).slice (win0_5.rect t)).emb y = ix2 (at_ t (y 0)) (y 1) := by
    blk_ext [idx t]
  rw [hy, eta y]
  exact (blk5 m c t _ _).trans (((dx_at _ _ _ _ _ _ _).trans (congrArg (fun r : Vc => alpha * r (y 1)) (S _).symm)).symm)

theorem final6 (S : Same m c) : (dats m 0 c).arrAt 6 (cfgs 0).N = DOUT (X m c) (O m c) (CT m c) (GATE m c) (G m c) := by
  refine (dats m 0 c).arrAt_eq_of_covers 6 _ (by decide +kernel) fun t _ y => ?_
  blk_simp
  rw [after0_6]
  have hy : ((View.whole main_v0_1).slice (win0_6.rect t)).emb y = ix2 (at_ t (y 0)) (y 1) := by
    blk_ext [idx t]
  rw [hy, eta y]
  exact (blk6 m c t _ _).trans (((dout_at _ _ _ _ _ _ _).trans (congrArg (fun r : Vc => vec (GATE m c) (y 1) * r (y 1)) (S _).symm)).symm)

/-! ## The three sums -/

/-- What is zero plus the first block's sum at the first point, and grows by every further block's sum, is in the end the
    sum over all rows. -/
theorem sum_rows (f : (n : ℕ) → n < cfg0.N → Fin 1024 → EReal) (R : Fin 8192 → Vc)
    (h0 : ∀ t : Fin cfg0.N, t.val % 16 = 0 → ∀ k, f t.val t.isLt k = 0 + ∑ i : Fin 512, R (at_ t i) k)
    (hs : ∀ t : Fin cfg0.N, ¬t.val % 16 = 0 → ∀ k, f t.val t.isLt k = f (t.val - 1) (Nat.lt_of_le_of_lt (Nat.sub_le _ _) t.isLt) k + ∑ i : Fin 512, R (at_ t i) k)
    (t : Fin cfg0.N) (h : t.val % 16 = 15) (k : Fin 1024) : f t.val t.isLt k = ∑ n, R n k := by
  refine ((Pipeline.eq_sum_fin_of_reset_step_apply_of_flush f 16 (fun _ => (0 : EReal)) (fun t k => ∑ i : Fin 512, R (at_ t i) k) h0 hs t h k).trans (zero_add _)).trans ?_
  have hN : t.val < 16 := t.isLt
  refine Fin.sum_mul_add_congr fun s i hl => congrArg (fun n => R n k) (Fin.ext ?_)
  dsimp only
  omega

/-- A point's gradient row, in the arrays, and what a point adds to each of the three. -/
theorem rowGR (t : Fin cfg0.N) (i : Fin 512) : gradK (row (iblk m c 0 t) i) (row (iblk m c 1 t) i) (vec (iblk m c 2 t)) (vec (iblk m c 3 t)) (row (iblk m c 4 t) i) = GR m c (at_ t i) := by
  rw [rowX, rowO, rowCT, vecGATE, vecG]
theorem rowXH (t : Fin cfg0.N) (i : Fin 512) : xh (row (iblk m c 0 t) i) (row (iblk m c 1 t) i) (vec (iblk m c 2 t)) = xh (arow (X m c) (at_ t i)) (arow (O m c) (at_ t i)) (vec (GATE m c)) := by
  rw [rowX, rowO, vecGATE]
theorem step7 (t : Fin cfg0.N) (k : Fin 1024) (a : Vec1) :
    (k0_pay14 (F := Ideal) (iblk m c 1 t) (k0_pay6 (iblk m c 1 t) (iblk m c 0 t) (iblk m c 2 t)) (k0_pay7 (iblk m c 1 t) (iblk m c 0 t) (iblk m c 2 t)) (k0_pay9 (iblk m c 4 t) (iblk m c 3 t)) (k0_pay10 (iblk m c 1 t) (iblk m c 0 t) (iblk m c 2 t) (iblk m c 4 t) (iblk m c 3 t)) a (ix2 0 k) : EReal)
      = (a (ix2 0 k) : EReal) + ∑ i : Fin 512, GR m c (at_ t i) k * arow (O m c) (at_ t i) k :=
  (pay14_at k 0 _ _ _ _ _ a).trans (congrArg (fun z : EReal => (a (ix2 0 k) : EReal) + z)
    (Finset.sum_congr rfl fun i _ => congrArg₂ (fun a b : EReal => a * b) (congrFun (rowGR m c t i) k) (congrFun (rowO m c t i) k)))
theorem step8 (t : Fin cfg0.N) (k : Fin 1024) (a : Vec1) :
    (k0_pay15 (F := Ideal) (k0_pay7 (iblk m c 1 t) (iblk m c 0 t) (iblk m c 2 t)) (iblk m c 4 t) a (ix2 0 k) : EReal)
      = (a (ix2 0 k) : EReal) + ∑ i : Fin 512, arow (CT m c) (at_ t i) k * xh (arow (X m c) (at_ t i)) (arow (O m c) (at_ t i)) (vec (GATE m c)) k :=
  (pay15_at k 0 _ _ _ _ a).trans (congrArg (fun z : EReal => (a (ix2 0 k) : EReal) + z)
    (Finset.sum_congr rfl fun i _ => congrArg₂ (fun a b : EReal => a * b) (congrFun (rowCT m c t i) k) (congrFun (rowXH m c t i) k)))
theorem step9 (t : Fin cfg0.N) (k : Fin 1024) (a : Vec1) :
    (k0_pay1 (F := Ideal) (k0_pay16 a) (k0_pay17 (iblk m c 4 t)) (ix2 0 k) : EReal) = (a (ix2 0 k) : EReal) + ∑ i : Fin 512, arow (CT m c) (at_ t i) k :=
  (pay1_at k 0 _ a).trans (congrArg (fun z : EReal => (a (ix2 0 k) : EReal) + z) (Finset.sum_congr rfl fun i _ => congrFun (rowCT m c t i) k))
/-- The three are zeroed at the first point. -/
theorem zero7 (k : Fin 1024) : (k0_pay2 (F := Ideal) (ix2 0 k) : EReal) = 0 := by pointwise [k0_pay2]
theorem zero8 (k : Fin 1024) : (k0_pay3 (F := Ideal) (ix2 0 k) : EReal) = 0 := by pointwise [k0_pay3]
theorem zero9 (k : Fin 1024) : (k0_pay4 (F := Ideal) (ix2 0 k) : EReal) = 0 := by pointwise [k0_pay4]

theorem acc7 (t : Fin cfg0.N) (h : t.val % 16 = 15) (k : Fin 1024) :
    ((outsAt0 m c t.val t.isLt).2.2.1 (ix2 0 k) : EReal) = ∑ n, GR m c n k * arow (O m c) n k := by
  refine sum_rows (fun n h k => ((outsAt0 m c n h).2.2.1 (ix2 0 k) : EReal)) (fun n k => GR m c n k * arow (O m c) n k) (fun t h k => ?_) (fun t h k => ?_) t h k
  · rw [outsAt0_A m c t h]; frame_out
    exact (step7 m c t k _).trans (congrArg (fun z : EReal => z + _) (zero7 k))
  · rw [outsAt0_B m c t h]; frame_out
    exact step7 m c t k _
theorem acc8 (t : Fin cfg0.N) (h : t.val % 16 = 15) (k : Fin 1024) :
    ((outsAt0 m c t.val t.isLt).2.2.2.1 (ix2 0 k) : EReal) = ∑ n, arow (CT m c) n k * xh (arow (X m c) n) (arow (O m c) n) (vec (GATE m c)) k := by
  refine sum_rows (fun n h k => ((outsAt0 m c n h).2.2.2.1 (ix2 0 k) : EReal)) (fun n k => arow (CT m c) n k * xh (arow (X m c) n) (arow (O m c) n) (vec (GATE m c)) k) (fun t h k => ?_) (fun t h k => ?_) t h k
  · rw [outsAt0_A m c t h]; frame_out
    exact (step8 m c t k _).trans (congrArg (fun z : EReal => z + _) (zero8 k))
  · rw [outsAt0_B m c t h]; frame_out
    exact step8 m c t k _
theorem acc9 (t : Fin cfg0.N) (h : t.val % 16 = 15) (k : Fin 1024) :
    ((outsAt0 m c t.val t.isLt).2.2.2.2 (ix2 0 k) : EReal) = ∑ n, arow (CT m c) n k := by
  refine sum_rows (fun n h k => ((outsAt0 m c n h).2.2.2.2 (ix2 0 k) : EReal)) (fun n k => arow (CT m c) n k) (fun t h k => ?_) (fun t h k => ?_) t h k
  · rw [outsAt0_A m c t h]; frame_out
    exact (step9 m c t k _).trans (congrArg (fun z : EReal => z + _) (zero9 k))
  · rw [outsAt0_B m c t h]; frame_out
    exact step9 m c t k _

theorem final7 (S : Same m c) : (dats m 0 c).arrAt 7 (cfgs 0).N = DGATE (X m c) (O m c) (CT m c) (GATE m c) (G m c) := by
  refine (dats m 0 c).arrAt_eq_of_covers 7 _ (by decide +kernel) fun t hf y => ?_
  blk_simp
  have hy : ((View.whole main_v0_2).slice (win0_7.rect t)).emb y = ix2 0 (y 1) := by
    blk_ext [idx t]
  have hy' : y = ix2 0 (y 1) := by blk_ext
  rw [after0_7, hy, hy']
  refine (acc7 m c t ((flush0_7 t).mp hf) _).trans (Eq.trans ?_ (dgate_at _ _ _ _ _ _ _).symm)
  exact Finset.sum_congr rfl fun n _ => congrArg (fun r : Vc => r (y 1) * arow (O m c) n (y 1)) (S n)
theorem final8 : (dats m 0 c).arrAt 8 (cfgs 0).N = DG (X m c) (O m c) (CT m c) (GATE m c) := by
  refine (dats m 0 c).arrAt_eq_of_covers 8 _ (by decide +kernel) fun t hf y => ?_
  blk_simp
  have hy : ((View.whole main_v0_3).slice (win0_8.rect t)).emb y = ix2 0 (y 1) := by
    blk_ext [idx t]
  have hy' : y = ix2 0 (y 1) := by blk_ext
  rw [after0_8, hy, hy']
  exact (acc8 m c t ((flush0_8 t).mp hf) _).trans (dg_at _ _ _ _ _ _).symm
theorem final9 : (dats m 0 c).arrAt 9 (cfgs 0).N = DB (CT m c) := by
  refine (dats m 0 c).arrAt_eq_of_covers 9 _ (by decide +kernel) fun t hf y => ?_
  blk_simp
  have hy : ((View.whole main_v0_4).slice (win0_9.rect t)).emb y = ix2 0 (y 1) := by
    blk_ext [idx t]
  have hy' : y = ix2 0 (y 1) := by blk_ext
  rw [after0_9, hy, hy']
  exact (acc9 m c t ((flush0_9 t).mp hf) _).trans (db_at _ _ _).symm

end Cert.Kernel8Ideal.Ln
end
-- ==== Proof.LnFin.lean ====
module

public import proofs.«01_k».proof.Proof.Finite
public import proofs.«01_k».proof.Proof.Ln
public import proofs.«01_k».proof.Proof.Gen.Pre_finite8
@[expose] public section
set_option maxRecDepth 16384
noncomputable section

/-! Arguments that satisfy the residual's precondition are real numbers, so the two ways of writing the gradient agree in
    every row. -/

namespace Cert.Kernel8Ideal.Ln
open Idealize.ShloMosaic Idealize.ShloMosaic.TcCoe Idealize.ShloMosaic.Tactic Idealize.SL.Sem
open Cert.Kernel8Ideal Cert.Kernel8Ideal.Gen Cert.Ln
open Cert.Fin (real_of and_one)

theorem mat_real (a b0 b1 : FVec Ideal S8192x1024 .f32) (init : IVec Cert.Pre_finite8.S_ 1) (hb0 : b0 = fun _ => Ideal.ofBits .f32 0xFF800000#32) (hb1 : b1 = fun _ => Ideal.ofBits .f32 0x7F800000#32)
    (h : Host.reduce IntOp.andi (andi (cmpf .ogt a b0) (cmpf .olt a b1)) init Cert.Pre_finite8.Facts.reducesTo_S8192x1024_S_d0_1 Cert.Pre_finite8.Facts.h_S_ ix0 = 1#1) (i : S8192x1024.Idx) : (a i : EReal) = (((a i : EReal).toReal : ℝ) : EReal) := by
  have := Host.reduce_andi_all _ _ _ _ ix0 h i
  subst hb0 hb1
  exact real_of _ this
theorem vec_real (a b0 b1 : FVec Ideal S1x1024 .f32) (init : IVec Cert.Pre_finite8.S_ 1) (hb0 : b0 = fun _ => Ideal.ofBits .f32 0xFF800000#32) (hb1 : b1 = fun _ => Ideal.ofBits .f32 0x7F800000#32)
    (h : Host.reduce IntOp.andi (andi (cmpf .ogt a b0) (cmpf .olt a b1)) init Cert.Pre_finite8.Facts.reducesTo_S1x1024_S_d0_1 Cert.Pre_finite8.Facts.h_S_ ix0 = 1#1) (i : S1x1024.Idx) : (a i : EReal) = (((a i : EReal).toReal : ℝ) : EReal) := by
  have := Host.reduce_andi_all _ _ _ _ ix0 h i
  subst hb0 hb1
  exact real_of _ this

variable (m : (ℓ : Loc nD τ sig) → Buf (Elt Ideal) ℓ) (c : Dev nD)

theorem same (b : FVec Ideal S1x1024 .f32) (h : Cert.Pre_finite8.fn (F := Ideal) (X m c) (O m c) (GATE m c) (G m c) b (CT m c) = fun _ => 1#1) : Same m c := by
  have h0 := congrFun h ix0
  dsimp only [Cert.Pre_finite8.fn, Cert.Pre_finite8.fn_part1, Cert.Pre_finite8.fn_part2] at h0
  obtain ⟨h0, h5⟩ := and_one _ _ h0
  obtain ⟨h0, h3⟩ := and_one _ _ h0
  obtain ⟨h0, h2⟩ := and_one _ _ h0
  obtain ⟨h0, h1⟩ := and_one _ _ h0
  exact fun n => grad_eq (fun k => mat_real _ _ _ _ rfl rfl h0 (ix2 n k)) (fun k => mat_real _ _ _ _ rfl rfl h1 (ix2 n k))
    (fun k => vec_real _ _ _ _ rfl rfl h2 (ix2 0 k)) (fun k => vec_real _ _ _ _ rfl rfl h3 (ix2 0 k)) (fun k => mat_real _ _ _ _ rfl rfl h5 (ix2 n k))

end Cert.Kernel8Ideal.Ln

/-! The reference's results are the gradients as read above. -/

namespace Cert.Reference8Ideal.LnRef
open Idealize.ShloMosaic Idealize.ShloMosaic.TcCoe Idealize.SL.Sem
open Cert.Reference8Ideal Cert.Reference8Ideal.Gen Cert.Reference8Ideal.Value
variable (m : (ℓ : Loc nD τ sig) → Buf (Elt Ideal) ℓ) (c : Dev nD)

theorem dx_eq : res_main_v70 m c = DX (m (c.tc.loc main_arg0)) (m (c.tc.loc main_arg1)) (m (c.tc.loc main_arg5)) (m (c.tc.loc main_arg2)) (m (c.tc.loc main_arg3)) := rfl
theorem dout_eq : res_main_v71 m c = DOUT (m (c.tc.loc main_arg0)) (m (c.tc.loc main_arg1)) (m (c.tc.loc main_arg5)) (m (c.tc.loc main_arg2)) (m (c.tc.loc main_arg3)) := rfl
theorem dgate_eq : res_main_v68 m c = DGATE (m (c.tc.loc main_arg0)) (m (c.tc.loc main_arg1)) (m (c.tc.loc main_arg5)) (m (c.tc.loc main_arg2)) (m (c.tc.loc main_arg3)) := rfl

end Cert.Reference8Ideal.LnRef
end
-- ==== Proof.MmDt.lean ====
module

public import proofs.«01_k».proof.Proof.MmIn
public import proofs.«01_k».proof.Proof.Gen.Kernel16Ideal.Value
public import proofs.«01_k».proof.Proof.Gen.Reference16Ideal.Run
public import Idealize.ShloMosaic.Lib.Pipeline.ValueKit
public import Idealize.ShloMosaic.Lib.Pipeline.ReadBack
@[expose] public section
set_option maxRecDepth 16384
noncomputable section

/-! The projection to a state space layer's step sizes: each block is the reference's product at its rows. -/

namespace Cert.Kernel16Ideal.MmDt
open Idealize.ShloMosaic Idealize.ShloMosaic.TcCoe Idealize.ShloMosaic.Tactic Idealize.SL.Sem
open Idealize.ShloMosaic.Pipeline (Dat)
open Cert.Kernel16Ideal Cert.Kernel16Ideal.Gen
open Cert.Kernel5Ideal.MmIn (lhs)
variable (m : (ℓ : Loc nD τ sig) → Buf (Elt Ideal) ℓ) (c : Dev nD)

/-- The columns of the step sizes. -/
def rhs (w : FVec Ideal S1024x5184 .f32) : FVec Ideal S1024x64 .bf16 :=
  extractStridedSlice S1024x64 ![0, 5120] (truncf .bf16 w bitsLt_bf16_f32) slices_S1024x5184_S1024x64_0_5120

theorem V6 : V m c main_v6 = lhs (m (c.tc.loc main_arg0)) (m (c.tc.loc main_arg1)) (m (c.tc.loc main_arg2)) := by
  unfold V
  simp only [hostOps0, List.flatten_cons, List.flatten_nil, List.cons_append, List.nil_append, List.append_nil]
  after_results
  rfl
theorem V8 : V m c main_v8 = rhs (m (c.tc.loc main_arg3)) := by
  unfold V
  simp only [hostOps0, List.flatten_cons, List.flatten_nil, List.cons_append, List.nil_append, List.append_nil]
  after_results
  rfl

/-- What a point computes of its blocks. -/
theorem out_at (a : FVec Ideal S512x1024 .bf16) (b : FVec Ideal S1024x64 .bf16) (j : S512x64.Idx) :
    (out0_2 (F := Ideal) a b j : EReal) = ∑ k : Fin 1024, (a (ix2 (j 0) k) : EReal) * (b (ix2 k (j 1)) : EReal) := by
  unfold out0_2
  frame_out
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- The reference's projection. -/
abbrev REF (x : FVec Ideal S8192x1024 .f32) (scale shift : FVec Ideal S1x1024 .f32) (w : FVec Ideal S1024x5184 .f32) : FVec Ideal S8192x64 .f32 :=
  extractStridedSlice S8192x64 ![0, 5120] (Host.dotGeneral (F := Ideal) Cert.Reference16Ideal.dot_S8192x1024_S1024x5184_S8192x5184_1_0_0_1_n_n none (addf (mulf x (broadcastInDim S8192x1024 ![0, 1] Cert.Reference16Ideal.Gen.bcast_S1x1024_S8192x1024_0_1 (addf (broadcastInDim S1x1024 ![] Cert.Reference16Ideal.Gen.bcast_S_S1x1024 (constant S_ .f32 0x3F800000#32)) scale))) (broadcastInDim S8192x1024 ![0, 1] Cert.Reference16Ideal.Gen.bcast_S1x1024_S8192x1024_0_1 shift)) w) Cert.Reference16Ideal.Gen.slices_S8192x5184_S8192x64_0_5120

theorem ref_at (x : FVec Ideal S8192x1024 .f32) (scale shift : FVec Ideal S1x1024 .f32) (w : FVec Ideal S1024x5184 .f32) (i : S8192x64.Idx) :
    (REF x scale shift w i : EReal) = ∑ l : Fin 1024, (lhs x scale shift (ix2 (i 0) l) : EReal) * (rhs w (ix2 l (i 1)) : EReal) := by
  pointwise [REF, Cert.Kernel5Ideal.MmIn.lhs, rhs]

/-- The blocks read, in the arrays. -/
theorem read0 (t : Fin cfg0.N) (x : S512x1024.Idx) (i : S8192x1024.Idx) (h0 : (i 0 : ℕ) = t.val * 512 + x 0) (h1 : (i 1 : ℕ) = x 1) :
    (iblk m c 0 t x : EReal) = V m c main_v6 i := by
  blk_ext [iblk, idx t]
theorem read1 (t : Fin cfg0.N) (x : S1024x64.Idx) (i : S1024x64.Idx) (h0 : (i 0 : ℕ) = x 0) (h1 : (i 1 : ℕ) = x 1) :
    (iblk m c 1 t x : EReal) = V m c main_v8 i := by
  blk_ext [iblk, idx t]

/-- The projection's array after the run. -/
theorem final : (dats m 0 c).arrAt 2 (cfgs 0).N = REF (m (c.tc.loc main_arg0)) (m (c.tc.loc main_arg1)) (m (c.tc.loc main_arg2)) (m (c.tc.loc main_arg3)) := by
  refine (dats m 0 c).arrAt_eq_of_covers 2 _ (by decide +kernel) fun t _ y => ?_
  blk_simp
  rw [after0_2]
  refine (out_at _ _ _).trans (Eq.trans ?_ (ref_at _ _ _ _ _).symm)
  have e := idx t
  refine Finset.sum_congr rfl fun k _ => congrArg₂ (fun a b : EReal => a * b)
    ((read0 m c _ _ (ix2 (((View.whole main_v9).slice (win0_2.rect t)).emb y 0) k) ?_ ?_).trans (congrFun (V6 m c) _))
    ((read1 m c _ _ (ix2 k (((View.whole main_v9).slice (win0_2.rect t)).emb y 1)) ?_ ?_).trans (congrFun (V8 m c) _))
  all_goals (blk_simp [e] <;> dsimp only <;> omega)

end Cert.Kernel16Ideal.MmDt
end
-- ==== Proof.Modu.lean ====
module

public import proofs.«01_k».proof.Proof.Gen.Kernel17Ideal.Value
public import proofs.«01_k».proof.Proof.Gen.Reference17Ideal.Run
public import Idealize.ShloMosaic.Lib.Pipeline.ValueKit
public import Idealize.ShloMosaic.Lib.Pipeline.ReadBack
@[expose] public section
set_option maxRecDepth 16384
noncomputable section

/-! The modulated input: every entry of a block is the reference's. -/

namespace Cert.Kernel17Ideal.Modu
open Idealize.ShloMosaic Idealize.ShloMosaic.TcCoe Idealize.ShloMosaic.Tactic Idealize.SL.Sem
open Idealize.ShloMosaic.Pipeline (Dat)
open Cert.Kernel17Ideal Cert.Kernel17Ideal.Gen
variable (m : (ℓ : Loc nD τ sig) → Buf (Elt Ideal) ℓ) (c : Dev nD)

/-- What a point computes of its blocks. -/
theorem out_at (a : FVec Ideal S512x1024 .f32) (sc sh : FVec Ideal S1x1024 .f32) (i : Fin 512) (k : Fin 1024) :
    (out0_3 (F := Ideal) a sc sh (ix2 i k) : EReal) = (a (ix2 i k) : EReal) * (Ideal.ofBits .f32 0x3F800000#32 + (sc (ix2 0 k) : EReal)) + (sh (ix2 0 k) : EReal) := by
  unfold out0_3
  frame_out
  pointwise [k0_pay1]

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The reference's modulated input. -/
abbrev REF (x : FVec Ideal S8192x1024 .f32) (scale shift : FVec Ideal S1x1024 .f32) : FVec Ideal S8192x1024 .bf16 :=
  truncf .bf16 (addf (mulf x (broadcastInDim S8192x1024 ![0, 1] Cert.Reference17Ideal.Gen.bcast_S1x1024_S8192x1024_0_1 (addf (broadcastInDim S1x1024 ![] Cert.Reference17Ideal.Gen.bcast_S_S1x1024 (constant Cert.Reference17Ideal.S_ .f32 0x3F800000#32)) scale))) (broadcastInDim S8192x1024 ![0, 1] Cert.Reference17Ideal.Gen.bcast_S1x1024_S8192x1024_0_1 shift)) Cert.Reference17Ideal.Gen.bitsLt_bf16_f32

theorem ref_at (x : FVec Ideal S8192x1024 .f32) (scale shift : FVec Ideal S1x1024 .f32) (n : Fin 8192) (k : Fin 1024) :
    (REF x scale shift (ix2 n k) : EReal) = (x (ix2 n k) : EReal) * (Ideal.ofBits .f32 0x3F800000#32 + (scale (ix2 0 k) : EReal)) + (shift (ix2 0 k) : EReal) := by
  pointwise [REF]

/-- The array's row that is row `i` of block `t`. -/
abbrev at_ (t : Fin cfg0.N) (i : Fin 512) : Fin 8192 := ⟨t.val * 512 + i, by have : t.val < 16 := t.isLt; omega⟩

/-- The blocks read, in the arrays. -/
theorem read0 (t : Fin cfg0.N) (i : Fin 512) (k : Fin 1024) : (iblk m c 0 t (ix2 i k) : EReal) = m (c.tc.loc main_arg0) (ix2 (at_ t i) k) := by
  refine Eq.trans ?_ (congrFun (V_main_arg0 m c) (ix2 (at_ t i) k))
  blk_ext [iblk, idx t]
theorem read1 (t : Fin cfg0.N) (k : Fin 1024) : (iblk m c 1 t (ix2 0 k) : EReal) = m (c.tc.loc main_arg1) (ix2 0 k) := by
  refine Eq.trans ?_ (congrFun (V_main_arg1 m c) (ix2 0 k))
  blk_ext [iblk, idx t]
theorem read2 (t : Fin cfg0.N) (k : Fin 1024) : (iblk m c 2 t (ix2 0 k) : EReal) = m (c.tc.loc main_arg2) (ix2 0 k) := by
  refine Eq.trans ?_ (congrFun (V_main_arg2 m c) (ix2 0 k))
  blk_ext [iblk, idx t]

/-- What a point computes, in the arrays. -/
theorem blk (t : Fin cfg0.N) (i : Fin 512) (k : Fin 1024) :
    (out0_3 (F := Ideal) (iblk m c 0 t) (iblk m c 1 t) (iblk m c 2 t) (ix2 i k) : EReal)
      = REF (m (c.tc.loc main_arg0)) (m (c.tc.loc main_arg1)) (m (c.tc.loc main_arg2)) (ix2 (at_ t i) k) := by
  have e := out_at (iblk m c 0 t) (iblk m c 1 t) (iblk m c 2 t) i k
  rw [read0, read1, read2] at e
  exact e.trans (ref_at _ _ _ _ _).symm

/-- The modulated input's array after the run. -/
theorem final : (dats m 0 c).arrAt 3 (cfgs 0).N = REF (m (c.tc.loc main_arg0)) (m (c.tc.loc main_arg1)) (m (c.tc.loc main_arg2)) := by
  refine (dats m 0 c).arrAt_eq_of_covers 3 _ (by decide +kernel) fun t _ y => ?_
  blk_simp
  rw [after0_3]
  have hy : ((View.whole main_v0).slice (win0_3.rect t)).emb y = ix2 (at_ t (y 0)) (y 1) := by
    blk_ext [idx t]
  rw [hy]
  exact (congrArg _ (ix2_eta y).symm).trans (blk m c t _ _)

end Cert.Kernel17Ideal.Modu
end
-- ==== Proof.LnFwd.lean ====
module

public import proofs.«01_k».proof.Proof.LnRef
public import proofs.«01_k».proof.Proof.Gen.Kernel18Ideal.Value
public import proofs.«01_k».proof.Proof.Gen.Reference18Ideal.Run
public import Idealize.ShloMosaic.Lib.Pipeline.ValueKit
public import Idealize.ShloMosaic.Lib.Pipeline.ReadBack
@[expose] public section
set_option maxRecDepth 16384
noncomputable section

/-! The norm of the residual sum: every row of a block is the reference's row. -/

namespace Cert.Kernel18Ideal.LnFwd
open Idealize.ShloMosaic Idealize.ShloMosaic.TcCoe Idealize.ShloMosaic.Tactic Idealize.SL.Sem
open Idealize.ShloMosaic.Pipeline (Dat)
open Cert.Kernel18Ideal Cert.Kernel18Ideal.Gen Cert.Ln
open Cert.Reference8Ideal.LnRef (v10 v22 v27 v27_at spread rep rep_at)
variable (m : (ℓ : Loc nD τ sig) → Buf (Elt Ideal) ℓ) (c : Dev nD)

local notation "Mat" => FVec Ideal S8192x1024 FTy.f32
local notation "Blk" => FVec Ideal S512x1024 FTy.f32
local notation "Vec1" => FVec Ideal S1x1024 FTy.f32

/-- A row of an array, a row of a block, and a row vector. -/
abbrev arow (a : Mat) (n : Fin 8192) : Vc := Cert.Reference8Ideal.LnRef.row a n
abbrev row (a : Blk) (i : Fin 512) : Vc := fun k => (a (ix2 i k) : EReal)
abbrev vec (a : Vec1) : Vc := fun k => (a (ix2 0 k) : EReal)

/-- The normalised row with its factor and its shift. -/
def ln (x o gate g b : Vc) : Vc := fun k => xh x o gate k * g k + b k

/-- What a point computes of its blocks. -/
theorem out_at (x o : Blk) (gate g b : Vec1) (i : Fin 512) (k : Fin 1024) :
    (out0_5 (F := Ideal) x o gate g b (ix2 i k) : EReal) = ln (row x i) (row o i) (vec gate) (vec g) (vec b) k := by
  unfold out0_5
  frame_out
  pointwise [k0_pay1]
  rfl

/-- The reference's norm. -/
def REF (x o : Mat) (gate g b : Vec1) : Mat := addf (mulf (v27 x o gate) (rep g)) (rep b)

theorem ref_at (x o : Mat) (gate g b : Vec1) (n : Fin 8192) (k : Fin 1024) :
    (REF x o gate g b (ix2 n k) : EReal) = ln (arow x n) (arow o n) (vec gate) (vec g) (vec b) k := by
  pointwise [REF]; rw [v27_at, rep_at, rep_at]; rfl

theorem idx : ∀ t : Fin cfg0.N, win0_0.index t = ![t.val, 0] ∧ win0_1.index t = ![t.val, 0] ∧ win0_2.index t = ![0, 0] ∧ win0_3.index t = ![0, 0] ∧ win0_4.index t = ![0, 0]
    ∧ win0_5.index t = ![t.val, 0] :=
  (by decide +kernel : ∀ t : Fin grid0.N, _)

/-- The array's row that is row `i` of block `t`. -/
abbrev at_ (t : Fin cfg0.N) (i : Fin 512) : Fin 8192 := ⟨t.val * 512 + i, by have : t.val < 16 := t.isLt; omega⟩

/-- The blocks read, in the arrays. -/
theorem rowX (t : Fin cfg0.N) (i : Fin 512) : row (iblk m c 0 t) i = arow (m (c.tc.loc main_arg0)) (at_ t i) := by
  funext k
  refine Eq.trans (?_ : (iblk m c 0 t (ix2 i k) : EReal) = _) (congrFun (V_main_arg0 m c) (ix2 (at_ t i) k))
  blk_ext [iblk, idx t]
theorem rowO (t : Fin cfg0.N) (i : Fin 512) : row (iblk m c 1 t) i = arow (m (c.tc.loc main_arg1)) (at_ t i) := by
  funext k
  refine Eq.trans (?_ : (iblk m c 1 t (ix2 i k) : EReal) = _) (congrFun (V_main_arg1 m c) (ix2 (at_ t i) k))
  blk_ext [iblk, idx t]
theorem vecGATE (t : Fin cfg0.N) : vec (iblk m c 2 t) = vec (m (c.tc.loc main_arg2)) := by
  funext k
  refine Eq.trans (?_ : (iblk m c 2 t (ix2 0 k) : EReal) = _) (congrFun (V_main_arg2 m c) (ix2 0 k))
  blk_ext [iblk, idx t]
theorem vecG (t : Fin cfg0.N) : vec (iblk m c 3 t) = vec (m (c.tc.loc main_arg3)) := by
  funext k
  refine Eq.trans (?_ : (iblk m c 3 t (ix2 0 k) : EReal) = _) (congrFun (V_main_arg3 m c) (ix2 0 k))
  blk_ext [iblk, idx t]
theorem vecB (t : Fin cfg0.N) : vec (iblk m c 4 t) = vec (m (c.tc.loc main_arg4)) := by
  funext k
  refine Eq.trans (?_ : (iblk m c 4 t (ix2 0 k) : EReal) = _) (congrFun (V_main_arg4 m c) (ix2 0 k))
  blk_ext [iblk, idx t]

/-- What a point computes, in the arrays. -/
theorem blk (t : Fin cfg0.N) (i : Fin 512) (k : Fin 1024) :
    (out0_5 (F := Ideal) (iblk m c 0 t) (iblk m c 1 t) (iblk m c 2 t) (iblk m c 3 t) (iblk m c 4 t) (ix2 i k) : EReal)
      = ln (arow (m (c.tc.loc main_arg0)) (at_ t i)) (arow (m (c.tc.loc main_arg1)) (at_ t i)) (vec (m (c.tc.loc main_arg2)))
          (vec (m (c.tc.loc main_arg3))) (vec (m (c.tc.loc main_arg4))) k := by
  have e := out_at (iblk m c 0 t) (iblk m c 1 t) (iblk m c 2 t) (iblk m c 3 t) (iblk m c 4 t) i k
  rwa [rowX, rowO, vecGATE, vecG, vecB] at e

/-- The norm's array after the run. -/
theorem final : (dats m 0 c).arrAt 5 (cfgs 0).N
    = REF (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t _ y => ?_
  blk_simp
  rw [after0_5]
  have hy : ((View.whole main_v0).slice (win0_5.rect t)).emb y = ix2 (at_ t (y 0)) (y 1) := by
    blk_ext [idx t]
  rw [hy]
  exact (congrArg _ (ix2_eta y).symm).trans ((blk m c t _ _).trans (ref_at _ _ _ _ _ _ _).symm)

end Cert.Kernel18Ideal.LnFwd
end
-- ==== Proof.lean ====
/- The proof of the certificate's claims: the frames of the kernels, of the idealized kernels and of the references, the
   constants the idealization names, and the equality of the results.

   For the three gradients of the dilated attention group, at finite arguments, the kernel's arrays are read in
   Proof/Arr.lean (over Win, Blk, Pt, Host), the reference's in Proof/Rd.lean, both against the real formulas of
   Proof/Row.lean; Proof/Finite.lean takes real tensors from the precondition. The gradients of the modulated input of an
   attention and of a state space layer are in Proof/Dh.lean and Proof/DhB.lean (over Sums), the gradient of a state space
   layer's projection matrix in Proof/Dw.lean, the forward projections in Proof/MmIn.lean, Proof/MmIn0.lean,
   Proof/MmDil.lean, Proof/MmDil16.lean (both over Dil) and Proof/MmOut.lean, the gradients of the output projections in Proof/MmDu.lean, Proof/MmDy.lean, Proof/MmDwOut.lean and
   Proof/MmDwOutA.lean; these hold at any arguments. For the gradients of the residual and its norm, at finite arguments,
   the kernel is read in Proof/LnKer.lean and Proof/Ln.lean, the reference in Proof/LnRef.lean, both against the row of
   Proof/LnRow.lean; Proof/LnFin.lean takes the real numbers from the precondition.
   A state space layer's step sizes are in Proof/MmDt.lean, the modulated input in Proof/Modu.lean, the norm of the residual
   sum in Proof/LnFwd.lean, at any arguments.
   The gate and the norm of the state space mixer are in Proof/GateFwd.lean, at any arguments; for their gradients, at finite
   arguments, the kernel is read in Proof/GateKer.lean and Proof/Gate.lean, the reference in Proof/GateRef.lean, both against
   the row of Proof/GateRow.lean; Proof/GateFin.lean takes the real numbers from the precondition. The gradient of the
   modulation's matrices is in Proof/AdaGrad.lean, the optimiser's updates in Proof/AdamAda.lean, Proof/AdamAIn.lean,
   Proof/AdamAOut.lean, Proof/AdamBIn.lean and Proof/AdamBOut.lean (all over Adam), at any arguments. -/
module

public import proofs.«01_k».proof.Proof.AdaGrad
public import proofs.«01_k».proof.Proof.AdamAda
public import proofs.«01_k».proof.Proof.AdamAIn
public import proofs.«01_k».proof.Proof.AdamAOut
public import proofs.«01_k».proof.Proof.AdamBIn
public import proofs.«01_k».proof.Proof.AdamBOut
public import proofs.«01_k».proof.Proof.GateFin
public import proofs.«01_k».proof.Proof.GateFwd
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Value
public import proofs.«01_k».proof.Proof.Gen.Reference26Ideal.Run
public import proofs.«01_k».proof.Defs
public import proofs.«01_k».proof.Proof.Arr
public import proofs.«01_k».proof.Proof.Rd
public import proofs.«01_k».proof.Proof.Finite
public import proofs.«01_k».proof.Proof.DhB
public import proofs.«01_k».proof.Proof.Dw
public import proofs.«01_k».proof.Proof.MmIn
public import proofs.«01_k».proof.Proof.MmIn0
public import proofs.«01_k».proof.Proof.MmDil
public import proofs.«01_k».proof.Proof.MmDil16
public import proofs.«01_k».proof.Proof.MmDu
public import proofs.«01_k».proof.Proof.MmDwOut
public import proofs.«01_k».proof.Proof.MmDy
public import proofs.«01_k».proof.Proof.MmDwOutA
public import proofs.«01_k».proof.Proof.MmOut
public import proofs.«01_k».proof.Proof.LnFin
public import proofs.«01_k».proof.Proof.MmDt
public import proofs.«01_k».proof.Proof.Modu
public import proofs.«01_k».proof.Proof.LnFwd
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.KernelIdeal.Value
public import proofs.«01_k».proof.Proof.Gen.ReferenceIdeal.Run
public import proofs.«01_k».proof.Proof.Gen.Kernel.Frame
public import proofs.«01_k».proof.Proof.Gen.KernelIdeal.Frame
public import proofs.«01_k».proof.Proof.Gen.Pre_finite
public import proofs.«01_k».proof.Proof.Gen.Pre_finite8
public import proofs.«01_k».proof.Proof.Gen.Pre_finite20
public import Idealize.ShloMosaic.Adequacy
public import Idealize.ShloMosaic.Init

@[expose] public section

noncomputable section

namespace Cert.Proof

open Idealize.ShloMosaic Idealize.ShloMosaic.TcCoe Idealize.SL.Sem Cert.Spec

/-- The kernel runs, its arguments end unchanged and every counter ends at zero. -/
theorem frame_p : Cert.quiescent_Kernel := fun m g _ => Cert.Kernel.Gen.frame m g
/-- So does the idealized kernel, -/
theorem frame_pi : Cert.quiescent_KernelIdeal := fun m g _ => Cert.KernelIdeal.Gen.frame m g
/-- also from finite arguments. -/
theorem frame_pi_finite : Cert.quiescent_KernelIdeal_pre_finite := fun m g _ => Cert.KernelIdeal.Gen.frame m g
/-- So does the reference, -/
theorem frame_ri : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)
/-- also from finite arguments. -/
theorem frame_ri_finite : Cert.quiescent_ReferenceIdeal_pre_finite := fun m g _ => frame_ri m g trivial

/-- The mask constant is named minus infinity. -/
theorem preserves : Cert.preserves_Kernel_KernelIdeal :=
  IdealRules.named_const.statement Cert.KernelIdeal.κ "mask" .f32 0xF149F2CA#32 ⊥ rfl

section
variable (m : (ℓ : Loc Cert.KernelIdeal.nD Cert.KernelIdeal.τ Cert.KernelIdeal.sig) → Buf (Elt Ideal) ℓ) (c : Dev Cert.KernelIdeal.nD)

/-- The real tensors of the kernel's arguments. -/
def arg : Arg := Cert.Fin.argOf (m (c.tc.loc Cert.KernelIdeal.main_arg0)) (m (c.tc.loc Cert.KernelIdeal.main_arg1)) (m (c.tc.loc Cert.KernelIdeal.main_arg2)) (m (c.tc.loc Cert.KernelIdeal.main_arg3))
  (m (c.tc.loc Cert.KernelIdeal.main_arg5)) (m (c.tc.loc Cert.KernelIdeal.main_arg7)) (m (c.tc.loc Cert.KernelIdeal.main_arg4)) (m (c.tc.loc Cert.KernelIdeal.main_arg6))

/-- The kernel's arguments hold them when they are finite; -/
theorem holds_kernel (h : Cert.Pre_KernelIdeal_finite m) : Cert.KernelIdeal.Host.Holds m c (arg m c) := by
  obtain ⟨h0, h1, h2, h3, h4, h5, h6, h7⟩ := Cert.Fin.all_real _ _ _ _ _ _ _ _ (h c)
  exact ⟨funext fun n => funext fun a => funext fun e => h0 _, funext fun n => funext fun a => funext fun e => h1 _, funext fun n => funext fun a => funext fun e => h2 _,
    funext fun n => funext fun a => funext fun e => h3 _, fun n a => h4 _, funext fun n => funext fun a => funext fun e => h5 _, fun n a => h6 _,
    funext fun n => funext fun a => funext fun e => h7 _, funext fun a => Cert.Fin.slope_real a⟩

/-- the reference's equal arguments hold the same. -/
theorem holds_reference (m' : (ℓ : Loc Cert.ReferenceIdeal.nD Cert.ReferenceIdeal.τ Cert.ReferenceIdeal.sig) → Buf (Elt Ideal) ℓ) (A : Arg) (H : Cert.KernelIdeal.Host.Holds m c A)
    (e0 : m' ((c.tc : Thread Cert.ReferenceIdeal.nD Cert.ReferenceIdeal.τ).loc Cert.ReferenceIdeal.main_arg0) = m (c.tc.loc Cert.KernelIdeal.main_arg0))
    (e1 : m' ((c.tc : Thread Cert.ReferenceIdeal.nD Cert.ReferenceIdeal.τ).loc Cert.ReferenceIdeal.main_arg1) = m (c.tc.loc Cert.KernelIdeal.main_arg1))
    (e2 : m' ((c.tc : Thread Cert.ReferenceIdeal.nD Cert.ReferenceIdeal.τ).loc Cert.ReferenceIdeal.main_arg2) = m (c.tc.loc Cert.KernelIdeal.main_arg2))
    (e3 : m' ((c.tc : Thread Cert.ReferenceIdeal.nD Cert.ReferenceIdeal.τ).loc Cert.ReferenceIdeal.main_arg3) = m (c.tc.loc Cert.KernelIdeal.main_arg3))
    (e4 : m' ((c.tc : Thread Cert.ReferenceIdeal.nD Cert.ReferenceIdeal.τ).loc Cert.ReferenceIdeal.main_arg4) = m (c.tc.loc Cert.KernelIdeal.main_arg4))
    (e5 : m' ((c.tc : Thread Cert.ReferenceIdeal.nD Cert.ReferenceIdeal.τ).loc Cert.ReferenceIdeal.main_arg5) = m (c.tc.loc Cert.KernelIdeal.main_arg5))
    (e6 : m' ((c.tc : Thread Cert.ReferenceIdeal.nD Cert.ReferenceIdeal.τ).loc Cert.ReferenceIdeal.main_arg6) = m (c.tc.loc Cert.KernelIdeal.main_arg6))
    (e7 : m' ((c.tc : Thread Cert.ReferenceIdeal.nD Cert.ReferenceIdeal.τ).loc Cert.ReferenceIdeal.main_arg7) = m (c.tc.loc Cert.KernelIdeal.main_arg7)) :
    Cert.ReferenceIdeal.Rd.Holds (StableHlo.launchContents m' c) A where
  q := (congrArg Cert.KernelIdeal.Host.tenOf e0).trans H.q
  k := (congrArg Cert.KernelIdeal.Host.tenOf e1).trans H.k
  v := (congrArg Cert.KernelIdeal.Host.tenOf e2).trans H.v
  oa := (congrArg Cert.KernelIdeal.Host.tenOf e3).trans H.oa
  ob := (congrArg Cert.KernelIdeal.Host.tenOf e5).trans H.ob
  ct := (congrArg Cert.KernelIdeal.Host.tenOf e7).trans H.ct
  la n a := (congrFun e4 (ix2 n a)).trans (H.la n a)
  lb n a := (congrFun e6 (ix2 n a)).trans (H.lb n a)
  sl := Cert.Fin.slope_ref.trans H.sl
end

/-- From equal finite arguments the kernel and the reference end with the same gradients of the queries, keys and values. -/
theorem algebraic : Cert.algebraic_KernelIdeal_ReferenceIdeal_pre_finite := by
  intro m g m' g' hp he
  refine ⟨_, _, _, Cert.KernelIdeal.Value.run_blocks (F := Ideal) m g, ?_⟩
  refine (θ_run Cert.ReferenceIdeal.defs _ _).mono (fun r h c => ?_) (Cert.ReferenceIdeal.Value.run (F := Ideal) m' g')
  obtain ⟨e0, e1, e2, e3, e4, e5, e6, e7⟩ := he c
  have H := holds_kernel m c hp
  have H' := holds_reference m c m' _ H e0 e1 e2 e3 e4 e5 e6 e7
  obtain ⟨r0, r1, r2, rest⟩ := h c
  refine ⟨r0.trans ?_, r1.trans ?_, r2.trans ?_, rest⟩
  · refine Eq.trans (funext fun y => ?_) (Cert.KernelIdeal.Arr.dq_arr H).symm
    exact (congrArg _ (ix2_eta y).symm).trans (Cert.ReferenceIdeal.Rd.r171 H' (y 0) (y 1))
  · refine Eq.trans (funext fun y => ?_) (Cert.KernelIdeal.Arr.dk_arr H).symm
    exact (congrArg _ (ix2_eta y).symm).trans (Cert.ReferenceIdeal.Rd.r173 H' (y 0) (y 1))
  · refine Eq.trans (funext fun y => ?_) (Cert.KernelIdeal.Arr.dv_arr H).symm
    exact (congrArg _ (ix2_eta y).symm).trans (Cert.ReferenceIdeal.Rd.r175 H' (y 0) (y 1))

/-! The gradients of an attention layer's modulated input -/

theorem frame_r2 : Cert.quiescent_Reference2Ideal := fun m g _ =>
  (θ_run Cert.Reference2Ideal.defs _ _).mono (fun r h => ⟨fun c => (h c).2.2.2, sem_eq_zero_of_no_sems (by decide) r.2⟩)
    (Cert.Reference2Ideal.Value.run (F := Ideal) m g)
open Cert.Kernel2Ideal.Dh in
theorem algebraic2 : Cert.algebraic_Kernel2Ideal_Reference2Ideal := by
  intro m g m' g' _ he
  refine ⟨_, _, _, Cert.Kernel2Ideal.Value.run_blocks (F := Ideal) m g, ?_⟩
  refine (θ_run Cert.Reference2Ideal.defs _ _).mono (fun r h c => ?_) (Cert.Reference2Ideal.Value.run (F := Ideal) m' g')
  obtain ⟨e0, e1, -, e3, e4, e5⟩ := he c
  obtain ⟨r0, r1, r2, rest⟩ := h c
  rw [e1, e3, e4, e5] at r0
  rw [e0, e3, e5] at r1
  rw [e3, e5] at r2
  exact ⟨r0.trans (final_dx m c).symm, r1.trans (final_dsc m c).symm, r2.trans (final_dsh m c).symm, rest⟩

/-! Those of a state space layer's -/

theorem frame_r3 : Cert.quiescent_Reference3Ideal := fun m g _ =>
  (θ_run Cert.Reference3Ideal.defs _ _).mono (fun r h => ⟨fun c => (h c).2.2.2, sem_eq_zero_of_no_sems (by decide) r.2⟩)
    (Cert.Reference3Ideal.Value.run (F := Ideal) m g)
open Cert.Kernel3Ideal.DhB in
theorem algebraic3 : Cert.algebraic_Kernel3Ideal_Reference3Ideal := by
  intro m g m' g' _ he
  refine ⟨_, _, _, Cert.Kernel3Ideal.Value.run_blocks (F := Ideal) m g, ?_⟩
  refine (θ_run Cert.Reference3Ideal.defs _ _).mono (fun r h c => ?_) (Cert.Reference3Ideal.Value.run (F := Ideal) m' g')
  obtain ⟨e0, e1, -, e3, e4, e5⟩ := he c
  obtain ⟨r0, r1, r2, rest⟩ := h c
  rw [e1, e3, e4, e5] at r0
  rw [e0, e3, e5] at r1
  rw [e3, e5] at r2
  exact ⟨r0.trans (final_dx m c).symm, r1.trans (final_dsc m c).symm, r2.trans (final_dsh m c).symm, rest⟩

/-! The gradient of its projection matrix -/

theorem frame_r4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)
theorem algebraic4 : Cert.algebraic_Kernel4Ideal_Reference4Ideal := by
  intro m g m' g' _ he
  refine ⟨_, Cert.Kernel4Ideal.Value.run_blocks (F := Ideal) m g, ?_⟩
  refine (θ_run Cert.Reference4Ideal.defs _ _).mono (fun r h c => ?_) (Cert.Reference4Ideal.Value.run (F := Ideal) m' g')
  obtain ⟨e0, e1, e2, -, e4⟩ := he c
  obtain ⟨r0, rest⟩ := h c
  rw [e0, e1, e2, e4] at r0
  exact ⟨r0.trans (Cert.Kernel4Ideal.Dw.final m c).symm, rest⟩

/-! The forward projections of a state space and of an attention layer -/

theorem frame_r5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)
theorem algebraic5 : Cert.algebraic_Kernel5Ideal_Reference5Ideal := by
  intro m g m' g' _ he
  refine ⟨_, Cert.Kernel5Ideal.Value.run_blocks (F := Ideal) m g, ?_⟩
  refine (θ_run Cert.Reference5Ideal.defs _ _).mono (fun r h c => ?_) (Cert.Reference5Ideal.Value.run (F := Ideal) m' g')
  obtain ⟨e0, e1, e2, e3⟩ := he c
  obtain ⟨r0, rest⟩ := h c
  rw [e0, e1, e2, e3] at r0
  exact ⟨r0.trans (Cert.Kernel5Ideal.MmIn.final m c).symm, rest⟩
theorem frame_r6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)
theorem algebraic6 : Cert.algebraic_Kernel6Ideal_Reference6Ideal := by
  intro m g m' g' _ he
  refine ⟨_, Cert.Kernel6Ideal.Value.run_blocks (F := Ideal) m g, ?_⟩
  refine (θ_run Cert.Reference6Ideal.defs _ _).mono (fun r h c => ?_) (Cert.Reference6Ideal.Value.run (F := Ideal) m' g')
  obtain ⟨e0, e1, e2, e3⟩ := he c
  obtain ⟨r0, rest⟩ := h c
  rw [e0, e1, e2, e3] at r0
  exact ⟨r0.trans (Cert.Kernel6Ideal.MmIn0.final m c).symm, rest⟩

/-! The gradients of the output projections: of what they take and of their matrices -/

theorem frame_r7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)
theorem algebraic7 : Cert.algebraic_Kernel7Ideal_Reference7Ideal := by
  intro m g m' g' _ he
  refine ⟨_, Cert.Kernel7Ideal.Value.run_blocks (F := Ideal) m g, ?_⟩
  refine (θ_run Cert.Reference7Ideal.defs _ _).mono (fun r h c => ?_) (Cert.Reference7Ideal.Value.run (F := Ideal) m' g')
  obtain ⟨-, e1, e2⟩ := he c
  obtain ⟨r0, rest⟩ := h c
  rw [e1, e2] at r0
  exact ⟨r0.trans (Cert.Kernel7Ideal.MmDu.final m c).symm, rest⟩
theorem frame_r9 : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)
theorem algebraic9 : Cert.algebraic_Kernel9Ideal_Reference9Ideal := by
  intro m g m' g' _ he
  refine ⟨_, Cert.Kernel9Ideal.Value.run_blocks (F := Ideal) m g, ?_⟩
  refine (θ_run Cert.Reference9Ideal.defs _ _).mono (fun r h c => ?_) (Cert.Reference9Ideal.Value.run (F := Ideal) m' g')
  obtain ⟨e0, -, e2⟩ := he c
  obtain ⟨r0, rest⟩ := h c
  rw [e0, e2] at r0
  exact ⟨r0.trans (Cert.Kernel9Ideal.MmDwOut.final m c).symm, rest⟩
theorem frame_r10 : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)
theorem algebraic10 : Cert.algebraic_Kernel10Ideal_Reference10Ideal := by
  intro m g m' g' _ he
  refine ⟨_, Cert.Kernel10Ideal.Value.run_blocks (F := Ideal) m g, ?_⟩
  refine (θ_run Cert.Reference10Ideal.defs _ _).mono (fun r h c => ?_) (Cert.Reference10Ideal.Value.run (F := Ideal) m' g')
  obtain ⟨-, e1, e2⟩ := he c
  obtain ⟨r0, rest⟩ := h c
  rw [e1, e2] at r0
  exact ⟨r0.trans (Cert.Kernel10Ideal.MmDy.final m c).symm, rest⟩
theorem frame_r11 : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)
theorem algebraic11 : Cert.algebraic_Kernel11Ideal_Reference11Ideal := by
  intro m g m' g' _ he
  refine ⟨_, Cert.Kernel11Ideal.Value.run_blocks (F := Ideal) m g, ?_⟩
  refine (θ_run Cert.Reference11Ideal.defs _ _).mono (fun r h c => ?_) (Cert.Reference11Ideal.Value.run (F := Ideal) m' g')
  obtain ⟨e0, -, e2⟩ := he c
  obtain ⟨r0, rest⟩ := h c
  rw [e0, e2] at r0
  exact ⟨r0.trans (Cert.Kernel11Ideal.MmDwOutA.final m c).symm, rest⟩

/-! The gradients of the residual and its norm, at finite arguments -/

theorem frame_r8 : Cert.quiescent_Reference8Ideal := fun m g _ =>
  (θ_run Cert.Reference8Ideal.defs _ _).mono (fun r h => ⟨fun c => (h c).2.2.2.2.2, sem_eq_zero_of_no_sems (by decide) r.2⟩)
    (Cert.Reference8Ideal.Value.run (F := Ideal) m g)
open Cert.Kernel8Ideal.Ln Cert.Reference8Ideal.LnRef in
theorem algebraic8 : Cert.algebraic_Kernel8Ideal_Reference8Ideal_pre_finite8 := by
  intro m g m' g' hp he
  refine ⟨_, _, _, _, _, Cert.Kernel8Ideal.Value.run_blocks (F := Ideal) m g, ?_⟩
  refine (θ_run Cert.Reference8Ideal.defs _ _).mono (fun r h c => ?_) (Cert.Reference8Ideal.Value.run (F := Ideal) m' g')
  obtain ⟨e0, e1, e2, e3, -, e5⟩ := he c
  obtain ⟨r0, r1, r2, r3, r4, rest⟩ := h c
  have S := same m c _ (hp c)
  rw [dx_eq, e0, e1, e2, e3, e5] at r0
  rw [dout_eq, e0, e1, e2, e3, e5] at r1
  rw [dgate_eq, e0, e1, e2, e3, e5] at r2
  rw [e0, e1, e2, e5] at r3
  rw [e5] at r4
  exact ⟨r0.trans (final5 m c S).symm, r1.trans (final6 m c S).symm, r2.trans (final7 m c S).symm, r3.trans (final8 m c).symm, r4.trans (final9 m c).symm, rest⟩

/-! The forward output projections -/

theorem frame_r12 : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)
theorem algebraic12 : Cert.algebraic_Kernel12Ideal_Reference12Ideal := by
  intro m g m' g' _ he
  refine ⟨_, Cert.Kernel12Ideal.Value.run_blocks (F := Ideal) m g, ?_⟩
  refine (θ_run Cert.Reference12Ideal.defs _ _).mono (fun r h c => ?_) (Cert.Reference12Ideal.Value.run (F := Ideal) m' g')
  obtain ⟨e0, e1⟩ := he c
  obtain ⟨r0, rest⟩ := h c
  rw [e0, e1] at r0
  exact ⟨r0.trans (Cert.Kernel12Ideal.MmOut.final m c).symm, rest⟩
theorem frame_r13 : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)
theorem algebraic13 : Cert.algebraic_Kernel13Ideal_Reference13Ideal := by
  intro m g m' g' _ he
  refine ⟨_, Cert.Kernel13Ideal.Value.run_blocks (F := Ideal) m g, ?_⟩
  refine (θ_run Cert.Reference13Ideal.defs _ _).mono (fun r h c => ?_) (Cert.Reference13Ideal.Value.run (F := Ideal) m' g')
  obtain ⟨e0, e1⟩ := he c
  obtain ⟨r0, rest⟩ := h c
  rw [e0, e1] at r0
  exact ⟨r0.trans (Cert.Kernel13Ideal.MmOut.final m c).symm, rest⟩

/-! An attention layer's projections onto its second and third group -/

theorem frame_r14 : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)
theorem algebraic14 : Cert.algebraic_Kernel14Ideal_Reference14Ideal := by
  intro m g m' g' _ he
  refine ⟨_, Cert.Kernel14Ideal.Value.run_blocks (F := Ideal) m g, ?_⟩
  refine (θ_run Cert.Reference14Ideal.defs _ _).mono (fun r h c => ?_) (Cert.Reference14Ideal.Value.run (F := Ideal) m' g')
  obtain ⟨e0, e1, e2, e3⟩ := he c
  obtain ⟨r0, rest⟩ := h c
  rw [e0, e1, e2, e3] at r0
  exact ⟨r0.trans (Cert.Kernel14Ideal.MmDil.final m c).symm, rest⟩
theorem frame_r15 : Cert.quiescent_Reference15Ideal := fun m g _ =>
  (θ_run Cert.Reference15Ideal.defs _ _).mono (fun r h => ⟨fun c => (h c).2, sem_eq_zero_of_no_sems (by decide) r.2⟩)
    (Cert.Reference15Ideal.Value.run (F := Ideal) m g)
theorem algebraic15 : Cert.algebraic_Kernel15Ideal_Reference15Ideal := by
  intro m g m' g' _ he
  refine ⟨_, Cert.Kernel15Ideal.Value.run_blocks (F := Ideal) m g, ?_⟩
  refine (θ_run Cert.Reference15Ideal.defs _ _).mono (fun r h c => ?_) (Cert.Reference15Ideal.Value.run (F := Ideal) m' g')
  obtain ⟨e0, e1, e2, e3⟩ := he c
  obtain ⟨r0, rest⟩ := h c
  rw [e0, e1, e2, e3] at r0
  exact ⟨r0.trans (Cert.Kernel15Ideal.MmDil16.final m c).symm, rest⟩

/-! A state space layer's step sizes, the modulated input, and the norm of the residual sum -/

theorem frame_r16 : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)
theorem algebraic16 : Cert.algebraic_Kernel16Ideal_Reference16Ideal := by
  intro m g m' g' _ he
  refine ⟨_, Cert.Kernel16Ideal.Value.run_blocks (F := Ideal) m g, ?_⟩
  refine (θ_run Cert.Reference16Ideal.defs _ _).mono (fun r h c => ?_) (Cert.Reference16Ideal.Value.run (F := Ideal) m' g')
  obtain ⟨e0, e1, e2, e3⟩ := he c
  obtain ⟨r0, rest⟩ := h c
  rw [e0, e1, e2, e3] at r0
  exact ⟨r0.trans (Cert.Kernel16Ideal.MmDt.final m c).symm, rest⟩
theorem frame_r17 : Cert.quiescent_Reference17Ideal := fun m g _ =>
  (θ_run Cert.Reference17Ideal.defs _ _).mono (fun r h => ⟨fun c => (h c).2, sem_eq_zero_of_no_sems (by decide) r.2⟩)
    (Cert.Reference17Ideal.Value.run (F := Ideal) m g)
theorem algebraic17 : Cert.algebraic_Kernel17Ideal_Reference17Ideal := by
  intro m g m' g' _ he
  refine ⟨_, Cert.Kernel17Ideal.Value.run_blocks (F := Ideal) m g, ?_⟩
  refine (θ_run Cert.Reference17Ideal.defs _ _).mono (fun r h c => ?_) (Cert.Reference17Ideal.Value.run (F := Ideal) m' g')
  obtain ⟨e0, e1, e2⟩ := he c
  obtain ⟨r0, rest⟩ := h c
  rw [e0, e1, e2] at r0
  exact ⟨r0.trans (Cert.Kernel17Ideal.Modu.final m c).symm, rest⟩
theorem frame_r18 : Cert.quiescent_Reference18Ideal := fun m g _ =>
  (θ_run Cert.Reference18Ideal.defs _ _).mono (fun r h => ⟨fun c => (h c).2, sem_eq_zero_of_no_sems (by decide) r.2⟩)
    (Cert.Reference18Ideal.Value.run (F := Ideal) m g)
theorem algebraic18 : Cert.algebraic_Kernel18Ideal_Reference18Ideal := by
  intro m g m' g' _ he
  refine ⟨_, Cert.Kernel18Ideal.Value.run_blocks (F := Ideal) m g, ?_⟩
  refine (θ_run Cert.Reference18Ideal.defs _ _).mono (fun r h c => ?_) (Cert.Reference18Ideal.Value.run (F := Ideal) m' g')
  obtain ⟨e0, e1, e2, e3, e4⟩ := he c
  obtain ⟨r0, rest⟩ := h c
  rw [e0, e1, e2, e3, e4] at r0
  exact ⟨r0.trans (Cert.Kernel18Ideal.LnFwd.final m c).symm, rest⟩

/-! The gate and the norm of the state space mixer, and their gradients at finite arguments -/

theorem frame_r19 : Cert.quiescent_Reference19Ideal := fun m g _ =>
  (θ_run Cert.Reference19Ideal.defs _ _).mono (fun r h => ⟨fun c => (h c).2, sem_eq_zero_of_no_sems (by decide) r.2⟩)
    (Cert.Reference19Ideal.Value.run (F := Ideal) m g)
theorem algebraic19 : Cert.algebraic_Kernel19Ideal_Reference19Ideal := by
  intro m g m' g' _ he
  refine ⟨_, Cert.Kernel19Ideal.Value.run_blocks (F := Ideal) m g, ?_⟩
  refine (θ_run Cert.Reference19Ideal.defs _ _).mono (fun r h c => ?_) (Cert.Reference19Ideal.Value.run (F := Ideal) m' g')
  obtain ⟨e0, e1, e2, e3, e4⟩ := he c
  obtain ⟨r0, rest⟩ := h c
  rw [e0, e1, e2, e3, e4] at r0
  exact ⟨r0.trans (Cert.Kernel19Ideal.GateFwd.final m c).symm, rest⟩
theorem frame_r20 : Cert.quiescent_Reference20Ideal := fun m g _ =>
  (θ_run Cert.Reference20Ideal.defs _ _).mono (fun r h => ⟨fun c => (h c).2.2.2.2, sem_eq_zero_of_no_sems (by decide) r.2⟩)
    (Cert.Reference20Ideal.Value.run (F := Ideal) m g)
open Cert.Kernel20Ideal.Gate Cert.Reference20Ideal.GateRef in
theorem algebraic20 : Cert.algebraic_Kernel20Ideal_Reference20Ideal_pre_finite20 := by
  intro m g m' g' hp he
  refine ⟨_, _, _, _, Cert.Kernel20Ideal.Value.run_blocks (F := Ideal) m g, ?_⟩
  refine (θ_run Cert.Reference20Ideal.defs _ _).mono (fun r h c => ?_) (Cert.Reference20Ideal.Value.run (F := Ideal) m' g')
  obtain ⟨e0, e1, e2, e3, e4, e5⟩ := he c
  obtain ⟨r0, r1, r2, r3, rest⟩ := h c
  have S := same m c (hp c)
  rw [dy_eq, e0, e1, e2, e3, e4, e5] at r0
  rw [dz_eq, e0, e1, e2, e3, e4, e5] at r1
  rw [e0, e1, e2, e3, e5] at r2
  rw [dd_eq, e0, e1, e2, e3, e4, e5] at r3
  exact ⟨r0.trans (final6 m c S).symm, r1.trans (final7 m c S).symm, r2.trans (final8 m c).symm, r3.trans (final9 m c S).symm, rest⟩

/-! The gradient of the modulation's matrices, and the optimiser's updates -/

theorem frame_r21 : Cert.quiescent_Reference21Ideal := fun m g _ =>
  (θ_run Cert.Reference21Ideal.defs _ _).mono (fun r h => ⟨fun c => (h c).2, sem_eq_zero_of_no_sems (by decide) r.2⟩)
    (Cert.Reference21Ideal.Value.run (F := Ideal) m g)
theorem algebraic21 : Cert.algebraic_Kernel21Ideal_Reference21Ideal := by
  intro m g m' g' _ he
  refine ⟨_, Cert.Kernel21Ideal.AdaGrad.run m g, ?_⟩
  refine (θ_run Cert.Reference21Ideal.defs _ _).mono (fun r h c => ?_) (Cert.Reference21Ideal.Value.run (F := Ideal) m' g')
  obtain ⟨e0, -, e2⟩ := he c
  obtain ⟨r0, rest⟩ := h c
  rw [e0, e2] at r0
  exact ⟨r0, rest⟩
theorem frame_r22 : Cert.quiescent_Reference22Ideal := fun m g _ =>
  (θ_run Cert.Reference22Ideal.defs _ _).mono (fun r h => ⟨fun c => (h c).2.2.2.2, sem_eq_zero_of_no_sems (by decide) r.2⟩)
    (Cert.Reference22Ideal.Value.run (F := Ideal) m g)
open Cert.Kernel22Ideal.AdamAda Cert.Adam in
theorem algebraic22 : Cert.algebraic_Kernel22Ideal_Reference22Ideal := by
  intro m g m' g' _ he
  refine ⟨_, _, _, _, Cert.Kernel22Ideal.Value.run_blocks (F := Ideal) m g, ?_⟩
  refine (θ_run Cert.Reference22Ideal.defs _ _).mono (fun r h c => ?_) (Cert.Reference22Ideal.Value.run (F := Ideal) m' g')
  obtain ⟨e0, e1, e2, e3⟩ := he c
  obtain ⟨r0, r1, r2, r3, rest⟩ := h c
  rw [e3] at r0
  rw [e0, e1, e2, e3] at r1
  rw [e1, e3] at r2
  rw [e2, e3] at r3
  have h := Cert.Reference22Ideal.Gen.bcast_S_S4096x384
  exact ⟨r0.trans (final4 m c).symm, r1.trans ((ref_changes h _ _ _ _).trans (final5 m c).symm), r2.trans ((ref_firsts h _ _).trans (final6 m c).symm),
    r3.trans ((ref_seconds h _ _).trans (final7 m c).symm), rest⟩
theorem frame_r23 : Cert.quiescent_Reference23Ideal := fun m g _ =>
  (θ_run Cert.Reference23Ideal.defs _ _).mono (fun r h => ⟨fun c => (h c).2.2.2.2, sem_eq_zero_of_no_sems (by decide) r.2⟩)
    (Cert.Reference23Ideal.Value.run (F := Ideal) m g)
open Cert.Kernel23Ideal.AdamAIn Cert.Adam in
theorem algebraic23 : Cert.algebraic_Kernel23Ideal_Reference23Ideal := by
  intro m g m' g' _ he
  refine ⟨_, _, _, _, Cert.Kernel23Ideal.Value.run_blocks (F := Ideal) m g, ?_⟩
  refine (θ_run Cert.Reference23Ideal.defs _ _).mono (fun r h c => ?_) (Cert.Reference23Ideal.Value.run (F := Ideal) m' g')
  obtain ⟨e0, e1, e2, e3⟩ := he c
  obtain ⟨r0, r1, r2, r3, rest⟩ := h c
  rw [ref_total, e3] at r0
  rw [ref_total, e0, e1, e2, e3] at r1
  rw [ref_total, e1, e3] at r2
  rw [ref_total, e2, e3] at r3
  have h := Cert.Reference23Ideal.Gen.bcast_S_S2048x1280
  exact ⟨r0.trans (final4 m c).symm, r1.trans ((ref_changes h _ _ _ _).trans (final5 m c).symm), r2.trans ((ref_firsts h _ _).trans (final6 m c).symm),
    r3.trans ((ref_seconds h _ _).trans (final7 m c).symm), rest⟩
theorem frame_r24 : Cert.quiescent_Reference24Ideal := fun m g _ =>
  (θ_run Cert.Reference24Ideal.defs _ _).mono (fun r h => ⟨fun c => (h c).2.2.2.2, sem_eq_zero_of_no_sems (by decide) r.2⟩)
    (Cert.Reference24Ideal.Value.run (F := Ideal) m g)
open Cert.Kernel24Ideal.AdamAOut Cert.Adam in
theorem algebraic24 : Cert.algebraic_Kernel24Ideal_Reference24Ideal := by
  intro m g m' g' _ he
  refine ⟨_, _, _, _, Cert.Kernel24Ideal.Value.run_blocks (F := Ideal) m g, ?_⟩
  refine (θ_run Cert.Reference24Ideal.defs _ _).mono (fun r h c => ?_) (Cert.Reference24Ideal.Value.run (F := Ideal) m' g')
  obtain ⟨e0, e1, e2, e3⟩ := he c
  obtain ⟨r0, r1, r2, r3, rest⟩ := h c
  rw [ref_total, e3] at r0
  rw [ref_total, e0, e1, e2, e3] at r1
  rw [ref_total, e1, e3] at r2
  rw [ref_total, e2, e3] at r3
  have h := Cert.Reference24Ideal.Gen.bcast_S_S256x1024
  exact ⟨r0.trans (final4 m c).symm, r1.trans ((ref_changes h _ _ _ _).trans (final5 m c).symm), r2.trans ((ref_firsts h _ _).trans (final6 m c).symm),
    r3.trans ((ref_seconds h _ _).trans (final7 m c).symm), rest⟩
theorem frame_r25 : Cert.quiescent_Reference25Ideal := fun m g _ =>
  (θ_run Cert.Reference25Ideal.defs _ _).mono (fun r h => ⟨fun c => (h c).2.2.2.2, sem_eq_zero_of_no_sems (by decide) r.2⟩)
    (Cert.Reference25Ideal.Value.run (F := Ideal) m g)
open Cert.Kernel25Ideal.AdamBIn Cert.Adam in
theorem algebraic25 : Cert.algebraic_Kernel25Ideal_Reference25Ideal := by
  intro m g m' g' _ he
  refine ⟨_, _, _, _, Cert.Kernel25Ideal.Value.run_blocks (F := Ideal) m g, ?_⟩
  refine (θ_run Cert.Reference25Ideal.defs _ _).mono (fun r h c => ?_) (Cert.Reference25Ideal.Value.run (F := Ideal) m' g')
  obtain ⟨e0, e1, e2, e3⟩ := he c
  obtain ⟨r0, r1, r2, r3, rest⟩ := h c
  rw [ref_total, e3] at r0
  rw [ref_total, e0, e1, e2, e3] at r1
  rw [ref_total, e1, e3] at r2
  rw [ref_total, e2, e3] at r3
  have h := Cert.Reference25Ideal.Gen.bcast_S_S2048x648
  exact ⟨r0.trans (final4 m c).symm, r1.trans ((ref_changes h _ _ _ _).trans (final5 m c).symm), r2.trans ((ref_firsts h _ _).trans (final6 m c).symm),
    r3.trans ((ref_seconds h _ _).trans (final7 m c).symm), rest⟩
theorem frame_r26 : Cert.quiescent_Reference26Ideal := fun m g _ =>
  (θ_run Cert.Reference26Ideal.defs _ _).mono (fun r h => ⟨fun c => (h c).2.2.2.2, sem_eq_zero_of_no_sems (by decide) r.2⟩)
    (Cert.Reference26Ideal.Value.run (F := Ideal) m g)
open Cert.Kernel26Ideal.AdamBOut Cert.Adam in
theorem algebraic26 : Cert.algebraic_Kernel26Ideal_Reference26Ideal := by
  intro m g m' g' _ he
  refine ⟨_, _, _, _, Cert.Kernel26Ideal.Value.run_blocks (F := Ideal) m g, ?_⟩
  refine (θ_run Cert.Reference26Ideal.defs _ _).mono (fun r h c => ?_) (Cert.Reference26Ideal.Value.run (F := Ideal) m' g')
  obtain ⟨e0, e1, e2, e3⟩ := he c
  obtain ⟨r0, r1, r2, r3, rest⟩ := h c
  rw [ref_total, e3] at r0
  rw [ref_total, e0, e1, e2, e3] at r1
  rw [ref_total, e1, e3] at r2
  rw [ref_total, e2, e3] at r3
  have h := Cert.Reference26Ideal.Gen.bcast_S_S512x1024
  exact ⟨r0.trans (final4 m c).symm, r1.trans ((ref_changes h _ _ _ _).trans (final5 m c).symm), r2.trans ((ref_firsts h _ _).trans (final6 m c).symm),
    r3.trans ((ref_seconds h _ _).trans (final7 m c).symm), rest⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Pre_finite.Gen.facts, Cert.Pre_finite8.Gen.facts, Cert.Pre_finite20.Gen.facts,
  frame_p, frame_pi, frame_pi_finite, frame_ri, frame_ri_finite,
  fun m g _ => Cert.Kernel2.Gen.frame m g, fun m g _ => Cert.Kernel2Ideal.Gen.frame m g, frame_r2,
  fun m g _ => Cert.Kernel3.Gen.frame m g, fun m g _ => Cert.Kernel3Ideal.Gen.frame m g, frame_r3,
  fun m g _ => Cert.Kernel4.Gen.frame m g, fun m g _ => Cert.Kernel4Ideal.Gen.frame m g, frame_r4,
  fun m g _ => Cert.Kernel5.Gen.frame m g, fun m g _ => Cert.Kernel5Ideal.Gen.frame m g, frame_r5,
  fun m g _ => Cert.Kernel6.Gen.frame m g, fun m g _ => Cert.Kernel6Ideal.Gen.frame m g, frame_r6,
  fun m g _ => Cert.Kernel7.Gen.frame m g, fun m g _ => Cert.Kernel7Ideal.Gen.frame m g, frame_r7,
  fun m g _ => Cert.Kernel8.Gen.frame m g, fun m g _ => Cert.Kernel8Ideal.Gen.frame m g, fun m g _ => Cert.Kernel8Ideal.Gen.frame m g,
  frame_r8, fun m g _ => frame_r8 m g trivial,
  fun m g _ => Cert.Kernel9.Gen.frame m g, fun m g _ => Cert.Kernel9Ideal.Gen.frame m g, frame_r9,
  fun m g _ => Cert.Kernel10.Gen.frame m g, fun m g _ => Cert.Kernel10Ideal.Gen.frame m g, frame_r10,
  fun m g _ => Cert.Kernel11.Gen.frame m g, fun m g _ => Cert.Kernel11Ideal.Gen.frame m g, frame_r11,
  fun m g _ => Cert.Kernel12.Gen.frame m g, fun m g _ => Cert.Kernel12Ideal.Gen.frame m g, frame_r12,
  fun m g _ => Cert.Kernel13.Gen.frame m g, fun m g _ => Cert.Kernel13Ideal.Gen.frame m g, frame_r13,
  fun m g _ => Cert.Kernel14.Gen.frame m g, fun m g _ => Cert.Kernel14Ideal.Gen.frame m g, frame_r14,
  fun m g _ => Cert.Kernel15.Gen.frame m g, fun m g _ => Cert.Kernel15Ideal.Gen.frame m g, frame_r15,
  fun m g _ => Cert.Kernel16.Gen.frame m g, fun m g _ => Cert.Kernel16Ideal.Gen.frame m g, frame_r16,
  fun m g _ => Cert.Kernel17.Gen.frame m g, fun m g _ => Cert.Kernel17Ideal.Gen.frame m g, frame_r17,
  fun m g _ => Cert.Kernel18.Gen.frame m g, fun m g _ => Cert.Kernel18Ideal.Gen.frame m g, frame_r18,
  fun m g _ => Cert.Kernel19.Gen.frame m g, fun m g _ => Cert.Kernel19Ideal.Gen.frame m g, frame_r19,
  fun m g _ => Cert.Kernel20.Gen.frame m g, fun m g _ => Cert.Kernel20Ideal.Gen.frame m g, fun m g _ => Cert.Kernel20Ideal.Gen.frame m g,
  frame_r20, fun m g _ => frame_r20 m g trivial,
  fun m g _ => Cert.Kernel21.Gen.frame m g, fun m g _ => Cert.Kernel21Ideal.Gen.frame m g, frame_r21,
  fun m g _ => Cert.Kernel22.Gen.frame m g, fun m g _ => Cert.Kernel22Ideal.Gen.frame m g, frame_r22,
  fun m g _ => Cert.Kernel23.Gen.frame m g, fun m g _ => Cert.Kernel23Ideal.Gen.frame m g, frame_r23,
  fun m g _ => Cert.Kernel24.Gen.frame m g, fun m g _ => Cert.Kernel24Ideal.Gen.frame m g, frame_r24,
  fun m g _ => Cert.Kernel25.Gen.frame m g, fun m g _ => Cert.Kernel25Ideal.Gen.frame m g, frame_r25,
  fun m g _ => Cert.Kernel26.Gen.frame m g, fun m g _ => Cert.Kernel26Ideal.Gen.frame m g, frame_r26,
  preserves, algebraic, trivial, algebraic2, trivial, algebraic3, trivial, algebraic4,
  trivial, algebraic5, trivial, algebraic6, trivial, algebraic7, trivial, algebraic8, trivial, algebraic9, trivial, algebraic10, trivial, algebraic11, trivial, algebraic12, trivial, algebraic13, trivial, algebraic14, trivial, algebraic15,
  trivial, algebraic16, trivial, algebraic17, trivial, algebraic18,
  trivial, algebraic19, trivial, algebraic20, trivial, algebraic21, trivial, algebraic22,
  trivial, algebraic23, trivial, algebraic24, trivial, algebraic25, trivial, algebraic26⟩

end Cert.Proof

end
